-- ==== Defs.lean ====
def Pre_Kernel [hPre_prefix_in_range : Cert.Pre_prefix_in_range.Facts] (m : (ℓ : Loc Cert.Kernel.nD Cert.Kernel.τ Cert.Kernel.sig) → Buf (Elt Bits) ℓ) : Prop :=
  ∀ c : Dev Cert.Kernel.nD,
    (Cert.Pre_prefix_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_prefix_in_range : Cert.Pre_prefix_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_prefix_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_prefix_in_range_values_finite [hPre_prefix_in_range_values_finite : Cert.Pre_prefix_in_range_values_finite.Facts] (m : (ℓ : Loc Cert.KernelIdeal.nD Cert.KernelIdeal.τ Cert.KernelIdeal.sig) → Buf (Elt Ideal) ℓ) : Prop :=
  ∀ c : Dev Cert.KernelIdeal.nD,
    (Cert.Pre_prefix_in_range_values_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_prefix_in_range_values_finite [hPre_prefix_in_range_values_finite : Cert.Pre_prefix_in_range_values_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_prefix_in_range_values_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_prefix_in_range : Cert.Pre_prefix_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_prefix_in_range : Cert.Pre_prefix_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_prefix_in_range_values_finite [hKernelIdeal : Cert.KernelIdeal.Facts] [hPre_prefix_in_range_values_finite : Cert.Pre_prefix_in_range_values_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_prefix_in_range_values_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_prefix_in_range_values_finite [hReferenceIdeal : Cert.ReferenceIdeal.Facts] [hPre_prefix_in_range_values_finite : Cert.Pre_prefix_in_range_values_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_prefix_in_range_values_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "inv_log_2" .f32 0x3FB8AA3B#32 (((Real.log 2)⁻¹ : ℝ) : EReal)
  ∧ IdealRules.named_const.Statement Cert.KernelIdeal.κ "score_scale" .f32 0x3AA3D70A#32 ((1 / 800 : ℝ) : EReal)
  ∧ IdealRules.named_const.Statement Cert.KernelIdeal.κ "exp2_gain" .f32 0x429044FE#32 ((50 * (Real.log 2)⁻¹ : ℝ) : EReal)

def algebraic_KernelIdeal_ReferenceIdeal_pre_prefix_in_range_values_finite [hKernelIdeal : Cert.KernelIdeal.Facts] [hReferenceIdeal : Cert.ReferenceIdeal.Facts] [hPre_prefix_in_range_values_finite : Cert.Pre_prefix_in_range_values_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_prefix_in_range_values_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_v0_6) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_prefix_in_range : Cert.Pre_prefix_in_range.Facts) (hPre_prefix_in_range_values_finite : Cert.Pre_prefix_in_range_values_finite.Facts),
    quiescent_Kernel (hKernel := hKernel) (hPre_prefix_in_range := hPre_prefix_in_range)
    ∧ quiescent_KernelIdeal (hKernelIdeal := hKernelIdeal) (hPre_prefix_in_range := hPre_prefix_in_range)
    ∧ quiescent_KernelIdeal_pre_prefix_in_range_values_finite (hKernelIdeal := hKernelIdeal) (hPre_prefix_in_range_values_finite := hPre_prefix_in_range_values_finite)
    ∧ quiescent_ReferenceIdeal (hReferenceIdeal := hReferenceIdeal)
    ∧ quiescent_ReferenceIdeal_pre_prefix_in_range_values_finite (hReferenceIdeal := hReferenceIdeal) (hPre_prefix_in_range_values_finite := hPre_prefix_in_range_values_finite)
    ∧ preserves_Kernel_KernelIdeal
    ∧ algebraic_KernelIdeal_ReferenceIdeal_pre_prefix_in_range_values_finite (hKernelIdeal := hKernelIdeal) (hReferenceIdeal := hReferenceIdeal) (hPre_prefix_in_range_values_finite := hPre_prefix_in_range_values_finite)
-- ==== Pre_prefix_in_range.lean ====
abbrev S3x8192x2048 : Shape := ⟨3, ![3, 8192, 2048]⟩
abbrev S3x8192x1024 : Shape := ⟨3, ![3, 8192, 1024]⟩
abbrev S3 : Shape := ⟨1, ![3]⟩
abbrev S_ : Shape := ⟨0, ![]⟩

class Facts : Prop where
  bcast_S_S3 : S_.BroadcastsInDim S3 (![] : Fin 0 → Fin S3.rank)
  reducesTo_S3_S_d0 : S3.ReducesTo [0] S_
  h_S_ : 0 < S_.numel

variable [Facts]

def fn {F : FTy → Type} [FloatOps F] (main_arg0 : FVec F S3x8192x2048 .bf16) (main_arg1 : FVec F S3x8192x1024 .bf16) (main_arg2 : FVec F S3x8192x1024 .bf16) (main_arg3 : IVec S3 32) : IVec S_ 1 :=
  let main_c : IVec S_ 32 := constantI S_ 32 8192#32
  let main_v0 : IVec S3 32 := broadcastInDim S3 ![] bcast_S_S3 main_c
  let main_v1 : IVec S3 1 := cmpi .sle main_arg3 main_v0
  let main_c_0 : IVec S_ 1 := constantI S_ 1 1#1
  let main_v2 : IVec S_ 1 := (fun x v => Host.reduce IntOp.andi x v reducesTo_S3_S_d0 h_S_) main_v1 main_c_0
  main_v2
-- ==== Pre_prefix_in_range_values_finite.lean ====
abbrev S3x8192x2048 : Shape := ⟨3, ![3, 8192, 2048]⟩
abbrev S3x8192x1024 : Shape := ⟨3, ![3, 8192, 1024]⟩
abbrev S3 : Shape := ⟨1, ![3]⟩
abbrev S_ : Shape := ⟨0, ![]⟩

class Facts : Prop where
  bcast_S_S3 : S_.BroadcastsInDim S3 (![] : Fin 0 → Fin S3.rank)
  reducesTo_S3_S_d0 : S3.ReducesTo [0] S_
  h_S_ : 0 < S_.numel
  bcast_S_S3x8192x1024 : S_.BroadcastsInDim S3x8192x1024 (![] : Fin 0 → Fin S3x8192x1024.rank)
  reducesTo_S3x8192x1024_S_d0_1_2 : S3x8192x1024.ReducesTo [0, 1, 2] S_

variable [Facts]

def fn {F : FTy → Type} [FloatOps F] (main_arg0 : FVec F S3x8192x2048 .bf16) (main_arg1 : FVec F S3x8192x1024 .bf16) (main_arg2 : FVec F S3x8192x1024 .bf16) (main_arg3 : IVec S3 32) : IVec S_ 1 :=
  let main_c : IVec S_ 32 := constantI S_ 32 8192#32
  let main_v0 : IVec S3 32 := broadcastInDim S3 ![] bcast_S_S3 main_c
  let main_v1 : IVec S3 1 := cmpi .sle main_arg3 main_v0
  let main_c_0 : IVec S_ 1 := constantI S_ 1 1#1
  let main_v2 : IVec S_ 1 := (fun x v => Host.reduce IntOp.andi x v reducesTo_S3_S_d0 h_S_) main_v1 main_c_0
  let main_v3 : FVec F S3x8192x1024 .bf16 := Host.absf main_arg2
  let main_cst : FVec F S_ .bf16 := constant S_ .bf16 0x7F80#16
  let main_v4 : FVec F S3x8192x1024 .bf16 := broadcastInDim S3x8192x1024 ![] bcast_S_S3x8192x1024 main_cst
  let main_v5 : IVec S3x8192x1024 1 := cmpf .olt main_v3 main_v4
  let main_c_1 : IVec S_ 1 := constantI S_ 1 1#1
  let main_v6 : IVec S_ 1 := (fun x v => Host.reduce IntOp.andi x v reducesTo_S3x8192x1024_S_d0_1_2 h_S_) main_v5 main_c_1
  let main_v7 : IVec S_ 1 := andi main_v2 main_v6
  main_v7
-- ==== Kernel.lean ====
abbrev S3x8192x2048 : Shape := ⟨3, ![3, 8192, 2048]⟩
abbrev S3x8192x1024 : Shape := ⟨3, ![3, 8192, 1024]⟩
abbrev S3 : Shape := ⟨1, ![3]⟩
abbrev S3x4x32x2x256 : Shape := ⟨5, ![3, 4, 32, 2, 256]⟩
abbrev S3x4x1x8192 : Shape := ⟨4, ![3, 4, 1, 8192]⟩
abbrev S1x256x512 : Shape := ⟨3, ![1, 256, 512]⟩
abbrev S1x8192x256 : Shape := ⟨3, ![1, 8192, 256]⟩
abbrev S1x1x1x2x256 : Shape := ⟨5, ![1, 1, 1, 2, 256]⟩
abbrev S1x1x1x8192 : Shape := ⟨4, ![1, 1, 1, 8192]⟩
abbrev S8192x512 : Shape := ⟨2, ![8192, 512]⟩
abbrev S8192x128 : Shape := ⟨2, ![8192, 128]⟩
abbrev S256x8192 : Shape := ⟨2, ![256, 8192]⟩
abbrev S256x512 : Shape := ⟨2, ![256, 512]⟩
abbrev S8x128 : Shape := ⟨2, ![8, 128]⟩
abbrev S1 : Shape := ⟨1, ![1]⟩
abbrev S1x128 : Shape := ⟨2, ![1, 128]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x256 : Shape := ⟨2, ![1, 256]⟩
abbrev S1x1x1x256 : Shape := ⟨4, ![1, 1, 1, 256]⟩
abbrev S128 : Shape := ⟨1, ![128]⟩
abbrev S1x1 : Shape := ⟨2, ![1, 1]⟩
abbrev S1x1x1x1x256 : Shape := ⟨5, ![1, 1, 1, 1, 256]⟩
abbrev S8x256 : Shape := ⟨2, ![8, 256]⟩

abbrev nBuf : Space → Nat
  | .hbm => 10
  | .vmem => 26
  | .smem => 1
  | _ => 0

abbrev bufTy : (tb : Table) → Fin (tcTables nBuf tb) → BufTy
  | .hbm, ⟨0, _⟩ => ⟨S3x8192x2048, .bf16⟩
  | .hbm, ⟨1, _⟩ => ⟨S3x8192x1024, .bf16⟩
  | .hbm, ⟨2, _⟩ => ⟨S3x8192x1024, .bf16⟩
  | .hbm, ⟨3, _⟩ => ⟨S3x8192x2048, .bf16⟩
  | .hbm, ⟨4, _⟩ => ⟨S3x8192x2048, .fp8e4m3⟩
  | .hbm, ⟨5, _⟩ => ⟨S3x4x32x2x256, .f32⟩
  | .hbm, ⟨6, _⟩ => ⟨S3x8192x1024, .fp8e4m3⟩
  | .hbm, ⟨7, _⟩ => ⟨S3x4x1x8192, .f32⟩
  | .hbm, ⟨8, _⟩ => ⟨S3x8192x1024, .fp8e4m3⟩
  | .hbm, ⟨9, _⟩ => ⟨S3x4x1x8192, .f32⟩
  | .local _ .vmem, ⟨0, _⟩ => ⟨S1x256x512, .bf16⟩
  | .local _ .vmem, ⟨1, _⟩ => ⟨S1x256x512, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x256, .bf16⟩
  | .local _ .vmem, ⟨5, _⟩ => ⟨S1x8192x256, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .fp8e4m3⟩
  | .local _ .vmem, ⟨9, _⟩ => ⟨S1x256x512, .fp8e4m3⟩
  | .local _ .vmem, ⟨10, _⟩ => ⟨S1x1x1x2x256, .f32⟩
  | .local _ .vmem, ⟨11, _⟩ => ⟨S1x1x1x2x256, .f32⟩
  | .local _ .vmem, ⟨12, _⟩ => ⟨S1x8192x256, .fp8e4m3⟩
  | .local _ .vmem, ⟨13, _⟩ => ⟨S1x8192x256, .fp8e4m3⟩
  | .local _ .vmem, ⟨14, _⟩ => ⟨S1x1x1x8192, .f32⟩
  | .local _ .vmem, ⟨15, _⟩ => ⟨S1x1x1x8192, .f32⟩
  | .local _ .vmem, ⟨16, _⟩ => ⟨S1x8192x256, .fp8e4m3⟩
  | .local _ .vmem, ⟨17, _⟩ => ⟨S1x8192x256, .fp8e4m3⟩
  | .local _ .vmem, ⟨18, _⟩ => ⟨S1x1x1x8192, .f32⟩
  | .local _ .vmem, ⟨19, _⟩ => ⟨S1x1x1x8192, .f32⟩
  | .local _ .vmem, ⟨20, _⟩ => ⟨S8192x512, .f32⟩
  | .local _ .vmem, ⟨21, _⟩ => ⟨S8192x128, .f32⟩
  | .local _ .vmem, ⟨22, _⟩ => ⟨S8192x128, .f32⟩
  | .local _ .vmem, ⟨23, _⟩ => ⟨S256x8192, .fp8e4m3⟩
  | .local _ .vmem, ⟨24, _⟩ => ⟨S256x512, .f32⟩
  | .local _ .vmem, ⟨25, _⟩ => ⟨S8x128, .f32⟩
  | .local _ .smem, ⟨0, _⟩ => ⟨S3, .i32⟩
  | _, _ => ⟨S3x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![3, 4, 32], ![false, false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg2 : BitVec 32 := BitVec.ofNat 32 (i 2).val
  let c0_i32 : BitVec 32 := 0#32
  let v2 : BitVec 1 := Scalar.cmpi .eq arg2 c0_i32
  let v3 : BitVec 32 := Scalar.extui v2
  let c0_i32_0 : BitVec 32 := 0#32
  let v4 : BitVec 1 := Scalar.cmpi .ne v3 c0_i32_0
  v4

@[reducible] def k0_t1_loop : Scf.Loop 32 :=
  let c0_i32_452 : BitVec 32 := 0#32
  let c32_i32_453 : BitVec 32 := 32#32
  let v2189 : BitVec 32 := Scalar.addi c0_i32_452 c32_i32_453
  let c1_i32_454 : BitVec 32 := 1#32
  ⟨c0_i32_452, v2189, c1_i32_454⟩
def k0_mult1 (k0_t1 : Fin k0_t1_loop.trips) : BitVec 32 :=
  let c0_i32_452 : BitVec 32 := 0#32
  let c1_i32_454 : BitVec 32 := 1#32
  let arg20 : BitVec 32 := Scf.iv c0_i32_452 c1_i32_454 k0_t1
  let c256_i32_467 : BitVec 32 := 256#32
  let v2207 : BitVec 32 := Scalar.muli arg20 c256_i32_467
  v2207
def k0_off2 (k0_t1 : Fin k0_t1_loop.trips) : Fin 3 → Nat :=
  let c0_468 : Index := 0#32
  let c0_i32_452 : BitVec 32 := 0#32
  let c1_i32_454 : BitVec 32 := 1#32
  let arg20 : BitVec 32 := Scf.iv c0_i32_452 c1_i32_454 k0_t1
  let c256_i32_467 : BitVec 32 := 256#32
  let v2207 : BitVec 32 := Scalar.muli arg20 c256_i32_467
  let v2208 : BitVec 32 := v2207
  let v2209 : Index := Scalar.indexCast v2208
  let c0_469 : Index := 0#32
  ![0, v2209.toNat, 0]
def k0_off3 (k0_t1 : Fin k0_t1_loop.trips) : Fin 2 → Nat :=
  let c0_i32_452 : BitVec 32 := 0#32
  let c1_i32_454 : BitVec 32 := 1#32
  let arg20 : BitVec 32 := Scf.iv c0_i32_452 c1_i32_454 k0_t1
  let c256_i32_467 : BitVec 32 := 256#32
  let v2207 : BitVec 32 := Scalar.muli arg20 c256_i32_467
  let v2208 : BitVec 32 := v2207
  let v2246 : Index := Scalar.indexCast v2208
  let c0_481 : Index := 0#32
  ![v2246.toNat, 0]
def k0_off4 (k0_t1 : Fin k0_t1_loop.trips) : Fin 4 → Nat :=
  let c0_482 : Index := 0#32
  let c0_483 : Index := 0#32
  let c0_484 : Index := 0#32
  let c0_i32_452 : BitVec 32 := 0#32
  let c1_i32_454 : BitVec 32 := 1#32
  let arg20 : BitVec 32 := Scf.iv c0_i32_452 c1_i32_454 k0_t1
  let c256_i32_467 : BitVec 32 := 256#32
  let v2207 : BitVec 32 := Scalar.muli arg20 c256_i32_467
  let v2208 : BitVec 32 := v2207
  let v2254 : Index := Scalar.indexCast v2208
  ![0, 0, 0, v2254.toNat]
def k0_off5 (k0_t1 : Fin k0_t1_loop.trips) : Fin 2 → Nat :=
  let c0_498 : Index := 0#32
  let c0_i32_452 : BitVec 32 := 0#32
  let c1_i32_454 : BitVec 32 := 1#32
  let arg20 : BitVec 32 := Scf.iv c0_i32_452 c1_i32_454 k0_t1
  let c256_i32_467 : BitVec 32 := 256#32
  let v2207 : BitVec 32 := Scalar.muli arg20 c256_i32_467
  let v2208 : BitVec 32 := v2207
  let v2295 : Index := Scalar.indexCast v2208
  ![0, v2295.toNat]
@[reducible] def k0_t2_loop : Scf.Loop 32 :=
  let c0_i32_463 : BitVec 32 := 0#32
  let c32_i32_464 : BitVec 32 := 32#32
  let v2206 : BitVec 32 := Scalar.addi c0_i32_463 c32_i32_464
  let c1_i32_465 : BitVec 32 := 1#32
  ⟨c0_i32_463, v2206, c1_i32_465⟩
def k0_mult2 (k0_t2 : Fin k0_t2_loop.trips) : BitVec 32 :=
  let c0_i32_463 : BitVec 32 := 0#32
  let c1_i32_465 : BitVec 32 := 1#32
  let arg20 : BitVec 32 := Scf.iv c0_i32_463 c1_i32_465 k0_t2
  let c256_i32_467 : BitVec 32 := 256#32
  let v2207 : BitVec 32 := Scalar.muli arg20 c256_i32_467
  v2207
def k0_off6 (k0_t2 : Fin k0_t2_loop.trips) : Fin 2 → Nat :=
  let c0_i32_463 : BitVec 32 := 0#32
  let c1_i32_465 : BitVec 32 := 1#32
  let arg20 : BitVec 32 := Scf.iv c0_i32_463 c1_i32_465 k0_t2
  let c256_i32_467 : BitVec 32 := 256#32
  let v2207 : BitVec 32 := Scalar.muli arg20 c256_i32_467
  let v2208 : BitVec 32 := v2207
  let v2209 : Index := Scalar.indexCast v2208
  let c0_468 : Index := 0#32
  ![v2209.toNat, 0]
def k0_mult3 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  v103

def k0_off7 (i : grid0.Coords) (v1 : BitVec 32) : Fin 3 → Nat :=
  let c0_44 : Index := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let v105 : Index := Scalar.indexCast v104
  let c0_45 : Index := 0#32
  ![0, v105.toNat, 0]
def k0_mult4 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c0_i32_50 : BitVec 32 := 0#32
  let v111 : BitVec 32 := Scalar.addi v104 c0_i32_50
  v111
def k0_off8 (i : grid0.Coords) (v1 : BitVec 32) (c0_i32_50 : BitVec 32) : Fin 2 → Nat :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let v111 : BitVec 32 := Scalar.addi v104 c0_i32_50
  let v112 : BitVec 32 := v111
  let v113 : Index := Scalar.indexCast v112
  let c0_51 : Index := 0#32
  ![v113.toNat, 0]
def k0_off9 (i : grid0.Coords) (v1 : BitVec 32) (c0_i32_50 : BitVec 32) : Fin 2 → Nat :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let v111 : BitVec 32 := Scalar.addi v104 c0_i32_50
  let v112 : BitVec 32 := v111
  let v135 : Index := Scalar.indexCast v112
  let c0_55 : Index := 0#32
  ![v135.toNat, 0]
def k0_mult5 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c8_i32 : BitVec 32 := 8#32
  let v142 : BitVec 32 := Scalar.addi v104 c8_i32
  v142
def k0_mult6 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c16_i32 : BitVec 32 := 16#32
  let v173 : BitVec 32 := Scalar.addi v104 c16_i32
  v173
def k0_mult7 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c24_i32 : BitVec 32 := 24#32
  let v204 : BitVec 32 := Scalar.addi v104 c24_i32
  v204
def k0_mult8 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c32_i32 : BitVec 32 := 32#32
  let v235 : BitVec 32 := Scalar.addi v104 c32_i32
  v235
def k0_mult9 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c40_i32 : BitVec 32 := 40#32
  let v266 : BitVec 32 := Scalar.addi v104 c40_i32
  v266
def k0_mult10 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c48_i32 : BitVec 32 := 48#32
  let v297 : BitVec 32 := Scalar.addi v104 c48_i32
  v297
def k0_mult11 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c56_i32 : BitVec 32 := 56#32
  let v328 : BitVec 32 := Scalar.addi v104 c56_i32
  v328
def k0_mult12 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c64_i32 : BitVec 32 := 64#32
  let v359 : BitVec 32 := Scalar.addi v104 c64_i32
  v359
def k0_mult13 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c72_i32 : BitVec 32 := 72#32
  let v390 : BitVec 32 := Scalar.addi v104 c72_i32
  v390
def k0_mult14 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c80_i32 : BitVec 32 := 80#32
  let v421 : BitVec 32 := Scalar.addi v104 c80_i32
  v421
def k0_mult15 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c88_i32 : BitVec 32 := 88#32
  let v452 : BitVec 32 := Scalar.addi v104 c88_i32
  v452
def k0_mult16 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c96_i32 : BitVec 32 := 96#32
  let v483 : BitVec 32 := Scalar.addi v104 c96_i32
  v483
def k0_mult17 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c104_i32 : BitVec 32 := 104#32
  let v514 : BitVec 32 := Scalar.addi v104 c104_i32
  v514
def k0_mult18 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c112_i32 : BitVec 32 := 112#32
  let v545 : BitVec 32 := Scalar.addi v104 c112_i32
  v545
def k0_mult19 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c120_i32 : BitVec 32 := 120#32
  let v576 : BitVec 32 := Scalar.addi v104 c120_i32
  v576
def k0_mult20 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c128_i32 : BitVec 32 := 128#32
  let v607 : BitVec 32 := Scalar.addi v104 c128_i32
  v607
def k0_mult21 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c136_i32 : BitVec 32 := 136#32
  let v638 : BitVec 32 := Scalar.addi v104 c136_i32
  v638
def k0_mult22 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c144_i32 : BitVec 32 := 144#32
  let v669 : BitVec 32 := Scalar.addi v104 c144_i32
  v669
def k0_mult23 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c152_i32 : BitVec 32 := 152#32
  let v700 : BitVec 32 := Scalar.addi v104 c152_i32
  v700
def k0_mult24 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c160_i32 : BitVec 32 := 160#32
  let v731 : BitVec 32 := Scalar.addi v104 c160_i32
  v731
def k0_mult25 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c168_i32 : BitVec 32 := 168#32
  let v762 : BitVec 32 := Scalar.addi v104 c168_i32
  v762
def k0_mult26 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c176_i32 : BitVec 32 := 176#32
  let v793 : BitVec 32 := Scalar.addi v104 c176_i32
  v793
def k0_mult27 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c184_i32 : BitVec 32 := 184#32
  let v824 : BitVec 32 := Scalar.addi v104 c184_i32
  v824
def k0_mult28 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c192_i32 : BitVec 32 := 192#32
  let v855 : BitVec 32 := Scalar.addi v104 c192_i32
  v855
def k0_mult29 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c200_i32 : BitVec 32 := 200#32
  let v886 : BitVec 32 := Scalar.addi v104 c200_i32
  v886
def k0_mult30 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c208_i32 : BitVec 32 := 208#32
  let v917 : BitVec 32 := Scalar.addi v104 c208_i32
  v917
def k0_mult31 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c216_i32 : BitVec 32 := 216#32
  let v948 : BitVec 32 := Scalar.addi v104 c216_i32
  v948
def k0_mult32 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c224_i32 : BitVec 32 := 224#32
  let v979 : BitVec 32 := Scalar.addi v104 c224_i32
  v979
def k0_mult33 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c232_i32 : BitVec 32 := 232#32
  let v1010 : BitVec 32 := Scalar.addi v104 c232_i32
  v1010
def k0_mult34 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c240_i32 : BitVec 32 := 240#32
  let v1041 : BitVec 32 := Scalar.addi v104 c240_i32
  v1041
def k0_mult35 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c248_i32 : BitVec 32 := 248#32
  let v1072 : BitVec 32 := Scalar.addi v104 c248_i32
  v1072
def k0_mult36 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c0_i32_215 : BitVec 32 := 0#32
  let v1106 : BitVec 32 := Scalar.addi v104 c0_i32_215
  v1106
def k0_off10 (i : grid0.Coords) (v1 : BitVec 32) (c0_i32_215 : BitVec 32) : Fin 2 → Nat :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let v1106 : BitVec 32 := Scalar.addi v104 c0_i32_215
  let v1107 : BitVec 32 := v1106
  let v1130 : Index := Scalar.indexCast v1107
  let c256_220 : Index := 256#32
  ![v1130.toNat, 256]
def k0_mult37 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c8_i32_221 : BitVec 32 := 8#32
  let v1137 : BitVec 32 := Scalar.addi v104 c8_i32_221
  v1137
def k0_mult38 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c16_i32_227 : BitVec 32 := 16#32
  let v1168 : BitVec 32 := Scalar.addi v104 c16_i32_227
  v1168
def k0_mult39 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c24_i32_233 : BitVec 32 := 24#32
  let v1199 : BitVec 32 := Scalar.addi v104 c24_i32_233
  v1199
def k0_mult40 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c32_i32_239 : BitVec 32 := 32#32
  let v1230 : BitVec 32 := Scalar.addi v104 c32_i32_239
  v1230
def k0_mult41 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c40_i32_245 : BitVec 32 := 40#32
  let v1261 : BitVec 32 := Scalar.addi v104 c40_i32_245
  v1261
def k0_mult42 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c48_i32_251 : BitVec 32 := 48#32
  let v1292 : BitVec 32 := Scalar.addi v104 c48_i32_251
  v1292
def k0_mult43 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c56_i32_257 : BitVec 32 := 56#32
  let v1323 : BitVec 32 := Scalar.addi v104 c56_i32_257
  v1323
def k0_mult44 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c64_i32_263 : BitVec 32 := 64#32
  let v1354 : BitVec 32 := Scalar.addi v104 c64_i32_263
  v1354
def k0_mult45 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c72_i32_269 : BitVec 32 := 72#32
  let v1385 : BitVec 32 := Scalar.addi v104 c72_i32_269
  v1385
def k0_mult46 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c80_i32_275 : BitVec 32 := 80#32
  let v1416 : BitVec 32 := Scalar.addi v104 c80_i32_275
  v1416
def k0_mult47 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c88_i32_281 : BitVec 32 := 88#32
  let v1447 : BitVec 32 := Scalar.addi v104 c88_i32_281
  v1447
def k0_mult48 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c96_i32_287 : BitVec 32 := 96#32
  let v1478 : BitVec 32 := Scalar.addi v104 c96_i32_287
  v1478
def k0_mult49 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c104_i32_293 : BitVec 32 := 104#32
  let v1509 : BitVec 32 := Scalar.addi v104 c104_i32_293
  v1509
def k0_mult50 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c112_i32_299 : BitVec 32 := 112#32
  let v1540 : BitVec 32 := Scalar.addi v104 c112_i32_299
  v1540
def k0_mult51 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c120_i32_305 : BitVec 32 := 120#32
  let v1571 : BitVec 32 := Scalar.addi v104 c120_i32_305
  v1571
def k0_mult52 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c128_i32_311 : BitVec 32 := 128#32
  let v1602 : BitVec 32 := Scalar.addi v104 c128_i32_311
  v1602
def k0_mult53 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c136_i32_317 : BitVec 32 := 136#32
  let v1633 : BitVec 32 := Scalar.addi v104 c136_i32_317
  v1633
def k0_mult54 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c144_i32_323 : BitVec 32 := 144#32
  let v1664 : BitVec 32 := Scalar.addi v104 c144_i32_323
  v1664
def k0_mult55 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c152_i32_329 : BitVec 32 := 152#32
  let v1695 : BitVec 32 := Scalar.addi v104 c152_i32_329
  v1695
def k0_mult56 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c160_i32_335 : BitVec 32 := 160#32
  let v1726 : BitVec 32 := Scalar.addi v104 c160_i32_335
  v1726
def k0_mult57 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c168_i32_341 : BitVec 32 := 168#32
  let v1757 : BitVec 32 := Scalar.addi v104 c168_i32_341
  v1757
def k0_mult58 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c176_i32_347 : BitVec 32 := 176#32
  let v1788 : BitVec 32 := Scalar.addi v104 c176_i32_347
  v1788
def k0_mult59 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c184_i32_353 : BitVec 32 := 184#32
  let v1819 : BitVec 32 := Scalar.addi v104 c184_i32_353
  v1819
def k0_mult60 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c192_i32_359 : BitVec 32 := 192#32
  let v1850 : BitVec 32 := Scalar.addi v104 c192_i32_359
  v1850
def k0_mult61 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c200_i32_365 : BitVec 32 := 200#32
  let v1881 : BitVec 32 := Scalar.addi v104 c200_i32_365
  v1881
def k0_mult62 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c208_i32_371 : BitVec 32 := 208#32
  let v1912 : BitVec 32 := Scalar.addi v104 c208_i32_371
  v1912
def k0_mult63 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c216_i32_377 : BitVec 32 := 216#32
  let v1943 : BitVec 32 := Scalar.addi v104 c216_i32_377
  v1943
def k0_mult64 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c224_i32_383 : BitVec 32 := 224#32
  let v1974 : BitVec 32 := Scalar.addi v104 c224_i32_383
  v1974
def k0_mult65 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c232_i32_389 : BitVec 32 := 232#32
  let v2005 : BitVec 32 := Scalar.addi v104 c232_i32_389
  v2005
def k0_mult66 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c240_i32_395 : BitVec 32 := 240#32
  let v2036 : BitVec 32 := Scalar.addi v104 c240_i32_395
  v2036
def k0_mult67 (i : grid0.Coords) (v1 : BitVec 32) : BitVec 32 :=
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let c256_i32_43 : BitVec 32 := 256#32
  let v103 : BitVec 32 := Scalar.muli v93 c256_i32_43
  let v104 : BitVec 32 := v103
  let c248_i32_401 : BitVec 32 := 248#32
  let v2067 : BitVec 32 := Scalar.addi v104 c248_i32_401
  v2067
@[reducible] def k0_t3_loop (i : grid0.Coords) (v1 : BitVec 32) : Scf.Loop 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_409 : BitVec 32 := 1#32
  ⟨c0_i32_407, v2102, c1_i32_409⟩
def k0_mult68 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  v2188
def k0_off11 (i : grid0.Coords) (v1 : BitVec 32) (k0_t3 : Fin (k0_t3_loop i v1).trips) : Fin 3 → Nat :=
  let c0_452 : Index := 0#32
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let v2190 : Index := Scalar.indexCast v2189
  let c0_453 : Index := 0#32
  ![0, v2190.toNat, 0]
def k0_mult69 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c0_i32_458 : BitVec 32 := 0#32
  let v2196 : BitVec 32 := Scalar.addi v2189 c0_i32_458
  v2196
def k0_off12 (i : grid0.Coords) (v1 : BitVec 32) (k0_t3 : Fin (k0_t3_loop i v1).trips) (c0_i32_458 : BitVec 32) : Fin 2 → Nat :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let v2196 : BitVec 32 := Scalar.addi v2189 c0_i32_458
  let v2197 : BitVec 32 := v2196
  let v2198 : Index := Scalar.indexCast v2197
  let c0_459 : Index := 0#32
  ![v2198.toNat, 0]
def k0_off13 (i : grid0.Coords) (v1 : BitVec 32) (k0_t3 : Fin (k0_t3_loop i v1).trips) (c0_i32_458 : BitVec 32) : Fin 2 → Nat :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let v2196 : BitVec 32 := Scalar.addi v2189 c0_i32_458
  let v2197 : BitVec 32 := v2196
  let v2213 : Index := Scalar.indexCast v2197
  let c0_462 : Index := 0#32
  ![v2213.toNat, 0]
def k0_mult70 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c8_i32_463 : BitVec 32 := 8#32
  let v2220 : BitVec 32 := Scalar.addi v2189 c8_i32_463
  v2220
def k0_mult71 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c16_i32_468 : BitVec 32 := 16#32
  let v2244 : BitVec 32 := Scalar.addi v2189 c16_i32_468
  v2244
def k0_mult72 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c24_i32_473 : BitVec 32 := 24#32
  let v2268 : BitVec 32 := Scalar.addi v2189 c24_i32_473
  v2268
def k0_mult73 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c32_i32_478 : BitVec 32 := 32#32
  let v2292 : BitVec 32 := Scalar.addi v2189 c32_i32_478
  v2292
def k0_mult74 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c40_i32_483 : BitVec 32 := 40#32
  let v2316 : BitVec 32 := Scalar.addi v2189 c40_i32_483
  v2316
def k0_mult75 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c48_i32_488 : BitVec 32 := 48#32
  let v2340 : BitVec 32 := Scalar.addi v2189 c48_i32_488
  v2340
def k0_mult76 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c56_i32_493 : BitVec 32 := 56#32
  let v2364 : BitVec 32 := Scalar.addi v2189 c56_i32_493
  v2364
def k0_mult77 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c64_i32_498 : BitVec 32 := 64#32
  let v2388 : BitVec 32 := Scalar.addi v2189 c64_i32_498
  v2388
def k0_mult78 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c72_i32_503 : BitVec 32 := 72#32
  let v2412 : BitVec 32 := Scalar.addi v2189 c72_i32_503
  v2412
def k0_mult79 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c80_i32_508 : BitVec 32 := 80#32
  let v2436 : BitVec 32 := Scalar.addi v2189 c80_i32_508
  v2436
def k0_mult80 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c88_i32_513 : BitVec 32 := 88#32
  let v2460 : BitVec 32 := Scalar.addi v2189 c88_i32_513
  v2460
def k0_mult81 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c96_i32_518 : BitVec 32 := 96#32
  let v2484 : BitVec 32 := Scalar.addi v2189 c96_i32_518
  v2484
def k0_mult82 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c104_i32_523 : BitVec 32 := 104#32
  let v2508 : BitVec 32 := Scalar.addi v2189 c104_i32_523
  v2508
def k0_mult83 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c112_i32_528 : BitVec 32 := 112#32
  let v2532 : BitVec 32 := Scalar.addi v2189 c112_i32_528
  v2532
def k0_mult84 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c120_i32_533 : BitVec 32 := 120#32
  let v2556 : BitVec 32 := Scalar.addi v2189 c120_i32_533
  v2556
def k0_mult85 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c128_i32_538 : BitVec 32 := 128#32
  let v2580 : BitVec 32 := Scalar.addi v2189 c128_i32_538
  v2580
def k0_mult86 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c136_i32_543 : BitVec 32 := 136#32
  let v2604 : BitVec 32 := Scalar.addi v2189 c136_i32_543
  v2604
def k0_mult87 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c144_i32_548 : BitVec 32 := 144#32
  let v2628 : BitVec 32 := Scalar.addi v2189 c144_i32_548
  v2628
def k0_mult88 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c152_i32_553 : BitVec 32 := 152#32
  let v2652 : BitVec 32 := Scalar.addi v2189 c152_i32_553
  v2652
def k0_mult89 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c160_i32_558 : BitVec 32 := 160#32
  let v2676 : BitVec 32 := Scalar.addi v2189 c160_i32_558
  v2676
def k0_mult90 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c168_i32_563 : BitVec 32 := 168#32
  let v2700 : BitVec 32 := Scalar.addi v2189 c168_i32_563
  v2700
def k0_mult91 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c176_i32_568 : BitVec 32 := 176#32
  let v2724 : BitVec 32 := Scalar.addi v2189 c176_i32_568
  v2724
def k0_mult92 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c184_i32_573 : BitVec 32 := 184#32
  let v2748 : BitVec 32 := Scalar.addi v2189 c184_i32_573
  v2748
def k0_mult93 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c192_i32_578 : BitVec 32 := 192#32
  let v2772 : BitVec 32 := Scalar.addi v2189 c192_i32_578
  v2772
def k0_mult94 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c200_i32_583 : BitVec 32 := 200#32
  let v2796 : BitVec 32 := Scalar.addi v2189 c200_i32_583
  v2796
def k0_mult95 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c208_i32_588 : BitVec 32 := 208#32
  let v2820 : BitVec 32 := Scalar.addi v2189 c208_i32_588
  v2820
def k0_mult96 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c216_i32_593 : BitVec 32 := 216#32
  let v2844 : BitVec 32 := Scalar.addi v2189 c216_i32_593
  v2844
def k0_mult97 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c224_i32_598 : BitVec 32 := 224#32
  let v2868 : BitVec 32 := Scalar.addi v2189 c224_i32_598
  v2868
def k0_mult98 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c232_i32_603 : BitVec 32 := 232#32
  let v2892 : BitVec 32 := Scalar.addi v2189 c232_i32_603
  v2892
def k0_mult99 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c240_i32_608 : BitVec 32 := 240#32
  let v2916 : BitVec 32 := Scalar.addi v2189 c240_i32_608
  v2916
def k0_mult100 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c248_i32_613 : BitVec 32 := 248#32
  let v2940 : BitVec 32 := Scalar.addi v2189 c248_i32_613
  v2940
def k0_mult101 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c0_i32_622 : BitVec 32 := 0#32
  let v2967 : BitVec 32 := Scalar.addi v2189 c0_i32_622
  v2967
def k0_off14 (i : grid0.Coords) (v1 : BitVec 32) (k0_t3 : Fin (k0_t3_loop i v1).trips) (c0_i32_622 : BitVec 32) : Fin 2 → Nat :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let v2967 : BitVec 32 := Scalar.addi v2189 c0_i32_622
  let v2968 : BitVec 32 := v2967
  let v2984 : Index := Scalar.indexCast v2968
  let c256_626 : Index := 256#32
  ![v2984.toNat, 256]
def k0_mult102 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c8_i32_627 : BitVec 32 := 8#32
  let v2991 : BitVec 32 := Scalar.addi v2189 c8_i32_627
  v2991
def k0_mult103 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c16_i32_632 : BitVec 32 := 16#32
  let v3015 : BitVec 32 := Scalar.addi v2189 c16_i32_632
  v3015
def k0_mult104 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c24_i32_637 : BitVec 32 := 24#32
  let v3039 : BitVec 32 := Scalar.addi v2189 c24_i32_637
  v3039
def k0_mult105 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c32_i32_642 : BitVec 32 := 32#32
  let v3063 : BitVec 32 := Scalar.addi v2189 c32_i32_642
  v3063
def k0_mult106 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c40_i32_647 : BitVec 32 := 40#32
  let v3087 : BitVec 32 := Scalar.addi v2189 c40_i32_647
  v3087
def k0_mult107 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c48_i32_652 : BitVec 32 := 48#32
  let v3111 : BitVec 32 := Scalar.addi v2189 c48_i32_652
  v3111
def k0_mult108 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c56_i32_657 : BitVec 32 := 56#32
  let v3135 : BitVec 32 := Scalar.addi v2189 c56_i32_657
  v3135
def k0_mult109 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c64_i32_662 : BitVec 32 := 64#32
  let v3159 : BitVec 32 := Scalar.addi v2189 c64_i32_662
  v3159
def k0_mult110 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c72_i32_667 : BitVec 32 := 72#32
  let v3183 : BitVec 32 := Scalar.addi v2189 c72_i32_667
  v3183
def k0_mult111 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c80_i32_672 : BitVec 32 := 80#32
  let v3207 : BitVec 32 := Scalar.addi v2189 c80_i32_672
  v3207
def k0_mult112 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c88_i32_677 : BitVec 32 := 88#32
  let v3231 : BitVec 32 := Scalar.addi v2189 c88_i32_677
  v3231
def k0_mult113 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c96_i32_682 : BitVec 32 := 96#32
  let v3255 : BitVec 32 := Scalar.addi v2189 c96_i32_682
  v3255
def k0_mult114 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c104_i32_687 : BitVec 32 := 104#32
  let v3279 : BitVec 32 := Scalar.addi v2189 c104_i32_687
  v3279
def k0_mult115 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c112_i32_692 : BitVec 32 := 112#32
  let v3303 : BitVec 32 := Scalar.addi v2189 c112_i32_692
  v3303
def k0_mult116 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c120_i32_697 : BitVec 32 := 120#32
  let v3327 : BitVec 32 := Scalar.addi v2189 c120_i32_697
  v3327
def k0_mult117 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c128_i32_702 : BitVec 32 := 128#32
  let v3351 : BitVec 32 := Scalar.addi v2189 c128_i32_702
  v3351
def k0_mult118 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c136_i32_707 : BitVec 32 := 136#32
  let v3375 : BitVec 32 := Scalar.addi v2189 c136_i32_707
  v3375
def k0_mult119 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c144_i32_712 : BitVec 32 := 144#32
  let v3399 : BitVec 32 := Scalar.addi v2189 c144_i32_712
  v3399
def k0_mult120 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c152_i32_717 : BitVec 32 := 152#32
  let v3423 : BitVec 32 := Scalar.addi v2189 c152_i32_717
  v3423
def k0_mult121 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c160_i32_722 : BitVec 32 := 160#32
  let v3447 : BitVec 32 := Scalar.addi v2189 c160_i32_722
  v3447
def k0_mult122 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c168_i32_727 : BitVec 32 := 168#32
  let v3471 : BitVec 32 := Scalar.addi v2189 c168_i32_727
  v3471
def k0_mult123 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c176_i32_732 : BitVec 32 := 176#32
  let v3495 : BitVec 32 := Scalar.addi v2189 c176_i32_732
  v3495
def k0_mult124 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c184_i32_737 : BitVec 32 := 184#32
  let v3519 : BitVec 32 := Scalar.addi v2189 c184_i32_737
  v3519
def k0_mult125 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c192_i32_742 : BitVec 32 := 192#32
  let v3543 : BitVec 32 := Scalar.addi v2189 c192_i32_742
  v3543
def k0_mult126 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c200_i32_747 : BitVec 32 := 200#32
  let v3567 : BitVec 32 := Scalar.addi v2189 c200_i32_747
  v3567
def k0_mult127 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c208_i32_752 : BitVec 32 := 208#32
  let v3591 : BitVec 32 := Scalar.addi v2189 c208_i32_752
  v3591
def k0_mult128 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c216_i32_757 : BitVec 32 := 216#32
  let v3615 : BitVec 32 := Scalar.addi v2189 c216_i32_757
  v3615
def k0_mult129 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c224_i32_762 : BitVec 32 := 224#32
  let v3639 : BitVec 32 := Scalar.addi v2189 c224_i32_762
  v3639
def k0_mult130 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c232_i32_767 : BitVec 32 := 232#32
  let v3663 : BitVec 32 := Scalar.addi v2189 c232_i32_767
  v3663
def k0_mult131 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c240_i32_772 : BitVec 32 := 240#32
  let v3687 : BitVec 32 := Scalar.addi v2189 c240_i32_772
  v3687
def k0_mult132 (i : grid0.Coords) (v1 : BitVec 32) (k0_t3 : Fin (k0_t3_loop i v1).trips) : BitVec 32 :=
  let c0_i32_407 : BitVec 32 := 0#32
  let c1_i32_409 : BitVec 32 := 1#32
  let arg20 : BitVec 32 := Scf.iv c0_i32_407 c1_i32_409 k0_t3
  let c256_i32_451 : BitVec 32 := 256#32
  let v2188 : BitVec 32 := Scalar.muli arg20 c256_i32_451
  let v2189 : BitVec 32 := v2188
  let c248_i32_777 : BitVec 32 := 248#32
  let v3711 : BitVec 32 := Scalar.addi v2189 c248_i32_777
  v3711
@[reducible] def k0_t4_loop (i : grid0.Coords) (v1 : BitVec 32) : Scf.Loop 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let v2099 : BitVec 32 := Scalar.addi c0_i32_407 v2098
  let c1_i32_410 : BitVec 32 := 1#32
  ⟨v2102, v2099, c1_i32_410⟩
def k0_mult133 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  v2188
def k0_off15 (i : grid0.Coords) (v1 : BitVec 32) (k0_t4 : Fin (k0_t4_loop i v1).trips) : Fin 3 → Nat :=
  let c0_452 : Index := 0#32
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let v2190 : Index := Scalar.indexCast v2189
  let c0_453 : Index := 0#32
  ![0, v2190.toNat, 0]
def k0_mult134 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c0_i32_458 : BitVec 32 := 0#32
  let v2196 : BitVec 32 := Scalar.addi v2189 c0_i32_458
  v2196
def k0_off16 (i : grid0.Coords) (v1 : BitVec 32) (k0_t4 : Fin (k0_t4_loop i v1).trips) (c0_i32_458 : BitVec 32) : Fin 2 → Nat :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let v2196 : BitVec 32 := Scalar.addi v2189 c0_i32_458
  let v2197 : BitVec 32 := v2196
  let v2198 : Index := Scalar.indexCast v2197
  let c0_459 : Index := 0#32
  ![v2198.toNat, 0]
def k0_off17 (i : grid0.Coords) (v1 : BitVec 32) (k0_t4 : Fin (k0_t4_loop i v1).trips) (c0_i32_458 : BitVec 32) : Fin 2 → Nat :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let v2196 : BitVec 32 := Scalar.addi v2189 c0_i32_458
  let v2197 : BitVec 32 := v2196
  let v2213 : Index := Scalar.indexCast v2197
  let c0_462 : Index := 0#32
  ![v2213.toNat, 0]
def k0_mult135 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c8_i32_463 : BitVec 32 := 8#32
  let v2220 : BitVec 32 := Scalar.addi v2189 c8_i32_463
  v2220
def k0_mult136 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c16_i32_468 : BitVec 32 := 16#32
  let v2244 : BitVec 32 := Scalar.addi v2189 c16_i32_468
  v2244
def k0_mult137 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c24_i32_473 : BitVec 32 := 24#32
  let v2268 : BitVec 32 := Scalar.addi v2189 c24_i32_473
  v2268
def k0_mult138 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c32_i32_478 : BitVec 32 := 32#32
  let v2292 : BitVec 32 := Scalar.addi v2189 c32_i32_478
  v2292
def k0_mult139 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c40_i32_483 : BitVec 32 := 40#32
  let v2316 : BitVec 32 := Scalar.addi v2189 c40_i32_483
  v2316
def k0_mult140 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c48_i32_488 : BitVec 32 := 48#32
  let v2340 : BitVec 32 := Scalar.addi v2189 c48_i32_488
  v2340
def k0_mult141 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c56_i32_493 : BitVec 32 := 56#32
  let v2364 : BitVec 32 := Scalar.addi v2189 c56_i32_493
  v2364
def k0_mult142 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c64_i32_498 : BitVec 32 := 64#32
  let v2388 : BitVec 32 := Scalar.addi v2189 c64_i32_498
  v2388
def k0_mult143 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c72_i32_503 : BitVec 32 := 72#32
  let v2412 : BitVec 32 := Scalar.addi v2189 c72_i32_503
  v2412
def k0_mult144 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c80_i32_508 : BitVec 32 := 80#32
  let v2436 : BitVec 32 := Scalar.addi v2189 c80_i32_508
  v2436
def k0_mult145 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c88_i32_513 : BitVec 32 := 88#32
  let v2460 : BitVec 32 := Scalar.addi v2189 c88_i32_513
  v2460
def k0_mult146 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c96_i32_518 : BitVec 32 := 96#32
  let v2484 : BitVec 32 := Scalar.addi v2189 c96_i32_518
  v2484
def k0_mult147 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c104_i32_523 : BitVec 32 := 104#32
  let v2508 : BitVec 32 := Scalar.addi v2189 c104_i32_523
  v2508
def k0_mult148 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c112_i32_528 : BitVec 32 := 112#32
  let v2532 : BitVec 32 := Scalar.addi v2189 c112_i32_528
  v2532
def k0_mult149 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c120_i32_533 : BitVec 32 := 120#32
  let v2556 : BitVec 32 := Scalar.addi v2189 c120_i32_533
  v2556
def k0_mult150 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c128_i32_538 : BitVec 32 := 128#32
  let v2580 : BitVec 32 := Scalar.addi v2189 c128_i32_538
  v2580
def k0_mult151 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c136_i32_543 : BitVec 32 := 136#32
  let v2604 : BitVec 32 := Scalar.addi v2189 c136_i32_543
  v2604
def k0_mult152 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c144_i32_548 : BitVec 32 := 144#32
  let v2628 : BitVec 32 := Scalar.addi v2189 c144_i32_548
  v2628
def k0_mult153 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c152_i32_553 : BitVec 32 := 152#32
  let v2652 : BitVec 32 := Scalar.addi v2189 c152_i32_553
  v2652
def k0_mult154 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c160_i32_558 : BitVec 32 := 160#32
  let v2676 : BitVec 32 := Scalar.addi v2189 c160_i32_558
  v2676
def k0_mult155 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c168_i32_563 : BitVec 32 := 168#32
  let v2700 : BitVec 32 := Scalar.addi v2189 c168_i32_563
  v2700
def k0_mult156 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c176_i32_568 : BitVec 32 := 176#32
  let v2724 : BitVec 32 := Scalar.addi v2189 c176_i32_568
  v2724
def k0_mult157 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c184_i32_573 : BitVec 32 := 184#32
  let v2748 : BitVec 32 := Scalar.addi v2189 c184_i32_573
  v2748
def k0_mult158 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c192_i32_578 : BitVec 32 := 192#32
  let v2772 : BitVec 32 := Scalar.addi v2189 c192_i32_578
  v2772
def k0_mult159 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c200_i32_583 : BitVec 32 := 200#32
  let v2796 : BitVec 32 := Scalar.addi v2189 c200_i32_583
  v2796
def k0_mult160 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c208_i32_588 : BitVec 32 := 208#32
  let v2820 : BitVec 32 := Scalar.addi v2189 c208_i32_588
  v2820
def k0_mult161 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c216_i32_593 : BitVec 32 := 216#32
  let v2844 : BitVec 32 := Scalar.addi v2189 c216_i32_593
  v2844
def k0_mult162 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c224_i32_598 : BitVec 32 := 224#32
  let v2868 : BitVec 32 := Scalar.addi v2189 c224_i32_598
  v2868
def k0_mult163 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c232_i32_603 : BitVec 32 := 232#32
  let v2892 : BitVec 32 := Scalar.addi v2189 c232_i32_603
  v2892
def k0_mult164 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c240_i32_608 : BitVec 32 := 240#32
  let v2916 : BitVec 32 := Scalar.addi v2189 c240_i32_608
  v2916
def k0_mult165 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c248_i32_613 : BitVec 32 := 248#32
  let v2940 : BitVec 32 := Scalar.addi v2189 c248_i32_613
  v2940
def k0_mult166 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c0_i32_622 : BitVec 32 := 0#32
  let v2967 : BitVec 32 := Scalar.addi v2189 c0_i32_622
  v2967
def k0_off18 (i : grid0.Coords) (v1 : BitVec 32) (k0_t4 : Fin (k0_t4_loop i v1).trips) (c0_i32_622 : BitVec 32) : Fin 2 → Nat :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let v2967 : BitVec 32 := Scalar.addi v2189 c0_i32_622
  let v2968 : BitVec 32 := v2967
  let v2984 : Index := Scalar.indexCast v2968
  let c256_626 : Index := 256#32
  ![v2984.toNat, 256]
def k0_mult167 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c8_i32_627 : BitVec 32 := 8#32
  let v2991 : BitVec 32 := Scalar.addi v2189 c8_i32_627
  v2991
def k0_mult168 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c16_i32_632 : BitVec 32 := 16#32
  let v3015 : BitVec 32 := Scalar.addi v2189 c16_i32_632
  v3015
def k0_mult169 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c24_i32_637 : BitVec 32 := 24#32
  let v3039 : BitVec 32 := Scalar.addi v2189 c24_i32_637
  v3039
def k0_mult170 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c32_i32_642 : BitVec 32 := 32#32
  let v3063 : BitVec 32 := Scalar.addi v2189 c32_i32_642
  v3063
def k0_mult171 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c40_i32_647 : BitVec 32 := 40#32
  let v3087 : BitVec 32 := Scalar.addi v2189 c40_i32_647
  v3087
def k0_mult172 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c48_i32_652 : BitVec 32 := 48#32
  let v3111 : BitVec 32 := Scalar.addi v2189 c48_i32_652
  v3111
def k0_mult173 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c56_i32_657 : BitVec 32 := 56#32
  let v3135 : BitVec 32 := Scalar.addi v2189 c56_i32_657
  v3135
def k0_mult174 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c64_i32_662 : BitVec 32 := 64#32
  let v3159 : BitVec 32 := Scalar.addi v2189 c64_i32_662
  v3159
def k0_mult175 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c72_i32_667 : BitVec 32 := 72#32
  let v3183 : BitVec 32 := Scalar.addi v2189 c72_i32_667
  v3183
def k0_mult176 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c80_i32_672 : BitVec 32 := 80#32
  let v3207 : BitVec 32 := Scalar.addi v2189 c80_i32_672
  v3207
def k0_mult177 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c88_i32_677 : BitVec 32 := 88#32
  let v3231 : BitVec 32 := Scalar.addi v2189 c88_i32_677
  v3231
def k0_mult178 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c96_i32_682 : BitVec 32 := 96#32
  let v3255 : BitVec 32 := Scalar.addi v2189 c96_i32_682
  v3255
def k0_mult179 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c104_i32_687 : BitVec 32 := 104#32
  let v3279 : BitVec 32 := Scalar.addi v2189 c104_i32_687
  v3279
def k0_mult180 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c112_i32_692 : BitVec 32 := 112#32
  let v3303 : BitVec 32 := Scalar.addi v2189 c112_i32_692
  v3303
def k0_mult181 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c120_i32_697 : BitVec 32 := 120#32
  let v3327 : BitVec 32 := Scalar.addi v2189 c120_i32_697
  v3327
def k0_mult182 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c128_i32_702 : BitVec 32 := 128#32
  let v3351 : BitVec 32 := Scalar.addi v2189 c128_i32_702
  v3351
def k0_mult183 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c136_i32_707 : BitVec 32 := 136#32
  let v3375 : BitVec 32 := Scalar.addi v2189 c136_i32_707
  v3375
def k0_mult184 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c144_i32_712 : BitVec 32 := 144#32
  let v3399 : BitVec 32 := Scalar.addi v2189 c144_i32_712
  v3399
def k0_mult185 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c152_i32_717 : BitVec 32 := 152#32
  let v3423 : BitVec 32 := Scalar.addi v2189 c152_i32_717
  v3423
def k0_mult186 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c160_i32_722 : BitVec 32 := 160#32
  let v3447 : BitVec 32 := Scalar.addi v2189 c160_i32_722
  v3447
def k0_mult187 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c168_i32_727 : BitVec 32 := 168#32
  let v3471 : BitVec 32 := Scalar.addi v2189 c168_i32_727
  v3471
def k0_mult188 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c176_i32_732 : BitVec 32 := 176#32
  let v3495 : BitVec 32 := Scalar.addi v2189 c176_i32_732
  v3495
def k0_mult189 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c184_i32_737 : BitVec 32 := 184#32
  let v3519 : BitVec 32 := Scalar.addi v2189 c184_i32_737
  v3519
def k0_mult190 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c192_i32_742 : BitVec 32 := 192#32
  let v3543 : BitVec 32 := Scalar.addi v2189 c192_i32_742
  v3543
def k0_mult191 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c200_i32_747 : BitVec 32 := 200#32
  let v3567 : BitVec 32 := Scalar.addi v2189 c200_i32_747
  v3567
def k0_mult192 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c208_i32_752 : BitVec 32 := 208#32
  let v3591 : BitVec 32 := Scalar.addi v2189 c208_i32_752
  v3591
def k0_mult193 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c216_i32_757 : BitVec 32 := 216#32
  let v3615 : BitVec 32 := Scalar.addi v2189 c216_i32_757
  v3615
def k0_mult194 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c224_i32_762 : BitVec 32 := 224#32
  let v3639 : BitVec 32 := Scalar.addi v2189 c224_i32_762
  v3639
def k0_mult195 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c232_i32_767 : BitVec 32 := 232#32
  let v3663 : BitVec 32 := Scalar.addi v2189 c232_i32_767
  v3663
def k0_mult196 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c240_i32_772 : BitVec 32 := 240#32
  let v3687 : BitVec 32 := Scalar.addi v2189 c240_i32_772
  v3687
def k0_mult197 (i : grid0.Coords) (v1 : BitVec 32) (k0_t4 : Fin (k0_t4_loop i v1).trips) : BitVec 32 :=
  let c0_i32_407 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let c1_i32_39 : BitVec 32 := 1#32
  let v93 : BitVec 32 := Scalar.subi v92 c1_i32_39
  let v2098 : BitVec 32 := Scalar.subi v93 c0_i32_407
  let c1_i32_408 : BitVec 32 := 1#32
  let v2100 : BitVec 32 := Scalar.divsi v2098 c1_i32_408
  let v2101 : BitVec 32 := Scalar.muli v2100 c1_i32_408
  let v2102 : BitVec 32 := Scalar.addi c0_i32_407 v2101
  let c1_i32_410 : BitVec 32 := 1#32
  let arg20 : BitVec 32 := Scf.iv v2102 c1_i32_410 k0_t4
  let c256_i32_451 : BitVec 32 := 256#32
  let v2188 : BitVec 32 := Scalar.muli arg20 c256_i32_451
  let v2189 : BitVec 32 := v2188
  let c248_i32_777 : BitVec 32 := 248#32
  let v3711 : BitVec 32 := Scalar.addi v2189 c248_i32_777
  v3711
@[reducible] def k0_t5_loop (i : grid0.Coords) (v1 : BitVec 32) : Scf.Loop 32 :=
  let c0_i32_437 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let v2167 : BitVec 32 := Scalar.subi v92 c0_i32_437
  let c1_i32_438 : BitVec 32 := 1#32
  let v2169 : BitVec 32 := Scalar.divsi v2167 c1_i32_438
  let v2170 : BitVec 32 := Scalar.muli v2169 c1_i32_438
  let v2171 : BitVec 32 := Scalar.addi c0_i32_437 v2170
  let c1_i32_439 : BitVec 32 := 1#32
  ⟨c0_i32_437, v2171, c1_i32_439⟩
def k0_mult198 (i : grid0.Coords) (v1 : BitVec 32) (k0_t5 : Fin (k0_t5_loop i v1).trips) : BitVec 32 :=
  let c0_i32_437 : BitVec 32 := 0#32
  let c1_i32_439 : BitVec 32 := 1#32
  let arg20 : BitVec 32 := Scf.iv c0_i32_437 c1_i32_439 k0_t5
  let c256_i32_451 : BitVec 32 := 256#32
  let v2188 : BitVec 32 := Scalar.muli arg20 c256_i32_451
  v2188
def k0_off19 (i : grid0.Coords) (v1 : BitVec 32) (k0_t5 : Fin (k0_t5_loop i v1).trips) : Fin 2 → Nat :=
  let c0_452 : Index := 0#32
  let c0_i32_437 : BitVec 32 := 0#32
  let c1_i32_439 : BitVec 32 := 1#32
  let arg20 : BitVec 32 := Scf.iv c0_i32_437 c1_i32_439 k0_t5
  let c256_i32_451 : BitVec 32 := 256#32
  let v2188 : BitVec 32 := Scalar.muli arg20 c256_i32_451
  let v2189 : BitVec 32 := v2188
  let v2190 : Index := Scalar.indexCast v2189
  ![0, v2190.toNat]
def k0_off20 (i : grid0.Coords) (v1 : BitVec 32) (k0_t5 : Fin (k0_t5_loop i v1).trips) : Fin 2 → Nat :=
  let c0_i32_437 : BitVec 32 := 0#32
  let c1_i32_439 : BitVec 32 := 1#32
  let arg20 : BitVec 32 := Scf.iv c0_i32_437 c1_i32_439 k0_t5
  let c256_i32_451 : BitVec 32 := 256#32
  let v2188 : BitVec 32 := Scalar.muli arg20 c256_i32_451
  let v2189 : BitVec 32 := v2188
  let v2192 : Index := Scalar.indexCast v2189
  let c0_453 : Index := 0#32
  ![v2192.toNat, 0]
def k0_off21 (i : grid0.Coords) (v1 : BitVec 32) (k0_t5 : Fin (k0_t5_loop i v1).trips) : Fin 2 → Nat :=
  let c0_i32_437 : BitVec 32 := 0#32
  let c1_i32_439 : BitVec 32 := 1#32
  let arg20 : BitVec 32 := Scf.iv c0_i32_437 c1_i32_439 k0_t5
  let c256_i32_451 : BitVec 32 := 256#32
  let v2188 : BitVec 32 := Scalar.muli arg20 c256_i32_451
  let v2189 : BitVec 32 := v2188
  let v2207 : Index := Scalar.indexCast v2189
  let c256_461 : Index := 256#32
  ![v2207.toNat, 256]
@[reducible] def k0_t6_loop (i : grid0.Coords) (v1 : BitVec 32) : Scf.Loop 32 :=
  let c0_i32_437 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let v2167 : BitVec 32 := Scalar.subi v92 c0_i32_437
  let c1_i32_438 : BitVec 32 := 1#32
  let v2169 : BitVec 32 := Scalar.divsi v2167 c1_i32_438
  let v2170 : BitVec 32 := Scalar.muli v2169 c1_i32_438
  let v2171 : BitVec 32 := Scalar.addi c0_i32_437 v2170
  let v2168 : BitVec 32 := Scalar.addi c0_i32_437 v2167
  let c1_i32_440 : BitVec 32 := 1#32
  ⟨v2171, v2168, c1_i32_440⟩
def k0_mult199 (i : grid0.Coords) (v1 : BitVec 32) (k0_t6 : Fin (k0_t6_loop i v1).trips) : BitVec 32 :=
  let c0_i32_437 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let v2167 : BitVec 32 := Scalar.subi v92 c0_i32_437
  let c1_i32_438 : BitVec 32 := 1#32
  let v2169 : BitVec 32 := Scalar.divsi v2167 c1_i32_438
  let v2170 : BitVec 32 := Scalar.muli v2169 c1_i32_438
  let v2171 : BitVec 32 := Scalar.addi c0_i32_437 v2170
  let c1_i32_440 : BitVec 32 := 1#32
  let arg20 : BitVec 32 := Scf.iv v2171 c1_i32_440 k0_t6
  let c256_i32_451 : BitVec 32 := 256#32
  let v2188 : BitVec 32 := Scalar.muli arg20 c256_i32_451
  v2188
def k0_off22 (i : grid0.Coords) (v1 : BitVec 32) (k0_t6 : Fin (k0_t6_loop i v1).trips) : Fin 2 → Nat :=
  let c0_452 : Index := 0#32
  let c0_i32_437 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let v2167 : BitVec 32 := Scalar.subi v92 c0_i32_437
  let c1_i32_438 : BitVec 32 := 1#32
  let v2169 : BitVec 32 := Scalar.divsi v2167 c1_i32_438
  let v2170 : BitVec 32 := Scalar.muli v2169 c1_i32_438
  let v2171 : BitVec 32 := Scalar.addi c0_i32_437 v2170
  let c1_i32_440 : BitVec 32 := 1#32
  let arg20 : BitVec 32 := Scf.iv v2171 c1_i32_440 k0_t6
  let c256_i32_451 : BitVec 32 := 256#32
  let v2188 : BitVec 32 := Scalar.muli arg20 c256_i32_451
  let v2189 : BitVec 32 := v2188
  let v2190 : Index := Scalar.indexCast v2189
  ![0, v2190.toNat]
def k0_off23 (i : grid0.Coords) (v1 : BitVec 32) (k0_t6 : Fin (k0_t6_loop i v1).trips) : Fin 2 → Nat :=
  let c0_i32_437 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let v2167 : BitVec 32 := Scalar.subi v92 c0_i32_437
  let c1_i32_438 : BitVec 32 := 1#32
  let v2169 : BitVec 32 := Scalar.divsi v2167 c1_i32_438
  let v2170 : BitVec 32 := Scalar.muli v2169 c1_i32_438
  let v2171 : BitVec 32 := Scalar.addi c0_i32_437 v2170
  let c1_i32_440 : BitVec 32 := 1#32
  let arg20 : BitVec 32 := Scf.iv v2171 c1_i32_440 k0_t6
  let c256_i32_451 : BitVec 32 := 256#32
  let v2188 : BitVec 32 := Scalar.muli arg20 c256_i32_451
  let v2189 : BitVec 32 := v2188
  let v2192 : Index := Scalar.indexCast v2189
  let c0_453 : Index := 0#32
  ![v2192.toNat, 0]
def k0_off24 (i : grid0.Coords) (v1 : BitVec 32) (k0_t6 : Fin (k0_t6_loop i v1).trips) : Fin 2 → Nat :=
  let c0_i32_437 : BitVec 32 := 0#32
  let arg2 : BitVec 32 := BitVec.ofNat 32 (i 2).val
  let c1_i32 : BitVec 32 := 1#32
  let v89 : BitVec 32 := Scalar.addi arg2 c1_i32
  let c255_i32 : BitVec 32 := 255#32
  let v90 : BitVec 32 := Scalar.addi v1 c255_i32
  let c256_i32 : BitVec 32 := 256#32
  let v91 : BitVec 32 := Scalar.divsi v90 c256_i32
  let v92 : BitVec 32 := Scalar.maxsi v89 v91
  let v2167 : BitVec 32 := Scalar.subi v92 c0_i32_437
  let c1_i32_438 : BitVec 32 := 1#32
  let v2169 : BitVec 32 := Scalar.divsi v2167 c1_i32_438
  let v2170 : BitVec 32 := Scalar.muli v2169 c1_i32_438
  let v2171 : BitVec 32 := Scalar.addi c0_i32_437 v2170
  let c1_i32_440 : BitVec 32 := 1#32
  let arg20 : BitVec 32 := Scf.iv v2171 c1_i32_440 k0_t6
  let c256_i32_451 : BitVec 32 := 256#32
  let v2188 : BitVec 32 := Scalar.muli arg20 c256_i32_451
  let v2189 : BitVec 32 := v2188
  let v2207 : Index := Scalar.indexCast v2189
  let c256_461 : Index := 256#32
  ![v2207.toNat, 256]

def k0_chk1_0 (i : grid0.Coords) (v1 : BitVec 32) : Prop :=
  (256 ∣ (k0_mult3 i v1).toNat) ∧
  (∀ a, (k0_off7 i v1) a + S1x256x256.size a ≤ S1x8192x256.size a) ∧
  (8 ∣ (k0_mult4 i v1).toNat) ∧
  (∀ (r : Fin 32), ∀ a, (k0_off8 i v1 (BitVec.ofNat 32 (8 * r.val))) a + S8x128.size a ≤ S8192x128.size a) ∧
  (∀ (r : Fin 32), ∀ a, (k0_off9 i v1 (BitVec.ofNat 32 (8 * r.val))) a + S8x256.size a ≤ S8192x512.size a) ∧
  (8 ∣ (k0_mult5 i v1).toNat) ∧
  (8 ∣ (k0_mult6 i v1).toNat) ∧
  (8 ∣ (k0_mult7 i v1).toNat) ∧
  (8 ∣ (k0_mult8 i v1).toNat) ∧
  (8 ∣ (k0_mult9 i v1).toNat) ∧
  (8 ∣ (k0_mult10 i v1).toNat) ∧
  (8 ∣ (k0_mult11 i v1).toNat) ∧
  (8 ∣ (k0_mult12 i v1).toNat) ∧
  (8 ∣ (k0_mult13 i v1).toNat) ∧
  (8 ∣ (k0_mult14 i v1).toNat) ∧
  (8 ∣ (k0_mult15 i v1).toNat) ∧
  (8 ∣ (k0_mult16 i v1).toNat) ∧
  (8 ∣ (k0_mult17 i v1).toNat) ∧
  (8 ∣ (k0_mult18 i v1).toNat) ∧
  (8 ∣ (k0_mult19 i v1).toNat) ∧
  (8 ∣ (k0_mult20 i v1).toNat) ∧
  (8 ∣ (k0_mult21 i v1).toNat) ∧
  (8 ∣ (k0_mult22 i v1).toNat) ∧
  (8 ∣ (k0_mult23 i v1).toNat) ∧
  (8 ∣ (k0_mult24 i v1).toNat) ∧
  (8 ∣ (k0_mult25 i v1).toNat) ∧
  (8 ∣ (k0_mult26 i v1).toNat) ∧
  (8 ∣ (k0_mult27 i v1).toNat) ∧
  (8 ∣ (k0_mult28 i v1).toNat) ∧
  (8 ∣ (k0_mult29 i v1).toNat) ∧
  (8 ∣ (k0_mult30 i v1).toNat) ∧
  (8 ∣ (k0_mult31 i v1).toNat)
def k0_chk1_1 (i : grid0.Coords) (v1 : BitVec 32) : Prop :=
  (8 ∣ (k0_mult32 i v1).toNat) ∧
  (8 ∣ (k0_mult33 i v1).toNat) ∧
  (8 ∣ (k0_mult34 i v1).toNat) ∧
  (8 ∣ (k0_mult35 i v1).toNat) ∧
  (8 ∣ (k0_mult36 i v1).toNat) ∧
  (∀ (r : Fin 32), ∀ a, (k0_off10 i v1 (BitVec.ofNat 32 (8 * r.val))) a + S8x256.size a ≤ S8192x512.size a) ∧
  (8 ∣ (k0_mult37 i v1).toNat) ∧
  (8 ∣ (k0_mult38 i v1).toNat) ∧
  (8 ∣ (k0_mult39 i v1).toNat) ∧
  (8 ∣ (k0_mult40 i v1).toNat) ∧
  (8 ∣ (k0_mult41 i v1).toNat) ∧
  (8 ∣ (k0_mult42 i v1).toNat) ∧
  (8 ∣ (k0_mult43 i v1).toNat) ∧
  (8 ∣ (k0_mult44 i v1).toNat) ∧
  (8 ∣ (k0_mult45 i v1).toNat) ∧
  (8 ∣ (k0_mult46 i v1).toNat) ∧
  (8 ∣ (k0_mult47 i v1).toNat) ∧
  (8 ∣ (k0_mult48 i v1).toNat) ∧
  (8 ∣ (k0_mult49 i v1).toNat) ∧
  (8 ∣ (k0_mult50 i v1).toNat) ∧
  (8 ∣ (k0_mult51 i v1).toNat) ∧
  (8 ∣ (k0_mult52 i v1).toNat) ∧
  (8 ∣ (k0_mult53 i v1).toNat) ∧
  (8 ∣ (k0_mult54 i v1).toNat) ∧
  (8 ∣ (k0_mult55 i v1).toNat) ∧
  (8 ∣ (k0_mult56 i v1).toNat) ∧
  (8 ∣ (k0_mult57 i v1).toNat) ∧
  (8 ∣ (k0_mult58 i v1).toNat) ∧
  (8 ∣ (k0_mult59 i v1).toNat) ∧
  (8 ∣ (k0_mult60 i v1).toNat) ∧
  (8 ∣ (k0_mult61 i v1).toNat) ∧
  (8 ∣ (k0_mult62 i v1).toNat)
def k0_chk1_2 (i : grid0.Coords) (v1 : BitVec 32) : Prop :=
  (8 ∣ (k0_mult63 i v1).toNat) ∧
  (8 ∣ (k0_mult64 i v1).toNat) ∧
  (8 ∣ (k0_mult65 i v1).toNat) ∧
  (8 ∣ (k0_mult66 i v1).toNat) ∧
  (8 ∣ (k0_mult67 i v1).toNat) ∧
  ((k0_t3_loop i v1).OK) ∧
  (∀ k0_t3 : Fin (k0_t3_loop i v1).trips, 256 ∣ (k0_mult68 i v1 k0_t3).toNat) ∧
  (∀ k0_t3 : Fin (k0_t3_loop i v1).trips, ∀ a, (k0_off11 i v1 k0_t3) a + S1x256x256.size a ≤ S1x8192x256.size a) ∧
  (∀ k0_t3 : Fin (k0_t3_loop i v1).trips, 8 ∣ (k0_mult69 i v1 k0_t3).toNat) ∧
  (∀ k0_t3 : Fin (k0_t3_loop i v1).trips, ∀ (r : Fin 32), ∀ a, (k0_off12 i v1 k0_t3 (BitVec.ofNat 32 (8 * r.val))) a + S8x128.size a ≤ S8192x128.size a) ∧
  (∀ k0_t3 : Fin (k0_t3_loop i v1).trips, ∀ (r : Fin 32), ∀ a, (k0_off13 i v1 k0_t3 (BitVec.ofNat 32 (8 * r.val))) a + S8x256.size a ≤ S8192x512.size a) ∧
  (∀ k0_t3 : Fin (k0_t3_loop i v1).trips, 8 ∣ (k0_mult70 i v1 k0_t3).toNat) ∧
  (∀ k0_t3 : Fin (k0_t3_loop i v1).trips, 8 ∣ (k0_mult71 i v1 k0_t3).toNat) ∧
  (∀ k0_t3 : Fin (k0_t3_loop i v1).trips, 8 ∣ (k0_mult72 i v1 k0_t3).toNat) ∧
  (∀ k0_t3 : Fin (k0_t3_loop i v1).trips, 8 ∣ (k0_mult73 i v1 k0_t3).toNat) ∧
  (∀ k0_t3 : Fin (k0_t3_loop i v1).trips, 8 ∣ (k0_mult74 i v1 k0_t3).toNat) ∧
  (∀ k0_t3 : Fin (k0_t3_loop i v1).trips, 8 ∣ (k0_mult75 i v1 k0_t3).toNat) ∧
  (∀ k0_t3 : Fin (k0_t3_loop i v1).trips, 8 ∣ (k0_mult76 i v1 k0_t3).toNat) ∧
  (∀ k0_t3 : Fin (k0_t3_loop i v1).trips, 8 ∣ (k0_mult77 i v1 k0_t3).toNat) ∧
  (∀ k0_t3 : Fin (k0_t3_loop i v1).trips, 8 ∣ (k0_mult78 i v1 k0_t3).toNat) ∧
  (∀ k0_t3 : Fin (k0_t3_loop i v1).trips, 8 ∣ (k0_mult79 i v1 k0_t3).toNat) ∧
  (∀ k0_t3 : Fin (k0_t3_loop i v1).trips, 8 ∣ (k0_mult80 i v1 k0_t3).toNat) ∧
  (∀ k0_t3 : Fin (k0_t3_loop i v1).trips, 8 ∣ (k0_mult81 i v1 k0_t3).toNat) ∧
  (∀ k0_t3 : Fin (k0_t3_loop i v1).trips, 8 ∣ (k0_mult82 i v1 k0_t3).toNat) ∧
  (∀ k0_t3 : Fin (k0_t3_loop i v1).trips, 8 ∣ (k0_mult83 i v1 k0_t3).toNat) ∧
  (∀ k0_t3 : Fin (k0_t3_loop i v1).trips, 8 ∣ (k0_mult84 i v1 k0_t3).toNat) ∧
  (∀ k0_t3 : Fin (k0_t3_loop i v1).trips, 8 ∣ (k0_mult85 i v1 k0_t3).toNat) ∧
  (∀ k0_t3 : Fin (k0_t3_loop i v1).trips, 8 ∣ (k0_mult86 i v1 k0_t3).toNat) ∧
  (∀ k0_t3 : Fin (k0_t3_loop i v1).trips, 8 ∣ (k0_mult87 i v1 k0_t3).toNat) ∧
  (∀ k0_t3 : Fin (k0_t3_loop i v1).trips, 8 ∣ (k0_mult88 i v1 k0_t3).toNat) ∧
  (∀ k0_t3 : Fin (k0_t3_loop i v1).trips, 8 ∣ (k0_mult89 i v1 k0_t3).toNat) ∧
  (∀ k0_t3 : Fin (k0_t3_loop i v1).trips, 8 ∣ (k0_mult90 i v1 k0_t3).toNat)
def k0_chk1_3 (i : grid0.Coords) (v1 : BitVec 32) : Prop :=
  (∀ k0_t3 : Fin (k0_t3_loop i v1).trips, 8 ∣ (k0_mult91 i v1 k0_t3).toNat) ∧
  (∀ k0_t3 : Fin (k0_t3_loop i v1).trips, 8 ∣ (k0_mult92 i v1 k0_t3).toNat) ∧
  (∀ k0_t3 : Fin (k0_t3_loop i v1).trips, 8 ∣ (k0_mult93 i v1 k0_t3).toNat) ∧
  (∀ k0_t3 : Fin (k0_t3_loop i v1).trips, 8 ∣ (k0_mult94 i v1 k0_t3).toNat) ∧
  (∀ k0_t3 : Fin (k0_t3_loop i v1).trips, 8 ∣ (k0_mult95 i v1 k0_t3).toNat) ∧
  (∀ k0_t3 : Fin (k0_t3_loop i v1).trips, 8 ∣ (k0_mult96 i v1 k0_t3).toNat) ∧
  (∀ k0_t3 : Fin (k0_t3_loop i v1).trips, 8 ∣ (k0_mult97 i v1 k0_t3).toNat) ∧
  (∀ k0_t3 : Fin (k0_t3_loop i v1).trips, 8 ∣ (k0_mult98 i v1 k0_t3).toNat) ∧
  (∀ k0_t3 : Fin (k0_t3_loop i v1).trips, 8 ∣ (k0_mult99 i v1 k0_t3).toNat) ∧
  (∀ k0_t3 : Fin (k0_t3_loop i v1).trips, 8 ∣ (k0_mult100 i v1 k0_t3).toNat) ∧
  (∀ k0_t3 : Fin (k0_t3_loop i v1).trips, 8 ∣ (k0_mult101 i v1 k0_t3).toNat) ∧
  (∀ k0_t3 : Fin (k0_t3_loop i v1).trips, ∀ (r : Fin 32), ∀ a, (k0_off14 i v1 k0_t3 (BitVec.ofNat 32 (8 * r.val))) a + S8x256.size a ≤ S8192x512.size a) ∧
  (∀ k0_t3 : Fin (k0_t3_loop i v1).trips, 8 ∣ (k0_mult102 i v1 k0_t3).toNat) ∧
  (∀ k0_t3 : Fin (k0_t3_loop i v1).trips, 8 ∣ (k0_mult103 i v1 k0_t3).toNat) ∧
  (∀ k0_t3 : Fin (k0_t3_loop i v1).trips, 8 ∣ (k0_mult104 i v1 k0_t3).toNat) ∧
  (∀ k0_t3 : Fin (k0_t3_loop i v1).trips, 8 ∣ (k0_mult105 i v1 k0_t3).toNat) ∧
  (∀ k0_t3 : Fin (k0_t3_loop i v1).trips, 8 ∣ (k0_mult106 i v1 k0_t3).toNat) ∧
  (∀ k0_t3 : Fin (k0_t3_loop i v1).trips, 8 ∣ (k0_mult107 i v1 k0_t3).toNat) ∧
  (∀ k0_t3 : Fin (k0_t3_loop i v1).trips, 8 ∣ (k0_mult108 i v1 k0_t3).toNat) ∧
  (∀ k0_t3 : Fin (k0_t3_loop i v1).trips, 8 ∣ (k0_mult109 i v1 k0_t3).toNat) ∧
  (∀ k0_t3 : Fin (k0_t3_loop i v1).trips, 8 ∣ (k0_mult110 i v1 k0_t3).toNat) ∧
  (∀ k0_t3 : Fin (k0_t3_loop i v1).trips, 8 ∣ (k0_mult111 i v1 k0_t3).toNat) ∧
  (∀ k0_t3 : Fin (k0_t3_loop i v1).trips, 8 ∣ (k0_mult112 i v1 k0_t3).toNat) ∧
  (∀ k0_t3 : Fin (k0_t3_loop i v1).trips, 8 ∣ (k0_mult113 i v1 k0_t3).toNat) ∧
  (∀ k0_t3 : Fin (k0_t3_loop i v1).trips, 8 ∣ (k0_mult114 i v1 k0_t3).toNat) ∧
  (∀ k0_t3 : Fin (k0_t3_loop i v1).trips, 8 ∣ (k0_mult115 i v1 k0_t3).toNat) ∧
  (∀ k0_t3 : Fin (k0_t3_loop i v1).trips, 8 ∣ (k0_mult116 i v1 k0_t3).toNat) ∧
  (∀ k0_t3 : Fin (k0_t3_loop i v1).trips, 8 ∣ (k0_mult117 i v1 k0_t3).toNat) ∧
  (∀ k0_t3 : Fin (k0_t3_loop i v1).trips, 8 ∣ (k0_mult118 i v1 k0_t3).toNat) ∧
  (∀ k0_t3 : Fin (k0_t3_loop i v1).trips, 8 ∣ (k0_mult119 i v1 k0_t3).toNat) ∧
  (∀ k0_t3 : Fin (k0_t3_loop i v1).trips, 8 ∣ (k0_mult120 i v1 k0_t3).toNat) ∧
  (∀ k0_t3 : Fin (k0_t3_loop i v1).trips, 8 ∣ (k0_mult121 i v1 k0_t3).toNat)
def k0_chk1_4 (i : grid0.Coords) (v1 : BitVec 32) : Prop :=
  (∀ k0_t3 : Fin (k0_t3_loop i v1).trips, 8 ∣ (k0_mult122 i v1 k0_t3).toNat) ∧
  (∀ k0_t3 : Fin (k0_t3_loop i v1).trips, 8 ∣ (k0_mult123 i v1 k0_t3).toNat) ∧
  (∀ k0_t3 : Fin (k0_t3_loop i v1).trips, 8 ∣ (k0_mult124 i v1 k0_t3).toNat) ∧
  (∀ k0_t3 : Fin (k0_t3_loop i v1).trips, 8 ∣ (k0_mult125 i v1 k0_t3).toNat) ∧
  (∀ k0_t3 : Fin (k0_t3_loop i v1).trips, 8 ∣ (k0_mult126 i v1 k0_t3).toNat) ∧
  (∀ k0_t3 : Fin (k0_t3_loop i v1).trips, 8 ∣ (k0_mult127 i v1 k0_t3).toNat) ∧
  (∀ k0_t3 : Fin (k0_t3_loop i v1).trips, 8 ∣ (k0_mult128 i v1 k0_t3).toNat) ∧
  (∀ k0_t3 : Fin (k0_t3_loop i v1).trips, 8 ∣ (k0_mult129 i v1 k0_t3).toNat) ∧
  (∀ k0_t3 : Fin (k0_t3_loop i v1).trips, 8 ∣ (k0_mult130 i v1 k0_t3).toNat) ∧
  (∀ k0_t3 : Fin (k0_t3_loop i v1).trips, 8 ∣ (k0_mult131 i v1 k0_t3).toNat) ∧
  (∀ k0_t3 : Fin (k0_t3_loop i v1).trips, 8 ∣ (k0_mult132 i v1 k0_t3).toNat) ∧
  ((k0_t4_loop i v1).OK) ∧
  (∀ k0_t4 : Fin (k0_t4_loop i v1).trips, 256 ∣ (k0_mult133 i v1 k0_t4).toNat) ∧
  (∀ k0_t4 : Fin (k0_t4_loop i v1).trips, ∀ a, (k0_off15 i v1 k0_t4) a + S1x256x256.size a ≤ S1x8192x256.size a) ∧
  (∀ k0_t4 : Fin (k0_t4_loop i v1).trips, 8 ∣ (k0_mult134 i v1 k0_t4).toNat) ∧
  (∀ k0_t4 : Fin (k0_t4_loop i v1).trips, ∀ (r : Fin 32), ∀ a, (k0_off16 i v1 k0_t4 (BitVec.ofNat 32 (8 * r.val))) a + S8x128.size a ≤ S8192x128.size a) ∧
  (∀ k0_t4 : Fin (k0_t4_loop i v1).trips, ∀ (r : Fin 32), ∀ a, (k0_off17 i v1 k0_t4 (BitVec.ofNat 32 (8 * r.val))) a + S8x256.size a ≤ S8192x512.size a) ∧
  (∀ k0_t4 : Fin (k0_t4_loop i v1).trips, 8 ∣ (k0_mult135 i v1 k0_t4).toNat) ∧
  (∀ k0_t4 : Fin (k0_t4_loop i v1).trips, 8 ∣ (k0_mult136 i v1 k0_t4).toNat) ∧
  (∀ k0_t4 : Fin (k0_t4_loop i v1).trips, 8 ∣ (k0_mult137 i v1 k0_t4).toNat) ∧
  (∀ k0_t4 : Fin (k0_t4_loop i v1).trips, 8 ∣ (k0_mult138 i v1 k0_t4).toNat) ∧
  (∀ k0_t4 : Fin (k0_t4_loop i v1).trips, 8 ∣ (k0_mult139 i v1 k0_t4).toNat) ∧
  (∀ k0_t4 : Fin (k0_t4_loop i v1).trips, 8 ∣ (k0_mult140 i v1 k0_t4).toNat) ∧
  (∀ k0_t4 : Fin (k0_t4_loop i v1).trips, 8 ∣ (k0_mult141 i v1 k0_t4).toNat) ∧
  (∀ k0_t4 : Fin (k0_t4_loop i v1).trips, 8 ∣ (k0_mult142 i v1 k0_t4).toNat) ∧
  (∀ k0_t4 : Fin (k0_t4_loop i v1).trips, 8 ∣ (k0_mult143 i v1 k0_t4).toNat) ∧
  (∀ k0_t4 : Fin (k0_t4_loop i v1).trips, 8 ∣ (k0_mult144 i v1 k0_t4).toNat) ∧
  (∀ k0_t4 : Fin (k0_t4_loop i v1).trips, 8 ∣ (k0_mult145 i v1 k0_t4).toNat) ∧
  (∀ k0_t4 : Fin (k0_t4_loop i v1).trips, 8 ∣ (k0_mult146 i v1 k0_t4).toNat) ∧
  (∀ k0_t4 : Fin (k0_t4_loop i v1).trips, 8 ∣ (k0_mult147 i v1 k0_t4).toNat) ∧
  (∀ k0_t4 : Fin (k0_t4_loop i v1).trips, 8 ∣ (k0_mult148 i v1 k0_t4).toNat) ∧
  (∀ k0_t4 : Fin (k0_t4_loop i v1).trips, 8 ∣ (k0_mult149 i v1 k0_t4).toNat)
def k0_chk1_5 (i : grid0.Coords) (v1 : BitVec 32) : Prop :=
  (∀ k0_t4 : Fin (k0_t4_loop i v1).trips, 8 ∣ (k0_mult150 i v1 k0_t4).toNat) ∧
  (∀ k0_t4 : Fin (k0_t4_loop i v1).trips, 8 ∣ (k0_mult151 i v1 k0_t4).toNat) ∧
  (∀ k0_t4 : Fin (k0_t4_loop i v1).trips, 8 ∣ (k0_mult152 i v1 k0_t4).toNat) ∧
  (∀ k0_t4 : Fin (k0_t4_loop i v1).trips, 8 ∣ (k0_mult153 i v1 k0_t4).toNat) ∧
  (∀ k0_t4 : Fin (k0_t4_loop i v1).trips, 8 ∣ (k0_mult154 i v1 k0_t4).toNat) ∧
  (∀ k0_t4 : Fin (k0_t4_loop i v1).trips, 8 ∣ (k0_mult155 i v1 k0_t4).toNat) ∧
  (∀ k0_t4 : Fin (k0_t4_loop i v1).trips, 8 ∣ (k0_mult156 i v1 k0_t4).toNat) ∧
  (∀ k0_t4 : Fin (k0_t4_loop i v1).trips, 8 ∣ (k0_mult157 i v1 k0_t4).toNat) ∧
  (∀ k0_t4 : Fin (k0_t4_loop i v1).trips, 8 ∣ (k0_mult158 i v1 k0_t4).toNat) ∧
  (∀ k0_t4 : Fin (k0_t4_loop i v1).trips, 8 ∣ (k0_mult159 i v1 k0_t4).toNat) ∧
  (∀ k0_t4 : Fin (k0_t4_loop i v1).trips, 8 ∣ (k0_mult160 i v1 k0_t4).toNat) ∧
  (∀ k0_t4 : Fin (k0_t4_loop i v1).trips, 8 ∣ (k0_mult161 i v1 k0_t4).toNat) ∧
  (∀ k0_t4 : Fin (k0_t4_loop i v1).trips, 8 ∣ (k0_mult162 i v1 k0_t4).toNat) ∧
  (∀ k0_t4 : Fin (k0_t4_loop i v1).trips, 8 ∣ (k0_mult163 i v1 k0_t4).toNat) ∧
  (∀ k0_t4 : Fin (k0_t4_loop i v1).trips, 8 ∣ (k0_mult164 i v1 k0_t4).toNat) ∧
  (∀ k0_t4 : Fin (k0_t4_loop i v1).trips, 8 ∣ (k0_mult165 i v1 k0_t4).toNat) ∧
  (∀ k0_t4 : Fin (k0_t4_loop i v1).trips, 8 ∣ (k0_mult166 i v1 k0_t4).toNat) ∧
  (∀ k0_t4 : Fin (k0_t4_loop i v1).trips, ∀ (r : Fin 32), ∀ a, (k0_off18 i v1 k0_t4 (BitVec.ofNat 32 (8 * r.val))) a + S8x256.size a ≤ S8192x512.size a) ∧
  (∀ k0_t4 : Fin (k0_t4_loop i v1).trips, 8 ∣ (k0_mult167 i v1 k0_t4).toNat) ∧
  (∀ k0_t4 : Fin (k0_t4_loop i v1).trips, 8 ∣ (k0_mult168 i v1 k0_t4).toNat) ∧
  (∀ k0_t4 : Fin (k0_t4_loop i v1).trips, 8 ∣ (k0_mult169 i v1 k0_t4).toNat) ∧
  (∀ k0_t4 : Fin (k0_t4_loop i v1).trips, 8 ∣ (k0_mult170 i v1 k0_t4).toNat) ∧
  (∀ k0_t4 : Fin (k0_t4_loop i v1).trips, 8 ∣ (k0_mult171 i v1 k0_t4).toNat) ∧
  (∀ k0_t4 : Fin (k0_t4_loop i v1).trips, 8 ∣ (k0_mult172 i v1 k0_t4).toNat) ∧
  (∀ k0_t4 : Fin (k0_t4_loop i v1).trips, 8 ∣ (k0_mult173 i v1 k0_t4).toNat) ∧
  (∀ k0_t4 : Fin (k0_t4_loop i v1).trips, 8 ∣ (k0_mult174 i v1 k0_t4).toNat) ∧
  (∀ k0_t4 : Fin (k0_t4_loop i v1).trips, 8 ∣ (k0_mult175 i v1 k0_t4).toNat) ∧
  (∀ k0_t4 : Fin (k0_t4_loop i v1).trips, 8 ∣ (k0_mult176 i v1 k0_t4).toNat) ∧
  (∀ k0_t4 : Fin (k0_t4_loop i v1).trips, 8 ∣ (k0_mult177 i v1 k0_t4).toNat) ∧
  (∀ k0_t4 : Fin (k0_t4_loop i v1).trips, 8 ∣ (k0_mult178 i v1 k0_t4).toNat) ∧
  (∀ k0_t4 : Fin (k0_t4_loop i v1).trips, 8 ∣ (k0_mult179 i v1 k0_t4).toNat) ∧
  (∀ k0_t4 : Fin (k0_t4_loop i v1).trips, 8 ∣ (k0_mult180 i v1 k0_t4).toNat)
def k0_chk1_6 (i : grid0.Coords) (v1 : BitVec 32) : Prop :=
  (∀ k0_t4 : Fin (k0_t4_loop i v1).trips, 8 ∣ (k0_mult181 i v1 k0_t4).toNat) ∧
  (∀ k0_t4 : Fin (k0_t4_loop i v1).trips, 8 ∣ (k0_mult182 i v1 k0_t4).toNat) ∧
  (∀ k0_t4 : Fin (k0_t4_loop i v1).trips, 8 ∣ (k0_mult183 i v1 k0_t4).toNat) ∧
  (∀ k0_t4 : Fin (k0_t4_loop i v1).trips, 8 ∣ (k0_mult184 i v1 k0_t4).toNat) ∧
  (∀ k0_t4 : Fin (k0_t4_loop i v1).trips, 8 ∣ (k0_mult185 i v1 k0_t4).toNat) ∧
  (∀ k0_t4 : Fin (k0_t4_loop i v1).trips, 8 ∣ (k0_mult186 i v1 k0_t4).toNat) ∧
  (∀ k0_t4 : Fin (k0_t4_loop i v1).trips, 8 ∣ (k0_mult187 i v1 k0_t4).toNat) ∧
  (∀ k0_t4 : Fin (k0_t4_loop i v1).trips, 8 ∣ (k0_mult188 i v1 k0_t4).toNat) ∧
  (∀ k0_t4 : Fin (k0_t4_loop i v1).trips, 8 ∣ (k0_mult189 i v1 k0_t4).toNat) ∧
  (∀ k0_t4 : Fin (k0_t4_loop i v1).trips, 8 ∣ (k0_mult190 i v1 k0_t4).toNat) ∧
  (∀ k0_t4 : Fin (k0_t4_loop i v1).trips, 8 ∣ (k0_mult191 i v1 k0_t4).toNat) ∧
  (∀ k0_t4 : Fin (k0_t4_loop i v1).trips, 8 ∣ (k0_mult192 i v1 k0_t4).toNat) ∧
  (∀ k0_t4 : Fin (k0_t4_loop i v1).trips, 8 ∣ (k0_mult193 i v1 k0_t4).toNat) ∧
  (∀ k0_t4 : Fin (k0_t4_loop i v1).trips, 8 ∣ (k0_mult194 i v1 k0_t4).toNat) ∧
  (∀ k0_t4 : Fin (k0_t4_loop i v1).trips, 8 ∣ (k0_mult195 i v1 k0_t4).toNat) ∧
  (∀ k0_t4 : Fin (k0_t4_loop i v1).trips, 8 ∣ (k0_mult196 i v1 k0_t4).toNat) ∧
  (∀ k0_t4 : Fin (k0_t4_loop i v1).trips, 8 ∣ (k0_mult197 i v1 k0_t4).toNat) ∧
  ((k0_t5_loop i v1).OK) ∧
  (∀ k0_t5 : Fin (k0_t5_loop i v1).trips, 256 ∣ (k0_mult198 i v1 k0_t5).toNat) ∧
  (∀ k0_t5 : Fin (k0_t5_loop i v1).trips, ∀ a, (k0_off19 i v1 k0_t5) a + S256x256.size a ≤ S256x8192.size a) ∧
  (∀ k0_t5 : Fin (k0_t5_loop i v1).trips, ∀ a, (k0_off20 i v1 k0_t5) a + S256x256.size a ≤ S8192x512.size a) ∧
  (∀ k0_t5 : Fin (k0_t5_loop i v1).trips, ∀ a, (k0_off21 i v1 k0_t5) a + S256x256.size a ≤ S8192x512.size a) ∧
  ((k0_t6_loop i v1).OK) ∧
  (∀ k0_t6 : Fin (k0_t6_loop i v1).trips, 256 ∣ (k0_mult199 i v1 k0_t6).toNat) ∧
  (∀ k0_t6 : Fin (k0_t6_loop i v1).trips, ∀ a, (k0_off22 i v1 k0_t6) a + S256x256.size a ≤ S256x8192.size a) ∧
  (∀ k0_t6 : Fin (k0_t6_loop i v1).trips, ∀ a, (k0_off23 i v1 k0_t6) a + S256x256.size a ≤ S8192x512.size a) ∧
  (∀ k0_t6 : Fin (k0_t6_loop i v1).trips, ∀ a, (k0_off24 i v1 k0_t6) a + S256x256.size a ≤ S8192x512.size a)
def k0_chk1 (i : grid0.Coords) (v1 : BitVec 32) : Prop :=
  k0_chk1_0 i v1 ∧
  k0_chk1_1 i v1 ∧
  k0_chk1_2 i v1 ∧
  k0_chk1_3 i v1 ∧
  k0_chk1_4 i v1 ∧
  k0_chk1_5 i v1 ∧
  k0_chk1_6 i v1
theorem k0_mult3_dvd : ∀ (i : grid0.Coords) (v1 : BitVec 32) (k0_hw1 : k0_chk1 i v1), 256 ∣ (k0_mult3 i v1).toNat := fun i v1 k0_hw1 => k0_hw1.1.1
theorem k0_off7_inb : ∀ (i : grid0.Coords) (v1 : BitVec 32) (k0_hw1 : k0_chk1 i v1), ∀ a, (k0_off7 i v1) a + S1x256x256.size a ≤ S1x8192x256.size a := fun i v1 k0_hw1 => k0_hw1.1.2.1
theorem k0_mult4_dvd : ∀ (i : grid0.Coords) (v1 : BitVec 32) (k0_hw1 : k0_chk1 i v1), 8 ∣ (k0_mult4 i v1).toNat := fun i v1 k0_hw1 => k0_hw1.1.2.2.1
theorem k0_off8_inb : ∀ (i : grid0.Coords) (v1 : BitVec 32) (k0_hw1 : k0_chk1 i v1), ∀ (r : Fin 32), ∀ a, (k0_off8 i v1 (BitVec.ofNat 32 (8 * r.val))) a + S8x128.size a ≤ S8192x128.size a := fun i v1 k0_hw1 r => k0_hw1.1.2.2.2.1 r
theorem k0_off9_inb : ∀ (i : grid0.Coords) (v1 : BitVec 32) (k0_hw1 : k0_chk1 i v1), ∀ (r : Fin 32), ∀ a, (k0_off9 i v1 (BitVec.ofNat 32 (8 * r.val))) a + S8x256.size a ≤ S8192x512.size a := fun i v1 k0_hw1 r => k0_hw1.1.2.2.2.2.1 r
theorem k0_mult5_dvd : ∀ (i : grid0.Coords) (v1 : BitVec 32) (k0_hw1 : k0_chk1 i v1), 8 ∣ (k0_mult5 i v1).toNat := fun i v1 k0_hw1 => k0_hw1.1.2.2.2.2.2.1
theorem k0_mult6_dvd : ∀ (i : grid0.Coords) (v1 : BitVec 32) (k0_hw1 : k0_chk1 i v1), 8 ∣ (k0_mult6 i v1).toNat := fun i v1 k0_hw1 => k0_hw1.1.2.2.2.2.2.2.1
theorem k0_mult7_dvd : ∀ (i : grid0.Coords) (v1 : BitVec 32) (k0_hw1 : k0_chk1 i v1), 8 ∣ (k0_mult7 i v1).toNat := fun i v1 k0_hw1 => k0_hw1.1.2.2.2.2.2.2.2.1
theorem k0_mult8_dvd : ∀ (i : grid0.Coords) (v1 : BitVec 32) (k0_hw1 : k0_chk1 i v1), 8 ∣ (k0_mult8 i v1).toNat := fun i v1 k0_hw1 => k0_hw1.1.2.2.2.2.2.2.2.2.1
theorem k0_mult9_dvd : ∀ (i : grid0.Coords) (v1 : BitVec 32) (k0_hw1 : k0_chk1 i v1), 8 ∣ (k0_mult9 i v1).toNat := fun i v1 k0_hw1 => k0_hw1.1.2.2.2.2.2.2.2.2.2.1
theorem k0_mult10_dvd : ∀ (i : grid0.Coords) (v1 : BitVec 32) (k0_hw1 : k0_chk1 i v1), 8 ∣ (k0_mult10 i v1).toNat := fun i v1 k0_hw1 => k0_hw1.1.2.2.2.2.2.2.2.2.2.2.1
theorem k0_mult11_dvd : ∀ (i : grid0.Coords) (v1 : BitVec 32) (k0_hw1 : k0_chk1 i v1), 8 ∣ (k0_mult11 i v1).toNat := fun i v1 k0_hw1 => k0_hw1.1.2.2.2.2.2.2.2.2.2.2.2.1
theorem k0_mult12_dvd : ∀ (i : grid0.Coords) (v1 : BitVec 32) (k0_hw1 : k0_chk1 i v1), 8 ∣ (k0_mult12 i v1).toNat := fun i v1 k0_hw1 => k0_hw1.1.2.2.2.2.2.2.2.2.2.2.2.2.1
theorem k0_mult13_dvd : ∀ (i : grid0.Coords) (v1 : BitVec 32) (k0_hw1 : k0_chk1 i v1), 8 ∣ (k0_mult13 i v1).toNat := fun i v1 k0_hw1 => k0_hw1.1.2.2.2.2.2.2.2.2.2.2.2.2.2.1
theorem k0_mult14_dvd : ∀ (i : grid0.Coords) (v1 : BitVec 32) (k0_hw1 : k0_chk1 i v1), 8 ∣ (k0_mult14 i v1).toNat := fun i v1 k0_hw1 => k0_hw1.1.2.2.2.2.2.2.2.2.2.2.2.2.2.2.1
theorem k0_mult15_dvd : ∀ (i : grid0.Coords) (v1 : BitVec 32) (k0_hw1 : k0_chk1 i v1), 8 ∣ (k0_mult15 i v1).toNat := fun i v1 k0_hw1 => k0_hw1.1.2.2.2.2.2.2.2.2.2.2.2.2.2.2.2.1
theorem k0_mult16_dvd : ∀ (i : grid0.Coords) (v1 : BitVec 32) (k0_hw1 : k0_chk1 i v1), 8 ∣ (k0_mult16 i v1).toNat := fun i v1 k0_hw1 => k0_hw1.1.2.2.2.2.2.2.2.2.2.2.2.2.2.2.2.2.1
theorem k0_mult17_dvd : ∀ (i : grid0.Coords) (v1 : BitVec 32) (k0_hw1 : k0_chk1 i v1), 8 ∣ (k0_mult17 i v1).toNat := fun i v1 k0_hw1 => k0_hw1.1.2.2.2.2.2.2.2.2.2.2.2.2.2.2.2.2.2.1
theorem k0_mult18_dvd : ∀ (i : grid0.Coords) (v1 : BitVec 32) (k0_hw1 : k0_chk1 i v1), 8 ∣ (k0_mult18 i v1).toNat := fun i v1 k0_hw1 => k0_hw1.1.2.2.2.2.2.2.2.2.2.2.2.2.2.2.2.2.2.2.1
theorem k0_mult19_dvd : ∀ (i : grid0.Coords) (v1 : BitVec 32) (k0_hw1 : k0_chk1 i v1), 8 ∣ (k0_mult19 i v1).toNat := fun i v1 k0_hw1 => k0_hw1.1.2.2.2.2.2.2.2.2.2.2.2.2.2.2.2.2.2.2.2.1
theorem k0_mult20_dvd : ∀ (i : grid0.Coords) (v1 : BitVec 32) (k0_hw1 : k0_chk1 i v1), 8 ∣ (k0_mult20 i v1).toNat := fun i v1 k0_hw1 => k0_hw1.1.2.2.2.2.2.2.2.2.2.2.2.2.2.2.2.2.2.2.2.2.1
theorem k0_mult21_dvd : ∀ (i : grid0.Coords) (v1 : BitVec 32) (k0_hw1 : k0_chk1 i v1), 8 ∣ (k0_mult21 i v1).toNat := fun i v1 k0_hw1 => k0_hw1.1.2.2.2.2.2.2.2.2.2.2.2.2.2.2.2.2.2.2.2.2.2.1
theorem k0_mult22_dvd : ∀ (i : grid0.Coords) (v1 : BitVec 32) (k0_hw1 : k0_chk1 i v1), 8 ∣ (k0_mult22 i v1).toNat := fun i v1 k0_hw1 => k0_hw1.1.2.2.2.2.2.2.2.2.2.2.2.2.2.2.2.2.2.2.2.2.2.2.1
theorem k0_mult23_dvd : ∀ (i : grid0.Coords) (v1 : BitVec 32) (k0_hw1 : k0_chk1 i v1), 8 ∣ (k0_mult23 i v1).toNat := fun i v1 k0_hw1 => k0_hw1.1.2.2.2.2.2.2.2.2.2.2.2.2.2.2.2.2.2.2.2.2.2.2.2.1
theorem k0_mult24_dvd : ∀ (i : grid0.Coords) (v1 : BitVec 32) (k0_hw1 : k0_chk1 i v1), 8 ∣ (k0_mult24 i v1).toNat := fun i v1 k0_hw1 => k0_hw1.1.2.2.2.2.2.2.2.2.2.2.2.2.2.2.2.2.2.2.2.2.2.2.2.2.1
theorem k0_mult25_dvd : ∀ (i : grid0.Coords) (v1 : BitVec 32) (k0_hw1 : k0_chk1 i v1), 8 ∣ (k0_mult25 i v1).toNat := fun i v1 k0_hw1 => k0_hw1.1.2.2.2.2.2.2.2.2.2.2.2.2.2.2.2.2.2.2.2.2.2.2.2.2.2.1
theorem k0_mult26_dvd : ∀ (i : grid0.Coords) (v1 : BitVec 32) (k0_hw1 : k0_chk1 i v1), 8 ∣ (k0_mult26 i v1).toNat := fun i v1 k0_hw1 => k0_hw1.1.2.2.2.2.2.2.2.2.2.2.2.2.2.2.2.2.2.2.2.2.2.2.2.2.2.2.1
theorem k0_mult27_dvd : ∀ (i : grid0.Coords) (v1 : BitVec 32) (k0_hw1 : k0_chk1 i v1), 8 ∣ (k0_mult27 i v1).toNat := fun i v1 k0_hw1 => k0_hw1.1.2.2.2.2.2.2.2.2.2.2.2.2.2.2.2.2.2.2.2.2.2.2.2.2.2.2.2.1
theorem k0_mult28_dvd : ∀ (i : grid0.Coords) (v1 : BitVec 32) (k0_hw1 : k0_chk1 i v1), 8 ∣ (k0_mult28 i v1).toNat := fun i v1 k0_hw1 => k0_hw1.1.2.2.2.2.2.2.2.2.2.2.2.2.2.2.2.2.2.2.2.2.2.2.2.2.2.2.2.2.1
theorem k0_mult29_dvd : ∀ (i : grid0.Coords) (v1 : BitVec 32) (k0_hw1 : k0_chk1 i v1), 8 ∣ (k0_mult29 i v1).toNat := fun i v1 k0_hw1 => k0_hw1.1.2.2.2.2.2.2.2.2.2.2.2.2.2.2.2.2.2.2.2.2.2.2.2.2.2.2.2.2.2.1
theorem k0_mult30_dvd : ∀ (i : grid0.Coords) (v1 : BitVec 32) (k0_hw1 : k0_chk1 i v1), 8 ∣ (k0_mult30 i v1).toNat := fun i v1 k0_hw1 => k0_hw1.1.2.2.2.2.2.2.2.2.2.2.2.2.2.2.2.2.2.2.2.2.2.2.2.2.2.2.2.2.2.2.1
theorem k0_mult31_dvd : ∀ (i : grid0.Coords) (v1 : BitVec 32) (k0_hw1 : k0_chk1 i v1), 8 ∣ (k0_mult31 i v1).toNat := fun i v1 k0_hw1 => k0_hw1.1.2.2.2.2.2.2.2.2.2.2.2.2.2.2.2.2.2.2.2.2.2.2.2.2.2.2.2.2.2.2.2
theorem k0_mult32_dvd : ∀ (i : grid0.Coords) (v1 : BitVec 32) (k0_hw1 : k0_chk1 i v1), 8 ∣ (k0_mult32 i v1).toNat := fun i v1 k0_hw1 => k0_hw1.2.1.1
theorem k0_mult33_dvd : ∀ (i : grid0.Coords) (v1 : BitVec 32) (k0_hw1 : k0_chk1 i v1), 8 ∣ (k0_mult33 i v1).toNat := fun i v1 k0_hw1 => k0_hw1.2.1.2.1
theorem k0_mult34_dvd : ∀ (i : grid0.Coords) (v1 : BitVec 32) (k0_hw1 : k0_chk1 i v1), 8 ∣ (k0_mult34 i v1).toNat := fun i v1 k0_hw1 => k0_hw1.2.1.2.2.1
theorem k0_mult35_dvd : ∀ (i : grid0.Coords) (v1 : BitVec 32) (k0_hw1 : k0_chk1 i v1), 8 ∣ (k0_mult35 i v1).toNat := fun i v1 k0_hw1 => k0_hw1.2.1.2.2.2.1
theorem k0_mult36_dvd : ∀ (i : grid0.Coords) (v1 : BitVec 32) (k0_hw1 : k0_chk1 i v1), 8 ∣ (k0_mult36 i v1).toNat := fun i v1 k0_hw1 => k0_hw1.2.1.2.2.2.2.1
theorem k0_off10_inb : ∀ (i : grid0.Coords) (v1 : BitVec 32) (k0_hw1 : k0_chk1 i v1), ∀ (r : Fin 32), ∀ a, (k0_off10 i v1 (BitVec.ofNat 32 (8 * r.val))) a + S8x256.size a ≤ S8192x512.size a := fun i v1 k0_hw1 r => k0_hw1.2.1.2.2.2.2.2.1 r
theorem k0_mult37_dvd : ∀ (i : grid0.Coords) (v1 : BitVec 32) (k0_hw1 : k0_chk1 i v1), 8 ∣ (k0_mult37 i v1).toNat := fun i v1 k0_hw1 => k0_hw1.2.1.2.2.2.2.2.2.1
theorem k0_mult38_dvd : ∀ (i : grid0.Coords) (v1 : BitVec 32) (k0_hw1 : k0_chk1 i v1), 8 ∣ (k0_mult38 i v1).toNat := fun i v1 k0_hw1 => k0_hw1.2.1.2.2.2.2.2.2.2.1
theorem k0_mult39_dvd : ∀ (i : grid0.Coords) (v1 : BitVec 32) (k0_hw1 : k0_chk1 i v1), 8 ∣ (k0_mult39 i v1).toNat := fun i v1 k0_hw1 => k0_hw1.2.1.2.2.2.2.2.2.2.2.1
theorem k0_mult40_dvd : ∀ (i : grid0.Coords) (v1 : BitVec 32) (k0_hw1 : k0_chk1 i v1), 8 ∣ (k0_mult40 i v1).toNat := fun i v1 k0_hw1 => k0_hw1.2.1.2.2.2.2.2.2.2.2.2.1
theorem k0_mult41_dvd : ∀ (i : grid0.Coords) (v1 : BitVec 32) (k0_hw1 : k0_chk1 i v1), 8 ∣ (k0_mult41 i v1).toNat := fun i v1 k0_hw1 => k0_hw1.2.1.2.2.2.2.2.2.2.2.2.2.1
theorem k0_mult42_dvd : ∀ (i : grid0.Coords) (v1 : BitVec 32) (k0_hw1 : k0_chk1 i v1), 8 ∣ (k0_mult42 i v1).toNat := fun i v1 k0_hw1 => k0_hw1.2.1.2.2.2.2.2.2.2.2.2.2.2.1
theorem k0_mult43_dvd : ∀ (i : grid0.Coords) (v1 : BitVec 32) (k0_hw1 : k0_chk1 i v1), 8 ∣ (k0_mult43 i v1).toNat := fun i v1 k0_hw1 => k0_hw1.2.1.2.2.2.2.2.2.2.2.2.2.2.2.1
theorem k0_mult44_dvd : ∀ (i : grid0.Coords) (v1 : BitVec 32) (k0_hw1 : k0_chk1 i v1), 8 ∣ (k0_mult44 i v1).toNat := fun i v1 k0_hw1 => k0_hw1.2.1.2.2.2.2.2.2.2.2.2.2.2.2.2.1
theorem k0_mult45_dvd : ∀ (i : grid0.Coords) (v1 : BitVec 32) (k0_hw1 : k0_chk1 i v1), 8 ∣ (k0_mult45 i v1).toNat := fun i v1 k0_hw1 => k0_hw1.2.1.2.2.2.2.2.2.2.2.2.2.2.2.2.2.1
theorem k0_mult46_dvd : ∀ (i : grid0.Coords) (v1 : BitVec 32) (k0_hw1 : k0_chk1 i v1), 8 ∣ (k0_mult46 i v1).toNat := fun i v1 k0_hw1 => k0_hw1.2.1.2.2.2.2.2.2.2.2.2.2.2.2.2.2.2.1
theorem k0_mult47_dvd : ∀ (i : grid0.Coords) (v1 : BitVec 32) (k0_hw1 : k0_chk1 i v1), 8 ∣ (k0_mult47 i v1).toNat := fun i v1 k0_hw1 => k0_hw1.2.1.2.2.2.2.2.2.2.2.2.2.2.2.2.2.2.2.1
theorem k0_mult48_dvd : ∀ (i : grid0.Coords) (v1 : BitVec 32) (k0_hw1 : k0_chk1 i v1), 8 ∣ (k0_mult48 i v1).toNat := fun i v1 k0_hw1 => k0_hw1.2.1.2.2.2.2.2.2.2.2.2.2.2.2.2.2.2.2.2.1
theorem k0_mult49_dvd : ∀ (i : grid0.Coords) (v1 : BitVec 32) (k0_hw1 : k0_chk1 i v1), 8 ∣ (k0_mult49 i v1).toNat := fun i v1 k0_hw1 => k0_hw1.2.1.2.2.2.2.2.2.2.2.2.2.2.2.2.2.2.2.2.2.1
theorem k0_mult50_dvd : ∀ (i : grid0.Coords) (v1 : BitVec 32) (k0_hw1 : k0_chk1 i v1), 8 ∣ (k0_mult50 i v1).toNat := fun i v1 k0_hw1 => k0_hw1.2.1.2.2.2.2.2.2.2.2.2.2.2.2.2.2.2.2.2.2.2.1
theorem k0_mult51_dvd : ∀ (i : grid0.Coords) (v1 : BitVec 32) (k0_hw1 : k0_chk1 i v1), 8 ∣ (k0_mult51 i v1).toNat := fun i v1 k0_hw1 => k0_hw1.2.1.2.2.2.2.2.2.2.2.2.2.2.2.2.2.2.2.2.2.2.2.1
theorem k0_mult52_dvd : ∀ (i : grid0.Coords) (v1 : BitVec 32) (k0_hw1 : k0_chk1 i v1), 8 ∣ (k0_mult52 i v1).toNat := fun i v1 k0_hw1 => k0_hw1.2.1.2.2.2.2.2.2.2.2.2.2.2.2.2.2.2.2.2.2.2.2.2.1
theorem k0_mult53_dvd : ∀ (i : grid0.Coords) (v1 : BitVec 32) (k0_hw1 : k0_chk1 i v1), 8 ∣ (k0_mult53 i v1).toNat := fun i v1 k0_hw1 => k0_hw1.2.1.2.2.2.2.2.2.2.2.2.2.2.2.2.2.2.2.2.2.2.2.2.2.1
theorem k0_mult54_dvd : ∀ (i : grid0.Coords) (v1 : BitVec 32) (k0_hw1 : k0_chk1 i v1), 8 ∣ (k0_mult54 i v1).toNat := fun i v1 k0_hw1 => k0_hw1.2.1.2.2.2.2.2.2.2.2.2.2.2.2.2.2.2.2.2.2.2.2.2.2.2.1
theorem k0_mult55_dvd : ∀ (i : grid0.Coords) (v1 : BitVec 32) (k0_hw1 : k0_chk1 i v1), 8 ∣ (k0_mult55 i v1).toNat := fun i v1 k0_hw1 => k0_hw1.2.1.2.2.2.2.2.2.2.2.2.2.2.2.2.2.2.2.2.2.2.2.2.2.2.2.1
theorem k0_mult56_dvd : ∀ (i : grid0.Coords) (v1 : BitVec 32) (k0_hw1 : k0_chk1 i v1), 8 ∣ (k0_mult56 i v1).toNat := fun i v1 k0_hw1 => k0_hw1.2.1.2.2.2.2.2.2.2.2.2.2.2.2.2.2.2.2.2.2.2.2.2.2.2.2.2.1
theorem k0_mult57_dvd : ∀ (i : grid0.Coords) (v1 : BitVec 32) (k0_hw1 : k0_chk1 i v1), 8 ∣ (k0_mult57 i v1).toNat := fun i v1 k0_hw1 => k0_hw1.2.1.2.2.2.2.2.2.2.2.2.2.2.2.2.2.2.2.2.2.2.2.2.2.2.2.2.2.1
theorem k0_mult58_dvd : ∀ (i : grid0.Coords) (v1 : BitVec 32) (k0_hw1 : k0_chk1 i v1), 8 ∣ (k0_mult58 i v1).toNat := fun i v1 k0_hw1 => k0_hw1.2.1.2.2.2.2.2.2.2.2.2.2.2.2.2.2.2.2.2.2.2.2.2.2.2.2.2.2.2.1
theorem k0_mult59_dvd : ∀ (i : grid0.Coords) (v1 : BitVec 32) (k0_hw1 : k0_chk1 i v1), 8 ∣ (k0_mult59 i v1).toNat := fun i v1 k0_hw1 => k0_hw1.2.1.2.2.2.2.2.2.2.2.2.2.2.2.2.2.2.2.2.2.2.2.2.2.2.2.2.2.2.2.1
theorem k0_mult60_dvd : ∀ (i : grid0.Coords) (v1 : BitVec 32) (k0_hw1 : k0_chk1 i v1), 8 ∣ (k0_mult60 i v1).toNat := fun i v1 k0_hw1 => k0_hw1.2.1.2.2.2.2.2.2.2.2.2.2.2.2.2.2.2.2.2.2.2.2.2.2.2.2.2.2.2.2.2.1
theorem k0_mult61_dvd : ∀ (i : grid0.Coords) (v1 : BitVec 32) (k0_hw1 : k0_chk1 i v1), 8 ∣ (k0_mult61 i v1).toNat := fun i v1 k0_hw1 => k0_hw1.2.1.2.2.2.2.2.2.2.2.2.2.2.2.2.2.2.2.2.2.2.2.2.2.2.2.2.2.2.2.2.2.1
theorem k0_mult62_dvd : ∀ (i : grid0.Coords) (v1 : BitVec 32) (k0_hw1 : k0_chk1 i v1), 8 ∣ (k0_mult62 i v1).toNat := fun i v1 k0_hw1 => k0_hw1.2.1.2.2.2.2.2.2.2.2.2.2.2.2.2.2.2.2.2.2.2.2.2.2.2.2.2.2.2.2.2.2.2
theorem k0_mult63_dvd : ∀ (i : grid0.Coords) (v1 : BitVec 32) (k0_hw1 : k0_chk1 i v1), 8 ∣ (k0_mult63 i v1).toNat := fun i v1 k0_hw1 => k0_hw1.2.2.1.1
theorem k0_mult64_dvd : ∀ (i : grid0.Coords) (v1 : BitVec 32) (k0_hw1 : k0_chk1 i v1), 8 ∣ (k0_mult64 i v1).toNat := fun i v1 k0_hw1 => k0_hw1.2.2.1.2.1
theorem k0_mult65_dvd : ∀ (i : grid0.Coords) (v1 : BitVec 32) (k0_hw1 : k0_chk1 i v1), 8 ∣ (k0_mult65 i v1).toNat := fun i v1 k0_hw1 => k0_hw1.2.2.1.2.2.1
theorem k0_mult66_dvd : ∀ (i : grid0.Coords) (v1 : BitVec 32) (k0_hw1 : k0_chk1 i v1), 8 ∣ (k0_mult66 i v1).toNat := fun i v1 k0_hw1 => k0_hw1.2.2.1.2.2.2.1
theorem k0_mult67_dvd : ∀ (i : grid0.Coords) (v1 : BitVec 32) (k0_hw1 : k0_chk1 i v1), 8 ∣ (k0_mult67 i v1).toNat := fun i v1 k0_hw1 => k0_hw1.2.2.1.2.2.2.2.1
theorem k0_t3_ok : ∀ (i : grid0.Coords) (v1 : BitVec 32) (k0_hw1 : k0_chk1 i v1), (k0_t3_loop i v1).OK := fun i v1 k0_hw1 => k0_hw1.2.2.1.2.2.2.2.2.1
theorem k0_mult68_dvd : ∀ (i : grid0.Coords) (v1 : BitVec 32) (k0_hw1 : k0_chk1 i v1) (k0_t3 : Fin (k0_t3_loop i v1).trips), 256 ∣ (k0_mult68 i v1 k0_t3).toNat := fun i v1 k0_hw1 k0_t3 => k0_hw1.2.2.1.2.2.2.2.2.2.1 k0_t3
theorem k0_off11_inb : ∀ (i : grid0.Coords) (v1 : BitVec 32) (k0_hw1 : k0_chk1 i v1) (k0_t3 : Fin (k0_t3_loop i v1).trips), ∀ a, (k0_off11 i v1 k0_t3) a + S1x256x256.size a ≤ S1x8192x256.size a := fun i v1 k0_hw1 k0_t3 => k0_hw1.2.2.1.2.2.2.2.2.2.2.1 k0_t3
theorem k0_mult69_dvd : ∀ (i : grid0.Coords) (v1 : BitVec 32) (k0_hw1 : k0_chk1 i v1) (k0_t3 : Fin (k0_t3_loop i v1).trips), 8 ∣ (k0_mult69 i v1 k0_t3).toNat := fun i v1 k0_hw1 k0_t3 => k0_hw1.2.2.1.2.2.2.2.2.2.2.2.1 k0_t3
theorem k0_off12_inb : ∀ (i : grid0.Coords) (v1 : BitVec 32) (k0_hw1 : k0_chk1 i v1) (k0_t3 : Fin (k0_t3_loop i v1).trips), ∀ (r : Fin 32), ∀ a, (k0_off12 i v1 k0_t3 (BitVec.ofNat 32 (8 * r.val))) a + S8x128.size a ≤ S8192x128.size a := fun i v1 k0_hw1 k0_t3 r => k0_hw1.2.2.1.2.2.2.2.2.2.2.2.2.1 k0_t3 r
theorem k0_off13_inb : ∀ (i : grid0.Coords) (v1 : BitVec 32) (k0_hw1 : k0_chk1 i v1) (k0_t3 : Fin (k0_t3_loop i v1).trips), ∀ (r : Fin 32), ∀ a, (k0_off13 i v1 k0_t3 (BitVec.ofNat 32 (8 * r.val))) a + S8x256.size a ≤ S8192x512.size a := fun i v1 k0_hw1 k0_t3 r => k0_hw1.2.2.1.2.2.2.2.2.2.2.2.2.2.1 k0_t3 r
theorem k0_mult70_dvd : ∀ (i : grid0.Coords) (v1 : BitVec 32) (k0_hw1 : k0_chk1 i v1) (k0_t3 : Fin (k0_t3_loop i v1).trips), 8 ∣ (k0_mult70 i v1 k0_t3).toNat := fun i v1 k0_hw1 k0_t3 => k0_hw1.2.2.1.2.2.2.2.2.2.2.2.2.2.2.1 k0_t3
theorem k0_mult71_dvd : ∀ (i : grid0.Coords) (v1 : BitVec 32) (k0_hw1 : k0_chk1 i v1) (k0_t3 : Fin (k0_t3_loop i v1).trips), 8 ∣ (k0_mult71 i v1 k0_t3).toNat := fun i v1 k0_hw1 k0_t3 => k0_hw1.2.2.1.2.2.2.2.2.2.2.2.2.2.2.2.1 k0_t3
theorem k0_mult72_dvd : ∀ (i : grid0.Coords) (v1 : BitVec 32) (k0_hw1 : k0_chk1 i v1) (k0_t3 : Fin (k0_t3_loop i v1).trips), 8 ∣ (k0_mult72 i v1 k0_t3).toNat := fun i v1 k0_hw1 k0_t3 => k0_hw1.2.2.1.2.2.2.2.2.2.2.2.2.2.2.2.2.1 k0_t3
theorem k0_mult73_dvd : ∀ (i : grid0.Coords) (v1 : BitVec 32) (k0_hw1 : k0_chk1 i v1) (k0_t3 : Fin (k0_t3_loop i v1).trips), 8 ∣ (k0_mult73 i v1 k0_t3).toNat := fun i v1 k0_hw1 k0_t3 => k0_hw1.2.2.1.2.2.2.2.2.2.2.2.2.2.2.2.2.2.1 k0_t3
theorem k0_mult74_dvd : ∀ (i : grid0.Coords) (v1 : BitVec 32) (k0_hw1 : k0_chk1 i v1) (k0_t3 : Fin (k0_t3_loop i v1).trips), 8 ∣ (k0_mult74 i v1 k0_t3).toNat := fun i v1 k0_hw1 k0_t3 => k0_hw1.2.2.1.2.2.2.2.2.2.2.2.2.2.2.2.2.2.2.1 k0_t3
theorem k0_mult75_dvd : ∀ (i : grid0.Coords) (v1 : BitVec 32) (k0_hw1 : k0_chk1 i v1) (k0_t3 : Fin (k0_t3_loop i v1).trips), 8 ∣ (k0_mult75 i v1 k0_t3).toNat := fun i v1 k0_hw1 k0_t3 => k0_hw1.2.2.1.2.2.2.2.2.2.2.2.2.2.2.2.2.2.2.2.1 k0_t3
theorem k0_mult76_dvd : ∀ (i : grid0.Coords) (v1 : BitVec 32) (k0_hw1 : k0_chk1 i v1) (k0_t3 : Fin (k0_t3_loop i v1).trips), 8 ∣ (k0_mult76 i v1 k0_t3).toNat := fun i v1 k0_hw1 k0_t3 => k0_hw1.2.2.1.2.2.2.2.2.2.2.2.2.2.2.2.2.2.2.2.2.1 k0_t3
theorem k0_mult77_dvd : ∀ (i : grid0.Coords) (v1 : BitVec 32) (k0_hw1 : k0_chk1 i v1) (k0_t3 : Fin (k0_t3_loop i v1).trips), 8 ∣ (k0_mult77 i v1 k0_t3).toNat := fun i v1 k0_hw1 k0_t3 => k0_hw1.2.2.1.2.2.2.2.2.2.2.2.2.2.2.2.2.2.2.2.2.2.1 k0_t3
theorem k0_mult78_dvd : ∀ (i : grid0.Coords) (v1 : BitVec 32) (k0_hw1 : k0_chk1 i v1) (k0_t3 : Fin (k0_t3_loop i v1).trips), 8 ∣ (k0_mult78 i v1 k0_t3).toNat := fun i v1 k0_hw1 k0_t3 => k0_hw1.2.2.1.2.2.2.2.2.2.2.2.2.2.2.2.2.2.2.2.2.2.2.1 k0_t3
theorem k0_mult79_dvd : ∀ (i : grid0.Coords) (v1 : BitVec 32) (k0_hw1 : k0_chk1 i v1) (k0_t3 : Fin (k0_t3_loop i v1).trips), 8 ∣ (k0_mult79 i v1 k0_t3).toNat := fun i v1 k0_hw1 k0_t3 => k0_hw1.2.2.1.2.2.2.2.2.2.2.2.2.2.2.2.2.2.2.2.2.2.2.2.1 k0_t3
theorem k0_mult80_dvd : ∀ (i : grid0.Coords) (v1 : BitVec 32) (k0_hw1 : k0_chk1 i v1) (k0_t3 : Fin (k0_t3_loop i v1).trips), 8 ∣ (k0_mult80 i v1 k0_t3).toNat := fun i v1 k0_hw1 k0_t3 => k0_hw1.2.2.1.2.2.2.2.2.2.2.2.2.2.2.2.2.2.2.2.2.2.2.2.2.1 k0_t3
theorem k0_mult81_dvd : ∀ (i : grid0.Coords) (v1 : BitVec 32) (k0_hw1 : k0_chk1 i v1) (k0_t3 : Fin (k0_t3_loop i v1).trips), 8 ∣ (k0_mult81 i v1 k0_t3).toNat := fun i v1 k0_hw1 k0_t3 => k0_hw1.2.2.1.2.2.2.2.2.2.2.2.2.2.2.2.2.2.2.2.2.2.2.2.2.2.1 k0_t3
theorem k0_mult82_dvd : ∀ (i : grid0.Coords) (v1 : BitVec 32) (k0_hw1 : k0_chk1 i v1) (k0_t3 : Fin (k0_t3_loop i v1).trips), 8 ∣ (k0_mult82 i v1 k0_t3).toNat := fun i v1 k0_hw1 k0_t3 => k0_hw1.2.2.1.2.2.2.2.2.2.2.2.2.2.2.2.2.2.2.2.2.2.2.2.2.2.2.1 k0_t3
theorem k0_mult83_dvd : ∀ (i : grid0.Coords) (v1 : BitVec 32) (k0_hw1 : k0_chk1 i v1) (k0_t3 : Fin (k0_t3_loop i v1).trips), 8 ∣ (k0_mult83 i v1 k0_t3).toNat := fun i v1 k0_hw1 k0_t3 => k0_hw1.2.2.1.2.2.2.2.2.2.2.2.2.2.2.2.2.2.2.2.2.2.2.2.2.2.2.2.1 k0_t3
theorem k0_mult84_dvd : ∀ (i : grid0.Coords) (v1 : BitVec 32) (k0_hw1 : k0_chk1 i v1) (k0_t3 : Fin (k0_t3_loop i v1).trips), 8 ∣ (k0_mult84 i v1 k0_t3).toNat := fun i v1 k0_hw1 k0_t3 => k0_hw1.2.2.1.2.2.2.2.2.2.2.2.2.2.2.2.2.2.2.2.2.2.2.2.2.2.2.2.2.1 k0_t3
theorem k0_mult85_dvd : ∀ (i : grid0.Coords) (v1 : BitVec 32) (k0_hw1 : k0_chk1 i v1) (k0_t3 : Fin (k0_t3_loop i v1).trips), 8 ∣ (k0_mult85 i v1 k0_t3).toNat := fun i v1 k0_hw1 k0_t3 => k0_hw1.2.2.1.2.2.2.2.2.2.2.2.2.2.2.2.2.2.2.2.2.2.2.2.2.2.2.2.2.2.1 k0_t3
theorem k0_mult86_dvd : ∀ (i : grid0.Coords) (v1 : BitVec 32) (k0_hw1 : k0_chk1 i v1) (k0_t3 : Fin (k0_t3_loop i v1).trips), 8 ∣ (k0_mult86 i v1 k0_t3).toNat := fun i v1 k0_hw1 k0_t3 => k0_hw1.2.2.1.2.2.2.2.2.2.2.2.2.2.2.2.2.2.2.2.2.2.2.2.2.2.2.2.2.2.2.1 k0_t3
theorem k0_mult87_dvd : ∀ (i : grid0.Coords) (v1 : BitVec 32) (k0_hw1 : k0_chk1 i v1) (k0_t3 : Fin (k0_t3_loop i v1).trips), 8 ∣ (k0_mult87 i v1 k0_t3).toNat := fun i v1 k0_hw1 k0_t3 => k0_hw1.2.2.1.2.2.2.2.2.2.2.2.2.2.2.2.2.2.2.2.2.2.2.2.2.2.2.2.2.2.2.2.1 k0_t3
theorem k0_mult88_dvd : ∀ (i : grid0.Coords) (v1 : BitVec 32) (k0_hw1 : k0_chk1 i v1) (k0_t3 : Fin (k0_t3_loop i v1).trips), 8 ∣ (k0_mult88 i v1 k0_t3).toNat := fun i v1 k0_hw1 k0_t3 => k0_hw1.2.2.1.2.2.2.2.2.2.2.2.2.2.2.2.2.2.2.2.2.2.2.2.2.2.2.2.2.2.2.2.2.1 k0_t3
theorem k0_mult89_dvd : ∀ (i : grid0.Coords) (v1 : BitVec 32) (k0_hw1 : k0_chk1 i v1) (k0_t3 : Fin (k0_t3_loop i v1).trips), 8 ∣ (k0_mult89 i v1 k0_t3).toNat := fun i v1 k0_hw1 k0_t3 => k0_hw1.2.2.1.2.2.2.2.2.2.2.2.2.2.2.2.2.2.2.2.2.2.2.2.2.2.2.2.2.2.2.2.2.2.1 k0_t3
theorem k0_mult90_dvd : ∀ (i : grid0.Coords) (v1 : BitVec 32) (k0_hw1 : k0_chk1 i v1) (k0_t3 : Fin (k0_t3_loop i v1).trips), 8 ∣ (k0_mult90 i v1 k0_t3).toNat := fun i v1 k0_hw1 k0_t3 => k0_hw1.2.2.1.2.2.2.2.2.2.2.2.2.2.2.2.2.2.2.2.2.2.2.2.2.2.2.2.2.2.2.2.2.2.2 k0_t3
theorem k0_mult91_dvd : ∀ (i : grid0.Coords) (v1 : BitVec 32) (k0_hw1 : k0_chk1 i v1) (k0_t3 : Fin (k0_t3_loop i v1).trips), 8 ∣ (k0_mult91 i v1 k0_t3).toNat := fun i v1 k0_hw1 k0_t3 => k0_hw1.2.2.2.1.1 k0_t3
theorem k0_mult92_dvd : ∀ (i : grid0.Coords) (v1 : BitVec 32) (k0_hw1 : k0_chk1 i v1) (k0_t3 : Fin (k0_t3_loop i v1).trips), 8 ∣ (k0_mult92 i v1 k0_t3).toNat := fun i v1 k0_hw1 k0_t3 => k0_hw1.2.2.2.1.2.1 k0_t3
theorem k0_mult93_dvd : ∀ (i : grid0.Coords) (v1 : BitVec 32) (k0_hw1 : k0_chk1 i v1) (k0_t3 : Fin (k0_t3_loop i v1).trips), 8 ∣ (k0_mult93 i v1 k0_t3).toNat := fun i v1 k0_hw1 k0_t3 => k0_hw1.2.2.2.1.2.2.1 k0_t3
theorem k0_mult94_dvd : ∀ (i : grid0.Coords) (v1 : BitVec 32) (k0_hw1 : k0_chk1 i v1) (k0_t3 : Fin (k0_t3_loop i v1).trips), 8 ∣ (k0_mult94 i v1 k0_t3).toNat := fun i v1 k0_hw1 k0_t3 => k0_hw1.2.2.2.1.2.2.2.1 k0_t3
theorem k0_mult95_dvd : ∀ (i : grid0.Coords) (v1 : BitVec 32) (k0_hw1 : k0_chk1 i v1) (k0_t3 : Fin (k0_t3_loop i v1).trips), 8 ∣ (k0_mult95 i v1 k0_t3).toNat := fun i v1 k0_hw1 k0_t3 => k0_hw1.2.2.2.1.2.2.2.2.1 k0_t3
theorem k0_mult96_dvd : ∀ (i : grid0.Coords) (v1 : BitVec 32) (k0_hw1 : k0_chk1 i v1) (k0_t3 : Fin (k0_t3_loop i v1).trips), 8 ∣ (k0_mult96 i v1 k0_t3).toNat := fun i v1 k0_hw1 k0_t3 => k0_hw1.2.2.2.1.2.2.2.2.2.1 k0_t3
theorem k0_mult97_dvd : ∀ (i : grid0.Coords) (v1 : BitVec 32) (k0_hw1 : k0_chk1 i v1) (k0_t3 : Fin (k0_t3_loop i v1).trips), 8 ∣ (k0_mult97 i v1 k0_t3).toNat := fun i v1 k0_hw1 k0_t3 => k0_hw1.2.2.2.1.2.2.2.2.2.2.1 k0_t3
theorem k0_mult98_dvd : ∀ (i : grid0.Coords) (v1 : BitVec 32) (k0_hw1 : k0_chk1 i v1) (k0_t3 : Fin (k0_t3_loop i v1).trips), 8 ∣ (k0_mult98 i v1 k0_t3).toNat := fun i v1 k0_hw1 k0_t3 => k0_hw1.2.2.2.1.2.2.2.2.2.2.2.1 k0_t3
theorem k0_mult99_dvd : ∀ (i : grid0.Coords) (v1 : BitVec 32) (k0_hw1 : k0_chk1 i v1) (k0_t3 : Fin (k0_t3_loop i v1).trips), 8 ∣ (k0_mult99 i v1 k0_t3).toNat := fun i v1 k0_hw1 k0_t3 => k0_hw1.2.2.2.1.2.2.2.2.2.2.2.2.1 k0_t3
theorem k0_mult100_dvd : ∀ (i : grid0.Coords) (v1 : BitVec 32) (k0_hw1 : k0_chk1 i v1) (k0_t3 : Fin (k0_t3_loop i v1).trips), 8 ∣ (k0_mult100 i v1 k0_t3).toNat := fun i v1 k0_hw1 k0_t3 => k0_hw1.2.2.2.1.2.2.2.2.2.2.2.2.2.1 k0_t3
theorem k0_mult101_dvd : ∀ (i : grid0.Coords) (v1 : BitVec 32) (k0_hw1 : k0_chk1 i v1) (k0_t3 : Fin (k0_t3_loop i v1).trips), 8 ∣ (k0_mult101 i v1 k0_t3).toNat := fun i v1 k0_hw1 k0_t3 => k0_hw1.2.2.2.1.2.2.2.2.2.2.2.2.2.2.1 k0_t3
theorem k0_off14_inb : ∀ (i : grid0.Coords) (v1 : BitVec 32) (k0_hw1 : k0_chk1 i v1) (k0_t3 : Fin (k0_t3_loop i v1).trips), ∀ (r : Fin 32), ∀ a, (k0_off14 i v1 k0_t3 (BitVec.ofNat 32 (8 * r.val))) a + S8x256.size a ≤ S8192x512.size a := fun i v1 k0_hw1 k0_t3 r => k0_hw1.2.2.2.1.2.2.2.2.2.2.2.2.2.2.2.1 k0_t3 r
theorem k0_mult102_dvd : ∀ (i : grid0.Coords) (v1 : BitVec 32) (k0_hw1 : k0_chk1 i v1) (k0_t3 : Fin (k0_t3_loop i v1).trips), 8 ∣ (k0_mult102 i v1 k0_t3).toNat := fun i v1 k0_hw1 k0_t3 => k0_hw1.2.2.2.1.2.2.2.2.2.2.2.2.2.2.2.2.1 k0_t3
theorem k0_mult103_dvd : ∀ (i : grid0.Coords) (v1 : BitVec 32) (k0_hw1 : k0_chk1 i v1) (k0_t3 : Fin (k0_t3_loop i v1).trips), 8 ∣ (k0_mult103 i v1 k0_t3).toNat := fun i v1 k0_hw1 k0_t3 => k0_hw1.2.2.2.1.2.2.2.2.2.2.2.2.2.2.2.2.2.1 k0_t3
theorem k0_mult104_dvd : ∀ (i : grid0.Coords) (v1 : BitVec 32) (k0_hw1 : k0_chk1 i v1) (k0_t3 : Fin (k0_t3_loop i v1).trips), 8 ∣ (k0_mult104 i v1 k0_t3).toNat := fun i v1 k0_hw1 k0_t3 => k0_hw1.2.2.2.1.2.2.2.2.2.2.2.2.2.2.2.2.2.2.1 k0_t3
theorem k0_mult105_dvd : ∀ (i : grid0.Coords) (v1 : BitVec 32) (k0_hw1 : k0_chk1 i v1) (k0_t3 : Fin (k0_t3_loop i v1).trips), 8 ∣ (k0_mult105 i v1 k0_t3).toNat := fun i v1 k0_hw1 k0_t3 => k0_hw1.2.2.2.1.2.2.2.2.2.2.2.2.2.2.2.2.2.2.2.1 k0_t3
theorem k0_mult106_dvd : ∀ (i : grid0.Coords) (v1 : BitVec 32) (k0_hw1 : k0_chk1 i v1) (k0_t3 : Fin (k0_t3_loop i v1).trips), 8 ∣ (k0_mult106 i v1 k0_t3).toNat := fun i v1 k0_hw1 k0_t3 => k0_hw1.2.2.2.1.2.2.2.2.2.2.2.2.2.2.2.2.2.2.2.2.1 k0_t3
theorem k0_mult107_dvd : ∀ (i : grid0.Coords) (v1 : BitVec 32) (k0_hw1 : k0_chk1 i v1) (k0_t3 : Fin (k0_t3_loop i v1).trips), 8 ∣ (k0_mult107 i v1 k0_t3).toNat := fun i v1 k0_hw1 k0_t3 => k0_hw1.2.2.2.1.2.2.2.2.2.2.2.2.2.2.2.2.2.2.2.2.2.1 k0_t3
theorem k0_mult108_dvd : ∀ (i : grid0.Coords) (v1 : BitVec 32) (k0_hw1 : k0_chk1 i v1) (k0_t3 : Fin (k0_t3_loop i v1).trips), 8 ∣ (k0_mult108 i v1 k0_t3).toNat := fun i v1 k0_hw1 k0_t3 => k0_hw1.2.2.2.1.2.2.2.2.2.2.2.2.2.2.2.2.2.2.2.2.2.2.1 k0_t3
theorem k0_mult109_dvd : ∀ (i : grid0.Coords) (v1 : BitVec 32) (k0_hw1 : k0_chk1 i v1) (k0_t3 : Fin (k0_t3_loop i v1).trips), 8 ∣ (k0_mult109 i v1 k0_t3).toNat := fun i v1 k0_hw1 k0_t3 => k0_hw1.2.2.2.1.2.2.2.2.2.2.2.2.2.2.2.2.2.2.2.2.2.2.2.1 k0_t3
theorem k0_mult110_dvd : ∀ (i : grid0.Coords) (v1 : BitVec 32) (k0_hw1 : k0_chk1 i v1) (k0_t3 : Fin (k0_t3_loop i v1).trips), 8 ∣ (k0_mult110 i v1 k0_t3).toNat := fun i v1 k0_hw1 k0_t3 => k0_hw1.2.2.2.1.2.2.2.2.2.2.2.2.2.2.2.2.2.2.2.2.2.2.2.2.1 k0_t3
theorem k0_mult111_dvd : ∀ (i : grid0.Coords) (v1 : BitVec 32) (k0_hw1 : k0_chk1 i v1) (k0_t3 : Fin (k0_t3_loop i v1).trips), 8 ∣ (k0_mult111 i v1 k0_t3).toNat := fun i v1 k0_hw1 k0_t3 => k0_hw1.2.2.2.1.2.2.2.2.2.2.2.2.2.2.2.2.2.2.2.2.2.2.2.2.2.1 k0_t3
theorem k0_mult112_dvd : ∀ (i : grid0.Coords) (v1 : BitVec 32) (k0_hw1 : k0_chk1 i v1) (k0_t3 : Fin (k0_t3_loop i v1).trips), 8 ∣ (k0_mult112 i v1 k0_t3).toNat := fun i v1 k0_hw1 k0_t3 => k0_hw1.2.2.2.1.2.2.2.2.2.2.2.2.2.2.2.2.2.2.2.2.2.2.2.2.2.2.1 k0_t3
theorem k0_mult113_dvd : ∀ (i : grid0.Coords) (v1 : BitVec 32) (k0_hw1 : k0_chk1 i v1) (k0_t3 : Fin (k0_t3_loop i v1).trips), 8 ∣ (k0_mult113 i v1 k0_t3).toNat := fun i v1 k0_hw1 k0_t3 => k0_hw1.2.2.2.1.2.2.2.2.2.2.2.2.2.2.2.2.2.2.2.2.2.2.2.2.2.2.2.1 k0_t3
theorem k0_mult114_dvd : ∀ (i : grid0.Coords) (v1 : BitVec 32) (k0_hw1 : k0_chk1 i v1) (k0_t3 : Fin (k0_t3_loop i v1).trips), 8 ∣ (k0_mult114 i v1 k0_t3).toNat := fun i v1 k0_hw1 k0_t3 => k0_hw1.2.2.2.1.2.2.2.2.2.2.2.2.2.2.2.2.2.2.2.2.2.2.2.2.2.2.2.2.1 k0_t3
theorem k0_mult115_dvd : ∀ (i : grid0.Coords) (v1 : BitVec 32) (k0_hw1 : k0_chk1 i v1) (k0_t3 : Fin (k0_t3_loop i v1).trips), 8 ∣ (k0_mult115 i v1 k0_t3).toNat := fun i v1 k0_hw1 k0_t3 => k0_hw1.2.2.2.1.2.2.2.2.2.2.2.2.2.2.2.2.2.2.2.2.2.2.2.2.2.2.2.2.2.1 k0_t3
theorem k0_mult116_dvd : ∀ (i : grid0.Coords) (v1 : BitVec 32) (k0_hw1 : k0_chk1 i v1) (k0_t3 : Fin (k0_t3_loop i v1).trips), 8 ∣ (k0_mult116 i v1 k0_t3).toNat := fun i v1 k0_hw1 k0_t3 => k0_hw1.2.2.2.1.2.2.2.2.2.2.2.2.2.2.2.2.2.2.2.2.2.2.2.2.2.2.2.2.2.2.1 k0_t3
theorem k0_mult117_dvd : ∀ (i : grid0.Coords) (v1 : BitVec 32) (k0_hw1 : k0_chk1 i v1) (k0_t3 : Fin (k0_t3_loop i v1).trips), 8 ∣ (k0_mult117 i v1 k0_t3).toNat := fun i v1 k0_hw1 k0_t3 => k0_hw1.2.2.2.1.2.2.2.2.2.2.2.2.2.2.2.2.2.2.2.2.2.2.2.2.2.2.2.2.2.2.2.1 k0_t3
theorem k0_mult118_dvd : ∀ (i : grid0.Coords) (v1 : BitVec 32) (k0_hw1 : k0_chk1 i v1) (k0_t3 : Fin (k0_t3_loop i v1).trips), 8 ∣ (k0_mult118 i v1 k0_t3).toNat := fun i v1 k0_hw1 k0_t3 => k0_hw1.2.2.2.1.2.2.2.2.2.2.2.2.2.2.2.2.2.2.2.2.2.2.2.2.2.2.2.2.2.2.2.2.1 k0_t3
theorem k0_mult119_dvd : ∀ (i : grid0.Coords) (v1 : BitVec 32) (k0_hw1 : k0_chk1 i v1) (k0_t3 : Fin (k0_t3_loop i v1).trips), 8 ∣ (k0_mult119 i v1 k0_t3).toNat := fun i v1 k0_hw1 k0_t3 => k0_hw1.2.2.2.1.2.2.2.2.2.2.2.2.2.2.2.2.2.2.2.2.2.2.2.2.2.2.2.2.2.2.2.2.2.1 k0_t3
theorem k0_mult120_dvd : ∀ (i : grid0.Coords) (v1 : BitVec 32) (k0_hw1 : k0_chk1 i v1) (k0_t3 : Fin (k0_t3_loop i v1).trips), 8 ∣ (k0_mult120 i v1 k0_t3).toNat := fun i v1 k0_hw1 k0_t3 => k0_hw1.2.2.2.1.2.2.2.2.2.2.2.2.2.2.2.2.2.2.2.2.2.2.2.2.2.2.2.2.2.2.2.2.2.2.1 k0_t3
theorem k0_mult121_dvd : ∀ (i : grid0.Coords) (v1 : BitVec 32) (k0_hw1 : k0_chk1 i v1) (k0_t3 : Fin (k0_t3_loop i v1).trips), 8 ∣ (k0_mult121 i v1 k0_t3).toNat := fun i v1 k0_hw1 k0_t3 => k0_hw1.2.2.2.1.2.2.2.2.2.2.2.2.2.2.2.2.2.2.2.2.2.2.2.2.2.2.2.2.2.2.2.2.2.2.2 k0_t3
theorem k0_mult122_dvd : ∀ (i : grid0.Coords) (v1 : BitVec 32) (k0_hw1 : k0_chk1 i v1) (k0_t3 : Fin (k0_t3_loop i v1).trips), 8 ∣ (k0_mult122 i v1 k0_t3).toNat := fun i v1 k0_hw1 k0_t3 => k0_hw1.2.2.2.2.1.1 k0_t3
theorem k0_mult123_dvd : ∀ (i : grid0.Coords) (v1 : BitVec 32) (k0_hw1 : k0_chk1 i v1) (k0_t3 : Fin (k0_t3_loop i v1).trips), 8 ∣ (k0_mult123 i v1 k0_t3).toNat := fun i v1 k0_hw1 k0_t3 => k0_hw1.2.2.2.2.1.2.1 k0_t3
theorem k0_mult124_dvd : ∀ (i : grid0.Coords) (v1 : BitVec 32) (k0_hw1 : k0_chk1 i v1) (k0_t3 : Fin (k0_t3_loop i v1).trips), 8 ∣ (k0_mult124 i v1 k0_t3).toNat := fun i v1 k0_hw1 k0_t3 => k0_hw1.2.2.2.2.1.2.2.1 k0_t3
theorem k0_mult125_dvd : ∀ (i : grid0.Coords) (v1 : BitVec 32) (k0_hw1 : k0_chk1 i v1) (k0_t3 : Fin (k0_t3_loop i v1).trips), 8 ∣ (k0_mult125 i v1 k0_t3).toNat := fun i v1 k0_hw1 k0_t3 => k0_hw1.2.2.2.2.1.2.2.2.1 k0_t3
theorem k0_mult126_dvd : ∀ (i : grid0.Coords) (v1 : BitVec 32) (k0_hw1 : k0_chk1 i v1) (k0_t3 : Fin (k0_t3_loop i v1).trips), 8 ∣ (k0_mult126 i v1 k0_t3).toNat := fun i v1 k0_hw1 k0_t3 => k0_hw1.2.2.2.2.1.2.2.2.2.1 k0_t3
theorem k0_mult127_dvd : ∀ (i : grid0.Coords) (v1 : BitVec 32) (k0_hw1 : k0_chk1 i v1) (k0_t3 : Fin (k0_t3_loop i v1).trips), 8 ∣ (k0_mult127 i v1 k0_t3).toNat := fun i v1 k0_hw1 k0_t3 => k0_hw1.2.2.2.2.1.2.2.2.2.2.1 k0_t3
theorem k0_mult128_dvd : ∀ (i : grid0.Coords) (v1 : BitVec 32) (k0_hw1 : k0_chk1 i v1) (k0_t3 : Fin (k0_t3_loop i v1).trips), 8 ∣ (k0_mult128 i v1 k0_t3).toNat := fun i v1 k0_hw1 k0_t3 => k0_hw1.2.2.2.2.1.2.2.2.2.2.2.1 k0_t3
theorem k0_mult129_dvd : ∀ (i : grid0.Coords) (v1 : BitVec 32) (k0_hw1 : k0_chk1 i v1) (k0_t3 : Fin (k0_t3_loop i v1).trips), 8 ∣ (k0_mult129 i v1 k0_t3).toNat := fun i v1 k0_hw1 k0_t3 => k0_hw1.2.2.2.2.1.2.2.2.2.2.2.2.1 k0_t3
theorem k0_mult130_dvd : ∀ (i : grid0.Coords) (v1 : BitVec 32) (k0_hw1 : k0_chk1 i v1) (k0_t3 : Fin (k0_t3_loop i v1).trips), 8 ∣ (k0_mult130 i v1 k0_t3).toNat := fun i v1 k0_hw1 k0_t3 => k0_hw1.2.2.2.2.1.2.2.2.2.2.2.2.2.1 k0_t3
theorem k0_mult131_dvd : ∀ (i : grid0.Coords) (v1 : BitVec 32) (k0_hw1 : k0_chk1 i v1) (k0_t3 : Fin (k0_t3_loop i v1).trips), 8 ∣ (k0_mult131 i v1 k0_t3).toNat := fun i v1 k0_hw1 k0_t3 => k0_hw1.2.2.2.2.1.2.2.2.2.2.2.2.2.2.1 k0_t3
theorem k0_mult132_dvd : ∀ (i : grid0.Coords) (v1 : BitVec 32) (k0_hw1 : k0_chk1 i v1) (k0_t3 : Fin (k0_t3_loop i v1).trips), 8 ∣ (k0_mult132 i v1 k0_t3).toNat := fun i v1 k0_hw1 k0_t3 => k0_hw1.2.2.2.2.1.2.2.2.2.2.2.2.2.2.2.1 k0_t3
theorem k0_t4_ok : ∀ (i : grid0.Coords) (v1 : BitVec 32) (k0_hw1 : k0_chk1 i v1), (k0_t4_loop i v1).OK := fun i v1 k0_hw1 => k0_hw1.2.2.2.2.1.2.2.2.2.2.2.2.2.2.2.2.1
theorem k0_mult133_dvd : ∀ (i : grid0.Coords) (v1 : BitVec 32) (k0_hw1 : k0_chk1 i v1) (k0_t4 : Fin (k0_t4_loop i v1).trips), 256 ∣ (k0_mult133 i v1 k0_t4).toNat := fun i v1 k0_hw1 k0_t4 => k0_hw1.2.2.2.2.1.2.2.2.2.2.2.2.2.2.2.2.2.1 k0_t4
theorem k0_off15_inb : ∀ (i : grid0.Coords) (v1 : BitVec 32) (k0_hw1 : k0_chk1 i v1) (k0_t4 : Fin (k0_t4_loop i v1).trips), ∀ a, (k0_off15 i v1 k0_t4) a + S1x256x256.size a ≤ S1x8192x256.size a := fun i v1 k0_hw1 k0_t4 => k0_hw1.2.2.2.2.1.2.2.2.2.2.2.2.2.2.2.2.2.2.1 k0_t4
theorem k0_mult134_dvd : ∀ (i : grid0.Coords) (v1 : BitVec 32) (k0_hw1 : k0_chk1 i v1) (k0_t4 : Fin (k0_t4_loop i v1).trips), 8 ∣ (k0_mult134 i v1 k0_t4).toNat := fun i v1 k0_hw1 k0_t4 => k0_hw1.2.2.2.2.1.2.2.2.2.2.2.2.2.2.2.2.2.2.2.1 k0_t4
theorem k0_off16_inb : ∀ (i : grid0.Coords) (v1 : BitVec 32) (k0_hw1 : k0_chk1 i v1) (k0_t4 : Fin (k0_t4_loop i v1).trips), ∀ (r : Fin 32), ∀ a, (k0_off16 i v1 k0_t4 (BitVec.ofNat 32 (8 * r.val))) a + S8x128.size a ≤ S8192x128.size a := fun i v1 k0_hw1 k0_t4 r => k0_hw1.2.2.2.2.1.2.2.2.2.2.2.2.2.2.2.2.2.2.2.2.1 k0_t4 r
theorem k0_off17_inb : ∀ (i : grid0.Coords) (v1 : BitVec 32) (k0_hw1 : k0_chk1 i v1) (k0_t4 : Fin (k0_t4_loop i v1).trips), ∀ (r : Fin 32), ∀ a, (k0_off17 i v1 k0_t4 (BitVec.ofNat 32 (8 * r.val))) a + S8x256.size a ≤ S8192x512.size a := fun i v1 k0_hw1 k0_t4 r => k0_hw1.2.2.2.2.1.2.2.2.2.2.2.2.2.2.2.2.2.2.2.2.2.1 k0_t4 r
theorem k0_mult135_dvd : ∀ (i : grid0.Coords) (v1 : BitVec 32) (k0_hw1 : k0_chk1 i v1) (k0_t4 : Fin (k0_t4_loop i v1).trips), 8 ∣ (k0_mult135 i v1 k0_t4).toNat := fun i v1 k0_hw1 k0_t4 => k0_hw1.2.2.2.2.1.2.2.2.2.2.2.2.2.2.2.2.2.2.2.2.2.2.1 k0_t4
theorem k0_mult136_dvd : ∀ (i : grid0.Coords) (v1 : BitVec 32) (k0_hw1 : k0_chk1 i v1) (k0_t4 : Fin (k0_t4_loop i v1).trips), 8 ∣ (k0_mult136 i v1 k0_t4).toNat := fun i v1 k0_hw1 k0_t4 => k0_hw1.2.2.2.2.1.2.2.2.2.2.2.2.2.2.2.2.2.2.2.2.2.2.2.1 k0_t4
theorem k0_mult137_dvd : ∀ (i : grid0.Coords) (v1 : BitVec 32) (k0_hw1 : k0_chk1 i v1) (k0_t4 : Fin (k0_t4_loop i v1).trips), 8 ∣ (k0_mult137 i v1 k0_t4).toNat := fun i v1 k0_hw1 k0_t4 => k0_hw1.2.2.2.2.1.2.2.2.2.2.2.2.2.2.2.2.2.2.2.2.2.2.2.2.1 k0_t4
theorem k0_mult138_dvd : ∀ (i : grid0.Coords) (v1 : BitVec 32) (k0_hw1 : k0_chk1 i v1) (k0_t4 : Fin (k0_t4_loop i v1).trips), 8 ∣ (k0_mult138 i v1 k0_t4).toNat := fun i v1 k0_hw1 k0_t4 => k0_hw1.2.2.2.2.1.2.2.2.2.2.2.2.2.2.2.2.2.2.2.2.2.2.2.2.2.1 k0_t4
theorem k0_mult139_dvd : ∀ (i : grid0.Coords) (v1 : BitVec 32) (k0_hw1 : k0_chk1 i v1) (k0_t4 : Fin (k0_t4_loop i v1).trips), 8 ∣ (k0_mult139 i v1 k0_t4).toNat := fun i v1 k0_hw1 k0_t4 => k0_hw1.2.2.2.2.1.2.2.2.2.2.2.2.2.2.2.2.2.2.2.2.2.2.2.2.2.2.1 k0_t4
theorem k0_mult140_dvd : ∀ (i : grid0.Coords) (v1 : BitVec 32) (k0_hw1 : k0_chk1 i v1) (k0_t4 : Fin (k0_t4_loop i v1).trips), 8 ∣ (k0_mult140 i v1 k0_t4).toNat := fun i v1 k0_hw1 k0_t4 => k0_hw1.2.2.2.2.1.2.2.2.2.2.2.2.2.2.2.2.2.2.2.2.2.2.2.2.2.2.2.1 k0_t4
theorem k0_mult141_dvd : ∀ (i : grid0.Coords) (v1 : BitVec 32) (k0_hw1 : k0_chk1 i v1) (k0_t4 : Fin (k0_t4_loop i v1).trips), 8 ∣ (k0_mult141 i v1 k0_t4).toNat := fun i v1 k0_hw1 k0_t4 => k0_hw1.2.2.2.2.1.2.2.2.2.2.2.2.2.2.2.2.2.2.2.2.2.2.2.2.2.2.2.2.1 k0_t4
theorem k0_mult142_dvd : ∀ (i : grid0.Coords) (v1 : BitVec 32) (k0_hw1 : k0_chk1 i v1) (k0_t4 : Fin (k0_t4_loop i v1).trips), 8 ∣ (k0_mult142 i v1 k0_t4).toNat := fun i v1 k0_hw1 k0_t4 => k0_hw1.2.2.2.2.1.2.2.2.2.2.2.2.2.2.2.2.2.2.2.2.2.2.2.2.2.2.2.2.2.1 k0_t4
theorem k0_mult143_dvd : ∀ (i : grid0.Coords) (v1 : BitVec 32) (k0_hw1 : k0_chk1 i v1) (k0_t4 : Fin (k0_t4_loop i v1).trips), 8 ∣ (k0_mult143 i v1 k0_t4).toNat := fun i v1 k0_hw1 k0_t4 => k0_hw1.2.2.2.2.1.2.2.2.2.2.2.2.2.2.2.2.2.2.2.2.2.2.2.2.2.2.2.2.2.2.1 k0_t4
theorem k0_mult144_dvd : ∀ (i : grid0.Coords) (v1 : BitVec 32) (k0_hw1 : k0_chk1 i v1) (k0_t4 : Fin (k0_t4_loop i v1).trips), 8 ∣ (k0_mult144 i v1 k0_t4).toNat := fun i v1 k0_hw1 k0_t4 => k0_hw1.2.2.2.2.1.2.2.2.2.2.2.2.2.2.2.2.2.2.2.2.2.2.2.2.2.2.2.2.2.2.2.1 k0_t4
theorem k0_mult145_dvd : ∀ (i : grid0.Coords) (v1 : BitVec 32) (k0_hw1 : k0_chk1 i v1) (k0_t4 : Fin (k0_t4_loop i v1).trips), 8 ∣ (k0_mult145 i v1 k0_t4).toNat := fun i v1 k0_hw1 k0_t4 => k0_hw1.2.2.2.2.1.2.2.2.2.2.2.2.2.2.2.2.2.2.2.2.2.2.2.2.2.2.2.2.2.2.2.2.1 k0_t4
theorem k0_mult146_dvd : ∀ (i : grid0.Coords) (v1 : BitVec 32) (k0_hw1 : k0_chk1 i v1) (k0_t4 : Fin (k0_t4_loop i v1).trips), 8 ∣ (k0_mult146 i v1 k0_t4).toNat := fun i v1 k0_hw1 k0_t4 => k0_hw1.2.2.2.2.1.2.2.2.2.2.2.2.2.2.2.2.2.2.2.2.2.2.2.2.2.2.2.2.2.2.2.2.2.1 k0_t4
theorem k0_mult147_dvd : ∀ (i : grid0.Coords) (v1 : BitVec 32) (k0_hw1 : k0_chk1 i v1) (k0_t4 : Fin (k0_t4_loop i v1).trips), 8 ∣ (k0_mult147 i v1 k0_t4).toNat := fun i v1 k0_hw1 k0_t4 => k0_hw1.2.2.2.2.1.2.2.2.2.2.2.2.2.2.2.2.2.2.2.2.2.2.2.2.2.2.2.2.2.2.2.2.2.2.1 k0_t4
theorem k0_mult148_dvd : ∀ (i : grid0.Coords) (v1 : BitVec 32) (k0_hw1 : k0_chk1 i v1) (k0_t4 : Fin (k0_t4_loop i v1).trips), 8 ∣ (k0_mult148 i v1 k0_t4).toNat := fun i v1 k0_hw1 k0_t4 => k0_hw1.2.2.2.2.1.2.2.2.2.2.2.2.2.2.2.2.2.2.2.2.2.2.2.2.2.2.2.2.2.2.2.2.2.2.2.1 k0_t4
theorem k0_mult149_dvd : ∀ (i : grid0.Coords) (v1 : BitVec 32) (k0_hw1 : k0_chk1 i v1) (k0_t4 : Fin (k0_t4_loop i v1).trips), 8 ∣ (k0_mult149 i v1 k0_t4).toNat := fun i v1 k0_hw1 k0_t4 => k0_hw1.2.2.2.2.1.2.2.2.2.2.2.2.2.2.2.2.2.2.2.2.2.2.2.2.2.2.2.2.2.2.2.2.2.2.2.2 k0_t4
theorem k0_mult150_dvd : ∀ (i : grid0.Coords) (v1 : BitVec 32) (k0_hw1 : k0_chk1 i v1) (k0_t4 : Fin (k0_t4_loop i v1).trips), 8 ∣ (k0_mult150 i v1 k0_t4).toNat := fun i v1 k0_hw1 k0_t4 => k0_hw1.2.2.2.2.2.1.1 k0_t4
theorem k0_mult151_dvd : ∀ (i : grid0.Coords) (v1 : BitVec 32) (k0_hw1 : k0_chk1 i v1) (k0_t4 : Fin (k0_t4_loop i v1).trips), 8 ∣ (k0_mult151 i v1 k0_t4).toNat := fun i v1 k0_hw1 k0_t4 => k0_hw1.2.2.2.2.2.1.2.1 k0_t4
theorem k0_mult152_dvd : ∀ (i : grid0.Coords) (v1 : BitVec 32) (k0_hw1 : k0_chk1 i v1) (k0_t4 : Fin (k0_t4_loop i v1).trips), 8 ∣ (k0_mult152 i v1 k0_t4).toNat := fun i v1 k0_hw1 k0_t4 => k0_hw1.2.2.2.2.2.1.2.2.1 k0_t4
theorem k0_mult153_dvd : ∀ (i : grid0.Coords) (v1 : BitVec 32) (k0_hw1 : k0_chk1 i v1) (k0_t4 : Fin (k0_t4_loop i v1).trips), 8 ∣ (k0_mult153 i v1 k0_t4).toNat := fun i v1 k0_hw1 k0_t4 => k0_hw1.2.2.2.2.2.1.2.2.2.1 k0_t4
theorem k0_mult154_dvd : ∀ (i : grid0.Coords) (v1 : BitVec 32) (k0_hw1 : k0_chk1 i v1) (k0_t4 : Fin (k0_t4_loop i v1).trips), 8 ∣ (k0_mult154 i v1 k0_t4).toNat := fun i v1 k0_hw1 k0_t4 => k0_hw1.2.2.2.2.2.1.2.2.2.2.1 k0_t4
theorem k0_mult155_dvd : ∀ (i : grid0.Coords) (v1 : BitVec 32) (k0_hw1 : k0_chk1 i v1) (k0_t4 : Fin (k0_t4_loop i v1).trips), 8 ∣ (k0_mult155 i v1 k0_t4).toNat := fun i v1 k0_hw1 k0_t4 => k0_hw1.2.2.2.2.2.1.2.2.2.2.2.1 k0_t4
theorem k0_mult156_dvd : ∀ (i : grid0.Coords) (v1 : BitVec 32) (k0_hw1 : k0_chk1 i v1) (k0_t4 : Fin (k0_t4_loop i v1).trips), 8 ∣ (k0_mult156 i v1 k0_t4).toNat := fun i v1 k0_hw1 k0_t4 => k0_hw1.2.2.2.2.2.1.2.2.2.2.2.2.1 k0_t4
theorem k0_mult157_dvd : ∀ (i : grid0.Coords) (v1 : BitVec 32) (k0_hw1 : k0_chk1 i v1) (k0_t4 : Fin (k0_t4_loop i v1).trips), 8 ∣ (k0_mult157 i v1 k0_t4).toNat := fun i v1 k0_hw1 k0_t4 => k0_hw1.2.2.2.2.2.1.2.2.2.2.2.2.2.1 k0_t4
theorem k0_mult158_dvd : ∀ (i : grid0.Coords) (v1 : BitVec 32) (k0_hw1 : k0_chk1 i v1) (k0_t4 : Fin (k0_t4_loop i v1).trips), 8 ∣ (k0_mult158 i v1 k0_t4).toNat := fun i v1 k0_hw1 k0_t4 => k0_hw1.2.2.2.2.2.1.2.2.2.2.2.2.2.2.1 k0_t4
theorem k0_mult159_dvd : ∀ (i : grid0.Coords) (v1 : BitVec 32) (k0_hw1 : k0_chk1 i v1) (k0_t4 : Fin (k0_t4_loop i v1).trips), 8 ∣ (k0_mult159 i v1 k0_t4).toNat := fun i v1 k0_hw1 k0_t4 => k0_hw1.2.2.2.2.2.1.2.2.2.2.2.2.2.2.2.1 k0_t4
theorem k0_mult160_dvd : ∀ (i : grid0.Coords) (v1 : BitVec 32) (k0_hw1 : k0_chk1 i v1) (k0_t4 : Fin (k0_t4_loop i v1).trips), 8 ∣ (k0_mult160 i v1 k0_t4).toNat := fun i v1 k0_hw1 k0_t4 => k0_hw1.2.2.2.2.2.1.2.2.2.2.2.2.2.2.2.2.1 k0_t4
theorem k0_mult161_dvd : ∀ (i : grid0.Coords) (v1 : BitVec 32) (k0_hw1 : k0_chk1 i v1) (k0_t4 : Fin (k0_t4_loop i v1).trips), 8 ∣ (k0_mult161 i v1 k0_t4).toNat := fun i v1 k0_hw1 k0_t4 => k0_hw1.2.2.2.2.2.1.2.2.2.2.2.2.2.2.2.2.2.1 k0_t4
theorem k0_mult162_dvd : ∀ (i : grid0.Coords) (v1 : BitVec 32) (k0_hw1 : k0_chk1 i v1) (k0_t4 : Fin (k0_t4_loop i v1).trips), 8 ∣ (k0_mult162 i v1 k0_t4).toNat := fun i v1 k0_hw1 k0_t4 => k0_hw1.2.2.2.2.2.1.2.2.2.2.2.2.2.2.2.2.2.2.1 k0_t4
theorem k0_mult163_dvd : ∀ (i : grid0.Coords) (v1 : BitVec 32) (k0_hw1 : k0_chk1 i v1) (k0_t4 : Fin (k0_t4_loop i v1).trips), 8 ∣ (k0_mult163 i v1 k0_t4).toNat := fun i v1 k0_hw1 k0_t4 => k0_hw1.2.2.2.2.2.1.2.2.2.2.2.2.2.2.2.2.2.2.2.1 k0_t4
theorem k0_mult164_dvd : ∀ (i : grid0.Coords) (v1 : BitVec 32) (k0_hw1 : k0_chk1 i v1) (k0_t4 : Fin (k0_t4_loop i v1).trips), 8 ∣ (k0_mult164 i v1 k0_t4).toNat := fun i v1 k0_hw1 k0_t4 => k0_hw1.2.2.2.2.2.1.2.2.2.2.2.2.2.2.2.2.2.2.2.2.1 k0_t4
theorem k0_mult165_dvd : ∀ (i : grid0.Coords) (v1 : BitVec 32) (k0_hw1 : k0_chk1 i v1) (k0_t4 : Fin (k0_t4_loop i v1).trips), 8 ∣ (k0_mult165 i v1 k0_t4).toNat := fun i v1 k0_hw1 k0_t4 => k0_hw1.2.2.2.2.2.1.2.2.2.2.2.2.2.2.2.2.2.2.2.2.2.1 k0_t4
theorem k0_mult166_dvd : ∀ (i : grid0.Coords) (v1 : BitVec 32) (k0_hw1 : k0_chk1 i v1) (k0_t4 : Fin (k0_t4_loop i v1).trips), 8 ∣ (k0_mult166 i v1 k0_t4).toNat := fun i v1 k0_hw1 k0_t4 => k0_hw1.2.2.2.2.2.1.2.2.2.2.2.2.2.2.2.2.2.2.2.2.2.2.1 k0_t4
theorem k0_off18_inb : ∀ (i : grid0.Coords) (v1 : BitVec 32) (k0_hw1 : k0_chk1 i v1) (k0_t4 : Fin (k0_t4_loop i v1).trips), ∀ (r : Fin 32), ∀ a, (k0_off18 i v1 k0_t4 (BitVec.ofNat 32 (8 * r.val))) a + S8x256.size a ≤ S8192x512.size a := fun i v1 k0_hw1 k0_t4 r => k0_hw1.2.2.2.2.2.1.2.2.2.2.2.2.2.2.2.2.2.2.2.2.2.2.2.1 k0_t4 r
theorem k0_mult167_dvd : ∀ (i : grid0.Coords) (v1 : BitVec 32) (k0_hw1 : k0_chk1 i v1) (k0_t4 : Fin (k0_t4_loop i v1).trips), 8 ∣ (k0_mult167 i v1 k0_t4).toNat := fun i v1 k0_hw1 k0_t4 => k0_hw1.2.2.2.2.2.1.2.2.2.2.2.2.2.2.2.2.2.2.2.2.2.2.2.2.1 k0_t4
theorem k0_mult168_dvd : ∀ (i : grid0.Coords) (v1 : BitVec 32) (k0_hw1 : k0_chk1 i v1) (k0_t4 : Fin (k0_t4_loop i v1).trips), 8 ∣ (k0_mult168 i v1 k0_t4).toNat := fun i v1 k0_hw1 k0_t4 => k0_hw1.2.2.2.2.2.1.2.2.2.2.2.2.2.2.2.2.2.2.2.2.2.2.2.2.2.1 k0_t4
theorem k0_mult169_dvd : ∀ (i : grid0.Coords) (v1 : BitVec 32) (k0_hw1 : k0_chk1 i v1) (k0_t4 : Fin (k0_t4_loop i v1).trips), 8 ∣ (k0_mult169 i v1 k0_t4).toNat := fun i v1 k0_hw1 k0_t4 => k0_hw1.2.2.2.2.2.1.2.2.2.2.2.2.2.2.2.2.2.2.2.2.2.2.2.2.2.2.1 k0_t4
theorem k0_mult170_dvd : ∀ (i : grid0.Coords) (v1 : BitVec 32) (k0_hw1 : k0_chk1 i v1) (k0_t4 : Fin (k0_t4_loop i v1).trips), 8 ∣ (k0_mult170 i v1 k0_t4).toNat := fun i v1 k0_hw1 k0_t4 => k0_hw1.2.2.2.2.2.1.2.2.2.2.2.2.2.2.2.2.2.2.2.2.2.2.2.2.2.2.2.1 k0_t4
theorem k0_mult171_dvd : ∀ (i : grid0.Coords) (v1 : BitVec 32) (k0_hw1 : k0_chk1 i v1) (k0_t4 : Fin (k0_t4_loop i v1).trips), 8 ∣ (k0_mult171 i v1 k0_t4).toNat := fun i v1 k0_hw1 k0_t4 => k0_hw1.2.2.2.2.2.1.2.2.2.2.2.2.2.2.2.2.2.2.2.2.2.2.2.2.2.2.2.2.1 k0_t4
theorem k0_mult172_dvd : ∀ (i : grid0.Coords) (v1 : BitVec 32) (k0_hw1 : k0_chk1 i v1) (k0_t4 : Fin (k0_t4_loop i v1).trips), 8 ∣ (k0_mult172 i v1 k0_t4).toNat := fun i v1 k0_hw1 k0_t4 => k0_hw1.2.2.2.2.2.1.2.2.2.2.2.2.2.2.2.2.2.2.2.2.2.2.2.2.2.2.2.2.2.1 k0_t4
theorem k0_mult173_dvd : ∀ (i : grid0.Coords) (v1 : BitVec 32) (k0_hw1 : k0_chk1 i v1) (k0_t4 : Fin (k0_t4_loop i v1).trips), 8 ∣ (k0_mult173 i v1 k0_t4).toNat := fun i v1 k0_hw1 k0_t4 => k0_hw1.2.2.2.2.2.1.2.2.2.2.2.2.2.2.2.2.2.2.2.2.2.2.2.2.2.2.2.2.2.2.1 k0_t4
theorem k0_mult174_dvd : ∀ (i : grid0.Coords) (v1 : BitVec 32) (k0_hw1 : k0_chk1 i v1) (k0_t4 : Fin (k0_t4_loop i v1).trips), 8 ∣ (k0_mult174 i v1 k0_t4).toNat := fun i v1 k0_hw1 k0_t4 => k0_hw1.2.2.2.2.2.1.2.2.2.2.2.2.2.2.2.2.2.2.2.2.2.2.2.2.2.2.2.2.2.2.2.1 k0_t4
theorem k0_mult175_dvd : ∀ (i : grid0.Coords) (v1 : BitVec 32) (k0_hw1 : k0_chk1 i v1) (k0_t4 : Fin (k0_t4_loop i v1).trips), 8 ∣ (k0_mult175 i v1 k0_t4).toNat := fun i v1 k0_hw1 k0_t4 => k0_hw1.2.2.2.2.2.1.2.2.2.2.2.2.2.2.2.2.2.2.2.2.2.2.2.2.2.2.2.2.2.2.2.2.1 k0_t4
theorem k0_mult176_dvd : ∀ (i : grid0.Coords) (v1 : BitVec 32) (k0_hw1 : k0_chk1 i v1) (k0_t4 : Fin (k0_t4_loop i v1).trips), 8 ∣ (k0_mult176 i v1 k0_t4).toNat := fun i v1 k0_hw1 k0_t4 => k0_hw1.2.2.2.2.2.1.2.2.2.2.2.2.2.2.2.2.2.2.2.2.2.2.2.2.2.2.2.2.2.2.2.2.2.1 k0_t4
theorem k0_mult177_dvd : ∀ (i : grid0.Coords) (v1 : BitVec 32) (k0_hw1 : k0_chk1 i v1) (k0_t4 : Fin (k0_t4_loop i v1).trips), 8 ∣ (k0_mult177 i v1 k0_t4).toNat := fun i v1 k0_hw1 k0_t4 => k0_hw1.2.2.2.2.2.1.2.2.2.2.2.2.2.2.2.2.2.2.2.2.2.2.2.2.2.2.2.2.2.2.2.2.2.2.1 k0_t4
theorem k0_mult178_dvd : ∀ (i : grid0.Coords) (v1 : BitVec 32) (k0_hw1 : k0_chk1 i v1) (k0_t4 : Fin (k0_t4_loop i v1).trips), 8 ∣ (k0_mult178 i v1 k0_t4).toNat := fun i v1 k0_hw1 k0_t4 => k0_hw1.2.2.2.2.2.1.2.2.2.2.2.2.2.2.2.2.2.2.2.2.2.2.2.2.2.2.2.2.2.2.2.2.2.2.2.1 k0_t4
theorem k0_mult179_dvd : ∀ (i : grid0.Coords) (v1 : BitVec 32) (k0_hw1 : k0_chk1 i v1) (k0_t4 : Fin (k0_t4_loop i v1).trips), 8 ∣ (k0_mult179 i v1 k0_t4).toNat := fun i v1 k0_hw1 k0_t4 => k0_hw1.2.2.2.2.2.1.2.2.2.2.2.2.2.2.2.2.2.2.2.2.2.2.2.2.2.2.2.2.2.2.2.2.2.2.2.2.1 k0_t4
theorem k0_mult180_dvd : ∀ (i : grid0.Coords) (v1 : BitVec 32) (k0_hw1 : k0_chk1 i v1) (k0_t4 : Fin (k0_t4_loop i v1).trips), 8 ∣ (k0_mult180 i v1 k0_t4).toNat := fun i v1 k0_hw1 k0_t4 => k0_hw1.2.2.2.2.2.1.2.2.2.2.2.2.2.2.2.2.2.2.2.2.2.2.2.2.2.2.2.2.2.2.2.2.2.2.2.2.2 k0_t4
theorem k0_mult181_dvd : ∀ (i : grid0.Coords) (v1 : BitVec 32) (k0_hw1 : k0_chk1 i v1) (k0_t4 : Fin (k0_t4_loop i v1).trips), 8 ∣ (k0_mult181 i v1 k0_t4).toNat := fun i v1 k0_hw1 k0_t4 => k0_hw1.2.2.2.2.2.2.1 k0_t4
theorem k0_mult182_dvd : ∀ (i : grid0.Coords) (v1 : BitVec 32) (k0_hw1 : k0_chk1 i v1) (k0_t4 : Fin (k0_t4_loop i v1).trips), 8 ∣ (k0_mult182 i v1 k0_t4).toNat := fun i v1 k0_hw1 k0_t4 => k0_hw1.2.2.2.2.2.2.2.1 k0_t4
theorem k0_mult183_dvd : ∀ (i : grid0.Coords) (v1 : BitVec 32) (k0_hw1 : k0_chk1 i v1) (k0_t4 : Fin (k0_t4_loop i v1).trips), 8 ∣ (k0_mult183 i v1 k0_t4).toNat := fun i v1 k0_hw1 k0_t4 => k0_hw1.2.2.2.2.2.2.2.2.1 k0_t4
theorem k0_mult184_dvd : ∀ (i : grid0.Coords) (v1 : BitVec 32) (k0_hw1 : k0_chk1 i v1) (k0_t4 : Fin (k0_t4_loop i v1).trips), 8 ∣ (k0_mult184 i v1 k0_t4).toNat := fun i v1 k0_hw1 k0_t4 => k0_hw1.2.2.2.2.2.2.2.2.2.1 k0_t4
theorem k0_mult185_dvd : ∀ (i : grid0.Coords) (v1 : BitVec 32) (k0_hw1 : k0_chk1 i v1) (k0_t4 : Fin (k0_t4_loop i v1).trips), 8 ∣ (k0_mult185 i v1 k0_t4).toNat := fun i v1 k0_hw1 k0_t4 => k0_hw1.2.2.2.2.2.2.2.2.2.2.1 k0_t4
theorem k0_mult186_dvd : ∀ (i : grid0.Coords) (v1 : BitVec 32) (k0_hw1 : k0_chk1 i v1) (k0_t4 : Fin (k0_t4_loop i v1).trips), 8 ∣ (k0_mult186 i v1 k0_t4).toNat := fun i v1 k0_hw1 k0_t4 => k0_hw1.2.2.2.2.2.2.2.2.2.2.2.1 k0_t4
theorem k0_mult187_dvd : ∀ (i : grid0.Coords) (v1 : BitVec 32) (k0_hw1 : k0_chk1 i v1) (k0_t4 : Fin (k0_t4_loop i v1).trips), 8 ∣ (k0_mult187 i v1 k0_t4).toNat := fun i v1 k0_hw1 k0_t4 => k0_hw1.2.2.2.2.2.2.2.2.2.2.2.2.1 k0_t4
theorem k0_mult188_dvd : ∀ (i : grid0.Coords) (v1 : BitVec 32) (k0_hw1 : k0_chk1 i v1) (k0_t4 : Fin (k0_t4_loop i v1).trips), 8 ∣ (k0_mult188 i v1 k0_t4).toNat := fun i v1 k0_hw1 k0_t4 => k0_hw1.2.2.2.2.2.2.2.2.2.2.2.2.2.1 k0_t4
theorem k0_mult189_dvd : ∀ (i : grid0.Coords) (v1 : BitVec 32) (k0_hw1 : k0_chk1 i v1) (k0_t4 : Fin (k0_t4_loop i v1).trips), 8 ∣ (k0_mult189 i v1 k0_t4).toNat := fun i v1 k0_hw1 k0_t4 => k0_hw1.2.2.2.2.2.2.2.2.2.2.2.2.2.2.1 k0_t4
theorem k0_mult190_dvd : ∀ (i : grid0.Coords) (v1 : BitVec 32) (k0_hw1 : k0_chk1 i v1) (k0_t4 : Fin (k0_t4_loop i v1).trips), 8 ∣ (k0_mult190 i v1 k0_t4).toNat := fun i v1 k0_hw1 k0_t4 => k0_hw1.2.2.2.2.2.2.2.2.2.2.2.2.2.2.2.1 k0_t4
theorem k0_mult191_dvd : ∀ (i : grid0.Coords) (v1 : BitVec 32) (k0_hw1 : k0_chk1 i v1) (k0_t4 : Fin (k0_t4_loop i v1).trips), 8 ∣ (k0_mult191 i v1 k0_t4).toNat := fun i v1 k0_hw1 k0_t4 => k0_hw1.2.2.2.2.2.2.2.2.2.2.2.2.2.2.2.2.1 k0_t4
theorem k0_mult192_dvd : ∀ (i : grid0.Coords) (v1 : BitVec 32) (k0_hw1 : k0_chk1 i v1) (k0_t4 : Fin (k0_t4_loop i v1).trips), 8 ∣ (k0_mult192 i v1 k0_t4).toNat := fun i v1 k0_hw1 k0_t4 => k0_hw1.2.2.2.2.2.2.2.2.2.2.2.2.2.2.2.2.2.1 k0_t4
theorem k0_mult193_dvd : ∀ (i : grid0.Coords) (v1 : BitVec 32) (k0_hw1 : k0_chk1 i v1) (k0_t4 : Fin (k0_t4_loop i v1).trips), 8 ∣ (k0_mult193 i v1 k0_t4).toNat := fun i v1 k0_hw1 k0_t4 => k0_hw1.2.2.2.2.2.2.2.2.2.2.2.2.2.2.2.2.2.2.1 k0_t4
theorem k0_mult194_dvd : ∀ (i : grid0.Coords) (v1 : BitVec 32) (k0_hw1 : k0_chk1 i v1) (k0_t4 : Fin (k0_t4_loop i v1).trips), 8 ∣ (k0_mult194 i v1 k0_t4).toNat := fun i v1 k0_hw1 k0_t4 => k0_hw1.2.2.2.2.2.2.2.2.2.2.2.2.2.2.2.2.2.2.2.1 k0_t4
theorem k0_mult195_dvd : ∀ (i : grid0.Coords) (v1 : BitVec 32) (k0_hw1 : k0_chk1 i v1) (k0_t4 : Fin (k0_t4_loop i v1).trips), 8 ∣ (k0_mult195 i v1 k0_t4).toNat := fun i v1 k0_hw1 k0_t4 => k0_hw1.2.2.2.2.2.2.2.2.2.2.2.2.2.2.2.2.2.2.2.2.1 k0_t4
theorem k0_mult196_dvd : ∀ (i : grid0.Coords) (v1 : BitVec 32) (k0_hw1 : k0_chk1 i v1) (k0_t4 : Fin (k0_t4_loop i v1).trips), 8 ∣ (k0_mult196 i v1 k0_t4).toNat := fun i v1 k0_hw1 k0_t4 => k0_hw1.2.2.2.2.2.2.2.2.2.2.2.2.2.2.2.2.2.2.2.2.2.1 k0_t4
theorem k0_mult197_dvd : ∀ (i : grid0.Coords) (v1 : BitVec 32) (k0_hw1 : k0_chk1 i v1) (k0_t4 : Fin (k0_t4_loop i v1).trips), 8 ∣ (k0_mult197 i v1 k0_t4).toNat := fun i v1 k0_hw1 k0_t4 => k0_hw1.2.2.2.2.2.2.2.2.2.2.2.2.2.2.2.2.2.2.2.2.2.2.1 k0_t4
theorem k0_t5_ok : ∀ (i : grid0.Coords) (v1 : BitVec 32) (k0_hw1 : k0_chk1 i v1), (k0_t5_loop i v1).OK := fun i v1 k0_hw1 => k0_hw1.2.2.2.2.2.2.2.2.2.2.2.2.2.2.2.2.2.2.2.2.2.2.2.1
theorem k0_mult198_dvd : ∀ (i : grid0.Coords) (v1 : BitVec 32) (k0_hw1 : k0_chk1 i v1) (k0_t5 : Fin (k0_t5_loop i v1).trips), 256 ∣ (k0_mult198 i v1 k0_t5).toNat := fun i v1 k0_hw1 k0_t5 => k0_hw1.2.2.2.2.2.2.2.2.2.2.2.2.2.2.2.2.2.2.2.2.2.2.2.2.1 k0_t5
theorem k0_off19_inb : ∀ (i : grid0.Coords) (v1 : BitVec 32) (k0_hw1 : k0_chk1 i v1) (k0_t5 : Fin (k0_t5_loop i v1).trips), ∀ a, (k0_off19 i v1 k0_t5) a + S256x256.size a ≤ S256x8192.size a := fun i v1 k0_hw1 k0_t5 => k0_hw1.2.2.2.2.2.2.2.2.2.2.2.2.2.2.2.2.2.2.2.2.2.2.2.2.2.1 k0_t5
theorem k0_off20_inb : ∀ (i : grid0.Coords) (v1 : BitVec 32) (k0_hw1 : k0_chk1 i v1) (k0_t5 : Fin (k0_t5_loop i v1).trips), ∀ a, (k0_off20 i v1 k0_t5) a + S256x256.size a ≤ S8192x512.size a := fun i v1 k0_hw1 k0_t5 => k0_hw1.2.2.2.2.2.2.2.2.2.2.2.2.2.2.2.2.2.2.2.2.2.2.2.2.2.2.1 k0_t5
theorem k0_off21_inb : ∀ (i : grid0.Coords) (v1 : BitVec 32) (k0_hw1 : k0_chk1 i v1) (k0_t5 : Fin (k0_t5_loop i v1).trips), ∀ a, (k0_off21 i v1 k0_t5) a + S256x256.size a ≤ S8192x512.size a := fun i v1 k0_hw1 k0_t5 => k0_hw1.2.2.2.2.2.2.2.2.2.2.2.2.2.2.2.2.2.2.2.2.2.2.2.2.2.2.2.1 k0_t5
theorem k0_t6_ok : ∀ (i : grid0.Coords) (v1 : BitVec 32) (k0_hw1 : k0_chk1 i v1), (k0_t6_loop i v1).OK := fun i v1 k0_hw1 => k0_hw1.2.2.2.2.2.2.2.2.2.2.2.2.2.2.2.2.2.2.2.2.2.2.2.2.2.2.2.2.1
theorem k0_mult199_dvd : ∀ (i : grid0.Coords) (v1 : BitVec 32) (k0_hw1 : k0_chk1 i v1) (k0_t6 : Fin (k0_t6_loop i v1).trips), 256 ∣ (k0_mult199 i v1 k0_t6).toNat := fun i v1 k0_hw1 k0_t6 => k0_hw1.2.2.2.2.2.2.2.2.2.2.2.2.2.2.2.2.2.2.2.2.2.2.2.2.2.2.2.2.2.1 k0_t6
theorem k0_off22_inb : ∀ (i : grid0.Coords) (v1 : BitVec 32) (k0_hw1 : k0_chk1 i v1) (k0_t6 : Fin (k0_t6_loop i v1).trips), ∀ a, (k0_off22 i v1 k0_t6) a + S256x256.size a ≤ S256x8192.size a := fun i v1 k0_hw1 k0_t6 => k0_hw1.2.2.2.2.2.2.2.2.2.2.2.2.2.2.2.2.2.2.2.2.2.2.2.2.2.2.2.2.2.2.1 k0_t6
theorem k0_off23_inb : ∀ (i : grid0.Coords) (v1 : BitVec 32) (k0_hw1 : k0_chk1 i v1) (k0_t6 : Fin (k0_t6_loop i v1).trips), ∀ a, (k0_off23 i v1 k0_t6) a + S256x256.size a ≤ S8192x512.size a := fun i v1 k0_hw1 k0_t6 => k0_hw1.2.2.2.2.2.2.2.2.2.2.2.2.2.2.2.2.2.2.2.2.2.2.2.2.2.2.2.2.2.2.2.1 k0_t6
theorem k0_off24_inb : ∀ (i : grid0.Coords) (v1 : BitVec 32) (k0_hw1 : k0_chk1 i v1) (k0_t6 : Fin (k0_t6_loop i v1).trips), ∀ a, (k0_off24 i v1 k0_t6) a + S256x256.size a ≤ S8192x512.size a := fun i v1 k0_hw1 k0_t6 => k0_hw1.2.2.2.2.2.2.2.2.2.2.2.2.2.2.2.2.2.2.2.2.2.2.2.2.2.2.2.2.2.2.2.2 k0_t6

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1x2x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x8192x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x1x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x8192x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x1x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== KernelIdeal.lean ====
variable {F : FTy → Type} [FloatOps F] [Named F]
def κ : String → Option EReal := fun
  | "exp2_gain" => some ((50 * (Real.log 2)⁻¹ : ℝ) : EReal)
  | "inv_log_2" => some (((Real.log 2)⁻¹ : ℝ) : EReal)
  | "score_scale" => some ((1 / 800 : ℝ) : EReal)
  | _ => none
-- ==== ReferenceIdeal.lean ====
abbrev S3x8192x2048 : Shape := ⟨3, ![3, 8192, 2048]⟩
abbrev S3x8192x1024 : Shape := ⟨3, ![3, 8192, 1024]⟩
abbrev S3 : Shape := ⟨1, ![3]⟩
abbrev S3x4x32x2x256 : Shape := ⟨5, ![3, 4, 32, 2, 256]⟩
abbrev S3x4x1x8192 : Shape := ⟨4, ![3, 4, 1, 8192]⟩
abbrev S3x8192x8x256 : Shape := ⟨4, ![3, 8192, 8, 256]⟩
abbrev S3x8x8192x256 : Shape := ⟨4, ![3, 8, 8192, 256]⟩
abbrev S24x8192x256 : Shape := ⟨3, ![24, 8192, 256]⟩
abbrev S24x8192 : Shape := ⟨2, ![24, 8192]⟩
abbrev S24x8192x1 : Shape := ⟨3, ![24, 8192, 1]⟩
abbrev S3x8192x4x256 : Shape := ⟨4, ![3, 8192, 4, 256]⟩
abbrev S3x4x8192x256 : Shape := ⟨4, ![3, 4, 8192, 256]⟩
abbrev S12x8192x256 : Shape := ⟨3, ![12, 8192, 256]⟩
abbrev S12x8192 : Shape := ⟨2, ![12, 8192]⟩
abbrev S12x8192x1 : Shape := ⟨3, ![12, 8192, 1]⟩
abbrev S24x1x8192 : Shape := ⟨3, ![24, 1, 8192]⟩
abbrev S12x1x8192 : Shape := ⟨3, ![12, 1, 8192]⟩
abbrev S3x4x2x32x256 : Shape := ⟨5, ![3, 4, 2, 32, 256]⟩
abbrev S12x1x8192x256 : Shape := ⟨4, ![12, 1, 8192, 256]⟩
abbrev S12x2x8192x256 : Shape := ⟨4, ![12, 2, 8192, 256]⟩
abbrev S24x8192x8192 : Shape := ⟨3, ![24, 8192, 8192]⟩
abbrev S12x1x1x8192 : Shape := ⟨4, ![12, 1, 1, 8192]⟩
abbrev S12x2x1x8192 : Shape := ⟨4, ![12, 2, 1, 8192]⟩
abbrev S3x1x1x1 : Shape := ⟨4, ![3, 1, 1, 1]⟩
abbrev S3x8x1x1 : Shape := ⟨4, ![3, 8, 1, 1]⟩
abbrev S24x1x1 : Shape := ⟨3, ![24, 1, 1]⟩

abbrev nBuf : Space → Nat
  | .hbm => 11
  | .vmem => 11
  | .smem => 0
  | _ => 0

abbrev bufTy : (tb : Table) → Fin (tcTables nBuf tb) → BufTy
  | .hbm, ⟨0, _⟩ => ⟨S3x8192x2048, .bf16⟩
  | .hbm, ⟨1, _⟩ => ⟨S3x8192x1024, .bf16⟩
  | .hbm, ⟨2, _⟩ => ⟨S3x8192x1024, .bf16⟩
  | .hbm, ⟨3, _⟩ => ⟨S3, .i32⟩
  | .hbm, ⟨4, _⟩ => ⟨S3x8192x2048, .bf16⟩
  | .hbm, ⟨5, _⟩ => ⟨S3x8192x2048, .fp8e4m3⟩
  | .hbm, ⟨6, _⟩ => ⟨S3x4x32x2x256, .f32⟩
  | .hbm, ⟨7, _⟩ => ⟨S3x8192x1024, .fp8e4m3⟩
  | .hbm, ⟨8, _⟩ => ⟨S3x4x1x8192, .f32⟩
  | .hbm, ⟨9, _⟩ => ⟨S3x8192x1024, .fp8e4m3⟩
  | .hbm, ⟨10, _⟩ => ⟨S3x4x1x8192, .f32⟩
  | .local _ .vmem, ⟨0, _⟩ => ⟨S3x8192x2048, .bf16⟩
  | .local _ .vmem, ⟨1, _⟩ => ⟨S3x8192x1024, .bf16⟩
  | .local _ .vmem, ⟨2, _⟩ => ⟨S3x8192x1024, .bf16⟩
  | .local _ .vmem, ⟨3, _⟩ => ⟨S3, .i32⟩
  | .local _ .vmem, ⟨4, _⟩ => ⟨S3x8192x2048, .bf16⟩
  | .local _ .vmem, ⟨5, _⟩ => ⟨S3x8192x2048, .fp8e4m3⟩
  | .local _ .vmem, ⟨6, _⟩ => ⟨S3x4x32x2x256, .f32⟩
  | .local _ .vmem, ⟨7, _⟩ => ⟨S3x8192x1024, .fp8e4m3⟩
  | .local _ .vmem, ⟨8, _⟩ => ⟨S3x4x1x8192, .f32⟩
  | .local _ .vmem, ⟨9, _⟩ => ⟨S3x8192x1024, .fp8e4m3⟩
  | .local _ .vmem, ⟨10, _⟩ => ⟨S3x4x1x8192, .f32⟩
  | _, _ => ⟨S3x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "inv_log_2" => some (((Real.log 2)⁻¹ : ℝ) : EReal)
  | _ => none

abbrev grid0 : Pipeline.Grid := .none

abbrev stage0_0 : Fin 1 → Memref sig .tc .vmem S3x8192x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x8192x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x8192x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x8192x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x4x32x2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x8192x1024 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x4x1x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x8192x1024 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x4x1x8192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Frames.KernelPoints.lean ====
/- When the pipeline of the kernel fetches and writes back each window, in closed form over the grid, and the memrefs and body at a point. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 2 (by decide) (by decide) (Pipeline.Window.sep_of_coord cc0_transform_0 2 1 (fun _ => rfl) (by decide)) (P := 1) (by decide) t).mpr (Nat.mod_one _) : ∀ t : Fin grid0.N, Pipeline.Window.fetchOf grid0 false cc0_transform_0 t = true)
/-- Window 1 (operand 2 (%arg1)) is fetched at the points ≡ 0 (mod 32), at any contents of the tables (its index map reads none). -/
theorem fetch0_1 (a : (pcfg0 (F := F)).Adm) : ∀ t : Fin (cfg0 a).N, ((cfg0 a).win 1).fetch t = true ↔ t.val % 32 = 0 :=
  (fun t => Pipeline.Window.fetchOf_reads cc0_transform_1 reads0_1 hreads0_1 1 (by decide) (by decide) (Pipeline.Window.sep_of_coord cc0_transform_1 1 2 (fun _ => rfl) (by decide)) (P := 32) (by decide) t : ∀ t : Fin grid0.N, Pipeline.Window.fetchOf grid0 false cc0_transform_1 t = true ↔ t.val % 32 = 0)
/-- Window 2 (operand 3 (%arg2)) is fetched at the points ≡ 0 (mod 32), at any contents of the tables (its index map reads none). -/
theorem fetch0_2 (a : (pcfg0 (F := F)).Adm) : ∀ t : Fin (cfg0 a).N, ((cfg0 a).win 2).fetch t = true ↔ t.val % 32 = 0 :=
  (fun t => Pipeline.Window.fetchOf_reads cc0_transform_2 reads0_2 hreads0_2 1 (by decide) (by decide) (Pipeline.Window.sep_of_coord cc0_transform_2 1 2 (fun _ => rfl) (by decide)) (P := 32) (by decide) t : ∀ t : Fin grid0.N, Pipeline.Window.fetchOf grid0 false cc0_transform_2 t = true ↔ t.val % 32 = 0)
/-- Window 3 (result 0 (%0#0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 2 (by decide) (by decide) (Pipeline.Window.sep_of_coord cc0_transform_3 2 1 (fun _ => rfl) (by decide)) (P := 1) (m := 0) (by decide) rfl t).mpr (Nat.mod_one _) : ∀ t : Fin grid0.N, Pipeline.Window.flushOf grid0 true cc0_transform_3 t = true)
/-- Window 4 (result 1 (%0#1)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 2 (by decide) (by decide) (Pipeline.Window.sep_of_coord cc0_transform_4 2 1 (fun _ => rfl) (by decide)) (P := 1) (m := 0) (by decide) rfl t).mpr (Nat.mod_one _) : ∀ t : Fin grid0.N, Pipeline.Window.flushOf grid0 true cc0_transform_4 t = true)
/-- Window 5 (result 2 (%0#2)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 2 (by decide) (by decide) (Pipeline.Window.sep_of_coord cc0_transform_5 2 2 (fun _ => rfl) (by decide)) (P := 1) (m := 0) (by decide) rfl t).mpr (Nat.mod_one _) : ∀ t : Fin grid0.N, Pipeline.Window.flushOf grid0 true cc0_transform_5 t = true)
/-- Window 6 (result 3 (%0#3)) is written back at the points ≡ 31 (mod 32), at any contents of the tables (its index map reads none). -/
theorem flush0_6 (a : (pcfg0 (F := F)).Adm) : ∀ t : Fin (cfg0 a).N, ((cfg0 a).win 6).flush t = true ↔ t.val % 32 = 31 :=
  (fun t => Pipeline.Window.flushOf_reads cc0_transform_6 reads0_6 hreads0_6 1 (by decide) (by decide) (Pipeline.Window.sep_of_coord cc0_transform_6 1 2 (fun _ => rfl) (by decide)) (P := 32) (m := 31) (by decide) rfl t : ∀ t : Fin grid0.N, Pipeline.Window.flushOf grid0 true cc0_transform_6 t = true ↔ t.val % 32 = 31)
/-- Window 7 (result 4 (%0#4)) is written back at the points ≡ 31 (mod 32), at any contents of the tables (its index map reads none). -/
theorem flush0_7 (a : (pcfg0 (F := F)).Adm) : ∀ t : Fin (cfg0 a).N, ((cfg0 a).win 7).flush t = true ↔ t.val % 32 = 31 :=
  (fun t => Pipeline.Window.flushOf_reads cc0_transform_7 reads0_7 hreads0_7 1 (by decide) (by decide) (Pipeline.Window.sep_of_coord cc0_transform_7 1 1 (fun _ => rfl) (by decide)) (P := 32) (m := 31) (by decide) rfl t : ∀ t : Fin grid0.N, Pipeline.Window.flushOf grid0 true cc0_transform_7 t = true ↔ t.val % 32 = 31)
/-- Window 8 (result 5 (%0#5)) is written back at the points ≡ 31 (mod 32), at any contents of the tables (its index map reads none). -/
theorem flush0_8 (a : (pcfg0 (F := F)).Adm) : ∀ t : Fin (cfg0 a).N, ((cfg0 a).win 8).flush t = true ↔ t.val % 32 = 31 :=
  (fun t => Pipeline.Window.flushOf_reads cc0_transform_8 reads0_8 hreads0_8 1 (by decide) (by decide) (Pipeline.Window.sep_of_coord cc0_transform_8 1 2 (fun _ => rfl) (by decide)) (P := 32) (m := 31) (by decide) rfl t : ∀ t : Fin grid0.N, Pipeline.Window.flushOf grid0 true cc0_transform_8 t = true ↔ t.val % 32 = 31)
/-- Window 9 (result 6 (%0#6)) is written back at the points ≡ 31 (mod 32), at any contents of the tables (its index map reads none). -/
theorem flush0_9 (a : (pcfg0 (F := F)).Adm) : ∀ t : Fin (cfg0 a).N, ((cfg0 a).win 9).flush t = true ↔ t.val % 32 = 31 :=
  (fun t => Pipeline.Window.flushOf_reads cc0_transform_9 reads0_9 hreads0_9 1 (by decide) (by decide) (Pipeline.Window.sep_of_coord cc0_transform_9 1 1 (fun _ => rfl) (by decide)) (P := 32) (m := 31) (by decide) rfl t : ∀ t : Fin grid0.N, Pipeline.Window.flushOf grid0 true cc0_transform_9 t = true ↔ t.val % 32 = 31)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_prefix_attention (grid0.coords t) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

end Cert.Kernel.Gen

end
-- ==== Proof.Frames.KernelKit.lean ====
/- The launch kit of the kernel: its arrays at region entry, the prefetched table, the windows' blocks, the frame off a run. -/
module

public import proofs.«01_k».proof.Proof.Gen.Kernel.Launch
public import proofs.«01_k».proof.Proof.Gen.Kernel.Skeleton
public import proofs.«01_k».proof.Proof.Frames.KernelPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S3 .i32 := Memref.whole main_arg3
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (by decide : main_arg3 ∈ Pipeline.restRefs sig spec0)).trans (V_main_arg3 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 32) — by arithmetic of the point. -/
theorem hcond0_0 : ∀ t : Fin grid0.N, cond0_0 (grid0.coords t) ↔ t.val % 32 = 0 :=
  (fun t => by
    have ht : t.val < 384 := Nat.lt_of_lt_of_eq t.isLt N_0
    have e0 : (grid0.coords t 0).val = t.val / 128 % 3 := Pipeline.Grid.coords_val t 0 (by decide) rfl
    have e1 : (grid0.coords t 1).val = t.val / 32 % 4 := Pipeline.Grid.coords_val t 1 (by decide) rfl
    have e2 : (grid0.coords t 2).val = t.val / 1 % 32 := Pipeline.Grid.coords_val t 2 (by decide) rfl
    simp only [cond0_0, k0_cond1, e0, e1, e2]
    word_cmp
   : ∀ t : Fin grid0.N, cond0_0 (grid0.coords t) ↔ t.val % 32 = 0)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x256x512 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x8192x256 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x8192x256 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x256x512 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x256x512 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x1x2x256 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x8192x256 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x1x8192 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x8192x256 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x1x1x8192 .f32 := spec0_9.stage ((cfgM m hO).slots t 9)
abbrev hs0_9 (hO : Ok m) (t : Fin (cfgM m hO).N) : (ms0_9 m hO t).IsWhole := hstage0_9 (((cfgM m hO).slots t 9).cast nbuf0_9)
/-- The scratch operands: whole scoped buffers of the kernel's own, passed beside the windows. -/
abbrev scM0_0 : Memref sig .tc .vmem S8192x512 .f32 := Memref.whole cc0_scratch0
abbrev scM0_1 : Memref sig .tc .vmem S8192x128 .f32 := Memref.whole cc0_scratch1
abbrev scM0_2 : Memref sig .tc .vmem S8192x128 .f32 := Memref.whole cc0_scratch2
abbrev scM0_3 : Memref sig .tc .vmem S256x8192 .fp8e4m3 := Memref.whole cc0_scratch3
abbrev scM0_4 : Memref sig .tc .vmem S256x512 .f32 := Memref.whole cc0_scratch4
abbrev scM0_5 : Memref sig .tc .vmem S8x128 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Gen

end
-- ==== Proof.Body.KernelCompact.lean ====
/- The kernel's body written compactly: the 32 eight-row pieces of a score tile as one recursion. -/
module

public import proofs.«01_k».proof.Proof.Gen.Kernel.Skeleton

@[expose] public section

set_option maxRecDepth 65536
set_option synthInstance.maxSize 4096

noncomputable section

namespace Cert.Kernel.Body

open Idealize.ShloMosaic Idealize.SL.Sem
open Cert.Kernel Cert.Kernel.Gen

variable {F : FTy → Type} [FloatOps F]

/-- The gain of the exponential, a constant of the program. -/
def gain : F .f32 := Scalar.ofBits .f32 0x429044FE#32

/-- The running maximum of the weights, their sum, and the maximum of the weighted scales, per sublane and query. -/
abbrev St3 (F : FTy → Type) := FVec F S8x256 .f32 × FVec F S8x256 .f32 × FVec F S8x256 .f32

/-- A column of row scales next to itself: 128 lanes to 256. -/
def twice (x : Vec F S8x128 .f32) : FVec F S8x256 .f32 :=
  concatenate S8x256 1 [⟨S8x128, x⟩, ⟨S8x128, x⟩] concatenates_S8x128_S8x128_S8x256_d1

/-- Eight rows of a tile of 256. -/
theorem slices8 (r : Fin 32) : S256x256.Slices ![8 * r.val, 0] S8x256 := by
  revert r; decide

/-- The weights of eight keys against 256 queries. -/
def wts (q : FVec F S1x256 .f32) (s : FVec F S256x256 .f32) (r : Fin 32) (ks : Vec F S8x128 .f32) : FVec F S8x256 .f32 :=
  exp2 (mulf (tanh (mulf (mulf (extractStridedSlice S8x256 ![8 * r.val, 0] s (slices8 r)) (twice ks)) (broadcastTo S8x256 q broadcasts_S1x256_S8x256)))
    (broadcast S8x256 gain))

/-- Which of eight keys from row `row` on are visible: below the end `vis` of each query. -/
def seen (vis : IVec S1x256 32) (row : BitVec 32) : IVec S8x256 1 :=
  cmpi .slt (addi (broadcast S8x256 row) (iota .tc S8x256 32 [0] iota_S8x256_d0_w32)) (broadcastTo S8x256 vis broadcasts_S1x256_S8x256)

/-- The weights with those of invisible keys zero. -/
def wtsMasked (vis : IVec S1x256 32) (row : BitVec 32) (e : FVec F S8x256 .f32) : FVec F S8x256 .f32 :=
  select (seen vis row) e (broadcast S8x256 (Scalar.ofBits .f32 0x00000000#32))

/-- Where eight rows from `row + 8 r` on start, at column `col`. -/
def off2 (row : BitVec 32) (col : Nat) (r : Fin 32) : Fin 2 → Nat :=
  ![(Scalar.indexCast (Scalar.addi row (BitVec.ofNat 32 (8 * r.val)))).toNat, col]

/-- Where a tile starts in a key or value array. -/
def off3 (row : BitVec 32) : Fin 3 → Nat := ![0, (Scalar.indexCast row).toNat, 0]

/-- What one piece adds to the running statistics. -/
def stat (st : St3 F) (e h : FVec F S8x256 .f32) : St3 F := (maximumf st.1 e, addf st.2.1 e, maximumf st.2.2 h)

/-- The pieces `rs`, in order. -/
def pieces {E : Type → Type} {α : Type} (f : Fin 32 → α → Prog E α) : List (Fin 32) → α → Prog E α
  | [], a => pure a
  | r :: rs, a => f r a >>= pieces f rs

/-- All pieces of a tile. -/
def all32 : List (Fin 32) :=
  [0, 1, 2, 3, 4, 5, 6, 7, 8, 9, 10, 11, 12, 13, 14, 15, 16, 17, 18, 19, 20, 21, 22, 23, 24, 25, 26, 27, 28, 29, 30, 31]

/-- The score of a tile of keys against a block of queries. -/
def score (kc : Vec F S1x256x256 .fp8e4m3) (qc : Vec F S1x256x256 .fp8e4m3) : FVec F S256x256 .f32 :=
  matmul dot_S256x256_S256x256_S256x256_1_1_0_0_n_n none (shapeCast S256x256 kc shapeCasts_S1x256x256_S256x256) (shapeCast S256x256 qc shapeCasts_S1x256x256_S256x256)
    (constant S256x256 .f32 0x00000000#32)

section Piece

variable (arg14 : Memref sig .tc .vmem S8192x512 .f32) (arg15 : Memref sig .tc .vmem S8192x128 .f32) (arg16 : Memref sig .tc .vmem S8192x128 .f32)
  (row : BitVec 32) (col : Nat)
  (h8 : ∀ r : Fin 32, ∀ a, off2 row 0 r a + S8x128.size a ≤ S8192x128.size a)
  (hh : ∀ r : Fin 32, ∀ a, off2 row col r a + S8x256.size a ≤ S8192x512.size a)

/-- One piece: eight keys, their weights `w` from the scales of their rows, stored times the value scales. -/
def piece (w : Fin 32 → Vec F S8x128 .f32 → FVec F S8x256 .f32) (r : Fin 32) (st : St3 F) :
    Prog (TpuEff nD τ sig (Elt F) Λ₀ .tc) (St3 F) := do
  let ks : Vec F S8x128 .f32 ← Prog.lift (.load arg15 (Rect.unit (s := S8192x128) (off2 row 0 r) S8x128.size (h8 r)).toLoadRect (View.loadsAt_vmem h_S8x128))
  let vs : Vec F S8x128 .f32 ← Prog.lift (.load arg16 (Rect.unit (s := S8192x128) (off2 row 0 r) S8x128.size (h8 r)).toLoadRect (View.loadsAt_vmem h_S8x128))
  let _ : Vec F S8x256 .f32 ← Prog.lift (.load arg14 (Rect.unit (s := S8192x512) (off2 row col r) S8x256.size (hh r)).toLoadRect (View.loadsAt_vmem h_S8x256))
  Prog.lift (.store arg14 (Rect.unit (s := S8192x512) (off2 row col r) S8x256.size (hh r))
    (shapeCast S8x256 (mulf (w r ks) (twice vs)) shapeCasts_S8x256_S8x256) Finset.univ (View.stores_vmem_bits_univ h_S8x256 rfl) (.inl rfl))
  pure (stat st (w r ks) (mulf (w r ks) (twice vs)))

end Piece

/-- The six statistics of a tile: three for each of the two query heads. -/
abbrev St6 (F : FTy → Type) :=
  FVec F S8x256 .f32 × FVec F S8x256 .f32 × FVec F S8x256 .f32 × FVec F S8x256 .f32 × FVec F S8x256 .f32 × FVec F S8x256 .f32

section Tile

variable (arg8 : Memref sig .tc .vmem S1x256x512 .fp8e4m3) (arg10 : Memref sig .tc .vmem S1x8192x256 .fp8e4m3)
  (arg14 : Memref sig .tc .vmem S8192x512 .f32) (arg15 : Memref sig .tc .vmem S8192x128 .f32) (arg16 : Memref sig .tc .vmem S8192x128 .f32)
  (row : BitVec 32) (h3 : ∀ a, off3 row a + S1x256x256.size a ≤ S1x8192x256.size a)
  (h8 : ∀ r : Fin 32, ∀ a, off2 row 0 r a + S8x128.size a ≤ S8192x128.size a)
  (h256 : ∀ r : Fin 32, ∀ a, off2 row 256 r a + S8x256.size a ≤ S8192x512.size a)
  (h0 : ∀ r : Fin 32, ∀ a, off2 row 0 r a + S8x256.size a ≤ S8192x512.size a)

/-- A score tile: the tile of keys at `row` against the two query heads; `w q s r ks` are the weights of piece `r`. -/
def tile (w : FVec F S1x256 .f32 → FVec F S256x256 .f32 → Fin 32 → Vec F S8x128 .f32 → FVec F S8x256 .f32)
    (q0 q1 : FVec F S1x256 .f32) (st : St6 F) : Prog (TpuEff nD τ sig (Elt F) Λ₀ .tc) (St6 F) := do
  let kc : Vec F S1x256x256 .fp8e4m3 ← Prog.lift (.load arg10 (Rect.unit (s := S1x8192x256) (off3 row) S1x256x256.size h3).toLoadRect (View.loadsAt_vmem h_S1x256x256))
  let qa : Vec F S1x256x256 .fp8e4m3 ← Prog.lift (.load arg8 (Rect.unit (s := S1x256x512) ![0, 0, 0] S1x256x256.size inb_S1x256x512_S1x256x256_0_0_0).toLoadRect (View.loadsAt_vmem h_S1x256x256))
  let s0 : St3 F ← pieces (piece arg14 arg15 arg16 row 0 h8 h0 (w q0 (score kc qa))) all32 (st.1, st.2.1, st.2.2.1)
  let qb : Vec F S1x256x256 .fp8e4m3 ← Prog.lift (.load arg8 (Rect.unit (s := S1x256x512) ![0, 0, 256] S1x256x256.size inb_S1x256x512_S1x256x256_0_0_256).toLoadRect (View.loadsAt_vmem h_S1x256x256))
  let s1 : St3 F ← pieces (piece arg14 arg15 arg16 row 256 h8 h256 (w q1 (score kc qb))) all32 (st.2.2.2.1, st.2.2.2.2.1, st.2.2.2.2.2)
  pure (s0.1, s0.2.1, s0.2.2, s1.1, s1.2.1, s1.2.2)

end Tile

/-- The buffers of the kernel: the prefetched table, the windows, the scratch. -/
structure Refs where
  a3 : Memref sig .tc .smem S3 .i32
  h3 : a3.IsWhole
  a4 : Memref sig .tc .vmem S1x256x512 .bf16
  h4 : a4.IsWhole
  a5 : Memref sig .tc .vmem S1x8192x256 .bf16
  h5 : a5.IsWhole
  a6 : Memref sig .tc .vmem S1x8192x256 .bf16
  h6 : a6.IsWhole
  a7 : Memref sig .tc .vmem S1x256x512 .bf16
  h7 : a7.IsWhole
  a8 : Memref sig .tc .vmem S1x256x512 .fp8e4m3
  h8 : a8.IsWhole
  a9 : Memref sig .tc .vmem S1x1x1x2x256 .f32
  h9 : a9.IsWhole
  a10 : Memref sig .tc .vmem S1x8192x256 .fp8e4m3
  h10 : a10.IsWhole
  a11 : Memref sig .tc .vmem S1x1x1x8192 .f32
  h11 : a11.IsWhole
  a12 : Memref sig .tc .vmem S1x8192x256 .fp8e4m3
  h12 : a12.IsWhole
  a13 : Memref sig .tc .vmem S1x1x1x8192 .f32
  h13 : a13.IsWhole
  a14 : Memref sig .tc .vmem S8192x512 .f32
  h14 : a14.IsWhole
  a15 : Memref sig .tc .vmem S8192x128 .f32
  h15 : a15.IsWhole
  a16 : Memref sig .tc .vmem S8192x128 .f32
  h16 : a16.IsWhole
  a17 : Memref sig .tc .vmem S256x8192 .fp8e4m3
  h17 : a17.IsWhole
  a18 : Memref sig .tc .vmem S256x512 .f32
  h18 : a18.IsWhole
  a19 : Memref sig .tc .vmem S8x128 .f32
  h19 : a19.IsWhole

/-- The exponent of the power of two that scales a row: one more than the binary logarithm of the largest magnitude over 448, rounded down. -/
def qexp (x : FVec F S256x256 .bf16) : FVec F S256x1 .f32 :=
  let a : FVec F S256x1 .f32 := mulf (extf .f32 (shapeCast S256x1 (multiReduction .maximumf [1] S256 (absf x) 0xFF80#16 reduces_S256x256_S256 (.inr rfl) rfl) shapeCasts_S256_S256x1) bitsLt_bf16_f32)
    (broadcast S256x1 (Scalar.ofBits .f32 0x3B124925#32))
  select (cmpf .oeq a (broadcast S256x1 (Scalar.ofBits .f32 0x00000000#32))) (broadcast S256x1 (Scalar.ofBits .f32 0x00000000#32))
    (addf (floor (mulf (log a) (broadcast S256x1 (Scalar.ofBits .f32 0x3FB8AA3B#32)))) (broadcast S256x1 (Scalar.ofBits .f32 0x3F800000#32)))

/-- The scale of each row. -/
def qscale (x : FVec F S256x256 .bf16) : FVec F S256x1 .f32 := exp2 (qexp x)

/-- The values over their row's scale, clipped to what a code holds. -/
def qval (x : FVec F S256x256 .bf16) : FVec F S256x256 .f32 :=
  minimumf (broadcast S256x256 (Scalar.ofBits .f32 0x43E00000#32)) (maximumf (broadcast S256x256 (Scalar.ofBits .f32 0xC3E00000#32))
    (mulf (extf .f32 x bitsLt_bf16_f32) (broadcastTo S256x256 (exp2 (subf (broadcast S256x1 (Scalar.ofBits .f32 0x00000000#32)) (qexp x))) broadcasts_S256x1_S256x256)))

/-- A window's block without its leading one. -/
def flat (x : Vec F S1x256x256 .bf16) : FVec F S256x256 .bf16 := shapeCast S256x256 x shapeCasts_S1x256x256_S256x256

/-- The codes of a block. -/
def qcodes (x : Vec F S1x256x256 .bf16) : FVec F S1x256x256 .fp8e4m3 :=
  shapeCast S1x256x256 (truncf .fp8e4m3 (qval (flat x)) bitsLt_fp8e4m3_f32) shapeCasts_S256x256_S1x256x256

/-- A column of scales repeated along the lanes. -/
def lanes (s : FVec F S256x1 .f32) : FVec F S256x128 .f32 :=
  broadcastTo S256x128 (shapeCast S256x1 s shapeCasts_S256x1_S256x1) broadcasts_S256x1_S256x128

/-- A column of scales as a row. -/
def asRow (s : FVec F S256x1 .f32) : FVec F S1x256 .f32 :=
  extractStridedSlice S1x256 ![0, 0] (transpose S128x256 [1, 0] (lanes s) transposes_S256x128_p1_0_S128x256) slices_S128x256_o0_0_S1x256

/-- Chunk `t` of the keys and values: quantise them, store codes and scales, and carry the largest value scale. -/
def chunk (R : Refs) (i : grid0.Coords) (h : k0_cond1 i = 1#1) (t : Fin k0_t1_loop.trips) (m : FVec F S1x128 .f32) :
    Prog (TpuEff nD τ sig (Elt F) Λ₀ .tc) (FVec F S1x128 .f32) := do
  let k : Vec F S1x256x256 .bf16 ← Prog.lift (.load R.a5 (Rect.unit (s := S1x8192x256) (k0_off2 t) S1x256x256.size (k0_off2_inb i t h)).toLoadRect (View.loadsAt_vmem h_S1x256x256))
  let _ : Vec F S1x256x256 .fp8e4m3 ← Prog.lift (.load R.a10 (Rect.unit (s := S1x8192x256) (k0_off2 t) S1x256x256.size (k0_off2_inb i t h)).toLoadRect (View.loadsAt_vmem h_S1x256x256))
  Prog.lift (.store R.a10 (Rect.unit (s := S1x8192x256) (k0_off2 t) S1x256x256.size (k0_off2_inb i t h))
    (qcodes k) Finset.univ (View.stores_vmem h_S1x256x256 (R.h10.storeExact_slice rfl _ (k0_off2_packedfp8e4m3 i t h)) (fun _ => rfl)) (.inl rfl))
  let _ : Vec F S256x128 .f32 ← Prog.lift (.load R.a15 (Rect.unit (s := S8192x128) (k0_off3 t) S256x128.size (k0_off3_inb i t h)).toLoadRect (View.loadsAt_vmem h_S256x128))
  Prog.lift (.store R.a15 (Rect.unit (s := S8192x128) (k0_off3 t) S256x128.size (k0_off3_inb i t h))
    (shapeCast S256x128 (lanes (qscale (flat k))) shapeCasts_S256x128_S256x128) Finset.univ (View.stores_vmem_bits_univ h_S256x128 rfl) (.inl rfl))
  let _ : Vec F S1x1x1x256 .f32 ← Prog.lift (.load R.a11 (Rect.unit (s := S1x1x1x8192) (k0_off4 t) S1x1x1x256.size (k0_off4_inb i t h)).toLoadRect (View.loadsAt_vmem h_S1x1x1x256))
  Prog.lift (.store R.a11 (Rect.unit (s := S1x1x1x8192) (k0_off4 t) S1x1x1x256.size (k0_off4_inb i t h))
    (shapeCast S1x1x1x256 (asRow (qscale (flat k))) shapeCasts_S1x256_S1x1x1x256) Finset.univ (View.stores_vmem_bits_univ h_S1x1x1x256 rfl) (.inl rfl))
  let v : Vec F S1x256x256 .bf16 ← Prog.lift (.load R.a6 (Rect.unit (s := S1x8192x256) (k0_off2 t) S1x256x256.size (k0_off2_inb i t h)).toLoadRect (View.loadsAt_vmem h_S1x256x256))
  let _ : Vec F S1x256x256 .fp8e4m3 ← Prog.lift (.load R.a12 (Rect.unit (s := S1x8192x256) (k0_off2 t) S1x256x256.size (k0_off2_inb i t h)).toLoadRect (View.loadsAt_vmem h_S1x256x256))
  Prog.lift (.store R.a12 (Rect.unit (s := S1x8192x256) (k0_off2 t) S1x256x256.size (k0_off2_inb i t h))
    (qcodes v) Finset.univ (View.stores_vmem h_S1x256x256 (R.h12.storeExact_slice rfl _ (k0_off2_packedfp8e4m3 i t h)) (fun _ => rfl)) (.inl rfl))
  let _ : Vec F S256x256 .fp8e4m3 ← Prog.lift (.load R.a17 (Rect.unit (s := S256x8192) (k0_off5 t) S256x256.size (k0_off5_inb i t h)).toLoadRect (View.loadsAt_vmem h_S256x256))
  Prog.lift (.store R.a17 (Rect.unit (s := S256x8192) (k0_off5 t) S256x256.size (k0_off5_inb i t h))
    (shapeCast S256x256 (truncf .fp8e4m3 (transpose S256x256 [1, 0] (qval (flat v)) transposes_S256x256_p1_0_S256x256) bitsLt_fp8e4m3_f32) shapeCasts_S256x256_S256x256) Finset.univ (View.stores_vmem h_S256x256 (R.h17.storeExact_slice rfl _ (k0_off5_packedfp8e4m3 i t h)) (fun _ => rfl)) (.inl rfl))
  let _ : Vec F S256x128 .f32 ← Prog.lift (.load R.a16 (Rect.unit (s := S8192x128) (k0_off3 t) S256x128.size (k0_off3_inb i t h)).toLoadRect (View.loadsAt_vmem h_S256x128))
  Prog.lift (.store R.a16 (Rect.unit (s := S8192x128) (k0_off3 t) S256x128.size (k0_off3_inb i t h))
    (shapeCast S256x128 (lanes (qscale (flat v))) shapeCasts_S256x128_S256x128) Finset.univ (View.stores_vmem_bits_univ h_S256x128 rfl) (.inl rfl))
  let _ : Vec F S1x1x1x256 .f32 ← Prog.lift (.load R.a13 (Rect.unit (s := S1x1x1x8192) (k0_off4 t) S1x1x1x256.size (k0_off4_inb i t h)).toLoadRect (View.loadsAt_vmem h_S1x1x1x256))
  Prog.lift (.store R.a13 (Rect.unit (s := S1x1x1x8192) (k0_off4 t) S1x1x1x256.size (k0_off4_inb i t h))
    (shapeCast S1x1x1x256 (asRow (qscale (flat v))) shapeCasts_S1x256_S1x1x1x256) Finset.univ (View.stores_vmem_bits_univ h_S1x1x1x256 rfl) (.inl rfl))
  pure (maximumf m (shapeCast S1x128 (multiReduction .maximumf [0] S128 (lanes (qscale (flat v))) 0xFF800000#32 reduces_S256x128_S128 (.inl rfl) rfl) shapeCasts_S128_S1x128))

/-- Chunk `t` of the value scales times the norm that `m` gives. -/
def rescale (R : Refs) (i : grid0.Coords) (h : k0_cond1 i = 1#1) (m : FVec F S1x128 .f32) (t : Fin k0_t2_loop.trips) (_ : Unit) :
    Prog (TpuEff nD τ sig (Elt F) Λ₀ .tc) Unit := do
  let x : Vec F S256x128 .f32 ← Prog.lift (.load R.a16 (Rect.unit (s := S8192x128) (k0_off6 t) S256x128.size (k0_off6_inb i t h)).toLoadRect (View.loadsAt_vmem h_S256x128))
  let _ : Vec F S256x128 .f32 ← Prog.lift (.load R.a16 (Rect.unit (s := S8192x128) (k0_off6 t) S256x128.size (k0_off6_inb i t h)).toLoadRect (View.loadsAt_vmem h_S256x128))
  Prog.lift (.store R.a16 (Rect.unit (s := S8192x128) (k0_off6 t) S256x128.size (k0_off6_inb i t h))
    (k0_pay705 m x) Finset.univ (View.stores_vmem_bits_univ h_S256x128 rfl) (.inl rfl))
  pure ⟨⟩

/-- The quantisation of all keys and values, at the first block of queries. -/
def kv (R : Refs) (i : grid0.Coords) (h : k0_cond1 i = 1#1) : Prog (TpuEff nD τ sig (Elt F) Λ₀ .tc) PUnit := do
  let m : FVec F S1x128 .f32 ← Scf.Loop.for k0_t1_loop (k0_t1_ok i h) (broadcast S1x128 (Scalar.ofBits .f32 0x00000000#32)) (chunk R i h)
  let _ : Vec F S8x128 .f32 ← Prog.lift (.load R.a19 (Rect.unit (s := S8x128) ![0, 0] S8x128.size inb_S8x128_S8x128_0_0).toLoadRect (View.loadsAt_vmem h_S8x128))
  Prog.lift (.store R.a19 (Rect.unit (s := S8x128) ![0, 0] S8x128.size inb_S8x128_S8x128_0_0)
    (k0_pay704 m) Finset.univ (View.stores_vmem_bits_univ h_S8x128 rfl) (.inl rfl))
  Scf.Loop.for k0_t2_loop (k0_t2_ok i h) ⟨⟩ (rescale R i h m)
  pure ⟨⟩

/-- The start of the body: the prefix length, its checks, and the keys and values at the first block of queries. -/
def start (R : Refs) (i : grid0.Coords) : Prog (TpuEff nD τ sig (Elt F) Λ₀ .tc) (Σ' (v1 : Elt F .i32) (hw : k0_chk1 i v1), Vec F S1x256x256 .bf16) := do
  let v1 : Elt F .i32 ← smemLoad R.a3 (Rect.unit (s := S3) (k0_off1 i) S1.size (k0_off1_inb i)) numel1_S1 rfl
  have hw : k0_chk1 i v1 := (← Prog.lift (TpuEff.assume (k0_chk1 i v1) (k0_chk1.dec i v1))).down
  if h : k0_cond1 i = 1#1 then do
    kv R i h
    pure ⟨⟩
  else do
    pure ⟨⟩
  let x : Vec F S1x256x256 .bf16 ← Prog.lift (.load R.a4 (Rect.unit (s := S1x256x512) ![0, 0, 0] S1x256x256.size inb_S1x256x512_S1x256x256_0_0_0).toLoadRect (View.loadsAt_vmem h_S1x256x256))
  let _ : Vec F S1x256x256 .fp8e4m3 ← Prog.lift (.load R.a8 (Rect.unit (s := S1x256x512) ![0, 0, 0] S1x256x256.size inb_S1x256x512_S1x256x256_0_0_0).toLoadRect (View.loadsAt_vmem h_S1x256x256))
  pure ⟨v1, hw, x⟩

/-- The row of query scales, as the scores use it. -/
def qrow (x : Vec F S1x256x256 .bf16) : FVec F S1x256 .f32 :=
  mulf (asRow (qscale (flat x))) (broadcast S1x256 (Scalar.ofBits .f32 0x3AA3D70A#32))

/-- The codes and scales of the two query heads; the rest of the first head and the whole second. -/
def queries (R : Refs) (x : Vec F S1x256x256 .bf16) : Prog (TpuEff nD τ sig (Elt F) Λ₀ .tc) (FVec F S1x256 .f32 × FVec F S1x256 .f32) := do
  Prog.lift (.store R.a8 (Rect.unit (s := S1x256x512) ![0, 0, 0] S1x256x256.size inb_S1x256x512_S1x256x256_0_0_0)
    (qcodes x) Finset.univ (View.stores_vmem h_S1x256x256 (R.h8.storeExact_slice rfl _ packedfp8e4m3_S1x256x512_S1x256x256_0_0_0) (fun _ => rfl)) (.inl rfl))
  let _ : Vec F S1x1x1x1x256 .f32 ← Prog.lift (.load R.a9 (Rect.unit (s := S1x1x1x2x256) ![0, 0, 0, 0, 0] S1x1x1x1x256.size inb_S1x1x1x2x256_S1x1x1x1x256_0_0_0_0_0).toLoadRect (View.loadsAt_vmem h_S1x1x1x1x256))
  Prog.lift (.store R.a9 (Rect.unit (s := S1x1x1x2x256) ![0, 0, 0, 0, 0] S1x1x1x1x256.size inb_S1x1x1x2x256_S1x1x1x1x256_0_0_0_0_0)
    (shapeCast S1x1x1x1x256 (asRow (qscale (flat x))) shapeCasts_S1x256_S1x1x1x1x256) Finset.univ (View.stores_vmem_bits_univ h_S1x1x1x1x256 rfl) (.inl rfl))
  let y : Vec F S1x256x256 .bf16 ← Prog.lift (.load R.a4 (Rect.unit (s := S1x256x512) ![0, 0, 256] S1x256x256.size inb_S1x256x512_S1x256x256_0_0_256).toLoadRect (View.loadsAt_vmem h_S1x256x256))
  let _ : Vec F S1x256x256 .fp8e4m3 ← Prog.lift (.load R.a8 (Rect.unit (s := S1x256x512) ![0, 0, 256] S1x256x256.size inb_S1x256x512_S1x256x256_0_0_256).toLoadRect (View.loadsAt_vmem h_S1x256x256))
  Prog.lift (.store R.a8 (Rect.unit (s := S1x256x512) ![0, 0, 256] S1x256x256.size inb_S1x256x512_S1x256x256_0_0_256)
    (qcodes y) Finset.univ (View.stores_vmem h_S1x256x256 (R.h8.storeExact_slice rfl _ packedfp8e4m3_S1x256x512_S1x256x256_0_0_256) (fun _ => rfl)) (.inl rfl))
  let _ : Vec F S1x1x1x1x256 .f32 ← Prog.lift (.load R.a9 (Rect.unit (s := S1x1x1x2x256) ![0, 0, 0, 1, 0] S1x1x1x1x256.size inb_S1x1x1x2x256_S1x1x1x1x256_0_0_0_1_0).toLoadRect (View.loadsAt_vmem h_S1x1x1x1x256))
  Prog.lift (.store R.a9 (Rect.unit (s := S1x1x1x2x256) ![0, 0, 0, 1, 0] S1x1x1x1x256.size inb_S1x1x1x2x256_S1x1x1x1x256_0_0_0_1_0)
    (shapeCast S1x1x1x1x256 (asRow (qscale (flat y))) shapeCasts_S1x256_S1x1x1x1x256) Finset.univ (View.stores_vmem_bits_univ h_S1x1x1x1x256 rfl) (.inl rfl))
  pure (qrow x, qrow y)

/-- The end of the keys each query sees. -/
def visEnd (i : grid0.Coords) (v1 : BitVec 32) : IVec S1x256 32 :=
  maxsi (addi (addi (broadcast S1x256 (Scalar.muli (BitVec.ofNat 32 (i 2).val) 256#32)) (iota .tc S1x256 32 [1] iota_S1x256_d1_w32)) (broadcast S1x256 1#32))
    (broadcast S1x256 v1)

/-- How many tiles of keys the block of queries sees. -/
def nTiles (i : grid0.Coords) (v1 : BitVec 32) : BitVec 32 :=
  Scalar.maxsi (Scalar.addi (BitVec.ofNat 32 (i 2).val) 1#32) (Scalar.divsi (Scalar.addi v1 255#32) 256#32)

/-- The row where the last of these tiles starts. -/
def lastRow (i : grid0.Coords) (v1 : BitVec 32) : BitVec 32 := Scalar.muli (Scalar.subi (nTiles i v1) 1#32) 256#32

/-- The weights of a piece of the last tile: those of keys not visible are zero. -/
def wtsLast (i : grid0.Coords) (v1 : BitVec 32) (q : FVec F S1x256 .f32) (s : FVec F S256x256 .f32) (r : Fin 32) (ks : Vec F S8x128 .f32) : FVec F S8x256 .f32 :=
  wtsMasked (visEnd i v1) (Scalar.addi (lastRow i v1) (BitVec.ofNat 32 (8 * r.val))) (wts q s r ks)

/-- A loop's tile starts at this row. -/
def tileRow (lb : BitVec 32) (t : Nat) : BitVec 32 := Scalar.muli (Scf.iv lb 1#32 t) 256#32

/-- All score tiles: the last one, masked, then those before it. -/
def scores (R : Refs) (i : grid0.Coords) (v1 : Elt F .i32) (hw : k0_chk1 i v1) (q0 q1 : FVec F S1x256 .f32) : Prog (TpuEff nD τ sig (Elt F) Λ₀ .tc) (St6 F) := do
  let z : FVec F S8x256 .f32 := broadcast S8x256 (Scalar.ofBits .f32 0x00000000#32)
  let st : St6 F ← tile R.a8 R.a10 R.a14 R.a15 R.a16 (lastRow i v1) (k0_off7_inb i v1 hw) (k0_off8_inb i v1 hw) (k0_off10_inb i v1 hw) (k0_off9_inb i v1 hw)
    (wtsLast i v1) q0 q1 (z, z, z, z, z, z)
  let st : St6 F ← Scf.Loop.for (k0_t3_loop i v1) (k0_t3_ok i v1 hw) st fun t st =>
    tile R.a8 R.a10 R.a14 R.a15 R.a16 (tileRow 0#32 t) (k0_off11_inb i v1 hw t) (k0_off12_inb i v1 hw t) (k0_off14_inb i v1 hw t) (k0_off13_inb i v1 hw t) wts q0 q1 st
  Scf.Loop.for (k0_t4_loop i v1) (k0_t4_ok i v1 hw) st fun t st =>
    tile R.a8 R.a10 R.a14 R.a15 R.a16 (tileRow (k0_t4_loop i v1).lb t) (k0_off15_inb i v1 hw t) (k0_off16_inb i v1 hw t) (k0_off18_inb i v1 hw t) (k0_off17_inb i v1 hw t) wts q0 q1 st

/-- The maximum over the sublanes. -/
def maxRow (x : FVec F S8x256 .f32) : FVec F S1x256 .f32 :=
  shapeCast S1x256 (multiReduction .maximumf [0] S256 x 0xFF800000#32 reduces_S8x256_S256 (.inl rfl) rfl) shapeCasts_S256_S1x256

/-- The sum over the sublanes. -/
def sumRow (x : FVec F S8x256 .f32) : FVec F S1x256 .f32 :=
  shapeCast S1x256 (multiReduction .add [0] S256 x 0x00000000#32 reduces_S8x256_S256 (.inl rfl) rfl) shapeCasts_S256_S1x256

/-- The exponent of the weights' scale of each query. -/
def wexp (st : St3 F) : FVec F S1x256 .f32 :=
  let a : FVec F S1x256 .f32 := mulf (divf (maxRow st.2.2) (maxRow st.1)) (broadcast S1x256 (Scalar.ofBits .f32 0x3B124925#32))
  select (cmpf .oeq a (broadcast S1x256 (Scalar.ofBits .f32 0x00000000#32))) (broadcast S1x256 (Scalar.ofBits .f32 0x00000000#32))
    (addf (floor (mulf (log a) (broadcast S1x256 (Scalar.ofBits .f32 0x3FB8AA3B#32)))) (broadcast S1x256 (Scalar.ofBits .f32 0x3F800000#32)))

/-- What the weighted scales are multiplied by to give the codes of the weights. -/
def factor (st : St3 F) : FVec F S1x256 .f32 :=
  divf (exp2 (subf (broadcast S1x256 (Scalar.ofBits .f32 0x00000000#32)) (wexp st))) (maxRow st.1)

/-- What the accumulated products are multiplied by to give the result. -/
def outScale (st : St3 F) (nf : Vec F S1x128 .f32) : FVec F S1x256 .f32 :=
  divf (mulf (exp2 (wexp st)) (concatenate S1x256 1 [⟨S1x128, nf⟩, ⟨S1x128, nf⟩] concatenates_S1x128_S1x128_S1x256_d1)) (divf (sumRow st.2.1) (maxRow st.1))

/-- A tile's part of the product of the value codes and the codes of the weights. -/
def accum (f : FVec F S1x256 .f32) (vt : Vec F S256x256 .fp8e4m3) (h acc : Vec F S256x256 .f32) : FVec F S256x256 .f32 :=
  shapeCast S256x256 (addf acc (matmul dot_S256x256_S256x256_S256x256_1_0_0_1_n_n none vt
    (truncf .fp8e4m3 (minimumf (broadcast S256x256 (Scalar.ofBits .f32 0x43E00000#32)) (maximumf (broadcast S256x256 (Scalar.ofBits .f32 0xC3E00000#32))
      (mulf h (broadcastTo S256x256 f broadcasts_S1x256_S256x256)))) bitsLt_fp8e4m3_f32) (constant S256x256 .f32 0x00000000#32))) shapeCasts_S256x256_S256x256

/-- The product with the tile of values and weights at the offsets given. -/
def weights (R : Refs) (o0 o1 o2 : Fin 2 → Nat) (h0 : ∀ a, o0 a + S256x256.size a ≤ S256x8192.size a) (h1 : ∀ a, o1 a + S256x256.size a ≤ S8192x512.size a)
    (h2 : ∀ a, o2 a + S256x256.size a ≤ S8192x512.size a) (f0 f1 : FVec F S1x256 .f32) : Prog (TpuEff nD τ sig (Elt F) Λ₀ .tc) Unit := do
  let vt : Vec F S256x256 .fp8e4m3 ← Prog.lift (.load R.a17 (Rect.unit (s := S256x8192) o0 S256x256.size h0).toLoadRect (View.loadsAt_vmem h_S256x256))
  let h : Vec F S256x256 .f32 ← Prog.lift (.load R.a14 (Rect.unit (s := S8192x512) o1 S256x256.size h1).toLoadRect (View.loadsAt_vmem h_S256x256))
  let acc : Vec F S256x256 .f32 ← Prog.lift (.load R.a18 (Rect.unit (s := S256x512) ![0, 0] S256x256.size inb_S256x512_S256x256_0_0).toLoadRect (View.loadsAt_vmem h_S256x256))
  let _ : Vec F S256x256 .f32 ← Prog.lift (.load R.a18 (Rect.unit (s := S256x512) ![0, 0] S256x256.size inb_S256x512_S256x256_0_0).toLoadRect (View.loadsAt_vmem h_S256x256))
  Prog.lift (.store R.a18 (Rect.unit (s := S256x512) ![0, 0] S256x256.size inb_S256x512_S256x256_0_0)
    (accum f0 vt h acc) Finset.univ (View.stores_vmem_bits_univ h_S256x256 rfl) (.inl rfl))
  let h : Vec F S256x256 .f32 ← Prog.lift (.load R.a14 (Rect.unit (s := S8192x512) o2 S256x256.size h2).toLoadRect (View.loadsAt_vmem h_S256x256))
  let acc : Vec F S256x256 .f32 ← Prog.lift (.load R.a18 (Rect.unit (s := S256x512) ![0, 256] S256x256.size inb_S256x512_S256x256_0_256).toLoadRect (View.loadsAt_vmem h_S256x256))
  let _ : Vec F S256x256 .f32 ← Prog.lift (.load R.a18 (Rect.unit (s := S256x512) ![0, 256] S256x256.size inb_S256x512_S256x256_0_256).toLoadRect (View.loadsAt_vmem h_S256x256))
  Prog.lift (.store R.a18 (Rect.unit (s := S256x512) ![0, 256] S256x256.size inb_S256x512_S256x256_0_256)
    (accum f1 vt h acc) Finset.univ (View.stores_vmem_bits_univ h_S256x256 rfl) (.inl rfl))
  pure ⟨⟩

/-- The factors of the two heads, and the accumulator cleared. -/
def factors (R : Refs) (st : St6 F) : Prog (TpuEff nD τ sig (Elt F) Λ₀ .tc) (FVec F S1x256 .f32 × FVec F S1x256 .f32) := do
  let n0 : Vec F S1x128 .f32 ← Prog.lift (.load R.a19 (Rect.unit (s := S8x128) ![0, 0] S1x128.size inb_S8x128_S1x128_0_0).toLoadRect (View.loadsAt_vmem h_S1x128))
  let n1 : Vec F S1x128 .f32 ← Prog.lift (.load R.a19 (Rect.unit (s := S8x128) ![0, 0] S1x128.size inb_S8x128_S1x128_0_0).toLoadRect (View.loadsAt_vmem h_S1x128))
  let _ : Vec F S256x512 .f32 ← Prog.lift (.load R.a18 (Rect.unit (s := S256x512) ![0, 0] S256x512.size inb_S256x512_S256x512_0_0).toLoadRect (View.loadsAt_vmem h_S256x512))
  Prog.lift (.store R.a18 (Rect.unit (s := S256x512) ![0, 0] S256x512.size inb_S256x512_S256x512_0_0)
    (shapeCast S256x512 (broadcast S256x512 (Scalar.ofBits .f32 0x00000000#32)) shapeCasts_S256x512_S256x512) Finset.univ (View.stores_vmem_bits_univ h_S256x512 rfl) (.inl rfl))
  pure (outScale (st.1, st.2.1, st.2.2.1) n0, outScale (st.2.2.2.1, st.2.2.2.2.1, st.2.2.2.2.2) n1)

/-- A head's result: the accumulated products times their scale, queries first. -/
def outBlock (o : FVec F S1x256 .f32) (acc : Vec F S256x256 .f32) : FVec F S1x256x256 .bf16 :=
  shapeCast S1x256x256 (truncf .bf16 (transpose S256x256 [1, 0] (mulf acc (broadcastTo S256x256 o broadcasts_S1x256_S256x256)) transposes_S256x256_p1_0_S256x256) bitsLt_bf16_f32)
    shapeCasts_S256x256_S1x256x256

/-- The results of the two heads. -/
def outs (R : Refs) (o : FVec F S1x256 .f32 × FVec F S1x256 .f32) : Prog (TpuEff nD τ sig (Elt F) Λ₀ .tc) PUnit := do
  let a : Vec F S256x256 .f32 ← Prog.lift (.load R.a18 (Rect.unit (s := S256x512) ![0, 0] S256x256.size inb_S256x512_S256x256_0_0).toLoadRect (View.loadsAt_vmem h_S256x256))
  let _ : Vec F S1x256x256 .bf16 ← Prog.lift (.load R.a7 (Rect.unit (s := S1x256x512) ![0, 0, 0] S1x256x256.size inb_S1x256x512_S1x256x256_0_0_0).toLoadRect (View.loadsAt_vmem h_S1x256x256))
  Prog.lift (.store R.a7 (Rect.unit (s := S1x256x512) ![0, 0, 0] S1x256x256.size inb_S1x256x512_S1x256x256_0_0_0)
    (outBlock o.1 a) Finset.univ (View.stores_vmem h_S1x256x256 (R.h7.storeExact_slice rfl _ packedbf16_S1x256x512_S1x256x256_0_0_0) (fun _ => rfl)) (.inl rfl))
  let a : Vec F S256x256 .f32 ← Prog.lift (.load R.a18 (Rect.unit (s := S256x512) ![0, 256] S256x256.size inb_S256x512_S256x256_0_256).toLoadRect (View.loadsAt_vmem h_S256x256))
  let _ : Vec F S1x256x256 .bf16 ← Prog.lift (.load R.a7 (Rect.unit (s := S1x256x512) ![0, 0, 256] S1x256x256.size inb_S1x256x512_S1x256x256_0_0_256).toLoadRect (View.loadsAt_vmem h_S1x256x256))
  Prog.lift (.store R.a7 (Rect.unit (s := S1x256x512) ![0, 0, 256] S1x256x256.size inb_S1x256x512_S1x256x256_0_0_256)
    (outBlock o.2 a) Finset.univ (View.stores_vmem h_S1x256x256 (R.h7.storeExact_slice rfl _ packedbf16_S1x256x512_S1x256x256_0_0_256) (fun _ => rfl)) (.inl rfl))
  pure ⟨⟩

/-- The whole body. -/
def body (R : Refs) (i : grid0.Coords) : Prog (TpuEff nD τ sig (Elt F) Λ₀ .tc) PUnit := do
  let ⟨v1, hw, x⟩ ← start R i
  let q ← queries R x
  let st ← scores R i v1 hw q.1 q.2
  let o ← factors R st
  Scf.Loop.for (k0_t5_loop i v1) (k0_t5_ok i v1 hw) ⟨⟩ fun t _ =>
    weights R (k0_off19 i v1 t) (k0_off20 i v1 t) (k0_off21 i v1 t) (k0_off19_inb i v1 hw t) (k0_off20_inb i v1 hw t) (k0_off21_inb i v1 hw t)
      (factor (st.1, st.2.1, st.2.2.1)) (factor (st.2.2.2.1, st.2.2.2.2.1, st.2.2.2.2.2))
  Scf.Loop.for (k0_t6_loop i v1) (k0_t6_ok i v1 hw) ⟨⟩ fun t _ =>
    weights R (k0_off22 i v1 t) (k0_off23 i v1 t) (k0_off24 i v1 t) (k0_off22_inb i v1 hw t) (k0_off23_inb i v1 hw t) (k0_off24_inb i v1 hw t)
      (factor (st.1, st.2.1, st.2.2.1)) (factor (st.2.2.2.1, st.2.2.2.2.1, st.2.2.2.2.2))
  outs R o

end Cert.Kernel.Body

end
-- ==== Proof.Body.KernelBody.lean ====
/- The kernel's body written compactly: the 32 eight-row pieces of a score tile as one recursion. -/
module

public import proofs.«01_k».proof.Proof.Body.KernelCompact

@[expose] public section

set_option maxRecDepth 65536
set_option synthInstance.maxSize 4096

noncomputable section

namespace Cert.Kernel.Body

open Idealize.ShloMosaic Idealize.SL.Sem
open Cert.Kernel Cert.Kernel.Gen

variable {F : FTy → Type} [FloatOps F]

/-- The loops over the score tiles, and what the later parts take of the statistics. -/
def loopsRaw (R : Refs) (i : grid0.Coords) (v1 : Elt F .i32) (hw : k0_chk1 i v1) (q0 q1 : FVec F S1x256 .f32) (st : St6 F) : Prog (TpuEff nD τ sig (Elt F) Λ₀ .tc)
    (Σ' (_ : FVec F S8x256 .f32) (_ : FVec F S8x256 .f32) (_ : FVec F S8x256 .f32) (_ : FVec F S1x256 .f32) (_ : FVec F S1x256 .f32) (_ : FVec F S1x256 .f32), FVec F S1x256 .f32) := do
  let st : St6 F ← Scf.Loop.for (k0_t3_loop i v1) (k0_t3_ok i v1 hw) st fun t st =>
    tile R.a8 R.a10 R.a14 R.a15 R.a16 (tileRow 0#32 t) (k0_off11_inb i v1 hw t) (k0_off12_inb i v1 hw t) (k0_off14_inb i v1 hw t) (k0_off13_inb i v1 hw t) wts q0 q1 st
  let st : St6 F ← Scf.Loop.for (k0_t4_loop i v1) (k0_t4_ok i v1 hw) st fun t st =>
    tile R.a8 R.a10 R.a14 R.a15 R.a16 (tileRow (k0_t4_loop i v1).lb t) (k0_off15_inb i v1 hw t) (k0_off16_inb i v1 hw t) (k0_off18_inb i v1 hw t) (k0_off17_inb i v1 hw t) wts q0 q1 st
  pure ⟨st.2.2.2.1, st.2.2.2.2.1, st.2.2.2.2.2, maxRow st.1, sumRow st.2.1, divf (maxRow st.2.2.1) (maxRow st.1), broadcast S1x256 (Scalar.ofBits .f32 0x3B124925#32)⟩

set_option maxHeartbeats 40000000 in
theorem part110_eq (R : Refs) (i : grid0.Coords)  (v1 : Elt F .i32) (hw : k0_chk1 i v1) (v46 v88 : FVec F S1x256 .f32) (a b c : FVec F S8x256 .f32) (s : FVec F S256x256 .f32) (d e f : FVec F S8x256 .f32)  :
   k0_part110 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 v1 hw v46 v88 (Scalar.subi (nTiles i v1) 1#32) (visEnd i v1) (lastRow i v1) a b c s d e f 248#32 = (do
    let s1 : St3 F ← piece R.a14 R.a15 R.a16 (lastRow i v1) 256 (k0_off8_inb i v1 hw) (k0_off10_inb i v1 hw) (wtsLast i v1 v88 s) 31 (d, e, f)
    loopsRaw R i v1 hw v46 v88 (a, b, c, s1.1, s1.2.1, s1.2.2)) := rfl

/-- The printed first part. -/
theorem part67_eq (R : Refs) (i : grid0.Coords) :
    k0_part67 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 = (do
      let r ← start R i
      pure ⟨BitVec.ofNat 32 (i 2).val, r.1, r.2.1, qscale (flat r.2.2), qcodes r.2.2⟩) := by
  by_cases h : k0_cond1 i = 1#1
  · simp only [k0_part67, start, kv, dif_pos h, bind_assoc, pure_bind]; rfl
  · simp only [k0_part67, start, dif_neg h, bind_assoc, pure_bind]; rfl

set_option maxHeartbeats 40000000 in
theorem part112_eq (R : Refs) (i : grid0.Coords) :
    k0_part112 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 = (do
      let r ← start R i
      let v1 := r.1
      let k0_hw1 : k0_chk1 i v1 := r.2.1
      let ⟨v46, v65, v76⟩ ← k0_part68 i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 (qscale (flat r.2.2)) (qcodes r.2.2)
      let _ : Vec F S1x256x256 .fp8e4m3 ← Prog.lift (.load R.a8 (Rect.unit (s := S1x256x512) ![0, 0, 256] S1x256x256.size inb_S1x256x512_S1x256x256_0_0_256).toLoadRect (View.loadsAt_vmem h_S1x256x256))
      Prog.lift (.store R.a8 (Rect.unit (s := S1x256x512) ![0, 0, 256] S1x256x256.size inb_S1x256x512_S1x256x256_0_0_256)
        (k0_pay717 v76) Finset.univ (View.stores_vmem h_S1x256x256 (R.h8.storeExact_slice rfl _ packedfp8e4m3_S1x256x512_S1x256x256_0_0_256) (fun _ => rfl)) (.inl rfl))
      let _ : Vec F S1x1x1x1x256 .f32 ← Prog.lift (.load R.a9 (Rect.unit (s := S1x1x1x2x256) ![0, 0, 0, 1, 0] S1x1x1x1x256.size inb_S1x1x1x2x256_S1x1x1x1x256_0_0_0_1_0).toLoadRect (View.loadsAt_vmem h_S1x1x1x1x256))
      Prog.lift (.store R.a9 (Rect.unit (s := S1x1x1x2x256) ![0, 0, 0, 1, 0] S1x1x1x1x256.size inb_S1x1x1x2x256_S1x1x1x1x256_0_0_0_1_0)
        (k0_pay719 v65) Finset.univ (View.stores_vmem_bits_univ h_S1x1x1x1x256 rfl) (.inl rfl))
      let z : FVec F S8x256 .f32 := broadcast S8x256 (Scalar.ofBits .f32 0x00000000#32)
      let kc : Vec F S1x256x256 .fp8e4m3 ← Prog.lift (.load R.a10 (Rect.unit (s := S1x8192x256) (off3 (lastRow i v1)) S1x256x256.size (k0_off7_inb i v1 k0_hw1)).toLoadRect (View.loadsAt_vmem h_S1x256x256))
      let qa : Vec F S1x256x256 .fp8e4m3 ← Prog.lift (.load R.a8 (Rect.unit (s := S1x256x512) ![0, 0, 0] S1x256x256.size inb_S1x256x512_S1x256x256_0_0_0).toLoadRect (View.loadsAt_vmem h_S1x256x256))
      let s0 : St3 F ← pieces (piece R.a14 R.a15 R.a16 (lastRow i v1) 0 (k0_off8_inb i v1 k0_hw1) (k0_off9_inb i v1 k0_hw1) (wtsLast i v1 v46 (score kc qa))) all32 (z,z,z)
      let qb : Vec F S1x256x256 .fp8e4m3 ← Prog.lift (.load R.a8 (Rect.unit (s := S1x256x512) ![0, 0, 256] S1x256x256.size inb_S1x256x512_S1x256x256_0_0_256).toLoadRect (View.loadsAt_vmem h_S1x256x256))
      let s1 : St3 F ← pieces (piece R.a14 R.a15 R.a16 (lastRow i v1) 256 (k0_off8_inb i v1 k0_hw1) (k0_off10_inb i v1 k0_hw1) (wtsLast i v1 (mulf (asRow v65) (broadcast S1x256 (Scalar.ofBits .f32 0x3AA3D70A#32))) (score kc qb))) (all32.take 31) (z,z,z)
      let ⟨a, b, c, m, s, d, e⟩ ← k0_part110 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 v1 k0_hw1 v46 (mulf (asRow v65) (broadcast S1x256 (Scalar.ofBits .f32 0x3AA3D70A#32)))
         (Scalar.subi (nTiles i v1) 1#32) (visEnd i v1) (lastRow i v1) s0.1 s0.2.1 s0.2.2 (score kc qb) s1.1 s1.2.1 s1.2.2 248#32
      let ⟨v2128, v2133, v2135, v2137, v2153, v2156⟩ ← k0_part111 i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 a b c m s d e
      let n1 : Vec F S1x128 .f32 ← Prog.lift (.load R.a19 (Rect.unit (s := S8x128) ![0, 0] S1x128.size inb_S8x128_S1x128_0_0).toLoadRect (View.loadsAt_vmem h_S1x128))
      let _ : Vec F S256x512 .f32 ← Prog.lift (.load R.a18 (Rect.unit (s := S256x512) ![0, 0] S256x512.size inb_S256x512_S256x512_0_0).toLoadRect (View.loadsAt_vmem h_S256x512))
      pure ⟨v1, k0_hw1, nTiles i v1, v2128, v2133, k0_pay1119 v2135 v2156, k0_pay1120 v2135 v2137 v2153 n1, k0_pay1121⟩) := by
  unfold k0_part112
  rw [part67_eq, bind_assoc]
  refine congrArg (bind (start R i)) (funext fun r => ?_)
  exact rfl

theorem pieces_append {E : Type → Type} {α : Type} (f : Fin 32 → α → Prog E α) (l l' : List (Fin 32)) (a : α) :
    pieces f (l ++ l') a = pieces f l a >>= pieces f l' := by
  induction l generalizing a with
  | nil => simp [pieces]
  | cons r l ih => simp only [List.cons_append, pieces, bind_assoc]; congr 1; funext b; exact ih b

theorem pieces_all {E : Type → Type} {α : Type} (f : Fin 32 → α → Prog E α) (a : α) :
    pieces f all32 a = pieces f (all32.take 31) a >>= f 31 := by
  have h := pieces_append f (all32.take 31) [31] a
  rw [show all32.take 31 ++ [31] = all32 from rfl] at h
  rw [h]; congr 1; funext b; exact bind_pure _

set_option maxHeartbeats 40000000 in
theorem body_eq (R : Refs) (i : grid0.Coords) :
    cc0_prefix_attention (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 = body R i := by
  unfold cc0_prefix_attention body
  rw [part112_eq, bind_assoc]
  refine congrArg (bind (start R i)) (funext fun r => ?_)
  simp only [k0_part68, part110_eq, loopsRaw, k0_part111, queries, scores, tile, pieces_all, factors, outs, bind_assoc, pure_bind]
  rfl

end Cert.Kernel.Body

end
-- ==== Proof.Body.Rules.lean ====
/- What a program over a family of buffers does to their contents: rules that hold at every instance. -/
module

public import Idealize.ShloMosaic.Lib.Memref
public import Idealize.ShloMosaic.Lib.Scf
public import Idealize.ShloMosaic.Rules.Step

@[expose] public section

noncomputable section

namespace Cert.Body

open Idealize.ShloMosaic Idealize.SL Idealize.SL.RA Idealize.SL.BI Idealize.SL.Sem Idealize.SL.ProofMode
open scoped Idealize.SL.BI
open Idealize.SL.BI.BIBase Idealize.SL.BI.Laws

variable {nD : Nat} {τ : Topo} {sig : RefSig} {Val : EltTy → Type} {U : Type} [URA U] {Λ : Labels}

local notation "𝕄" => MT nD τ sig Unit Val ℕ U ℕ

/-- What a rectangle of `X` holds. -/
def ld {sh : Shape} {α : Type} (r : Rect sh) (X : sh.Idx → α) : r.shape.Idx → α := fun j => X (r.emb j)

variable {B : Type} [Fintype B] [DecidableEq B] {sh : B → Shape} {el : B → EltTy}

/-- The contents of the buffers. -/
abbrev St (Val : EltTy → Type) (sh : B → Shape) (el : B → EltTy) : Type := ∀ b, (sh b).Idx → Val (el b)

/-- The contents with buffer `b` holding `X`. -/
def upd (st : St Val sh el) (b : B) (X : (sh b).Idx → Val (el b)) : St Val sh el := Function.update st b X

omit [Fintype B] in
@[simp] theorem upd_same (st : St Val sh el) (b : B) (X : (sh b).Idx → Val (el b)) : upd st b X b = X := Function.update_self ..

omit [Fintype B] in
theorem upd_ne (st : St Val sh el) {b b' : B} (h : b' ≠ b) (X : (sh b).Idx → Val (el b)) : upd st b X b' = st b' := Function.update_of_ne h ..

variable (d : Dev nD) (m : (b : B) → Memref sig .tc .vmem (sh b) (el b))

variable (Tb : sProp (MT nD τ sig Unit Val ℕ U ℕ))

/-- The buffers owned at their contents, beside what is only read. -/
def Own (st : St Val sh el) : sProp 𝕄 :=
  iprop((bigSep Finset.univ (fun b => (owns (d.tc : Thread nD τ) (m b) fullShare (st b) : sProp 𝕄)) : sProp 𝕄) ∗ Tb)

variable (defs : Defs nD τ sig Val Λ)

/-- From contents `st` the program `p` runs without fault, and ends with a value and contents that satisfy `Q`. -/
def Runs {α : Type} (st : St Val sh el) (p : Prog (TpuEff nD τ sig Val Λ .tc) α) (Q : α → St Val sh el → Prop) : Prop :=
  ∀ (E : Set ℕ) (K : α → sProp 𝕄) (G : sProp 𝕄), (∀ a st', Q a st' → iprop(Own d m Tb st' ∗ G) ⊢ K a) →
    iprop(Own d m Tb st ∗ G) ⊢ wp frame (wpE defs Variants.none (d.tc : Thread nD τ) none) E p K

variable {d m Tb defs}
variable {α β : Type} {st : St Val sh el}

theorem Runs.pure {a : α} {Q : α → St Val sh el → Prop} (h : Q a st) : Runs d m Tb defs st (Pure.pure a) Q := by
  intro E K G hK
  exact (hK a st h).trans fupd_intro

theorem Runs.ret {a : α} {Q : α → St Val sh el → Prop} (h : Q a st) : Runs d m Tb defs st (Prog.ret a) Q := Runs.pure h

theorem Runs.mono {p : Prog (TpuEff nD τ sig Val Λ .tc) α} {Q Q' : α → St Val sh el → Prop} (hp : Runs d m Tb defs st p Q)
    (h : ∀ a s, Q a s → Q' a s) : Runs d m Tb defs st p Q' :=
  fun E K G hK => hp E K G fun a s hq => hK a s (h a s hq)

theorem Runs.bind {p : Prog (TpuEff nD τ sig Val Λ .tc) α} {k : α → Prog (TpuEff nD τ sig Val Λ .tc) β} {Q : α → St Val sh el → Prop} {Q' : β → St Val sh el → Prop}
    (hp : Runs d m Tb defs st p Q) (hk : ∀ a s, Q a s → Runs d m Tb defs s (k a) Q') : Runs d m Tb defs st (p >>= k) Q' := by
  intro E K G hK
  rw [wp_bind]
  exact hp E _ G fun a s hq => hk a s hq E K G hK

/-- A loop, by an invariant. -/
theorem Runs.forFrom {n : ℕ} {body : Fin n → α → Prog (TpuEff nD τ sig Val Λ .tc) α} (J : ℕ → α → St Val sh el → Prop)
    (hb : ∀ (t : Fin n) a s, J t a s → Runs d m Tb defs s (body t a) (J (t.val + 1))) :
    ∀ (k : ℕ), k ≤ n → ∀ a s, J (n - k) a s → Runs d m Tb defs s (Scf.forFrom body ((List.finRange n).drop (n - k)) a) (J n) := by
  intro k
  induction k with
  | zero => intro _ a s h; rw [Nat.sub_zero, List.drop_of_length_le (by simp), Scf.forFrom_nil]; exact Runs.ret (by simpa using h)
  | succ k ih =>
    intro hk a s h
    have hlt : n - (k + 1) < n := by omega
    rw [List.drop_eq_getElem_cons (by simpa using hlt), List.getElem_finRange, Fin.cast_mk, Scf.forFrom_cons]
    refine (hb ⟨_, hlt⟩ a s h).bind fun a' s' h' => ?_
    have e : n - (k + 1) + 1 = n - k := by omega
    rw [e] at h' ⊢
    exact ih (by omega) a' s' h'

theorem Runs.for {L : Scf.Loop 32} {hok : L.OK} {init : α} {body : Fin L.trips → α → Prog (TpuEff nD τ sig Val Λ .tc) α}
    (J : ℕ → α → St Val sh el → Prop) (h0 : J 0 init st)
    (hb : ∀ (t : Fin L.trips) a s, J t a s → Runs d m Tb defs s (body t a) (J (t.val + 1))) :
    Runs d m Tb defs st (Scf.Loop.for L hok init body) (J L.trips) := by
  unfold Scf.Loop.for
  rw [Scf.for_eq]
  have h := Runs.forFrom J hb L.trips le_rfl init st (by simpa using h0)
  rw [Nat.sub_self, List.drop_zero] at h
  exact h

omit [DecidableEq B] in
/-- One buffer apart from the others. -/
theorem own_split [DecidableEq B] (b : B) (s : St Val sh el) : Own d m Tb s
    = iprop(((owns (d.tc : Thread nD τ) (m b) fullShare (s b) : sProp (MT nD τ sig Unit Val ℕ U ℕ))
        ∗ (bigSep (Finset.univ.erase b) (fun b' => (owns (d.tc : Thread nD τ) (m b') fullShare (s b') : sProp (MT nD τ sig Unit Val ℕ U ℕ))) : sProp (MT nD τ sig Unit Val ℕ U ℕ))) ∗ Tb) := by
  unfold Own
  rw [bigSep_univ_split b]
  rfl

theorem Runs.load (b : B) {r : Rect (sh b)} {hl : (m b).view.LoadsAt r.toLoadRect} {k : (r.shape.Idx → Val (el b)) → Prog (TpuEff nD τ sig Val Λ .tc) β}
    {Q : β → St Val sh el → Prop} (h : Runs d m Tb defs st (k (ld r (st b))) Q) :
    Runs d m Tb defs st (Prog.lift (.load (m b) r.toLoadRect hl) >>= k) Q := by
  intro E K G hK
  have hk := h E K G hK
  change _ ⊢ wp frame (wpE defs Variants.none (d.tc : Thread nD τ) none) E (.op (.load (m b) r.toLoadRect hl) k) K
  rw [own_split b] at hk ⊢
  unfold owns at hk ⊢
  iintro ⟨⟨⟨⟨%f, %hf, H⟩, Hr⟩, HT⟩, HG⟩
  iapply (wp_load_rect Variants.none (d.tc : Thread nD τ) none E (m := m b) (r := r) (S := (m b).view.set) (q := fullShare) (f := f) (View.set_slice_subset _ _)) $$ [H]
  · iexact H
  iintro H
  have e : ((m b).access r).read Val f = ld r (st b) := by rw [← hf]; rfl
  rw [e]
  iapply hk
  isplitr [HG]
  · isplitr [HT]
    · isplitl [H]
      · iexists f; isplitr
        · ipureintro; exact hf
        · iexact H
      · iexact Hr
    · iexact HT
  · iexact HG

theorem read_write_access {s : Shape} {e : EltTy} {sp : Space} (M : Memref sig .tc sp s e) (r : Rect s) (f : M.view.ty.Contents Val) (w : r.shape.Idx → Val e) :
    M.view.read Val ((M.access r).write Val f w Finset.univ) = r.overlay (M.view.read Val f) w := by
  funext j
  by_cases hj : j ∈ r.set
  · obtain ⟨i, rfl⟩ := r.exists_idx_of_mem hj
    change M.view.read Val _ (r.emb i) = r.overlay _ w (r.emb i)
    rw [Rect.overlay_emb]
    exact View.read_slice_write_emb r f w (Finset.mem_univ i)
  · rw [Rect.overlay_of_not_mem _ _ _ hj]
    exact View.read_slice_write_of_not_mem r f w _ (by rw [Rect.map_emb_univ]; exact hj)

theorem Runs.store (b : B) {r : Rect (sh b)} {w : r.shape.Idx → Val (el b)} {hx : ((m b).access r).Stores Finset.univ} {hm : Finset.univ = Finset.univ ∨ ∀ a, r.stride a = 1}
    {k : PUnit → Prog (TpuEff nD τ sig Val Λ .tc) β}
    {Q : β → St Val sh el → Prop} (h : Runs d m Tb defs (upd st b (r.overlay (st b) w)) (k ⟨⟩) Q) :
    Runs d m Tb defs st (Prog.lift (.store (m b) r w Finset.univ hx hm) >>= k) Q := by
  intro E K G hK
  have hk := h E K G hK
  change _ ⊢ wp frame (wpE defs Variants.none (d.tc : Thread nD τ) none) E (.op (.store (m b) r w Finset.univ hx hm) k) K
  rw [own_split b] at hk ⊢
  have hrest : bigSep (Finset.univ.erase b) (fun b' => owns (d.tc : Thread nD τ) (m b') fullShare (upd st b (r.overlay (st b) w) b'))
      = (bigSep (Finset.univ.erase b) (fun b' => owns (d.tc : Thread nD τ) (m b') fullShare (st b')) : sProp 𝕄) :=
    bigSep_congr fun b' hb' => by rw [upd_ne _ (Finset.ne_of_mem_erase hb')]
  rw [hrest, upd_same] at hk
  unfold owns at hk ⊢
  iintro ⟨⟨⟨⟨%f, %hf, H⟩, Hr⟩, HT⟩, HG⟩
  iapply (wp_store Variants.none (d.tc : Thread nD τ) none E (m := m b) (r := r) (w := w) (Mk := Finset.univ) (S := (m b).view.set) (f := f) (View.set_slice_subset _ _)) $$ [H]
  · iexact H
  iintro H
  iapply hk
  isplitr [HG]
  · isplitr [HT]
    · isplitl [H]
      · iexists ((m b).access r).write Val f w Finset.univ; isplitr
        · ipureintro; rw [read_write_access, hf]
        · iexact H
      · iexact Hr
    · iexact HT
  · iexact HG

/-- The load of a word of the table. -/
theorem Runs.word {s : Shape} {e : EltTy} {a : Memref sig .tc .smem s e} {r : Rect s} {h1 : r.shape.numel = 1} {hp : e.packing = 1}
    {q : PosShare TreeShare} {f : Buf Val (a.view.loc (d.tc : Thread nD τ))} {k : Val e → Prog (TpuEff nD τ sig Val Λ .tc) β}
    (hT : Tb = (a.view.loc (d.tc : Thread nD τ) ↦[Finset.univ]{q} f)) {Q : β → St Val sh el → Prop}
    (h : Runs d m Tb defs st (k ((a.access r).read Val f (Shape.Idx.first (h1.symm ▸ Nat.one_pos)))) Q) :
    Runs d m Tb defs st (smemLoad a r h1 hp >>= k) Q := by
  intro E K G hK
  have hk := h E K G hK
  change _ ⊢ wp frame (wpE defs Variants.none (d.tc : Thread nD τ) none) E
    (smemLoadElt a r (View.loads_smem_one hp h1) (Shape.Idx.first (h1.symm ▸ Nat.one_pos)) k) K
  unfold Own at hk ⊢
  subst hT
  iintro ⟨⟨H, HT⟩, HG⟩
  iapply (wp_smemLoadElt Variants.none (d.tc : Thread nD τ) none E (m := a) (r := r) (S := Finset.univ) (q := q) (f := f) (Finset.subset_univ _)) $$ [HT]
  · iexact HT
  iintro HT
  iapply hk
  isplitr [HG]
  · isplitl [H]
    · iexact H
    · iexact HT
  · iexact HG

theorem Runs.assume {P : Prop} {dec : Decidable P} {k : PLift P → Prog (TpuEff nD τ sig Val Λ .tc) β} {Q : β → St Val sh el → Prop}
    (hP : P) (h : Runs d m Tb defs st (k ⟨hP⟩) Q) : Runs d m Tb defs st (Prog.lift (.assume P dec) >>= k) Q := by
  intro E K G hK
  exact (h E K G hK).trans (wp_assume Variants.none (d.tc : Thread nD τ) none E hP)

/-! ### The same rules at a memory reference that is one of the buffers -/

variable (m) in
/-- The memory reference `a` is buffer `b`. -/
structure IsBuf (b : B) {s : Shape} {e : EltTy} (a : Memref sig .tc .vmem s e) : Prop where
  hs : s = sh b
  he : e = el b
  ha : HEq a (m b)

theorem Runs.loadAt (b : B) {s : Shape} {e : EltTy} {a : Memref sig .tc .vmem s e} (ha : IsBuf m b a) (X : s.Idx → Val e) (hX : HEq X (st b))
    {r : Rect s} {hl : a.view.LoadsAt r.toLoadRect} {k : (r.shape.Idx → Val e) → Prog (TpuEff nD τ sig Val Λ .tc) β}
    {Q : β → St Val sh el → Prop} (h : Runs d m Tb defs st (k (ld r X)) Q) :
    Runs d m Tb defs st (Prog.lift (.load a r.toLoadRect hl) >>= k) Q := by
  obtain ⟨rfl, rfl, ha⟩ := ha
  obtain rfl := eq_of_heq ha
  obtain rfl := eq_of_heq hX
  exact Runs.load b h

theorem Runs.storeAt (b : B) {s : Shape} {e : EltTy} {a : Memref sig .tc .vmem s e} (ha : IsBuf m b a) (X : s.Idx → Val e) (hX : HEq X (st b))
    {r : Rect s} {w : r.shape.Idx → Val e} {hx : (a.access r).Stores Finset.univ} {hm : Finset.univ = Finset.univ ∨ ∀ a, r.stride a = 1}
    (Y : (sh b).Idx → Val (el b)) (hY : HEq Y (r.overlay X w)) {k : PUnit → Prog (TpuEff nD τ sig Val Λ .tc) β}
    {Q : β → St Val sh el → Prop} (h : Runs d m Tb defs (upd st b Y) (k ⟨⟩) Q) :
    Runs d m Tb defs st (Prog.lift (.store a r w Finset.univ hx hm) >>= k) Q := by
  obtain ⟨rfl, rfl, ha⟩ := ha
  obtain rfl := eq_of_heq ha
  obtain rfl := eq_of_heq hX
  obtain rfl := eq_of_heq hY
  exact Runs.store b h

/-- A load, its value known to be what the buffer holds. -/
theorem Runs.loadE (b : B) {s : Shape} {e : EltTy} {a : Memref sig .tc .vmem s e} (ha : IsBuf m b a)
    {r : Rect s} {hl : a.view.LoadsAt r.toLoadRect} {k : (r.shape.Idx → Val e) → Prog (TpuEff nD τ sig Val Λ .tc) β}
    {Q : β → St Val sh el → Prop} (h : ∀ X : s.Idx → Val e, HEq X (st b) → Runs d m Tb defs st (k (ld r X)) Q) :
    Runs d m Tb defs st (Prog.lift (.load a r.toLoadRect hl) >>= k) Q := by
  obtain ⟨rfl, rfl, ha⟩ := ha
  obtain rfl := eq_of_heq ha
  exact Runs.load b (h _ HEq.rfl)

/-- A store, the buffer's contents known to be what it held with the rectangle's part replaced. -/
theorem Runs.storeE (b : B) {s : Shape} {e : EltTy} {a : Memref sig .tc .vmem s e} (ha : IsBuf m b a)
    {r : Rect s} {w : r.shape.Idx → Val e} {hx : (a.access r).Stores Finset.univ} {hm : Finset.univ = Finset.univ ∨ ∀ a, r.stride a = 1}
    {k : PUnit → Prog (TpuEff nD τ sig Val Λ .tc) β} {Q : β → St Val sh el → Prop}
    (h : ∀ X : s.Idx → Val e, HEq X (st b) → ∀ Y : (sh b).Idx → Val (el b), HEq Y (r.overlay X w) → Runs d m Tb defs (upd st b Y) (k ⟨⟩) Q) :
    Runs d m Tb defs st (Prog.lift (.store a r w Finset.univ hx hm) >>= k) Q := by
  obtain ⟨rfl, rfl, ha⟩ := ha
  obtain rfl := eq_of_heq ha
  exact Runs.store b (h _ HEq.rfl _ HEq.rfl)

/-! ### Programs that leave some buffers as they are -/

variable (d m Tb defs) in
/-- From any contents `p` runs without fault and leaves the buffers in `kp` as they are. -/
def Keeps (kp : B → Prop) {α : Type} (p : Prog (TpuEff nD τ sig Val Λ .tc) α) : Prop :=
  ∀ st, Runs d m Tb defs st p fun _ s => ∀ b, kp b → s b = st b

variable {kp : B → Prop}

theorem Keeps.pure {a : α} : Keeps d m Tb defs kp (Pure.pure a) := fun _ => Runs.pure fun _ _ => rfl

theorem Keeps.bind {p : Prog (TpuEff nD τ sig Val Λ .tc) α} {k : α → Prog (TpuEff nD τ sig Val Λ .tc) β}
    (hp : Keeps d m Tb defs kp p) (hk : ∀ a, Keeps d m Tb defs kp (k a)) : Keeps d m Tb defs kp (p >>= k) :=
  fun st => (hp st).bind fun a s h => (hk a s).mono fun _ _ h' b hb => (h' b hb).trans (h b hb)

theorem Keeps.for {L : Scf.Loop 32} {hok : L.OK} {init : α} {body : Fin L.trips → α → Prog (TpuEff nD τ sig Val Λ .tc) α}
    (hb : ∀ t a, Keeps d m Tb defs kp (body t a)) : Keeps d m Tb defs kp (Scf.Loop.for L hok init body) :=
  fun st => Runs.for (fun _ _ s => ∀ b, kp b → s b = st b) (fun _ _ => rfl)
    fun t a s h => (hb t a s).mono fun _ _ h' b hb => (h' b hb).trans (h b hb)

theorem Keeps.load (b : B) {s : Shape} {e : EltTy} {a : Memref sig .tc .vmem s e} (ha : IsBuf m b a) {r : Rect s} {hl : a.view.LoadsAt r.toLoadRect}
    {k : (r.shape.Idx → Val e) → Prog (TpuEff nD τ sig Val Λ .tc) β}
    (h : ∀ x, Keeps d m Tb defs kp (k x)) : Keeps d m Tb defs kp (Prog.lift (.load a r.toLoadRect hl) >>= k) := by
  obtain ⟨rfl, rfl, ha⟩ := ha
  obtain rfl := eq_of_heq ha
  exact fun st => Runs.load b (h _ st)

theorem Keeps.store (b : B) {s : Shape} {e : EltTy} {a : Memref sig .tc .vmem s e} (ha : IsBuf m b a) (hb : ¬ kp b) {r : Rect s} {w : r.shape.Idx → Val e}
    {hx : (a.access r).Stores Finset.univ} {hm : Finset.univ = Finset.univ ∨ ∀ a, r.stride a = 1}
    {k : PUnit → Prog (TpuEff nD τ sig Val Λ .tc) β} (h : Keeps d m Tb defs kp (k ⟨⟩)) :
    Keeps d m Tb defs kp (Prog.lift (.store a r w Finset.univ hx hm) >>= k) := by
  obtain ⟨rfl, rfl, ha⟩ := ha
  obtain rfl := eq_of_heq ha
  exact fun st => Runs.store b ((h _).mono fun _ _ h' b' hb' => (h' b' hb').trans (upd_ne _ (fun e => hb (by rw [← e]; exact hb')) _))

theorem Keeps.assume {P : Prop} {dec : Decidable P} {k : PLift P → Prog (TpuEff nD τ sig Val Λ .tc) β}
    (hP : P) (h : Keeps d m Tb defs kp (k ⟨hP⟩)) : Keeps d m Tb defs kp (Prog.lift (.assume P dec) >>= k) :=
  fun st => Runs.assume hP (h st)

end Cert.Body

end
-- ==== Proof.Body.KernelKeeps.lean ====
/- The body runs without fault and leaves its three inputs as they are. -/
module

public import proofs.«01_k».proof.Proof.Body.KernelBody
public import proofs.«01_k».proof.Proof.Body.Rules
public import Idealize.ShloMosaic.Lib.Pipeline.Frame

@[expose] public section

set_option maxRecDepth 65536
set_option synthInstance.maxSize 4096

noncomputable section

namespace Cert.Kernel.Body

open Idealize.ShloMosaic Idealize.SL Idealize.SL.RA Idealize.SL.BI Idealize.SL.Sem
open scoped Idealize.SL.BI
open Idealize.SL.BI.BIBase Idealize.SL.BI.Laws Idealize.SL.ProofMode
open Cert.Kernel Cert.Kernel.Gen Cert.Body

variable {F : FTy → Type} [FloatOps F]

/-- The buffers of the body, apart from the table. -/
inductive Buf' | x4 | x5 | x6 | x7 | x8 | x9 | x10 | x11 | x12 | x13 | x14 | x15 | x16 | x17 | x18 | x19
  deriving DecidableEq

instance : Fintype Buf' :=
  ⟨{.x4, .x5, .x6, .x7, .x8, .x9, .x10, .x11, .x12, .x13, .x14, .x15, .x16, .x17, .x18, .x19}, by intro x; cases x <;> decide⟩

/-- Their shapes. -/
abbrev bsh : Buf' → Shape
  | .x4 => S1x256x512 | .x5 => S1x8192x256 | .x6 => S1x8192x256 | .x7 => S1x256x512 | .x8 => S1x256x512 | .x9 => S1x1x1x2x256
  | .x10 => S1x8192x256 | .x11 => S1x1x1x8192 | .x12 => S1x8192x256 | .x13 => S1x1x1x8192 | .x14 => S8192x512 | .x15 => S8192x128
  | .x16 => S8192x128 | .x17 => S256x8192 | .x18 => S256x512 | .x19 => S8x128

/-- Their element types. -/
abbrev bel : Buf' → EltTy
  | .x4 => .bf16 | .x5 => .bf16 | .x6 => .bf16 | .x7 => .bf16 | .x8 => .fp8e4m3 | .x9 => .f32
  | .x10 => .fp8e4m3 | .x11 => .f32 | .x12 => .fp8e4m3 | .x13 => .f32 | .x14 => .f32 | .x15 => .f32
  | .x16 => .f32 | .x17 => .fp8e4m3 | .x18 => .f32 | .x19 => .f32

/-- The buffers as memory references. -/
abbrev Refs.m (R : Refs) : (b : Buf') → Memref sig .tc .vmem (bsh b) (bel b)
  | .x4 => R.a4 | .x5 => R.a5 | .x6 => R.a6 | .x7 => R.a7 | .x8 => R.a8 | .x9 => R.a9
  | .x10 => R.a10 | .x11 => R.a11 | .x12 => R.a12 | .x13 => R.a13 | .x14 => R.a14 | .x15 => R.a15
  | .x16 => R.a16 | .x17 => R.a17 | .x18 => R.a18 | .x19 => R.a19

/-- Each memory reference is the buffer of its name. -/
theorem at_ (R : Refs) (b : Buf') : IsBuf (Refs.m R) b (R.m b) := ⟨rfl, rfl, HEq.rfl⟩

/-- The buffers one by one. -/
theorem own_eq (d : Dev nD) (R : Refs) (Tb : sProp (MT nD τ sig Unit (Elt F) ℕ (UR sig nD τ) ℕ)) (st : St (Elt F) bsh bel) :
    Own d (Refs.m R) Tb st = iprop((owns (d.tc : Thread nD τ) R.a4 fullShare (st .x4) ∗ owns (d.tc : Thread nD τ) R.a5 fullShare (st .x5) ∗ owns (d.tc : Thread nD τ) R.a6 fullShare (st .x6) ∗ owns (d.tc : Thread nD τ) R.a7 fullShare (st .x7) ∗ owns (d.tc : Thread nD τ) R.a8 fullShare (st .x8) ∗ owns (d.tc : Thread nD τ) R.a9 fullShare (st .x9) ∗ owns (d.tc : Thread nD τ) R.a10 fullShare (st .x10) ∗ owns (d.tc : Thread nD τ) R.a11 fullShare (st .x11) ∗ owns (d.tc : Thread nD τ) R.a12 fullShare (st .x12) ∗ owns (d.tc : Thread nD τ) R.a13 fullShare (st .x13) ∗ owns (d.tc : Thread nD τ) R.a14 fullShare (st .x14) ∗ owns (d.tc : Thread nD τ) R.a15 fullShare (st .x15) ∗ owns (d.tc : Thread nD τ) R.a16 fullShare (st .x16) ∗ owns (d.tc : Thread nD τ) R.a17 fullShare (st .x17) ∗ owns (d.tc : Thread nD τ) R.a18 fullShare (st .x18) ∗ owns (d.tc : Thread nD τ) R.a19 fullShare (st .x19)) ∗ Tb) := by
  unfold Own
  rw [show (Finset.univ : Finset Buf') = {.x4, .x5, .x6, .x7, .x8, .x9, .x10, .x11, .x12, .x13, .x14, .x15, .x16, .x17, .x18, .x19} from rfl]
  repeat rw [bigSep_insert (by decide)]
  rw [bigSep_singleton]
  rfl

/-- The inputs. -/
abbrev kin (b : Buf') : Prop := b = .x4 ∨ b = .x5 ∨ b = .x6

variable {d : Dev nD} {R : Refs} {Tb : sProp (MT nD τ sig Unit (Elt F) ℕ (UR sig nD τ) ℕ)}

theorem keeps_pieces {α : Type} {f : Fin 32 → α → Prog (TpuEff nD τ sig (Elt F) Λ₀ .tc) α} (h : ∀ r a, Keeps d (Refs.m R) Tb (defs₀ (F := F)) kin (f r a)) :
    ∀ l a, Keeps d (Refs.m R) Tb (defs₀ (F := F)) kin (pieces f l a)
  | [], _ => Keeps.pure
  | _ :: l, _ => (h _ _).bind fun _ => keeps_pieces h l _

theorem keeps_chunk (i : grid0.Coords) (h : k0_cond1 i = 1#1) (t : Fin k0_t1_loop.trips) (m : FVec F S1x128 .f32) : Keeps d (Refs.m R) Tb (defs₀ (F := F)) kin (chunk R i h t m) := by
  unfold chunk
  refine Keeps.load .x5 (at_ R .x5) fun k => ?_
  refine Keeps.load .x10 (at_ R .x10) fun _ => ?_
  refine Keeps.store .x10 (at_ R .x10) (by decide) ?_
  refine Keeps.load .x15 (at_ R .x15) fun _ => ?_
  refine Keeps.store .x15 (at_ R .x15) (by decide) ?_
  refine Keeps.load .x11 (at_ R .x11) fun _ => ?_
  refine Keeps.store .x11 (at_ R .x11) (by decide) ?_
  refine Keeps.load .x6 (at_ R .x6) fun v => ?_
  refine Keeps.load .x12 (at_ R .x12) fun _ => ?_
  refine Keeps.store .x12 (at_ R .x12) (by decide) ?_
  refine Keeps.load .x17 (at_ R .x17) fun _ => ?_
  refine Keeps.store .x17 (at_ R .x17) (by decide) ?_
  refine Keeps.load .x16 (at_ R .x16) fun _ => ?_
  refine Keeps.store .x16 (at_ R .x16) (by decide) ?_
  refine Keeps.load .x13 (at_ R .x13) fun _ => ?_
  refine Keeps.store .x13 (at_ R .x13) (by decide) ?_
  exact Keeps.pure

theorem keeps_rescale (i : grid0.Coords) (h : k0_cond1 i = 1#1) (m : FVec F S1x128 .f32) (t : Fin k0_t2_loop.trips) (u : Unit) : Keeps d (Refs.m R) Tb (defs₀ (F := F)) kin (rescale R i h m t u) := by
  unfold rescale
  refine Keeps.load .x16 (at_ R .x16) fun _ => ?_
  refine Keeps.load .x16 (at_ R .x16) fun _ => ?_
  refine Keeps.store .x16 (at_ R .x16) (by decide) ?_
  exact Keeps.pure

theorem keeps_kv (i : grid0.Coords) (h : k0_cond1 i = 1#1) : Keeps d (Refs.m R) Tb (defs₀ (F := F)) kin (kv R i h) := by
  unfold kv
  refine Keeps.bind (Keeps.for fun t a => keeps_chunk i h t a) fun m => ?_
  refine Keeps.load .x19 (at_ R .x19) fun _ => ?_
  refine Keeps.store .x19 (at_ R .x19) (by decide) ?_
  exact Keeps.bind (Keeps.for fun t a => keeps_rescale i h m t a) fun _ => Keeps.pure

theorem keeps_queries (x : Vec F S1x256x256 .bf16) : Keeps d (Refs.m R) Tb (defs₀ (F := F)) kin (queries R x) := by
  unfold queries
  refine Keeps.store .x8 (at_ R .x8) (by decide) ?_
  refine Keeps.load .x9 (at_ R .x9) fun _ => ?_
  refine Keeps.store .x9 (at_ R .x9) (by decide) ?_
  refine Keeps.load .x4 (at_ R .x4) fun _ => ?_
  refine Keeps.load .x8 (at_ R .x8) fun _ => ?_
  refine Keeps.store .x8 (at_ R .x8) (by decide) ?_
  refine Keeps.load .x9 (at_ R .x9) fun _ => ?_
  refine Keeps.store .x9 (at_ R .x9) (by decide) ?_
  exact Keeps.pure

theorem keeps_piece (row : BitVec 32) (col : ℕ) (h8 hh) (w) (r : Fin 32) (st : St3 F) : Keeps d (Refs.m R) Tb (defs₀ (F := F)) kin (piece R.a14 R.a15 R.a16 row col h8 hh w r st) := by
  unfold piece
  refine Keeps.load .x15 (at_ R .x15) fun _ => ?_
  refine Keeps.load .x16 (at_ R .x16) fun _ => ?_
  refine Keeps.load .x14 (at_ R .x14) fun _ => ?_
  refine Keeps.store .x14 (at_ R .x14) (by decide) ?_
  exact Keeps.pure

theorem keeps_tile (row : BitVec 32) (h3 h8 h256 h0) (w) (q0 q1 : FVec F S1x256 .f32) (st : St6 F) :
    Keeps d (Refs.m R) Tb (defs₀ (F := F)) kin (tile R.a8 R.a10 R.a14 R.a15 R.a16 row h3 h8 h256 h0 w q0 q1 st) := by
  unfold tile
  refine Keeps.load .x10 (at_ R .x10) fun _ => ?_
  refine Keeps.load .x8 (at_ R .x8) fun _ => ?_
  refine Keeps.bind (keeps_pieces (fun r a => keeps_piece row 0 h8 h0 _ r a) _ _) fun _ => ?_
  refine Keeps.load .x8 (at_ R .x8) fun _ => ?_
  exact Keeps.bind (keeps_pieces (fun r a => keeps_piece row 256 h8 h256 _ r a) _ _) fun _ => Keeps.pure

theorem keeps_scores (i : grid0.Coords) (v1 : Elt F .i32) (hw : k0_chk1 i v1) (q0 q1 : FVec F S1x256 .f32) : Keeps d (Refs.m R) Tb (defs₀ (F := F)) kin (scores R i v1 hw q0 q1) := by
  unfold scores
  refine Keeps.bind (keeps_tile _ _ _ _ _ _ _ _ _) fun _ => ?_
  exact Keeps.bind (Keeps.for fun t a => keeps_tile _ _ _ _ _ _ _ _ _) fun _ => Keeps.for fun t a => keeps_tile _ _ _ _ _ _ _ _ _

theorem keeps_weights (o0 o1 o2 : Fin 2 → Nat) (h0 h1 h2) (f0 f1 : FVec F S1x256 .f32) : Keeps d (Refs.m R) Tb (defs₀ (F := F)) kin (weights R o0 o1 o2 h0 h1 h2 f0 f1) := by
  unfold weights
  refine Keeps.load .x17 (at_ R .x17) fun _ => ?_
  refine Keeps.load .x14 (at_ R .x14) fun _ => ?_
  refine Keeps.load .x18 (at_ R .x18) fun _ => ?_
  refine Keeps.load .x18 (at_ R .x18) fun _ => ?_
  refine Keeps.store .x18 (at_ R .x18) (by decide) ?_
  refine Keeps.load .x14 (at_ R .x14) fun _ => ?_
  refine Keeps.load .x18 (at_ R .x18) fun _ => ?_
  refine Keeps.load .x18 (at_ R .x18) fun _ => ?_
  refine Keeps.store .x18 (at_ R .x18) (by decide) ?_
  exact Keeps.pure

theorem keeps_factors (st : St6 F) : Keeps d (Refs.m R) Tb (defs₀ (F := F)) kin (factors R st) := by
  unfold factors
  refine Keeps.load .x19 (at_ R .x19) fun _ => ?_
  refine Keeps.load .x19 (at_ R .x19) fun _ => ?_
  refine Keeps.load .x18 (at_ R .x18) fun _ => ?_
  refine Keeps.store .x18 (at_ R .x18) (by decide) ?_
  exact Keeps.pure

theorem keeps_outs (o : FVec F S1x256 .f32 × FVec F S1x256 .f32) : Keeps d (Refs.m R) Tb (defs₀ (F := F)) kin (outs R o) := by
  unfold outs
  refine Keeps.load .x18 (at_ R .x18) fun _ => ?_
  refine Keeps.load .x7 (at_ R .x7) fun _ => ?_
  refine Keeps.store .x7 (at_ R .x7) (by decide) ?_
  refine Keeps.load .x18 (at_ R .x18) fun _ => ?_
  refine Keeps.load .x7 (at_ R .x7) fun _ => ?_
  refine Keeps.store .x7 (at_ R .x7) (by decide) ?_
  exact Keeps.pure

/-- The word of the table that the point reads. -/
abbrev word (R : Refs) (d : Dev nD) (i : grid0.Coords) (f : Buf (Elt F) (R.a3.view.loc (d.tc : Thread nD τ))) : Elt F .i32 :=
  (R.a3.access (Rect.unit (s := S3) (k0_off1 i) S1.size (k0_off1_inb i))).read (Elt F) f (Shape.Idx.first (numel1_S1.symm ▸ Nat.one_pos))

theorem keeps_start (i : grid0.Coords) {q : PosShare TreeShare} {f : Buf (Elt F) (R.a3.view.loc (d.tc : Thread nD τ))}
    (hT : Tb = (R.a3.view.loc (d.tc : Thread nD τ) ↦[Finset.univ]{q} f)) (hc : k0_chk1 i (word R d i f)) : Keeps d (Refs.m R) Tb (defs₀ (F := F)) kin (start R i) := by
  intro st
  unfold start
  refine Runs.word hT ?_
  refine Runs.assume hc ?_
  have hl : Keeps d (Refs.m R) Tb (defs₀ (F := F)) kin (Prog.lift (.load R.a4 (Rect.unit (s := S1x256x512) ![0, 0, 0] S1x256x256.size inb_S1x256x512_S1x256x256_0_0_0).toLoadRect (View.loadsAt_vmem h_S1x256x256)) >>= fun x : Vec F S1x256x256 .bf16 =>
      Prog.lift (.load R.a8 (Rect.unit (s := S1x256x512) ![0, 0, 0] S1x256x256.size inb_S1x256x512_S1x256x256_0_0_0).toLoadRect (View.loadsAt_vmem h_S1x256x256)) >>= fun _ : Vec F S1x256x256 .fp8e4m3 =>
      pure (⟨word R d i f, hc, x⟩ : Σ' (v1 : Elt F .i32) (hw : k0_chk1 i v1), Vec F S1x256x256 .bf16)) :=
    Keeps.load .x4 (at_ R .x4) fun _ => Keeps.load .x8 (at_ R .x8) fun _ => Keeps.pure
  by_cases h : k0_cond1 i = 1#1
  · dsimp only
    rw [dif_pos h]
    exact (keeps_kv i h).bind (fun _ => hl) st
  · dsimp only
    rw [dif_neg h]
    exact hl st

theorem keeps_body (i : grid0.Coords) {q : PosShare TreeShare} {f : Buf (Elt F) (R.a3.view.loc (d.tc : Thread nD τ))}
    (hT : Tb = (R.a3.view.loc (d.tc : Thread nD τ) ↦[Finset.univ]{q} f)) (hc : k0_chk1 i (word R d i f)) : Keeps d (Refs.m R) Tb (defs₀ (F := F)) kin (body R i) := by
  unfold body
  refine Keeps.bind (keeps_start i hT hc) fun x => ?_
  refine Keeps.bind (keeps_queries _) fun q => ?_
  refine Keeps.bind (keeps_scores i _ _ _ _) fun st => ?_
  refine Keeps.bind (keeps_factors _) fun o => ?_
  refine Keeps.bind (Keeps.for fun t _ => keeps_weights _ _ _ _ _ _ _ _) fun _ => ?_
  refine Keeps.bind (Keeps.for fun t _ => keeps_weights _ _ _ _ _ _ _ _) fun _ => ?_
  exact keeps_outs _

end Cert.Kernel.Body

end
-- ==== Proof.Frames.KernelFrame.lean ====
/- The frame of the kernel: it terminates without fault and leaves its arguments, at any values that pass its checks. -/
module

public import proofs.«01_k».proof.Proof.Frames.KernelKit
public import proofs.«01_k».proof.Proof.Body.KernelKeeps
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The word of the table that a point reads. -/
abbrev pword (c : Dev nD) (i : grid0.Coords) : Elt F .i32 :=
  (tbM0_0.access (Rect.unit (s := S3) (k0_off1 i) S1.size (k0_off1_inb i))).read (Elt F) (tbl m 0) (Shape.Idx.first (numel1_S1.symm ▸ Nat.one_pos))

/-- Every word of the table passes the body's checks. -/
abbrev Passes : Prop := ∀ (c : Dev nD) (i : grid0.Coords), k0_chk1 i (pword m c i)

set_option maxHeartbeats 1000000 in
/-- The body's triple: on whole staging memrefs it leaves the inputs' contents and everything else at some contents. -/
theorem kernelRun0 (c : Dev nD) (i : grid0.Coords) (arg4 : Memref sig .tc .vmem S1x256x512 .bf16) (harg4 : arg4.IsWhole) (arg5 : Memref sig .tc .vmem S1x8192x256 .bf16) (harg5 : arg5.IsWhole) (arg6 : Memref sig .tc .vmem S1x8192x256 .bf16) (harg6 : arg6.IsWhole) (arg7 : Memref sig .tc .vmem S1x256x512 .bf16) (harg7 : arg7.IsWhole) (arg8 : Memref sig .tc .vmem S1x256x512 .fp8e4m3) (harg8 : arg8.IsWhole) (arg9 : Memref sig .tc .vmem S1x1x1x2x256 .f32) (harg9 : arg9.IsWhole) (arg10 : Memref sig .tc .vmem S1x8192x256 .fp8e4m3) (harg10 : arg10.IsWhole) (arg11 : Memref sig .tc .vmem S1x1x1x8192 .f32) (harg11 : arg11.IsWhole) (arg12 : Memref sig .tc .vmem S1x8192x256 .fp8e4m3) (harg12 : arg12.IsWhole) (arg13 : Memref sig .tc .vmem S1x1x1x8192 .f32) (harg13 : arg13.IsWhole) (arg14 : Memref sig .tc .vmem S8192x512 .f32) (harg14 : arg14.IsWhole) (arg15 : Memref sig .tc .vmem S8192x128 .f32) (harg15 : arg15.IsWhole) (arg16 : Memref sig .tc .vmem S8192x128 .f32) (harg16 : arg16.IsWhole) (arg17 : Memref sig .tc .vmem S256x8192 .fp8e4m3) (harg17 : arg17.IsWhole) (arg18 : Memref sig .tc .vmem S256x512 .f32) (harg18 : arg18.IsWhole) (arg19 : Memref sig .tc .vmem S8x128 .f32) (harg19 : arg19.IsWhole)
    (x0 : Vec F S1x256x512 .bf16) (x1 : Vec F S1x8192x256 .bf16) (x2 : Vec F S1x8192x256 .bf16) (xt0 : TbBuf0 (F := F) c tbM0_0)
    (hc : k0_chk1 i (Body.word ⟨tbM0_0, htbM0_0, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19⟩ c i xt0)) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ tbPt0 c tbM0_0 xt0
            ∗ (iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ tbPt0 c tbM0_0 xt0) -∗ K ⟨⟩))
          ⊢ wp frame (wpE (defs₀ (F := F)) Variants.none c none) E (cc0_prefix_attention i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    let R : Body.Refs := ⟨tbM0_0, htbM0_0, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19⟩
    iintro ⟨H4, H5, H6, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, HT, Hk⟩
    let st : Cert.Body.St (Elt F) Body.bsh Body.bel := fun b => match b with
      | .x4 => x0 | .x5 => x1 | .x6 => x2 | .x7 => d7 | .x8 => d8 | .x9 => d9 | .x10 => d10 | .x11 => d11 | .x12 => d12 | .x13 => d13 | .x14 => d14 | .x15 => d15 | .x16 => d16 | .x17 => d17 | .x18 => d18 | .x19 => d19
    rw [Body.body_eq R i]
    have hk := Body.keeps_body (d := c) (R := R) i (q := fullShare.right) rfl hc st E K
      (iprop((owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ tbPt0 c tbM0_0 xt0) -∗ K ⟨⟩) : sProp 𝕄) (fun a st' h => by
          rw [Body.own_eq, h .x4 (.inl rfl), h .x5 (.inr (.inl rfl)), h .x6 (.inr (.inr rfl))]
          iintro ⟨⟨⟨H4, H5, H6, H7, H8, H9, H10, H11, H12, H13, H14, H15, H16, H17, H18, H19⟩, HT⟩, Hk⟩
          iapply Hk
          isplitl [H4]; · iexact H4
          isplitl [H5]; · iexact H5
          isplitl [H6]; · iexact H6
          isplitl [H7]; · iexists _; iexact H7
          isplitl [H8]; · iexists _; iexact H8
          isplitl [H9]; · iexists _; iexact H9
          isplitl [H10]; · iexists _; iexact H10
          isplitl [H11]; · iexists _; iexact H11
          isplitl [H12]; · iexists _; iexact H12
          isplitl [H13]; · iexists _; iexact H13
          isplitl [H14]; · iexists _; iexact H14
          isplitl [H15]; · iexists _; iexact H15
          isplitl [H16]; · iexists _; iexact H16
          isplitl [H17]; · iexists _; iexact H17
          isplitl [H18]; · iexists _; iexact H18
          isplitl [H19]; · iexists _; iexact H19
          iexact HT)
    iapply hk
    rw [Body.own_eq]
    isplitr [Hk]
    · isplitr [HT]
      · isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        iexact H19
      · iexact HT
    · iexact Hk

/-! ## The pipeline's proof data -/

/-- The output windows this certificate FORGETS (3, 4, 5, 6, 7, 8, 9): nothing reads what the kernel leaves in them, so nothing
    of it is named (Lib/Pipeline/Dat.lean `Dat.toRForget`). -/
def forgets0 : Fin 10 → Bool := fun w => w.val == 3 || w.val == 4 || w.val == 5 || w.val == 6 || w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
    | ⟨4, h⟩ => Pipeline.Dat.unnamed (cfg := (cfgM m hO)) ⟨4, h⟩ t
    | ⟨5, h⟩ => Pipeline.Dat.unnamed (cfg := (cfgM m hO)) ⟨5, h⟩ t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
    | ⟨9, h⟩ => Pipeline.Dat.unnamed (cfg := (cfgM m hO)) ⟨9, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare d)
    ∗ (∃ d, owns (c : Thread nD τ) (ms0_4 m hO t) fullShare d)
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (∃ d, owns (c : Thread nD τ) (ms0_3 m hO t) fullShare d)
    ∗ (∃ d, owns (c : Thread nD τ) (ms0_4 m hO t) fullShare d)
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (hO : Ok m) (hp : Passes m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq, PhiA0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  iintro ⟨⟨⟨⟨HS0, HS1, HS2, HS3, HS4, HS5⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0 c (grid0.coords t) _ _ _ _ _ _ _ _ _ _ _ _ _ _ _ _ _ _ _ _ _ _ _ _ _ _ _ _ _ _ _ _ (iblk m hO c 0 t) (iblk m hO c 1 t) (iblk m hO c 2 t) (tbl m 0) (hp c (grid0.coords t))) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  isplitl [HS5]; · iexact HS5
  isplitl [HT0]; · iexact HT0
  iintro ⟨H0, H1, H2, H3, H4, H5, H6, H7, H8, H9, HS0, HS1, HS2, HS3, HS4, HS5, HT0⟩
  isplitl [HS0 HS1 HS2 HS3 HS4 HS5 Hg HT0]
  · isplitl [HS0 HS1 HS2 HS3 HS4 HS5 Hg]
    · isplitl [HS0 HS1 HS2 HS3 HS4 HS5]
      · isplitl [HS0]
        · iexact HS0
        isplitl [HS1]
        · iexact HS1
        isplitl [HS2]
        · iexact HS2
        isplitl [HS3]
        · iexact HS3
        isplitl [HS4]
        · iexact HS4
        iexact HS5
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9
/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hp : Passes m) (c : Dev nD) : BodyObligation (dats (F := F) m hO 0 c) (defs₀ (F := F)) Variants.none () Set.univ forgets0 := fun t => by
  rw [bigSep_W0, bigSep_W0, defs₀_row m hO]
  exact triple_restated (sound_body m hO hp c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hp : Passes m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO hp c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 3, 4, 5, 6, 7, 8, 9) (Lib/Pipeline/Frame.lean `RDat.FramePost` over the proof data with those windows
    forgotten, Dat.lean `Dat.toRForget`), and every other unscoped buffer at its region-entry contents. -/
theorem run_main (hO : Ok m) (hp : Passes m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO hp)

/-- `frame` without the counters: the argument arrays end unchanged. -/
theorem unchanged (hO : Ok m) (hp : Passes m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (fun c => (dats m hO 0 c).toRForget forgets0) (A_eq m hO) (run_main m ρ hO hp)

/-- The frame: every execution ends with the arguments unchanged and the counters at zero. -/
theorem frame (hO : Ok m) (hp : Passes m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO hp) ((θ_run defs _ _).mono (fun _ h => h.2) (run_main_quiescent m ρ hO hp))

end Cert.Kernel.Gen

end
-- ==== Proof.Body.Rows.lean ====
/- The rows where the tiles start, as words and as numbers. -/
module

public import Idealize.ShloMosaic.Lib.Scf
public import Idealize.ShloMosaic.PureOps

@[expose] public section

namespace Cert.Body

open Idealize.ShloMosaic

/-- A word of a tile's first row: a multiple of 256 below 8192. -/
def IsRow (row : BitVec 32) : Prop := row.toNat % 256 = 0 ∧ row.toNat ≤ 7936

/-- The number of tiles is from 1 to 32. -/
theorem tiles_bound (a : ℕ) (ha : a < 32) (v : BitVec 32) (hv : v.toInt ≤ 8192) :
    1 ≤ (Scalar.maxsi (Scalar.addi (BitVec.ofNat 32 a) 1#32) (Scalar.divsi (Scalar.addi v 255#32) 256#32)).toNat
    ∧ (Scalar.maxsi (Scalar.addi (BitVec.ofNat 32 a) 1#32) (Scalar.divsi (Scalar.addi v 255#32) 256#32)).toNat ≤ 32 := by
  have hA : (Scalar.addi (BitVec.ofNat 32 a) 1#32).toNat = a + 1 := by
    simp only [Scalar.addi, IntOp.addi, BitVec.toNat_add, BitVec.toNat_ofNat]; omega
  have hAi : (Scalar.addi (BitVec.ofNat 32 a) 1#32).toInt = a + 1 := by
    rw [BitVec.toInt_eq_toNat_of_lt (by rw [hA]; omega), hA]; push_cast; rfl
  have hB : (Scalar.divsi (Scalar.addi v 255#32) 256#32).toInt ≤ 32 := by
    have hS : (Scalar.addi v 255#32).toInt ≤ 8447 := by
      have h0 := v.le_toInt
      have h1 : (255#32 : BitVec 32).toInt = 255 := by decide
      simp only [Scalar.addi, IntOp.addi]
      rw [BitVec.toInt_add, h1, Int.bmod_eq_of_le (by simp at h0 ⊢; omega) (by simp; omega)]
      omega
    have hc : ¬ IntOp.SDivCorner (Scalar.addi v 255#32) 256#32 := by
      unfold IntOp.SDivCorner; intro h; rcases h with h | ⟨_, h⟩ <;> exact absurd h (by decide)
    have e : Scalar.divsi (Scalar.addi v 255#32) 256#32 = (Scalar.addi v 255#32).sdiv 256#32 := if_neg hc
    rw [e, BitVec.toInt_sdiv]
    have h2 : (256#32 : BitVec 32).toInt = 256 := by decide
    rw [h2]
    have hl := (Scalar.addi v 255#32).le_toInt
    generalize (Scalar.addi v 255#32).toInt = x at hS hl
    have hl' : -2147483648 ≤ x := by simpa using hl
    have h5 := Int.tdiv_eq_ediv (a := x) (b := 256)
    have h3 : x.tdiv 256 ≤ 32 ∧ -2147483648 ≤ x.tdiv 256 := by
      have h6 : Int.sign 256 = 1 := by decide
      rw [h5, h6]; split <;> constructor <;> omega
    obtain ⟨h3, h4⟩ := h3
    rw [Int.bmod_eq_of_le (by omega) (by omega)]
    exact h3
  simp only [Scalar.maxsi, IntOp.maxsi] at *
  split
  · exact ⟨by omega, by omega⟩
  · rename_i h
    simp only [BitVec.slt, decide_eq_true_eq, not_lt] at h
    generalize Scalar.divsi (Scalar.addi v 255#32) 256#32 = y at *
    have hy : y.toInt = y.toNat := BitVec.toInt_eq_toNat_of_msb (by
      rw [BitVec.msb_eq_toInt]; simp; omega)
    omega

/-- Where the tiles end: at the last visible key's tile. -/
theorem tiles_spec (a : ℕ) (ha : a < 32) (v : BitVec 32) (hv : v.toInt ≤ 8192) :
    let N := (Scalar.maxsi (Scalar.addi (BitVec.ofNat 32 a) 1#32) (Scalar.divsi (Scalar.addi v 255#32) 256#32)).toNat
    (N ≤ a + 1 ∨ 256 * ((N : ℤ) - 1) < v.toInt) ∧ a + 1 ≤ N ∧ v.toInt ≤ 256 * N := by
  have hA : (Scalar.addi (BitVec.ofNat 32 a) 1#32).toNat = a + 1 := by
    simp only [Scalar.addi, IntOp.addi, BitVec.toNat_add, BitVec.toNat_ofNat]; omega
  have hAi : (Scalar.addi (BitVec.ofNat 32 a) 1#32).toInt = a + 1 := by
    rw [BitVec.toInt_eq_toNat_of_lt (by rw [hA]; omega), hA]; push_cast; rfl
  have hB : (Scalar.divsi (Scalar.addi v 255#32) 256#32).toInt = (v.toInt + 255).tdiv 256 := by
    have hS : (Scalar.addi v 255#32).toInt = v.toInt + 255 := by
      have h0 := v.le_toInt
      have h1 : (255#32 : BitVec 32).toInt = 255 := by decide
      simp only [Scalar.addi, IntOp.addi]
      rw [BitVec.toInt_add, h1, Int.bmod_eq_of_le (by simp at h0 ⊢; omega) (by simp; omega)]
    have hc : ¬ IntOp.SDivCorner (Scalar.addi v 255#32) 256#32 := by
      unfold IntOp.SDivCorner; intro h; rcases h with h | ⟨_, h⟩ <;> exact absurd h (by decide)
    have e : Scalar.divsi (Scalar.addi v 255#32) 256#32 = (Scalar.addi v 255#32).sdiv 256#32 := if_neg hc
    rw [e, BitVec.toInt_sdiv, hS]
    have h2 : (256#32 : BitVec 32).toInt = 256 := by decide
    rw [h2]
    have hl := v.le_toInt
    generalize v.toInt = x at hv hl
    have hl' : -2147483648 ≤ x := by simpa using hl
    have h5 := Int.tdiv_eq_ediv (a := x + 255) (b := 256)
    have h3 : (x + 255).tdiv 256 ≤ 33 ∧ -2147483648 ≤ (x + 255).tdiv 256 := by
      have h6 : Int.sign 256 = 1 := by decide
      rw [h5, h6]; split <;> constructor <;> omega
    exact Int.bmod_eq_of_le (by omega) (by omega)
  have hD : 256 * ((v.toInt + 255).tdiv 256 - 1) < v.toInt ∨ (v.toInt + 255).tdiv 256 ≤ 0 := by
    have h5 := Int.tdiv_eq_ediv (a := v.toInt + 255) (b := 256)
    have h6 : Int.sign 256 = 1 := by decide
    rw [h5, h6]; split <;> omega
  have hD' : v.toInt ≤ 256 * (v.toInt + 255).tdiv 256 ∨ v.toInt ≤ 0 := by
    have h5 := Int.tdiv_eq_ediv (a := v.toInt + 255) (b := 256)
    have h6 : Int.sign 256 = 1 := by decide
    rw [h5, h6]; split <;> omega
  intro N
  have hN : N = (Scalar.maxsi (Scalar.addi (BitVec.ofNat 32 a) 1#32) (Scalar.divsi (Scalar.addi v 255#32) 256#32)).toNat := rfl
  generalize (v.toInt + 255).tdiv 256 = y at *
  clear_value N
  simp only [Scalar.maxsi, IntOp.maxsi] at hN
  split at hN
  · rename_i h
    simp only [BitVec.slt, decide_eq_true_eq] at h
    rw [hB, hAi] at h
    omega
  · rename_i h
    simp only [BitVec.slt, decide_eq_true_eq, not_lt] at h
    rw [hB, hAi] at h
    have hy : (Scalar.divsi (Scalar.addi v 255#32) 256#32).toInt = (Scalar.divsi (Scalar.addi v 255#32) 256#32).toNat := BitVec.toInt_eq_toNat_of_msb (by
      rw [BitVec.msb_eq_toInt]; simp; omega)
    omega

theorem isRow_last {N : BitVec 32} (h : 1 ≤ N.toNat ∧ N.toNat ≤ 32) : (Scalar.muli (Scalar.subi N 1#32) 256#32).toNat = 256 * (N.toNat - 1) := by
  simp only [Scalar.muli, IntOp.muli, Scalar.subi, IntOp.subi, BitVec.toNat_mul, BitVec.toNat_sub, BitVec.toNat_ofNat]
  omega

theorem isRow_iv {t : ℕ} (h : t < 32) : (Scalar.muli (Scf.iv 0#32 1#32 t) 256#32).toNat = 256 * t := by
  simp only [Scalar.muli, IntOp.muli, Scf.iv, BitVec.toNat_mul, BitVec.toNat_add, BitVec.toNat_ofNat]
  omega

theorem IsRow.last {N : BitVec 32} (h : 1 ≤ N.toNat ∧ N.toNat ≤ 32) : IsRow (Scalar.muli (Scalar.subi N 1#32) 256#32) := by
  unfold IsRow; rw [isRow_last h]; omega

theorem IsRow.iv {t : ℕ} (h : t < 32) : IsRow (Scalar.muli (Scf.iv 0#32 1#32 t) 256#32) := by
  unfold IsRow; rw [isRow_iv h]; omega

theorem IsRow.dvd {row : BitVec 32} (h : IsRow row) : 256 ∣ row.toNat := Nat.dvd_of_mod_eq_zero h.1

theorem IsRow.add {row : BitVec 32} (h : IsRow row) {c : BitVec 32} (hc : c.toNat % 8 = 0 ∧ c.toNat ≤ 248) :
    (Scalar.addi row c).toNat = row.toNat + c.toNat := by
  obtain ⟨h1, h2⟩ := h
  simp only [Scalar.addi, IntOp.addi, BitVec.toNat_add]
  omega

theorem IsRow.dvd8 {row : BitVec 32} (h : IsRow row) {c : BitVec 32} (hc : c.toNat % 8 = 0 ∧ c.toNat ≤ 248) : 8 ∣ (Scalar.addi row c).toNat := by
  rw [h.add hc]; have := h.1; omega

theorem piece_bound (r : Fin 32) : (BitVec.ofNat 32 (8 * r.val)).toNat % 8 = 0 ∧ (BitVec.ofNat 32 (8 * r.val)).toNat ≤ 248 := by
  rw [BitVec.toNat_ofNat]; omega

/-- The trips of a loop over all tiles from `0` to `x`. -/
theorem trips_upto {x : BitVec 32} (h : x.toNat ≤ 32) :
    Scf.trips 0#32 (Scalar.addi 0#32 (Scalar.muli (Scalar.divsi (Scalar.subi x 0#32) 1#32) 1#32)) 1#32 = x.toNat
    ∧ Scf.OK 0#32 (Scalar.addi 0#32 (Scalar.muli (Scalar.divsi (Scalar.subi x 0#32) 1#32) 1#32)) 1#32
    ∧ Scf.trips (Scalar.addi 0#32 (Scalar.muli (Scalar.divsi (Scalar.subi x 0#32) 1#32) 1#32)) (Scalar.addi 0#32 (Scalar.subi x 0#32)) 1#32 = 0
    ∧ Scf.OK (Scalar.addi 0#32 (Scalar.muli (Scalar.divsi (Scalar.subi x 0#32) 1#32) 1#32)) (Scalar.addi 0#32 (Scalar.subi x 0#32)) 1#32 := by
  obtain ⟨k, rfl⟩ : ∃ k : Fin 33, x = BitVec.ofNat 32 k.val := ⟨⟨x.toNat, by omega⟩, by simp⟩
  clear h
  revert k
  decide

/-- A piece of eight rows of a tile lies in the array. -/
theorem IsRow.piece {row : BitVec 32} (h : IsRow row) (r : Fin 32) :
    (Scalar.addi row (BitVec.ofNat 32 (8 * r.val))).toNat + 8 ≤ 8192 := by
  rw [h.add (piece_bound r)]
  have := (piece_bound r).2; have := h.2; omega

theorem IsRow.tile {row : BitVec 32} (h : IsRow row) : row.toNat + 256 ≤ 8192 := by
  have := h.2; omega

end Cert.Body

end
-- ==== Proof.Body.KernelChecks.lean ====
/- The kernel's side conditions follow from a prefix of at most 8192. -/
module

public import proofs.«01_k».proof.Proof.Body.Rows
public import proofs.«01_k».proof.Proof.Body.KernelCompact

@[expose] public section

set_option maxRecDepth 4000

namespace Cert.Kernel

open Idealize.ShloMosaic Cert.Body Cert.Kernel.Body

theorem nTiles_bound (i : grid0.Coords) (v : BitVec 32) (hv : v.toInt ≤ 8192) :
    1 ≤ (nTiles i v).toNat ∧ (nTiles i v).toNat ≤ 32 :=
  tiles_bound (i 2).val (i 2).isLt v hv

theorem lastRow_isRow (i : grid0.Coords) (v : BitVec 32) (hv : v.toInt ≤ 8192) : IsRow (lastRow i v) :=
  IsRow.last (nTiles_bound i v hv)

theorem before_toNat (i : grid0.Coords) (v : BitVec 32) (hv : v.toInt ≤ 8192) :
    (Scalar.subi (nTiles i v) 1#32).toNat = (nTiles i v).toNat - 1 := by
  have h := nTiles_bound i v hv
  simp only [Scalar.subi, IntOp.subi, BitVec.toNat_sub, BitVec.toNat_ofNat]
  omega

theorem t3_trips (i : grid0.Coords) (v : BitVec 32) (hv : v.toInt ≤ 8192) :
    (k0_t3_loop i v).trips = (nTiles i v).toNat - 1 :=
  (trips_upto (x := Scalar.subi (nTiles i v) 1#32) (by have := nTiles_bound i v hv; rw [before_toNat i v hv]; omega)).1.trans
    (before_toNat i v hv)

theorem t4_trips (i : grid0.Coords) (v : BitVec 32) (hv : v.toInt ≤ 8192) : (k0_t4_loop i v).trips = 0 :=
  (trips_upto (x := Scalar.subi (nTiles i v) 1#32) (by have := nTiles_bound i v hv; rw [before_toNat i v hv]; omega)).2.2.1

theorem t5_trips (i : grid0.Coords) (v : BitVec 32) (hv : v.toInt ≤ 8192) : (k0_t5_loop i v).trips = (nTiles i v).toNat :=
  (trips_upto (x := nTiles i v) (nTiles_bound i v hv).2).1

theorem t6_trips (i : grid0.Coords) (v : BitVec 32) (hv : v.toInt ≤ 8192) : (k0_t6_loop i v).trips = 0 :=
  (trips_upto (x := nTiles i v) (nTiles_bound i v hv).2).2.2.1

theorem t3_row (i : grid0.Coords) (v : BitVec 32) (hv : v.toInt ≤ 8192) (t : Fin (k0_t3_loop i v).trips) :
    IsRow (Scalar.muli (Scf.iv 0#32 1#32 t.val) 256#32) :=
  IsRow.iv (by have := t.isLt; have := t3_trips i v hv; have := nTiles_bound i v hv; omega)

theorem t5_row (i : grid0.Coords) (v : BitVec 32) (hv : v.toInt ≤ 8192) (t : Fin (k0_t5_loop i v).trips) :
    IsRow (Scalar.muli (Scf.iv 0#32 1#32 t.val) 256#32) :=
  IsRow.iv (by have := t.isLt; have := t5_trips i v hv; have := nTiles_bound i v hv; omega)

theorem no_t4 (i : grid0.Coords) (v : BitVec 32) (hv : v.toInt ≤ 8192) (t : Fin (k0_t4_loop i v).trips) : False :=
  absurd (t.isLt.trans_eq (t4_trips i v hv)) (Nat.not_lt_zero _)

theorem no_t6 (i : grid0.Coords) (v : BitVec 32) (hv : v.toInt ≤ 8192) (t : Fin (k0_t6_loop i v).trips) : False :=
  absurd (t.isLt.trans_eq (t6_trips i v hv)) (Nat.not_lt_zero _)

/-- The bounds of a block of rank three whose middle axis starts at a tile. -/
theorem mid_bound {n : ℕ} (h : n + 256 ≤ 8192) (a : Fin 3) :
    (![0, n, 0] : Fin 3 → ℕ) a + S1x256x256.size a ≤ S1x8192x256.size a := by
  fin_cases a
  · exact le_rfl
  · exact h
  · exact le_rfl

theorem rep_bound {n : ℕ} (h : n + 8 ≤ 8192) (a : Fin 2) :
    (![n, 0] : Fin 2 → ℕ) a + S8x128.size a ≤ S8192x128.size a := by
  fin_cases a
  · exact h
  · exact le_rfl

theorem left_bound {n : ℕ} (h : n + 8 ≤ 8192) (a : Fin 2) :
    (![n, 0] : Fin 2 → ℕ) a + S8x256.size a ≤ S8192x512.size a := by
  fin_cases a
  · exact h
  · exact Nat.le_add_left 256 256

theorem right_bound {n : ℕ} (h : n + 8 ≤ 8192) (a : Fin 2) :
    (![n, 256] : Fin 2 → ℕ) a + S8x256.size a ≤ S8192x512.size a := by
  fin_cases a
  · exact h
  · exact le_rfl

theorem values_bound {n : ℕ} (h : n + 256 ≤ 8192) (a : Fin 2) :
    (![0, n] : Fin 2 → ℕ) a + S256x256.size a ≤ S256x8192.size a := by
  fin_cases a
  · exact le_rfl
  · exact h

theorem hleft_bound {n : ℕ} (h : n + 256 ≤ 8192) (a : Fin 2) :
    (![n, 0] : Fin 2 → ℕ) a + S256x256.size a ≤ S8192x512.size a := by
  fin_cases a
  · exact h
  · exact Nat.le_add_left 256 256

theorem hright_bound {n : ℕ} (h : n + 256 ≤ 8192) (a : Fin 2) :
    (![n, 256] : Fin 2 → ℕ) a + S256x256.size a ≤ S8192x512.size a := by
  fin_cases a
  · exact h
  · exact le_rfl

theorem ok3 (i : grid0.Coords) (v : BitVec 32) (hv : v.toInt ≤ 8192) : (k0_t3_loop i v).OK :=
  (trips_upto (x := Scalar.subi (nTiles i v) 1#32) (by have := nTiles_bound i v hv; rw [before_toNat i v hv]; omega)).2.1

theorem ok4 (i : grid0.Coords) (v : BitVec 32) (hv : v.toInt ≤ 8192) : (k0_t4_loop i v).OK :=
  (trips_upto (x := Scalar.subi (nTiles i v) 1#32) (by have := nTiles_bound i v hv; rw [before_toNat i v hv]; omega)).2.2.2

theorem last8 (i : grid0.Coords) (v : BitVec 32) (hv : v.toInt ≤ 8192) : ∀ c : BitVec 32, c.toNat % 8 = 0 ∧ c.toNat ≤ 248 → 8 ∣ (Scalar.addi (lastRow i v) c).toNat :=
  fun _ hc => (lastRow_isRow i v hv).dvd8 hc

theorem row8 (i : grid0.Coords) (v : BitVec 32) (hv : v.toInt ≤ 8192) :
    ∀ (t : Fin (k0_t3_loop i v).trips) (c : BitVec 32), c.toNat % 8 = 0 ∧ c.toNat ≤ 248 → 8 ∣ (Scalar.addi (Scalar.muli (Scf.iv 0#32 1#32 t.val) 256#32) c).toNat :=
  fun t _ hc => (t3_row i v hv t).dvd8 hc

theorem chk1_0 (i : grid0.Coords) (v : BitVec 32) (hv : v.toInt ≤ 8192) : k0_chk1_0 i v :=
  have hl := lastRow_isRow i v hv
  have l := last8 i v hv
  ⟨hl.dvd, mid_bound hl.tile, l _ (by decide), fun r => rep_bound (hl.piece r), fun r => left_bound (hl.piece r), l _ (by decide),
    l _ (by decide), l _ (by decide), l _ (by decide), l _ (by decide), l _ (by decide), l _ (by decide),
    l _ (by decide), l _ (by decide), l _ (by decide), l _ (by decide), l _ (by decide), l _ (by decide),
    l _ (by decide), l _ (by decide), l _ (by decide), l _ (by decide), l _ (by decide), l _ (by decide),
    l _ (by decide), l _ (by decide), l _ (by decide), l _ (by decide), l _ (by decide), l _ (by decide),
    l _ (by decide), l _ (by decide)⟩

theorem chk1_1 (i : grid0.Coords) (v : BitVec 32) (hv : v.toInt ≤ 8192) : k0_chk1_1 i v :=
  have hl := lastRow_isRow i v hv
  have l := last8 i v hv
  ⟨l _ (by decide), l _ (by decide), l _ (by decide), l _ (by decide), l _ (by decide), fun r => right_bound (hl.piece r),
    l _ (by decide), l _ (by decide), l _ (by decide), l _ (by decide), l _ (by decide), l _ (by decide),
    l _ (by decide), l _ (by decide), l _ (by decide), l _ (by decide), l _ (by decide), l _ (by decide),
    l _ (by decide), l _ (by decide), l _ (by decide), l _ (by decide), l _ (by decide), l _ (by decide),
    l _ (by decide), l _ (by decide), l _ (by decide), l _ (by decide), l _ (by decide), l _ (by decide),
    l _ (by decide), l _ (by decide)⟩

theorem chk1_2 (i : grid0.Coords) (v : BitVec 32) (hv : v.toInt ≤ 8192) : k0_chk1_2 i v :=
  have l := last8 i v hv
  have h := row8 i v hv
  have h3 := t3_row i v hv
  ⟨l _ (by decide), l _ (by decide), l _ (by decide), l _ (by decide), l _ (by decide), ok3 i v hv,
    fun t => (h3 t).dvd, fun t => mid_bound (h3 t).tile, fun t => h t _ (by decide), fun t r => rep_bound ((h3 t).piece r), fun t r => left_bound ((h3 t).piece r), fun t => h t _ (by decide),
    fun t => h t _ (by decide), fun t => h t _ (by decide), fun t => h t _ (by decide), fun t => h t _ (by decide), fun t => h t _ (by decide), fun t => h t _ (by decide),
    fun t => h t _ (by decide), fun t => h t _ (by decide), fun t => h t _ (by decide), fun t => h t _ (by decide), fun t => h t _ (by decide), fun t => h t _ (by decide),
    fun t => h t _ (by decide), fun t => h t _ (by decide), fun t => h t _ (by decide), fun t => h t _ (by decide), fun t => h t _ (by decide), fun t => h t _ (by decide),
    fun t => h t _ (by decide), fun t => h t _ (by decide)⟩

theorem chk1_3 (i : grid0.Coords) (v : BitVec 32) (hv : v.toInt ≤ 8192) : k0_chk1_3 i v :=
  have h := row8 i v hv
  have h3 := t3_row i v hv
  ⟨fun t => h t _ (by decide), fun t => h t _ (by decide), fun t => h t _ (by decide), fun t => h t _ (by decide), fun t => h t _ (by decide), fun t => h t _ (by decide),
    fun t => h t _ (by decide), fun t => h t _ (by decide), fun t => h t _ (by decide), fun t => h t _ (by decide), fun t => h t _ (by decide), fun t r => right_bound ((h3 t).piece r),
    fun t => h t _ (by decide), fun t => h t _ (by decide), fun t => h t _ (by decide), fun t => h t _ (by decide), fun t => h t _ (by decide), fun t => h t _ (by decide),
    fun t => h t _ (by decide), fun t => h t _ (by decide), fun t => h t _ (by decide), fun t => h t _ (by decide), fun t => h t _ (by decide), fun t => h t _ (by decide),
    fun t => h t _ (by decide), fun t => h t _ (by decide), fun t => h t _ (by decide), fun t => h t _ (by decide), fun t => h t _ (by decide), fun t => h t _ (by decide),
    fun t => h t _ (by decide), fun t => h t _ (by decide)⟩

theorem chk1_4 (i : grid0.Coords) (v : BitVec 32) (hv : v.toInt ≤ 8192) : k0_chk1_4 i v :=
  have h := row8 i v hv
  have n := no_t4 i v hv
  ⟨fun t => h t _ (by decide), fun t => h t _ (by decide), fun t => h t _ (by decide), fun t => h t _ (by decide), fun t => h t _ (by decide), fun t => h t _ (by decide),
    fun t => h t _ (by decide), fun t => h t _ (by decide), fun t => h t _ (by decide), fun t => h t _ (by decide), fun t => h t _ (by decide), ok4 i v hv,
    fun t => (n t).elim, fun t => (n t).elim, fun t => (n t).elim, fun t => (n t).elim, fun t => (n t).elim, fun t => (n t).elim,
    fun t => (n t).elim, fun t => (n t).elim, fun t => (n t).elim, fun t => (n t).elim, fun t => (n t).elim, fun t => (n t).elim,
    fun t => (n t).elim, fun t => (n t).elim, fun t => (n t).elim, fun t => (n t).elim, fun t => (n t).elim, fun t => (n t).elim,
    fun t => (n t).elim, fun t => (n t).elim⟩

theorem chk1_5 (i : grid0.Coords) (v : BitVec 32) (hv : v.toInt ≤ 8192) : k0_chk1_5 i v :=
  have n := no_t4 i v hv
  ⟨fun t => (n t).elim, fun t => (n t).elim, fun t => (n t).elim, fun t => (n t).elim, fun t => (n t).elim, fun t => (n t).elim,
    fun t => (n t).elim, fun t => (n t).elim, fun t => (n t).elim, fun t => (n t).elim, fun t => (n t).elim, fun t => (n t).elim,
    fun t => (n t).elim, fun t => (n t).elim, fun t => (n t).elim, fun t => (n t).elim, fun t => (n t).elim, fun t => (n t).elim,
    fun t => (n t).elim, fun t => (n t).elim, fun t => (n t).elim, fun t => (n t).elim, fun t => (n t).elim, fun t => (n t).elim,
    fun t => (n t).elim, fun t => (n t).elim, fun t => (n t).elim, fun t => (n t).elim, fun t => (n t).elim, fun t => (n t).elim,
    fun t => (n t).elim, fun t => (n t).elim⟩

theorem chk1_6 (i : grid0.Coords) (v : BitVec 32) (hv : v.toInt ≤ 8192) : k0_chk1_6 i v :=
  have n := no_t4 i v hv
  have n6 := no_t6 i v hv
  have h5 := t5_row i v hv
  ⟨fun t => (n t).elim, fun t => (n t).elim, fun t => (n t).elim, fun t => (n t).elim, fun t => (n t).elim, fun t => (n t).elim,
    fun t => (n t).elim, fun t => (n t).elim, fun t => (n t).elim, fun t => (n t).elim, fun t => (n t).elim, fun t => (n t).elim,
    fun t => (n t).elim, fun t => (n t).elim, fun t => (n t).elim, fun t => (n t).elim, fun t => (n t).elim, (trips_upto (x := nTiles i v) (nTiles_bound i v hv).2).2.1,
    fun t => (h5 t).dvd, fun t => values_bound (h5 t).tile, fun t => hleft_bound (h5 t).tile, fun t => hright_bound (h5 t).tile, (trips_upto (x := nTiles i v) (nTiles_bound i v hv).2).2.2.2, fun t => (n6 t).elim,
    fun t => (n6 t).elim, fun t => (n6 t).elim, fun t => (n6 t).elim⟩

/-- The conditions of the checks hold for a prefix of at most 8192. -/
theorem chk1 (i : grid0.Coords) (v : BitVec 32) (hv : v.toInt ≤ 8192) : k0_chk1 i v :=
  ⟨chk1_0 i v hv, chk1_1 i v hv, chk1_2 i v hv, chk1_3 i v hv, chk1_4 i v hv, chk1_5 i v hv, chk1_6 i v hv⟩

end Cert.Kernel

end
-- ==== Proof.Frames.KernelTable.lean ====
/- A prefix table in range passes the kernel's checks. -/
module

public import proofs.«01_k».proof.Proof.Frames.KernelFrame
public import proofs.«01_k».proof.Proof.Body.KernelChecks
public import proofs.«01_k».proof.Proof.Gen.Pre_prefix_in_range
public import Idealize.ShloMosaic.Lib.ReduceAll

@[expose] public section

namespace Cert.Kernel.Gen

open Idealize.ShloMosaic Idealize.SL.Sem
open Cert.Kernel

variable {F : FTy → Type} [FloatOps F]
variable (m : (ℓ : Loc nD τ sig) → Buf (Elt F) ℓ)

/-- The body's word is one of the table's. -/
theorem pword_eq (c : Dev nD) (i : grid0.Coords) : ∃ j : S3.Idx, pword m c i = m (((0 : Dev nD).tc : Thread nD τ).loc main_arg3) j := ⟨_, rfl⟩

theorem passes (h : ∀ j : S3.Idx, (m (((0 : Dev nD).tc : Thread nD τ).loc main_arg3) j).toInt ≤ 8192) : Passes m := fun c i =>
  chk1 i _ (by obtain ⟨j, e⟩ := pword_eq m c i; rw [e]; exact h j)

instance : Subsingleton Cert.Pre_prefix_in_range.S_.Idx := ⟨fun a b => funext fun d => d.elim0⟩

/-- The precondition of the frames says that every word of the table is at most 8192. -/
theorem in_range (x : FVec F Cert.Pre_prefix_in_range.S3x8192x2048 .bf16) (k v : FVec F Cert.Pre_prefix_in_range.S3x8192x1024 .bf16) (p : IVec S3 32)
    (h : (Cert.Pre_prefix_in_range.fn (F := F) x k v p) = fun _ => 1#1) (j : S3.Idx) : (p j).toInt ≤ 8192 := by
  have h0 := congrFun h (Shape.Idx.first Cert.Pre_prefix_in_range.Facts.h_S_)
  have h1 := Host.reduce_andi_all _ _ _ _ _ h0 j
  exact IntOp.cmpi_sle.1 h1

end Cert.Kernel.Gen

end
-- ==== Proof.Frames.KernelIdealPoints.lean ====
/- When the pipeline of the kernel fetches and writes back each window, in closed form over the grid, and the memrefs and body at a point. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 2 (by decide) (by decide) (Pipeline.Window.sep_of_coord cc0_transform_0 2 1 (fun _ => rfl) (by decide)) (P := 1) (by decide) t).mpr (Nat.mod_one _) : ∀ t : Fin grid0.N, Pipeline.Window.fetchOf grid0 false cc0_transform_0 t = true)
/-- Window 1 (operand 2 (%arg1)) is fetched at the points ≡ 0 (mod 32), at any contents of the tables (its index map reads none). -/
theorem fetch0_1 (a : (pcfg0 (F := F)).Adm) : ∀ t : Fin (cfg0 a).N, ((cfg0 a).win 1).fetch t = true ↔ t.val % 32 = 0 :=
  (fun t => Pipeline.Window.fetchOf_reads cc0_transform_1 reads0_1 hreads0_1 1 (by decide) (by decide) (Pipeline.Window.sep_of_coord cc0_transform_1 1 2 (fun _ => rfl) (by decide)) (P := 32) (by decide) t : ∀ t : Fin grid0.N, Pipeline.Window.fetchOf grid0 false cc0_transform_1 t = true ↔ t.val % 32 = 0)
/-- Window 2 (operand 3 (%arg2)) is fetched at the points ≡ 0 (mod 32), at any contents of the tables (its index map reads none). -/
theorem fetch0_2 (a : (pcfg0 (F := F)).Adm) : ∀ t : Fin (cfg0 a).N, ((cfg0 a).win 2).fetch t = true ↔ t.val % 32 = 0 :=
  (fun t => Pipeline.Window.fetchOf_reads cc0_transform_2 reads0_2 hreads0_2 1 (by decide) (by decide) (Pipeline.Window.sep_of_coord cc0_transform_2 1 2 (fun _ => rfl) (by decide)) (P := 32) (by decide) t : ∀ t : Fin grid0.N, Pipeline.Window.fetchOf grid0 false cc0_transform_2 t = true ↔ t.val % 32 = 0)
/-- Window 3 (result 0 (%0#0)) is written back at every point, at any contents of the tables (its index map reads none). -/
theorem flush0_3 (a : (pcfg0 (F := F)).Adm) : ∀ t : Fin (cfg0 a).N, ((cfg0 a).win 3).flush t = true :=
  (fun t => (Pipeline.Window.flushOf_reads cc0_transform_3 reads0_3 hreads0_3 2 (by decide) (by decide) (Pipeline.Window.sep_of_coord cc0_transform_3 2 1 (fun _ => rfl) (by decide)) (P := 1) (m := 0) (by decide) rfl t).mpr (Nat.mod_one _) : ∀ t : Fin grid0.N, Pipeline.Window.flushOf grid0 true cc0_transform_3 t = true)
/-- Window 4 (result 1 (%0#1)) is written back at every point, at any contents of the tables (its index map reads none). -/
theorem flush0_4 (a : (pcfg0 (F := F)).Adm) : ∀ t : Fin (cfg0 a).N, ((cfg0 a).win 4).flush t = true :=
  (fun t => (Pipeline.Window.flushOf_reads cc0_transform_4 reads0_4 hreads0_4 2 (by decide) (by decide) (Pipeline.Window.sep_of_coord cc0_transform_4 2 1 (fun _ => rfl) (by decide)) (P := 1) (m := 0) (by decide) rfl t).mpr (Nat.mod_one _) : ∀ t : Fin grid0.N, Pipeline.Window.flushOf grid0 true cc0_transform_4 t = true)
/-- Window 5 (result 2 (%0#2)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 2 (by decide) (by decide) (Pipeline.Window.sep_of_coord cc0_transform_5 2 2 (fun _ => rfl) (by decide)) (P := 1) (m := 0) (by decide) rfl t).mpr (Nat.mod_one _) : ∀ t : Fin grid0.N, Pipeline.Window.flushOf grid0 true cc0_transform_5 t = true)
/-- Window 6 (result 3 (%0#3)) is written back at the points ≡ 31 (mod 32), at any contents of the tables (its index map reads none). -/
theorem flush0_6 (a : (pcfg0 (F := F)).Adm) : ∀ t : Fin (cfg0 a).N, ((cfg0 a).win 6).flush t = true ↔ t.val % 32 = 31 :=
  (fun t => Pipeline.Window.flushOf_reads cc0_transform_6 reads0_6 hreads0_6 1 (by decide) (by decide) (Pipeline.Window.sep_of_coord cc0_transform_6 1 2 (fun _ => rfl) (by decide)) (P := 32) (m := 31) (by decide) rfl t : ∀ t : Fin grid0.N, Pipeline.Window.flushOf grid0 true cc0_transform_6 t = true ↔ t.val % 32 = 31)
/-- Window 7 (result 4 (%0#4)) is written back at the points ≡ 31 (mod 32), at any contents of the tables (its index map reads none). -/
theorem flush0_7 (a : (pcfg0 (F := F)).Adm) : ∀ t : Fin (cfg0 a).N, ((cfg0 a).win 7).flush t = true ↔ t.val % 32 = 31 :=
  (fun t => Pipeline.Window.flushOf_reads cc0_transform_7 reads0_7 hreads0_7 1 (by decide) (by decide) (Pipeline.Window.sep_of_coord cc0_transform_7 1 1 (fun _ => rfl) (by decide)) (P := 32) (m := 31) (by decide) rfl t : ∀ t : Fin grid0.N, Pipeline.Window.flushOf grid0 true cc0_transform_7 t = true ↔ t.val % 32 = 31)
/-- Window 8 (result 5 (%0#5)) is written back at the points ≡ 31 (mod 32), at any contents of the tables (its index map reads none). -/
theorem flush0_8 (a : (pcfg0 (F := F)).Adm) : ∀ t : Fin (cfg0 a).N, ((cfg0 a).win 8).flush t = true ↔ t.val % 32 = 31 :=
  (fun t => Pipeline.Window.flushOf_reads cc0_transform_8 reads0_8 hreads0_8 1 (by decide) (by decide) (Pipeline.Window.sep_of_coord cc0_transform_8 1 2 (fun _ => rfl) (by decide)) (P := 32) (m := 31) (by decide) rfl t : ∀ t : Fin grid0.N, Pipeline.Window.flushOf grid0 true cc0_transform_8 t = true ↔ t.val % 32 = 31)
/-- Window 9 (result 6 (%0#6)) is written back at the points ≡ 31 (mod 32), at any contents of the tables (its index map reads none). -/
theorem flush0_9 (a : (pcfg0 (F := F)).Adm) : ∀ t : Fin (cfg0 a).N, ((cfg0 a).win 9).flush t = true ↔ t.val % 32 = 31 :=
  (fun t => Pipeline.Window.flushOf_reads cc0_transform_9 reads0_9 hreads0_9 1 (by decide) (by decide) (Pipeline.Window.sep_of_coord cc0_transform_9 1 1 (fun _ => rfl) (by decide)) (P := 32) (m := 31) (by decide) rfl t : ∀ t : Fin grid0.N, Pipeline.Window.flushOf grid0 true cc0_transform_9 t = true ↔ t.val % 32 = 31)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_prefix_attention (grid0.coords t) (Memref.whole main_arg3) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

end Cert.KernelIdeal.Gen

end
-- ==== Proof.Frames.KernelIdealKit.lean ====
/- The launch kit of the kernel: its arrays at region entry, the prefetched table, the windows' blocks, the frame off a run. -/
module

public import proofs.«01_k».proof.Proof.Gen.KernelIdeal.Launch
public import proofs.«01_k».proof.Proof.Gen.KernelIdeal.Skeleton
public import proofs.«01_k».proof.Proof.Frames.KernelIdealPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S3 .i32 := Memref.whole main_arg3
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      ((h c).2 main_arg3 (by decide : main_arg3 ∈ Pipeline.restRefs sig spec0)).trans (V_main_arg3 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 32) — by arithmetic of the point. -/
theorem hcond0_0 : ∀ t : Fin grid0.N, cond0_0 (grid0.coords t) ↔ t.val % 32 = 0 :=
  (fun t => by
    have ht : t.val < 384 := Nat.lt_of_lt_of_eq t.isLt N_0
    have e0 : (grid0.coords t 0).val = t.val / 128 % 3 := Pipeline.Grid.coords_val t 0 (by decide) rfl
    have e1 : (grid0.coords t 1).val = t.val / 32 % 4 := Pipeline.Grid.coords_val t 1 (by decide) rfl
    have e2 : (grid0.coords t 2).val = t.val / 1 % 32 := Pipeline.Grid.coords_val t 2 (by decide) rfl
    simp only [cond0_0, k0_cond1, e0, e1, e2]
    word_cmp
   : ∀ t : Fin grid0.N, cond0_0 (grid0.coords t) ↔ t.val % 32 = 0)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x256x512 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x8192x256 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x8192x256 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x256x512 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x256x512 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x1x2x256 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x8192x256 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1x1x8192 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x8192x256 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x1x1x8192 .f32 := spec0_9.stage ((cfgM m hO).slots t 9)
abbrev hs0_9 (hO : Ok m) (t : Fin (cfgM m hO).N) : (ms0_9 m hO t).IsWhole := hstage0_9 (((cfgM m hO).slots t 9).cast nbuf0_9)
/-- The scratch operands: whole scoped buffers of the kernel's own, passed beside the windows. -/
abbrev scM0_0 : Memref sig .tc .vmem S8192x512 .f32 := Memref.whole cc0_scratch0
abbrev scM0_1 : Memref sig .tc .vmem S8192x128 .f32 := Memref.whole cc0_scratch1
abbrev scM0_2 : Memref sig .tc .vmem S8192x128 .f32 := Memref.whole cc0_scratch2
abbrev scM0_3 : Memref sig .tc .vmem S256x8192 .fp8e4m3 := Memref.whole cc0_scratch3
abbrev scM0_4 : Memref sig .tc .vmem S256x512 .f32 := Memref.whole cc0_scratch4
abbrev scM0_5 : Memref sig .tc .vmem S8x128 .f32 := Memref.whole cc0_scratch5

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Gen

end
-- ==== Proof.Body.KernelIdealCompact.lean ====
/- The kernel's body written compactly: the 32 eight-row pieces of a score tile as one recursion. -/
module

public import proofs.«01_k».proof.Proof.Gen.KernelIdeal.Skeleton

@[expose] public section

set_option maxRecDepth 65536
set_option synthInstance.maxSize 4096

noncomputable section

namespace Cert.KernelIdeal.Body

open Idealize.ShloMosaic Idealize.SL.Sem
open Cert.KernelIdeal Cert.KernelIdeal.Gen

variable {F : FTy → Type} [FloatOps F] [Named F]

/-- The gain of the exponential, a constant of the program. -/
def gain : F .f32 := Named.named κ "exp2_gain" 0x429044FE#32

/-- The running maximum of the weights, their sum, and the maximum of the weighted scales, per sublane and query. -/
abbrev St3 (F : FTy → Type) := FVec F S8x256 .f32 × FVec F S8x256 .f32 × FVec F S8x256 .f32

/-- A column of row scales next to itself: 128 lanes to 256. -/
def twice (x : Vec F S8x128 .f32) : FVec F S8x256 .f32 :=
  concatenate S8x256 1 [⟨S8x128, x⟩, ⟨S8x128, x⟩] concatenates_S8x128_S8x128_S8x256_d1

/-- Eight rows of a tile of 256. -/
theorem slices8 (r : Fin 32) : S256x256.Slices ![8 * r.val, 0] S8x256 := by
  revert r; decide

/-- The weights of eight keys against 256 queries. -/
def wts (q : FVec F S1x256 .f32) (s : FVec F S256x256 .f32) (r : Fin 32) (ks : Vec F S8x128 .f32) : FVec F S8x256 .f32 :=
  exp2 (mulf (tanh (mulf (mulf (extractStridedSlice S8x256 ![8 * r.val, 0] s (slices8 r)) (twice ks)) (broadcastTo S8x256 q broadcasts_S1x256_S8x256)))
    (broadcast S8x256 gain))

/-- Which of eight keys from row `row` on are visible: below the end `vis` of each query. -/
def seen (vis : IVec S1x256 32) (row : BitVec 32) : IVec S8x256 1 :=
  cmpi .slt (addi (broadcast S8x256 row) (iota .tc S8x256 32 [0] iota_S8x256_d0_w32)) (broadcastTo S8x256 vis broadcasts_S1x256_S8x256)

/-- The weights with those of invisible keys zero. -/
def wtsMasked (vis : IVec S1x256 32) (row : BitVec 32) (e : FVec F S8x256 .f32) : FVec F S8x256 .f32 :=
  select (seen vis row) e (broadcast S8x256 (Scalar.ofBits .f32 0x00000000#32))

/-- Where eight rows from `row + 8 r` on start, at column `col`. -/
def off2 (row : BitVec 32) (col : Nat) (r : Fin 32) : Fin 2 → Nat :=
  ![(Scalar.indexCast (Scalar.addi row (BitVec.ofNat 32 (8 * r.val)))).toNat, col]

/-- Where a tile starts in a key or value array. -/
def off3 (row : BitVec 32) : Fin 3 → Nat := ![0, (Scalar.indexCast row).toNat, 0]

/-- What one piece adds to the running statistics. -/
def stat (st : St3 F) (e h : FVec F S8x256 .f32) : St3 F := (maximumf st.1 e, addf st.2.1 e, maximumf st.2.2 h)

/-- The pieces `rs`, in order. -/
def pieces {E : Type → Type} {α : Type} (f : Fin 32 → α → Prog E α) : List (Fin 32) → α → Prog E α
  | [], a => pure a
  | r :: rs, a => f r a >>= pieces f rs

/-- All pieces of a tile. -/
def all32 : List (Fin 32) :=
  [0, 1, 2, 3, 4, 5, 6, 7, 8, 9, 10, 11, 12, 13, 14, 15, 16, 17, 18, 19, 20, 21, 22, 23, 24, 25, 26, 27, 28, 29, 30, 31]

/-- The score of a tile of keys against a block of queries. -/
def score (kc : Vec F S1x256x256 .fp8e4m3) (qc : Vec F S1x256x256 .fp8e4m3) : FVec F S256x256 .f32 :=
  matmul dot_S256x256_S256x256_S256x256_1_1_0_0_n_n none (shapeCast S256x256 kc shapeCasts_S1x256x256_S256x256) (shapeCast S256x256 qc shapeCasts_S1x256x256_S256x256)
    (constant S256x256 .f32 0x00000000#32)

section Piece

variable (arg14 : Memref sig .tc .vmem S8192x512 .f32) (arg15 : Memref sig .tc .vmem S8192x128 .f32) (arg16 : Memref sig .tc .vmem S8192x128 .f32)
  (row : BitVec 32) (col : Nat)
  (h8 : ∀ r : Fin 32, ∀ a, off2 row 0 r a + S8x128.size a ≤ S8192x128.size a)
  (hh : ∀ r : Fin 32, ∀ a, off2 row col r a + S8x256.size a ≤ S8192x512.size a)

/-- One piece: eight keys, their weights `w` from the scales of their rows, stored times the value scales. -/
def piece (w : Fin 32 → Vec F S8x128 .f32 → FVec F S8x256 .f32) (r : Fin 32) (st : St3 F) :
    Prog (TpuEff nD τ sig (Elt F) Λ₀ .tc) (St3 F) := do
  let ks : Vec F S8x128 .f32 ← Prog.lift (.load arg15 (Rect.unit (s := S8192x128) (off2 row 0 r) S8x128.size (h8 r)).toLoadRect (View.loadsAt_vmem h_S8x128))
  let vs : Vec F S8x128 .f32 ← Prog.lift (.load arg16 (Rect.unit (s := S8192x128) (off2 row 0 r) S8x128.size (h8 r)).toLoadRect (View.loadsAt_vmem h_S8x128))
  let _ : Vec F S8x256 .f32 ← Prog.lift (.load arg14 (Rect.unit (s := S8192x512) (off2 row col r) S8x256.size (hh r)).toLoadRect (View.loadsAt_vmem h_S8x256))
  Prog.lift (.store arg14 (Rect.unit (s := S8192x512) (off2 row col r) S8x256.size (hh r))
    (shapeCast S8x256 (mulf (w r ks) (twice vs)) shapeCasts_S8x256_S8x256) Finset.univ (View.stores_vmem_bits_univ h_S8x256 rfl) (.inl rfl))
  pure (stat st (w r ks) (mulf (w r ks) (twice vs)))

end Piece

/-- The six statistics of a tile: three for each of the two query heads. -/
abbrev St6 (F : FTy → Type) :=
  FVec F S8x256 .f32 × FVec F S8x256 .f32 × FVec F S8x256 .f32 × FVec F S8x256 .f32 × FVec F S8x256 .f32 × FVec F S8x256 .f32

section Tile

variable (arg8 : Memref sig .tc .vmem S1x256x512 .fp8e4m3) (arg10 : Memref sig .tc .vmem S1x8192x256 .fp8e4m3)
  (arg14 : Memref sig .tc .vmem S8192x512 .f32) (arg15 : Memref sig .tc .vmem S8192x128 .f32) (arg16 : Memref sig .tc .vmem S8192x128 .f32)
  (row : BitVec 32) (h3 : ∀ a, off3 row a + S1x256x256.size a ≤ S1x8192x256.size a)
  (h8 : ∀ r : Fin 32, ∀ a, off2 row 0 r a + S8x128.size a ≤ S8192x128.size a)
  (h256 : ∀ r : Fin 32, ∀ a, off2 row 256 r a + S8x256.size a ≤ S8192x512.size a)
  (h0 : ∀ r : Fin 32, ∀ a, off2 row 0 r a + S8x256.size a ≤ S8192x512.size a)

/-- A score tile: the tile of keys at `row` against the two query heads; `w q s r ks` are the weights of piece `r`. -/
def tile (w : FVec F S1x256 .f32 → FVec F S256x256 .f32 → Fin 32 → Vec F S8x128 .f32 → FVec F S8x256 .f32)
    (q0 q1 : FVec F S1x256 .f32) (st : St6 F) : Prog (TpuEff nD τ sig (Elt F) Λ₀ .tc) (St6 F) := do
  let kc : Vec F S1x256x256 .fp8e4m3 ← Prog.lift (.load arg10 (Rect.unit (s := S1x8192x256) (off3 row) S1x256x256.size h3).toLoadRect (View.loadsAt_vmem h_S1x256x256))
  let qa : Vec F S1x256x256 .fp8e4m3 ← Prog.lift (.load arg8 (Rect.unit (s := S1x256x512) ![0, 0, 0] S1x256x256.size inb_S1x256x512_S1x256x256_0_0_0).toLoadRect (View.loadsAt_vmem h_S1x256x256))
  let s0 : St3 F ← pieces (piece arg14 arg15 arg16 row 0 h8 h0 (w q0 (score kc qa))) all32 (st.1, st.2.1, st.2.2.1)
  let qb : Vec F S1x256x256 .fp8e4m3 ← Prog.lift (.load arg8 (Rect.unit (s := S1x256x512) ![0, 0, 256] S1x256x256.size inb_S1x256x512_S1x256x256_0_0_256).toLoadRect (View.loadsAt_vmem h_S1x256x256))
  let s1 : St3 F ← pieces (piece arg14 arg15 arg16 row 256 h8 h256 (w q1 (score kc qb))) all32 (st.2.2.2.1, st.2.2.2.2.1, st.2.2.2.2.2)
  pure (s0.1, s0.2.1, s0.2.2, s1.1, s1.2.1, s1.2.2)

end Tile

/-- The buffers of the kernel: the prefetched table, the windows, the scratch. -/
structure Refs where
  a3 : Memref sig .tc .smem S3 .i32
  h3 : a3.IsWhole
  a4 : Memref sig .tc .vmem S1x256x512 .bf16
  h4 : a4.IsWhole
  a5 : Memref sig .tc .vmem S1x8192x256 .bf16
  h5 : a5.IsWhole
  a6 : Memref sig .tc .vmem S1x8192x256 .bf16
  h6 : a6.IsWhole
  a7 : Memref sig .tc .vmem S1x256x512 .bf16
  h7 : a7.IsWhole
  a8 : Memref sig .tc .vmem S1x256x512 .fp8e4m3
  h8 : a8.IsWhole
  a9 : Memref sig .tc .vmem S1x1x1x2x256 .f32
  h9 : a9.IsWhole
  a10 : Memref sig .tc .vmem S1x8192x256 .fp8e4m3
  h10 : a10.IsWhole
  a11 : Memref sig .tc .vmem S1x1x1x8192 .f32
  h11 : a11.IsWhole
  a12 : Memref sig .tc .vmem S1x8192x256 .fp8e4m3
  h12 : a12.IsWhole
  a13 : Memref sig .tc .vmem S1x1x1x8192 .f32
  h13 : a13.IsWhole
  a14 : Memref sig .tc .vmem S8192x512 .f32
  h14 : a14.IsWhole
  a15 : Memref sig .tc .vmem S8192x128 .f32
  h15 : a15.IsWhole
  a16 : Memref sig .tc .vmem S8192x128 .f32
  h16 : a16.IsWhole
  a17 : Memref sig .tc .vmem S256x8192 .fp8e4m3
  h17 : a17.IsWhole
  a18 : Memref sig .tc .vmem S256x512 .f32
  h18 : a18.IsWhole
  a19 : Memref sig .tc .vmem S8x128 .f32
  h19 : a19.IsWhole

/-- The exponent of the power of two that scales a row: one more than the binary logarithm of the largest magnitude over 448, rounded down. -/
def qexp (x : FVec F S256x256 .bf16) : FVec F S256x1 .f32 :=
  let a : FVec F S256x1 .f32 := mulf (extf .f32 (shapeCast S256x1 (multiReduction .maximumf [1] S256 (absf x) 0xFF80#16 reduces_S256x256_S256 (.inr rfl) rfl) shapeCasts_S256_S256x1) bitsLt_bf16_f32)
    (broadcast S256x1 (Scalar.ofBits .f32 0x3B124925#32))
  select (cmpf .oeq a (broadcast S256x1 (Scalar.ofBits .f32 0x00000000#32))) (broadcast S256x1 (Scalar.ofBits .f32 0x00000000#32))
    (addf (floor (mulf (log a) (broadcast S256x1 (Named.named κ "inv_log_2" 0x3FB8AA3B#32)))) (broadcast S256x1 (Scalar.ofBits .f32 0x3F800000#32)))

/-- The scale of each row. -/
def qscale (x : FVec F S256x256 .bf16) : FVec F S256x1 .f32 := exp2 (qexp x)

/-- The values over their row's scale, clipped to what a code holds. -/
def qval (x : FVec F S256x256 .bf16) : FVec F S256x256 .f32 :=
  minimumf (broadcast S256x256 (Scalar.ofBits .f32 0x43E00000#32)) (maximumf (broadcast S256x256 (Scalar.ofBits .f32 0xC3E00000#32))
    (mulf (extf .f32 x bitsLt_bf16_f32) (broadcastTo S256x256 (exp2 (subf (broadcast S256x1 (Scalar.ofBits .f32 0x00000000#32)) (qexp x))) broadcasts_S256x1_S256x256)))

/-- A window's block without its leading one. -/
def flat (x : Vec F S1x256x256 .bf16) : FVec F S256x256 .bf16 := shapeCast S256x256 x shapeCasts_S1x256x256_S256x256

/-- The codes of a block. -/
def qcodes (x : Vec F S1x256x256 .bf16) : FVec F S1x256x256 .fp8e4m3 :=
  shapeCast S1x256x256 (truncf .fp8e4m3 (qval (flat x)) bitsLt_fp8e4m3_f32) shapeCasts_S256x256_S1x256x256

/-- A column of scales repeated along the lanes. -/
def lanes (s : FVec F S256x1 .f32) : FVec F S256x128 .f32 :=
  broadcastTo S256x128 (shapeCast S256x1 s shapeCasts_S256x1_S256x1) broadcasts_S256x1_S256x128

/-- A column of scales as a row. -/
def asRow (s : FVec F S256x1 .f32) : FVec F S1x256 .f32 :=
  extractStridedSlice S1x256 ![0, 0] (transpose S128x256 [1, 0] (lanes s) transposes_S256x128_p1_0_S128x256) slices_S128x256_o0_0_S1x256

/-- Chunk `t` of the keys and values: quantise them, store codes and scales, and carry the largest value scale. -/
def chunk (R : Refs) (i : grid0.Coords) (h : k0_cond1 i = 1#1) (t : Fin k0_t1_loop.trips) (m : FVec F S1x128 .f32) :
    Prog (TpuEff nD τ sig (Elt F) Λ₀ .tc) (FVec F S1x128 .f32) := do
  let k : Vec F S1x256x256 .bf16 ← Prog.lift (.load R.a5 (Rect.unit (s := S1x8192x256) (k0_off2 t) S1x256x256.size (k0_off2_inb i t h)).toLoadRect (View.loadsAt_vmem h_S1x256x256))
  let _ : Vec F S1x256x256 .fp8e4m3 ← Prog.lift (.load R.a10 (Rect.unit (s := S1x8192x256) (k0_off2 t) S1x256x256.size (k0_off2_inb i t h)).toLoadRect (View.loadsAt_vmem h_S1x256x256))
  Prog.lift (.store R.a10 (Rect.unit (s := S1x8192x256) (k0_off2 t) S1x256x256.size (k0_off2_inb i t h))
    (qcodes k) Finset.univ (View.stores_vmem h_S1x256x256 (R.h10.storeExact_slice rfl _ (k0_off2_packedfp8e4m3 i t h)) (fun _ => rfl)) (.inl rfl))
  let _ : Vec F S256x128 .f32 ← Prog.lift (.load R.a15 (Rect.unit (s := S8192x128) (k0_off3 t) S256x128.size (k0_off3_inb i t h)).toLoadRect (View.loadsAt_vmem h_S256x128))
  Prog.lift (.store R.a15 (Rect.unit (s := S8192x128) (k0_off3 t) S256x128.size (k0_off3_inb i t h))
    (shapeCast S256x128 (lanes (qscale (flat k))) shapeCasts_S256x128_S256x128) Finset.univ (View.stores_vmem_bits_univ h_S256x128 rfl) (.inl rfl))
  let _ : Vec F S1x1x1x256 .f32 ← Prog.lift (.load R.a11 (Rect.unit (s := S1x1x1x8192) (k0_off4 t) S1x1x1x256.size (k0_off4_inb i t h)).toLoadRect (View.loadsAt_vmem h_S1x1x1x256))
  Prog.lift (.store R.a11 (Rect.unit (s := S1x1x1x8192) (k0_off4 t) S1x1x1x256.size (k0_off4_inb i t h))
    (shapeCast S1x1x1x256 (asRow (qscale (flat k))) shapeCasts_S1x256_S1x1x1x256) Finset.univ (View.stores_vmem_bits_univ h_S1x1x1x256 rfl) (.inl rfl))
  let v : Vec F S1x256x256 .bf16 ← Prog.lift (.load R.a6 (Rect.unit (s := S1x8192x256) (k0_off2 t) S1x256x256.size (k0_off2_inb i t h)).toLoadRect (View.loadsAt_vmem h_S1x256x256))
  let _ : Vec F S1x256x256 .fp8e4m3 ← Prog.lift (.load R.a12 (Rect.unit (s := S1x8192x256) (k0_off2 t) S1x256x256.size (k0_off2_inb i t h)).toLoadRect (View.loadsAt_vmem h_S1x256x256))
  Prog.lift (.store R.a12 (Rect.unit (s := S1x8192x256) (k0_off2 t) S1x256x256.size (k0_off2_inb i t h))
    (qcodes v) Finset.univ (View.stores_vmem h_S1x256x256 (R.h12.storeExact_slice rfl _ (k0_off2_packedfp8e4m3 i t h)) (fun _ => rfl)) (.inl rfl))
  let _ : Vec F S256x256 .fp8e4m3 ← Prog.lift (.load R.a17 (Rect.unit (s := S256x8192) (k0_off5 t) S256x256.size (k0_off5_inb i t h)).toLoadRect (View.loadsAt_vmem h_S256x256))
  Prog.lift (.store R.a17 (Rect.unit (s := S256x8192) (k0_off5 t) S256x256.size (k0_off5_inb i t h))
    (shapeCast S256x256 (truncf .fp8e4m3 (transpose S256x256 [1, 0] (qval (flat v)) transposes_S256x256_p1_0_S256x256) bitsLt_fp8e4m3_f32) shapeCasts_S256x256_S256x256) Finset.univ (View.stores_vmem h_S256x256 (R.h17.storeExact_slice rfl _ (k0_off5_packedfp8e4m3 i t h)) (fun _ => rfl)) (.inl rfl))
  let _ : Vec F S256x128 .f32 ← Prog.lift (.load R.a16 (Rect.unit (s := S8192x128) (k0_off3 t) S256x128.size (k0_off3_inb i t h)).toLoadRect (View.loadsAt_vmem h_S256x128))
  Prog.lift (.store R.a16 (Rect.unit (s := S8192x128) (k0_off3 t) S256x128.size (k0_off3_inb i t h))
    (shapeCast S256x128 (lanes (qscale (flat v))) shapeCasts_S256x128_S256x128) Finset.univ (View.stores_vmem_bits_univ h_S256x128 rfl) (.inl rfl))
  let _ : Vec F S1x1x1x256 .f32 ← Prog.lift (.load R.a13 (Rect.unit (s := S1x1x1x8192) (k0_off4 t) S1x1x1x256.size (k0_off4_inb i t h)).toLoadRect (View.loadsAt_vmem h_S1x1x1x256))
  Prog.lift (.store R.a13 (Rect.unit (s := S1x1x1x8192) (k0_off4 t) S1x1x1x256.size (k0_off4_inb i t h))
    (shapeCast S1x1x1x256 (asRow (qscale (flat v))) shapeCasts_S1x256_S1x1x1x256) Finset.univ (View.stores_vmem_bits_univ h_S1x1x1x256 rfl) (.inl rfl))
  pure (maximumf m (shapeCast S1x128 (multiReduction .maximumf [0] S128 (lanes (qscale (flat v))) 0xFF800000#32 reduces_S256x128_S128 (.inl rfl) rfl) shapeCasts_S128_S1x128))

/-- Chunk `t` of the value scales times the norm that `m` gives. -/
def rescale (R : Refs) (i : grid0.Coords) (h : k0_cond1 i = 1#1) (m : FVec F S1x128 .f32) (t : Fin k0_t2_loop.trips) (_ : Unit) :
    Prog (TpuEff nD τ sig (Elt F) Λ₀ .tc) Unit := do
  let x : Vec F S256x128 .f32 ← Prog.lift (.load R.a16 (Rect.unit (s := S8192x128) (k0_off6 t) S256x128.size (k0_off6_inb i t h)).toLoadRect (View.loadsAt_vmem h_S256x128))
  let _ : Vec F S256x128 .f32 ← Prog.lift (.load R.a16 (Rect.unit (s := S8192x128) (k0_off6 t) S256x128.size (k0_off6_inb i t h)).toLoadRect (View.loadsAt_vmem h_S256x128))
  Prog.lift (.store R.a16 (Rect.unit (s := S8192x128) (k0_off6 t) S256x128.size (k0_off6_inb i t h))
    (k0_pay705 m x) Finset.univ (View.stores_vmem_bits_univ h_S256x128 rfl) (.inl rfl))
  pure ⟨⟩

/-- The quantisation of all keys and values, at the first block of queries. -/
def kv (R : Refs) (i : grid0.Coords) (h : k0_cond1 i = 1#1) : Prog (TpuEff nD τ sig (Elt F) Λ₀ .tc) PUnit := do
  let m : FVec F S1x128 .f32 ← Scf.Loop.for k0_t1_loop (k0_t1_ok i h) (broadcast S1x128 (Scalar.ofBits .f32 0x00000000#32)) (chunk R i h)
  let _ : Vec F S8x128 .f32 ← Prog.lift (.load R.a19 (Rect.unit (s := S8x128) ![0, 0] S8x128.size inb_S8x128_S8x128_0_0).toLoadRect (View.loadsAt_vmem h_S8x128))
  Prog.lift (.store R.a19 (Rect.unit (s := S8x128) ![0, 0] S8x128.size inb_S8x128_S8x128_0_0)
    (k0_pay704 m) Finset.univ (View.stores_vmem_bits_univ h_S8x128 rfl) (.inl rfl))
  Scf.Loop.for k0_t2_loop (k0_t2_ok i h) ⟨⟩ (rescale R i h m)
  pure ⟨⟩

/-- The start of the body: the prefix length, its checks, and the keys and values at the first block of queries. -/
def start (R : Refs) (i : grid0.Coords) : Prog (TpuEff nD τ sig (Elt F) Λ₀ .tc) (Σ' (v1 : Elt F .i32) (hw : k0_chk1 i v1), Vec F S1x256x256 .bf16) := do
  let v1 : Elt F .i32 ← smemLoad R.a3 (Rect.unit (s := S3) (k0_off1 i) S1.size (k0_off1_inb i)) numel1_S1 rfl
  have hw : k0_chk1 i v1 := (← Prog.lift (TpuEff.assume (k0_chk1 i v1) (k0_chk1.dec i v1))).down
  if h : k0_cond1 i = 1#1 then do
    kv R i h
    pure ⟨⟩
  else do
    pure ⟨⟩
  let x : Vec F S1x256x256 .bf16 ← Prog.lift (.load R.a4 (Rect.unit (s := S1x256x512) ![0, 0, 0] S1x256x256.size inb_S1x256x512_S1x256x256_0_0_0).toLoadRect (View.loadsAt_vmem h_S1x256x256))
  let _ : Vec F S1x256x256 .fp8e4m3 ← Prog.lift (.load R.a8 (Rect.unit (s := S1x256x512) ![0, 0, 0] S1x256x256.size inb_S1x256x512_S1x256x256_0_0_0).toLoadRect (View.loadsAt_vmem h_S1x256x256))
  pure ⟨v1, hw, x⟩

/-- The row of query scales, as the scores use it. -/
def qrow (x : Vec F S1x256x256 .bf16) : FVec F S1x256 .f32 :=
  mulf (asRow (qscale (flat x))) (broadcast S1x256 (Named.named κ "score_scale" 0x3AA3D70A#32))

/-- The codes and scales of the two query heads; the rest of the first head and the whole second. -/
def queries (R : Refs) (x : Vec F S1x256x256 .bf16) : Prog (TpuEff nD τ sig (Elt F) Λ₀ .tc) (FVec F S1x256 .f32 × FVec F S1x256 .f32) := do
  Prog.lift (.store R.a8 (Rect.unit (s := S1x256x512) ![0, 0, 0] S1x256x256.size inb_S1x256x512_S1x256x256_0_0_0)
    (qcodes x) Finset.univ (View.stores_vmem h_S1x256x256 (R.h8.storeExact_slice rfl _ packedfp8e4m3_S1x256x512_S1x256x256_0_0_0) (fun _ => rfl)) (.inl rfl))
  let _ : Vec F S1x1x1x1x256 .f32 ← Prog.lift (.load R.a9 (Rect.unit (s := S1x1x1x2x256) ![0, 0, 0, 0, 0] S1x1x1x1x256.size inb_S1x1x1x2x256_S1x1x1x1x256_0_0_0_0_0).toLoadRect (View.loadsAt_vmem h_S1x1x1x1x256))
  Prog.lift (.store R.a9 (Rect.unit (s := S1x1x1x2x256) ![0, 0, 0, 0, 0] S1x1x1x1x256.size inb_S1x1x1x2x256_S1x1x1x1x256_0_0_0_0_0)
    (shapeCast S1x1x1x1x256 (asRow (qscale (flat x))) shapeCasts_S1x256_S1x1x1x1x256) Finset.univ (View.stores_vmem_bits_univ h_S1x1x1x1x256 rfl) (.inl rfl))
  let y : Vec F S1x256x256 .bf16 ← Prog.lift (.load R.a4 (Rect.unit (s := S1x256x512) ![0, 0, 256] S1x256x256.size inb_S1x256x512_S1x256x256_0_0_256).toLoadRect (View.loadsAt_vmem h_S1x256x256))
  let _ : Vec F S1x256x256 .fp8e4m3 ← Prog.lift (.load R.a8 (Rect.unit (s := S1x256x512) ![0, 0, 256] S1x256x256.size inb_S1x256x512_S1x256x256_0_0_256).toLoadRect (View.loadsAt_vmem h_S1x256x256))
  Prog.lift (.store R.a8 (Rect.unit (s := S1x256x512) ![0, 0, 256] S1x256x256.size inb_S1x256x512_S1x256x256_0_0_256)
    (qcodes y) Finset.univ (View.stores_vmem h_S1x256x256 (R.h8.storeExact_slice rfl _ packedfp8e4m3_S1x256x512_S1x256x256_0_0_256) (fun _ => rfl)) (.inl rfl))
  let _ : Vec F S1x1x1x1x256 .f32 ← Prog.lift (.load R.a9 (Rect.unit (s := S1x1x1x2x256) ![0, 0, 0, 1, 0] S1x1x1x1x256.size inb_S1x1x1x2x256_S1x1x1x1x256_0_0_0_1_0).toLoadRect (View.loadsAt_vmem h_S1x1x1x1x256))
  Prog.lift (.store R.a9 (Rect.unit (s := S1x1x1x2x256) ![0, 0, 0, 1, 0] S1x1x1x1x256.size inb_S1x1x1x2x256_S1x1x1x1x256_0_0_0_1_0)
    (shapeCast S1x1x1x1x256 (asRow (qscale (flat y))) shapeCasts_S1x256_S1x1x1x1x256) Finset.univ (View.stores_vmem_bits_univ h_S1x1x1x1x256 rfl) (.inl rfl))
  pure (qrow x, qrow y)

/-- The end of the keys each query sees. -/
def visEnd (i : grid0.Coords) (v1 : BitVec 32) : IVec S1x256 32 :=
  maxsi (addi (addi (broadcast S1x256 (Scalar.muli (BitVec.ofNat 32 (i 2).val) 256#32)) (iota .tc S1x256 32 [1] iota_S1x256_d1_w32)) (broadcast S1x256 1#32))
    (broadcast S1x256 v1)

/-- How many tiles of keys the block of queries sees. -/
def nTiles (i : grid0.Coords) (v1 : BitVec 32) : BitVec 32 :=
  Scalar.maxsi (Scalar.addi (BitVec.ofNat 32 (i 2).val) 1#32) (Scalar.divsi (Scalar.addi v1 255#32) 256#32)

/-- The row where the last of these tiles starts. -/
def lastRow (i : grid0.Coords) (v1 : BitVec 32) : BitVec 32 := Scalar.muli (Scalar.subi (nTiles i v1) 1#32) 256#32

/-- The weights of a piece of the last tile: those of keys not visible are zero. -/
def wtsLast (i : grid0.Coords) (v1 : BitVec 32) (q : FVec F S1x256 .f32) (s : FVec F S256x256 .f32) (r : Fin 32) (ks : Vec F S8x128 .f32) : FVec F S8x256 .f32 :=
  wtsMasked (visEnd i v1) (Scalar.addi (lastRow i v1) (BitVec.ofNat 32 (8 * r.val))) (wts q s r ks)

/-- A loop's tile starts at this row. -/
def tileRow (lb : BitVec 32) (t : Nat) : BitVec 32 := Scalar.muli (Scf.iv lb 1#32 t) 256#32

/-- All score tiles: the last one, masked, then those before it. -/
def scores (R : Refs) (i : grid0.Coords) (v1 : Elt F .i32) (hw : k0_chk1 i v1) (q0 q1 : FVec F S1x256 .f32) : Prog (TpuEff nD τ sig (Elt F) Λ₀ .tc) (St6 F) := do
  let z : FVec F S8x256 .f32 := broadcast S8x256 (Scalar.ofBits .f32 0x00000000#32)
  let st : St6 F ← tile R.a8 R.a10 R.a14 R.a15 R.a16 (lastRow i v1) (k0_off7_inb i v1 hw) (k0_off8_inb i v1 hw) (k0_off10_inb i v1 hw) (k0_off9_inb i v1 hw)
    (wtsLast i v1) q0 q1 (z, z, z, z, z, z)
  let st : St6 F ← Scf.Loop.for (k0_t3_loop i v1) (k0_t3_ok i v1 hw) st fun t st =>
    tile R.a8 R.a10 R.a14 R.a15 R.a16 (tileRow 0#32 t) (k0_off11_inb i v1 hw t) (k0_off12_inb i v1 hw t) (k0_off14_inb i v1 hw t) (k0_off13_inb i v1 hw t) wts q0 q1 st
  Scf.Loop.for (k0_t4_loop i v1) (k0_t4_ok i v1 hw) st fun t st =>
    tile R.a8 R.a10 R.a14 R.a15 R.a16 (tileRow (k0_t4_loop i v1).lb t) (k0_off15_inb i v1 hw t) (k0_off16_inb i v1 hw t) (k0_off18_inb i v1 hw t) (k0_off17_inb i v1 hw t) wts q0 q1 st

/-- The maximum over the sublanes. -/
def maxRow (x : FVec F S8x256 .f32) : FVec F S1x256 .f32 :=
  shapeCast S1x256 (multiReduction .maximumf [0] S256 x 0xFF800000#32 reduces_S8x256_S256 (.inl rfl) rfl) shapeCasts_S256_S1x256

/-- The sum over the sublanes. -/
def sumRow (x : FVec F S8x256 .f32) : FVec F S1x256 .f32 :=
  shapeCast S1x256 (multiReduction .add [0] S256 x 0x00000000#32 reduces_S8x256_S256 (.inl rfl) rfl) shapeCasts_S256_S1x256

/-- The exponent of the weights' scale of each query. -/
def wexp (st : St3 F) : FVec F S1x256 .f32 :=
  let a : FVec F S1x256 .f32 := mulf (divf (maxRow st.2.2) (maxRow st.1)) (broadcast S1x256 (Scalar.ofBits .f32 0x3B124925#32))
  select (cmpf .oeq a (broadcast S1x256 (Scalar.ofBits .f32 0x00000000#32))) (broadcast S1x256 (Scalar.ofBits .f32 0x00000000#32))
    (addf (floor (mulf (log a) (broadcast S1x256 (Named.named κ "inv_log_2" 0x3FB8AA3B#32)))) (broadcast S1x256 (Scalar.ofBits .f32 0x3F800000#32)))

/-- What the weighted scales are multiplied by to give the codes of the weights. -/
def factor (st : St3 F) : FVec F S1x256 .f32 :=
  divf (exp2 (subf (broadcast S1x256 (Scalar.ofBits .f32 0x00000000#32)) (wexp st))) (maxRow st.1)

/-- What the accumulated products are multiplied by to give the result. -/
def outScale (st : St3 F) (nf : Vec F S1x128 .f32) : FVec F S1x256 .f32 :=
  divf (mulf (exp2 (wexp st)) (concatenate S1x256 1 [⟨S1x128, nf⟩, ⟨S1x128, nf⟩] concatenates_S1x128_S1x128_S1x256_d1)) (divf (sumRow st.2.1) (maxRow st.1))

/-- A tile's part of the product of the value codes and the codes of the weights. -/
def accum (f : FVec F S1x256 .f32) (vt : Vec F S256x256 .fp8e4m3) (h acc : Vec F S256x256 .f32) : FVec F S256x256 .f32 :=
  shapeCast S256x256 (addf acc (matmul dot_S256x256_S256x256_S256x256_1_0_0_1_n_n none vt
    (truncf .fp8e4m3 (minimumf (broadcast S256x256 (Scalar.ofBits .f32 0x43E00000#32)) (maximumf (broadcast S256x256 (Scalar.ofBits .f32 0xC3E00000#32))
      (mulf h (broadcastTo S256x256 f broadcasts_S1x256_S256x256)))) bitsLt_fp8e4m3_f32) (constant S256x256 .f32 0x00000000#32))) shapeCasts_S256x256_S256x256

/-- The product with the tile of values and weights at the offsets given. -/
def weights (R : Refs) (o0 o1 o2 : Fin 2 → Nat) (h0 : ∀ a, o0 a + S256x256.size a ≤ S256x8192.size a) (h1 : ∀ a, o1 a + S256x256.size a ≤ S8192x512.size a)
    (h2 : ∀ a, o2 a + S256x256.size a ≤ S8192x512.size a) (f0 f1 : FVec F S1x256 .f32) : Prog (TpuEff nD τ sig (Elt F) Λ₀ .tc) Unit := do
  let vt : Vec F S256x256 .fp8e4m3 ← Prog.lift (.load R.a17 (Rect.unit (s := S256x8192) o0 S256x256.size h0).toLoadRect (View.loadsAt_vmem h_S256x256))
  let h : Vec F S256x256 .f32 ← Prog.lift (.load R.a14 (Rect.unit (s := S8192x512) o1 S256x256.size h1).toLoadRect (View.loadsAt_vmem h_S256x256))
  let acc : Vec F S256x256 .f32 ← Prog.lift (.load R.a18 (Rect.unit (s := S256x512) ![0, 0] S256x256.size inb_S256x512_S256x256_0_0).toLoadRect (View.loadsAt_vmem h_S256x256))
  let _ : Vec F S256x256 .f32 ← Prog.lift (.load R.a18 (Rect.unit (s := S256x512) ![0, 0] S256x256.size inb_S256x512_S256x256_0_0).toLoadRect (View.loadsAt_vmem h_S256x256))
  Prog.lift (.store R.a18 (Rect.unit (s := S256x512) ![0, 0] S256x256.size inb_S256x512_S256x256_0_0)
    (accum f0 vt h acc) Finset.univ (View.stores_vmem_bits_univ h_S256x256 rfl) (.inl rfl))
  let h : Vec F S256x256 .f32 ← Prog.lift (.load R.a14 (Rect.unit (s := S8192x512) o2 S256x256.size h2).toLoadRect (View.loadsAt_vmem h_S256x256))
  let acc : Vec F S256x256 .f32 ← Prog.lift (.load R.a18 (Rect.unit (s := S256x512) ![0, 256] S256x256.size inb_S256x512_S256x256_0_256).toLoadRect (View.loadsAt_vmem h_S256x256))
  let _ : Vec F S256x256 .f32 ← Prog.lift (.load R.a18 (Rect.unit (s := S256x512) ![0, 256] S256x256.size inb_S256x512_S256x256_0_256).toLoadRect (View.loadsAt_vmem h_S256x256))
  Prog.lift (.store R.a18 (Rect.unit (s := S256x512) ![0, 256] S256x256.size inb_S256x512_S256x256_0_256)
    (accum f1 vt h acc) Finset.univ (View.stores_vmem_bits_univ h_S256x256 rfl) (.inl rfl))
  pure ⟨⟩

/-- The factors of the two heads, and the accumulator cleared. -/
def factors (R : Refs) (st : St6 F) : Prog (TpuEff nD τ sig (Elt F) Λ₀ .tc) (FVec F S1x256 .f32 × FVec F S1x256 .f32) := do
  let n0 : Vec F S1x128 .f32 ← Prog.lift (.load R.a19 (Rect.unit (s := S8x128) ![0, 0] S1x128.size inb_S8x128_S1x128_0_0).toLoadRect (View.loadsAt_vmem h_S1x128))
  let n1 : Vec F S1x128 .f32 ← Prog.lift (.load R.a19 (Rect.unit (s := S8x128) ![0, 0] S1x128.size inb_S8x128_S1x128_0_0).toLoadRect (View.loadsAt_vmem h_S1x128))
  let _ : Vec F S256x512 .f32 ← Prog.lift (.load R.a18 (Rect.unit (s := S256x512) ![0, 0] S256x512.size inb_S256x512_S256x512_0_0).toLoadRect (View.loadsAt_vmem h_S256x512))
  Prog.lift (.store R.a18 (Rect.unit (s := S256x512) ![0, 0] S256x512.size inb_S256x512_S256x512_0_0)
    (shapeCast S256x512 (broadcast S256x512 (Scalar.ofBits .f32 0x00000000#32)) shapeCasts_S256x512_S256x512) Finset.univ (View.stores_vmem_bits_univ h_S256x512 rfl) (.inl rfl))
  pure (outScale (st.1, st.2.1, st.2.2.1) n0, outScale (st.2.2.2.1, st.2.2.2.2.1, st.2.2.2.2.2) n1)

/-- A head's result: the accumulated products times their scale, queries first. -/
def outBlock (o : FVec F S1x256 .f32) (acc : Vec F S256x256 .f32) : FVec F S1x256x256 .bf16 :=
  shapeCast S1x256x256 (truncf .bf16 (transpose S256x256 [1, 0] (mulf acc (broadcastTo S256x256 o broadcasts_S1x256_S256x256)) transposes_S256x256_p1_0_S256x256) bitsLt_bf16_f32)
    shapeCasts_S256x256_S1x256x256

/-- The results of the two heads. -/
def outs (R : Refs) (o : FVec F S1x256 .f32 × FVec F S1x256 .f32) : Prog (TpuEff nD τ sig (Elt F) Λ₀ .tc) PUnit := do
  let a : Vec F S256x256 .f32 ← Prog.lift (.load R.a18 (Rect.unit (s := S256x512) ![0, 0] S256x256.size inb_S256x512_S256x256_0_0).toLoadRect (View.loadsAt_vmem h_S256x256))
  let _ : Vec F S1x256x256 .bf16 ← Prog.lift (.load R.a7 (Rect.unit (s := S1x256x512) ![0, 0, 0] S1x256x256.size inb_S1x256x512_S1x256x256_0_0_0).toLoadRect (View.loadsAt_vmem h_S1x256x256))
  Prog.lift (.store R.a7 (Rect.unit (s := S1x256x512) ![0, 0, 0] S1x256x256.size inb_S1x256x512_S1x256x256_0_0_0)
    (outBlock o.1 a) Finset.univ (View.stores_vmem h_S1x256x256 (R.h7.storeExact_slice rfl _ packedbf16_S1x256x512_S1x256x256_0_0_0) (fun _ => rfl)) (.inl rfl))
  let a : Vec F S256x256 .f32 ← Prog.lift (.load R.a18 (Rect.unit (s := S256x512) ![0, 256] S256x256.size inb_S256x512_S256x256_0_256).toLoadRect (View.loadsAt_vmem h_S256x256))
  let _ : Vec F S1x256x256 .bf16 ← Prog.lift (.load R.a7 (Rect.unit (s := S1x256x512) ![0, 0, 256] S1x256x256.size inb_S1x256x512_S1x256x256_0_0_256).toLoadRect (View.loadsAt_vmem h_S1x256x256))
  Prog.lift (.store R.a7 (Rect.unit (s := S1x256x512) ![0, 0, 256] S1x256x256.size inb_S1x256x512_S1x256x256_0_0_256)
    (outBlock o.2 a) Finset.univ (View.stores_vmem h_S1x256x256 (R.h7.storeExact_slice rfl _ packedbf16_S1x256x512_S1x256x256_0_0_256) (fun _ => rfl)) (.inl rfl))
  pure ⟨⟩

/-- The whole body. -/
def body (R : Refs) (i : grid0.Coords) : Prog (TpuEff nD τ sig (Elt F) Λ₀ .tc) PUnit := do
  let ⟨v1, hw, x⟩ ← start R i
  let q ← queries R x
  let st ← scores R i v1 hw q.1 q.2
  let o ← factors R st
  Scf.Loop.for (k0_t5_loop i v1) (k0_t5_ok i v1 hw) ⟨⟩ fun t _ =>
    weights R (k0_off19 i v1 t) (k0_off20 i v1 t) (k0_off21 i v1 t) (k0_off19_inb i v1 hw t) (k0_off20_inb i v1 hw t) (k0_off21_inb i v1 hw t)
      (factor (st.1, st.2.1, st.2.2.1)) (factor (st.2.2.2.1, st.2.2.2.2.1, st.2.2.2.2.2))
  Scf.Loop.for (k0_t6_loop i v1) (k0_t6_ok i v1 hw) ⟨⟩ fun t _ =>
    weights R (k0_off22 i v1 t) (k0_off23 i v1 t) (k0_off24 i v1 t) (k0_off22_inb i v1 hw t) (k0_off23_inb i v1 hw t) (k0_off24_inb i v1 hw t)
      (factor (st.1, st.2.1, st.2.2.1)) (factor (st.2.2.2.1, st.2.2.2.2.1, st.2.2.2.2.2))
  outs R o

end Cert.KernelIdeal.Body

end
-- ==== Proof.Body.KernelIdealBody.lean ====
/- The kernel's body written compactly: the 32 eight-row pieces of a score tile as one recursion. -/
module

public import proofs.«01_k».proof.Proof.Body.KernelIdealCompact

@[expose] public section

set_option maxRecDepth 65536
set_option synthInstance.maxSize 4096

noncomputable section

namespace Cert.KernelIdeal.Body

open Idealize.ShloMosaic Idealize.SL.Sem
open Cert.KernelIdeal Cert.KernelIdeal.Gen

variable {F : FTy → Type} [FloatOps F] [Named F]

/-- The loops over the score tiles, and what the later parts take of the statistics. -/
def loopsRaw (R : Refs) (i : grid0.Coords) (v1 : Elt F .i32) (hw : k0_chk1 i v1) (q0 q1 : FVec F S1x256 .f32) (st : St6 F) : Prog (TpuEff nD τ sig (Elt F) Λ₀ .tc)
    (Σ' (_ : FVec F S8x256 .f32) (_ : FVec F S8x256 .f32) (_ : FVec F S8x256 .f32) (_ : FVec F S1x256 .f32) (_ : FVec F S1x256 .f32) (_ : FVec F S1x256 .f32), FVec F S1x256 .f32) := do
  let st : St6 F ← Scf.Loop.for (k0_t3_loop i v1) (k0_t3_ok i v1 hw) st fun t st =>
    tile R.a8 R.a10 R.a14 R.a15 R.a16 (tileRow 0#32 t) (k0_off11_inb i v1 hw t) (k0_off12_inb i v1 hw t) (k0_off14_inb i v1 hw t) (k0_off13_inb i v1 hw t) wts q0 q1 st
  let st : St6 F ← Scf.Loop.for (k0_t4_loop i v1) (k0_t4_ok i v1 hw) st fun t st =>
    tile R.a8 R.a10 R.a14 R.a15 R.a16 (tileRow (k0_t4_loop i v1).lb t) (k0_off15_inb i v1 hw t) (k0_off16_inb i v1 hw t) (k0_off18_inb i v1 hw t) (k0_off17_inb i v1 hw t) wts q0 q1 st
  pure ⟨st.2.2.2.1, st.2.2.2.2.1, st.2.2.2.2.2, maxRow st.1, sumRow st.2.1, divf (maxRow st.2.2.1) (maxRow st.1), broadcast S1x256 (Scalar.ofBits .f32 0x3B124925#32)⟩

set_option maxHeartbeats 40000000 in
theorem part110_eq (R : Refs) (i : grid0.Coords)  (v1 : Elt F .i32) (hw : k0_chk1 i v1) (v46 v88 : FVec F S1x256 .f32) (a b c : FVec F S8x256 .f32) (s : FVec F S256x256 .f32) (d e f : FVec F S8x256 .f32)  :
   k0_part110 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 v1 hw v46 v88 (Scalar.subi (nTiles i v1) 1#32) (visEnd i v1) (lastRow i v1) a b c s d e f 248#32 = (do
    let s1 : St3 F ← piece R.a14 R.a15 R.a16 (lastRow i v1) 256 (k0_off8_inb i v1 hw) (k0_off10_inb i v1 hw) (wtsLast i v1 v88 s) 31 (d, e, f)
    loopsRaw R i v1 hw v46 v88 (a, b, c, s1.1, s1.2.1, s1.2.2)) := rfl

/-- The printed first part. -/
theorem part67_eq (R : Refs) (i : grid0.Coords) :
    k0_part67 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 = (do
      let r ← start R i
      pure ⟨BitVec.ofNat 32 (i 2).val, r.1, r.2.1, qscale (flat r.2.2), qcodes r.2.2⟩) := by
  by_cases h : k0_cond1 i = 1#1
  · simp only [k0_part67, start, kv, dif_pos h, bind_assoc, pure_bind]; rfl
  · simp only [k0_part67, start, dif_neg h, bind_assoc, pure_bind]; rfl

set_option maxHeartbeats 40000000 in
theorem part112_eq (R : Refs) (i : grid0.Coords) :
    k0_part112 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 = (do
      let r ← start R i
      let v1 := r.1
      let k0_hw1 : k0_chk1 i v1 := r.2.1
      let ⟨v46, v65, v76⟩ ← k0_part68 i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 (qscale (flat r.2.2)) (qcodes r.2.2)
      let _ : Vec F S1x256x256 .fp8e4m3 ← Prog.lift (.load R.a8 (Rect.unit (s := S1x256x512) ![0, 0, 256] S1x256x256.size inb_S1x256x512_S1x256x256_0_0_256).toLoadRect (View.loadsAt_vmem h_S1x256x256))
      Prog.lift (.store R.a8 (Rect.unit (s := S1x256x512) ![0, 0, 256] S1x256x256.size inb_S1x256x512_S1x256x256_0_0_256)
        (k0_pay717 v76) Finset.univ (View.stores_vmem h_S1x256x256 (R.h8.storeExact_slice rfl _ packedfp8e4m3_S1x256x512_S1x256x256_0_0_256) (fun _ => rfl)) (.inl rfl))
      let _ : Vec F S1x1x1x1x256 .f32 ← Prog.lift (.load R.a9 (Rect.unit (s := S1x1x1x2x256) ![0, 0, 0, 1, 0] S1x1x1x1x256.size inb_S1x1x1x2x256_S1x1x1x1x256_0_0_0_1_0).toLoadRect (View.loadsAt_vmem h_S1x1x1x1x256))
      Prog.lift (.store R.a9 (Rect.unit (s := S1x1x1x2x256) ![0, 0, 0, 1, 0] S1x1x1x1x256.size inb_S1x1x1x2x256_S1x1x1x1x256_0_0_0_1_0)
        (k0_pay719 v65) Finset.univ (View.stores_vmem_bits_univ h_S1x1x1x1x256 rfl) (.inl rfl))
      let z : FVec F S8x256 .f32 := broadcast S8x256 (Scalar.ofBits .f32 0x00000000#32)
      let kc : Vec F S1x256x256 .fp8e4m3 ← Prog.lift (.load R.a10 (Rect.unit (s := S1x8192x256) (off3 (lastRow i v1)) S1x256x256.size (k0_off7_inb i v1 k0_hw1)).toLoadRect (View.loadsAt_vmem h_S1x256x256))
      let qa : Vec F S1x256x256 .fp8e4m3 ← Prog.lift (.load R.a8 (Rect.unit (s := S1x256x512) ![0, 0, 0] S1x256x256.size inb_S1x256x512_S1x256x256_0_0_0).toLoadRect (View.loadsAt_vmem h_S1x256x256))
      let s0 : St3 F ← pieces (piece R.a14 R.a15 R.a16 (lastRow i v1) 0 (k0_off8_inb i v1 k0_hw1) (k0_off9_inb i v1 k0_hw1) (wtsLast i v1 v46 (score kc qa))) all32 (z,z,z)
      let qb : Vec F S1x256x256 .fp8e4m3 ← Prog.lift (.load R.a8 (Rect.unit (s := S1x256x512) ![0, 0, 256] S1x256x256.size inb_S1x256x512_S1x256x256_0_0_256).toLoadRect (View.loadsAt_vmem h_S1x256x256))
      let s1 : St3 F ← pieces (piece R.a14 R.a15 R.a16 (lastRow i v1) 256 (k0_off8_inb i v1 k0_hw1) (k0_off10_inb i v1 k0_hw1) (wtsLast i v1 (mulf (asRow v65) (broadcast S1x256 (Named.named κ "score_scale" 0x3AA3D70A#32))) (score kc qb))) (all32.take 31) (z,z,z)
      let ⟨a, b, c, m, s, d, e⟩ ← k0_part110 (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 v1 k0_hw1 v46 (mulf (asRow v65) (broadcast S1x256 (Named.named κ "score_scale" 0x3AA3D70A#32)))
         (Scalar.subi (nTiles i v1) 1#32) (visEnd i v1) (lastRow i v1) s0.1 s0.2.1 s0.2.2 (score kc qb) s1.1 s1.2.1 s1.2.2 248#32
      let ⟨v2128, v2133, v2135, v2137, v2153, v2156⟩ ← k0_part111 i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 a b c m s d e
      let n1 : Vec F S1x128 .f32 ← Prog.lift (.load R.a19 (Rect.unit (s := S8x128) ![0, 0] S1x128.size inb_S8x128_S1x128_0_0).toLoadRect (View.loadsAt_vmem h_S1x128))
      let _ : Vec F S256x512 .f32 ← Prog.lift (.load R.a18 (Rect.unit (s := S256x512) ![0, 0] S256x512.size inb_S256x512_S256x512_0_0).toLoadRect (View.loadsAt_vmem h_S256x512))
      pure ⟨v1, k0_hw1, nTiles i v1, v2128, v2133, k0_pay1119 v2135 v2156, k0_pay1120 v2135 v2137 v2153 n1, k0_pay1121⟩) := by
  unfold k0_part112
  rw [part67_eq, bind_assoc]
  refine congrArg (bind (start R i)) (funext fun r => ?_)
  exact rfl

theorem pieces_append {E : Type → Type} {α : Type} (f : Fin 32 → α → Prog E α) (l l' : List (Fin 32)) (a : α) :
    pieces f (l ++ l') a = pieces f l a >>= pieces f l' := by
  induction l generalizing a with
  | nil => simp [pieces]
  | cons r l ih => simp only [List.cons_append, pieces, bind_assoc]; congr 1; funext b; exact ih b

theorem pieces_all {E : Type → Type} {α : Type} (f : Fin 32 → α → Prog E α) (a : α) :
    pieces f all32 a = pieces f (all32.take 31) a >>= f 31 := by
  have h := pieces_append f (all32.take 31) [31] a
  rw [show all32.take 31 ++ [31] = all32 from rfl] at h
  rw [h]; congr 1; funext b; exact bind_pure _

set_option maxHeartbeats 40000000 in
theorem body_eq (R : Refs) (i : grid0.Coords) :
    cc0_prefix_attention (F := F) i R.a3 R.h3 R.a4 R.h4 R.a5 R.h5 R.a6 R.h6 R.a7 R.h7 R.a8 R.h8 R.a9 R.h9 R.a10 R.h10 R.a11 R.h11 R.a12 R.h12 R.a13 R.h13 R.a14 R.h14 R.a15 R.h15 R.a16 R.h16 R.a17 R.h17 R.a18 R.h18 R.a19 R.h19 = body R i := by
  unfold cc0_prefix_attention body
  rw [part112_eq, bind_assoc]
  refine congrArg (bind (start R i)) (funext fun r => ?_)
  simp only [k0_part68, part110_eq, loopsRaw, k0_part111, queries, scores, tile, pieces_all, factors, outs, bind_assoc, pure_bind]
  rfl

end Cert.KernelIdeal.Body

end
-- ==== Proof.Body.KernelIdealKeeps.lean ====
/- The body runs without fault and leaves its three inputs as they are. -/
module

public import proofs.«01_k».proof.Proof.Body.KernelIdealBody
public import proofs.«01_k».proof.Proof.Body.Rules
public import Idealize.ShloMosaic.Lib.Pipeline.Frame

@[expose] public section

set_option maxRecDepth 65536
set_option synthInstance.maxSize 4096

noncomputable section

namespace Cert.KernelIdeal.Body

open Idealize.ShloMosaic Idealize.SL Idealize.SL.RA Idealize.SL.BI Idealize.SL.Sem
open scoped Idealize.SL.BI
open Idealize.SL.BI.BIBase Idealize.SL.BI.Laws Idealize.SL.ProofMode
open Cert.KernelIdeal Cert.KernelIdeal.Gen Cert.Body

variable {F : FTy → Type} [FloatOps F] [Named F]

/-- The buffers of the body, apart from the table. -/
inductive Buf' | x4 | x5 | x6 | x7 | x8 | x9 | x10 | x11 | x12 | x13 | x14 | x15 | x16 | x17 | x18 | x19
  deriving DecidableEq

instance : Fintype Buf' :=
  ⟨{.x4, .x5, .x6, .x7, .x8, .x9, .x10, .x11, .x12, .x13, .x14, .x15, .x16, .x17, .x18, .x19}, by intro x; cases x <;> decide⟩

/-- Their shapes. -/
abbrev bsh : Buf' → Shape
  | .x4 => S1x256x512 | .x5 => S1x8192x256 | .x6 => S1x8192x256 | .x7 => S1x256x512 | .x8 => S1x256x512 | .x9 => S1x1x1x2x256
  | .x10 => S1x8192x256 | .x11 => S1x1x1x8192 | .x12 => S1x8192x256 | .x13 => S1x1x1x8192 | .x14 => S8192x512 | .x15 => S8192x128
  | .x16 => S8192x128 | .x17 => S256x8192 | .x18 => S256x512 | .x19 => S8x128

/-- Their element types. -/
abbrev bel : Buf' → EltTy
  | .x4 => .bf16 | .x5 => .bf16 | .x6 => .bf16 | .x7 => .bf16 | .x8 => .fp8e4m3 | .x9 => .f32
  | .x10 => .fp8e4m3 | .x11 => .f32 | .x12 => .fp8e4m3 | .x13 => .f32 | .x14 => .f32 | .x15 => .f32
  | .x16 => .f32 | .x17 => .fp8e4m3 | .x18 => .f32 | .x19 => .f32

/-- The buffers as memory references. -/
abbrev Refs.m (R : Refs) : (b : Buf') → Memref sig .tc .vmem (bsh b) (bel b)
  | .x4 => R.a4 | .x5 => R.a5 | .x6 => R.a6 | .x7 => R.a7 | .x8 => R.a8 | .x9 => R.a9
  | .x10 => R.a10 | .x11 => R.a11 | .x12 => R.a12 | .x13 => R.a13 | .x14 => R.a14 | .x15 => R.a15
  | .x16 => R.a16 | .x17 => R.a17 | .x18 => R.a18 | .x19 => R.a19

/-- Each memory reference is the buffer of its name. -/
theorem at_ (R : Refs) (b : Buf') : IsBuf (Refs.m R) b (R.m b) := ⟨rfl, rfl, HEq.rfl⟩

/-- The buffers one by one. -/
theorem own_eq (d : Dev nD) (R : Refs) (Tb : sProp (MT nD τ sig Unit (Elt F) ℕ (UR sig nD τ) ℕ)) (st : St (Elt F) bsh bel) :
    Own d (Refs.m R) Tb st = iprop((owns (d.tc : Thread nD τ) R.a4 fullShare (st .x4) ∗ owns (d.tc : Thread nD τ) R.a5 fullShare (st .x5) ∗ owns (d.tc : Thread nD τ) R.a6 fullShare (st .x6) ∗ owns (d.tc : Thread nD τ) R.a7 fullShare (st .x7) ∗ owns (d.tc : Thread nD τ) R.a8 fullShare (st .x8) ∗ owns (d.tc : Thread nD τ) R.a9 fullShare (st .x9) ∗ owns (d.tc : Thread nD τ) R.a10 fullShare (st .x10) ∗ owns (d.tc : Thread nD τ) R.a11 fullShare (st .x11) ∗ owns (d.tc : Thread nD τ) R.a12 fullShare (st .x12) ∗ owns (d.tc : Thread nD τ) R.a13 fullShare (st .x13) ∗ owns (d.tc : Thread nD τ) R.a14 fullShare (st .x14) ∗ owns (d.tc : Thread nD τ) R.a15 fullShare (st .x15) ∗ owns (d.tc : Thread nD τ) R.a16 fullShare (st .x16) ∗ owns (d.tc : Thread nD τ) R.a17 fullShare (st .x17) ∗ owns (d.tc : Thread nD τ) R.a18 fullShare (st .x18) ∗ owns (d.tc : Thread nD τ) R.a19 fullShare (st .x19)) ∗ Tb) := by
  unfold Own
  rw [show (Finset.univ : Finset Buf') = {.x4, .x5, .x6, .x7, .x8, .x9, .x10, .x11, .x12, .x13, .x14, .x15, .x16, .x17, .x18, .x19} from rfl]
  repeat rw [bigSep_insert (by decide)]
  rw [bigSep_singleton]
  rfl

/-- The inputs. -/
abbrev kin (b : Buf') : Prop := b = .x4 ∨ b = .x5 ∨ b = .x6

/-- The inputs, the codes and their scales. -/
abbrev kout (b : Buf') : Prop := kin b ∨ b = .x8 ∨ b = .x9 ∨ b = .x10 ∨ b = .x11 ∨ b = .x12 ∨ b = .x13

variable {d : Dev nD} {R : Refs} {Tb : sProp (MT nD τ sig Unit (Elt F) ℕ (UR sig nD τ) ℕ)}

/-- What leaves the codes as they are leaves the inputs. -/
theorem keeps_in {α : Type} {p : Prog (TpuEff nD τ sig (Elt F) Λ₀ .tc) α} (h : Keeps d (Refs.m R) Tb (defs₀ (F := F)) kout p) : Keeps d (Refs.m R) Tb (defs₀ (F := F)) kin p :=
  fun st => (h st).mono fun _ _ h' b hb => h' b (.inl hb)

theorem keeps_pieces {α : Type} {f : Fin 32 → α → Prog (TpuEff nD τ sig (Elt F) Λ₀ .tc) α} (h : ∀ r a, Keeps d (Refs.m R) Tb (defs₀ (F := F)) kout (f r a)) :
    ∀ l a, Keeps d (Refs.m R) Tb (defs₀ (F := F)) kout (pieces f l a)
  | [], _ => Keeps.pure
  | _ :: l, _ => (h _ _).bind fun _ => keeps_pieces h l _

theorem keeps_chunk (i : grid0.Coords) (h : k0_cond1 i = 1#1) (t : Fin k0_t1_loop.trips) (m : FVec F S1x128 .f32) : Keeps d (Refs.m R) Tb (defs₀ (F := F)) kin (chunk R i h t m) := by
  unfold chunk
  refine Keeps.load .x5 (at_ R .x5) fun k => ?_
  refine Keeps.load .x10 (at_ R .x10) fun _ => ?_
  refine Keeps.store .x10 (at_ R .x10) (by decide) ?_
  refine Keeps.load .x15 (at_ R .x15) fun _ => ?_
  refine Keeps.store .x15 (at_ R .x15) (by decide) ?_
  refine Keeps.load .x11 (at_ R .x11) fun _ => ?_
  refine Keeps.store .x11 (at_ R .x11) (by decide) ?_
  refine Keeps.load .x6 (at_ R .x6) fun v => ?_
  refine Keeps.load .x12 (at_ R .x12) fun _ => ?_
  refine Keeps.store .x12 (at_ R .x12) (by decide) ?_
  refine Keeps.load .x17 (at_ R .x17) fun _ => ?_
  refine Keeps.store .x17 (at_ R .x17) (by decide) ?_
  refine Keeps.load .x16 (at_ R .x16) fun _ => ?_
  refine Keeps.store .x16 (at_ R .x16) (by decide) ?_
  refine Keeps.load .x13 (at_ R .x13) fun _ => ?_
  refine Keeps.store .x13 (at_ R .x13) (by decide) ?_
  exact Keeps.pure

theorem keeps_rescale (i : grid0.Coords) (h : k0_cond1 i = 1#1) (m : FVec F S1x128 .f32) (t : Fin k0_t2_loop.trips) (u : Unit) : Keeps d (Refs.m R) Tb (defs₀ (F := F)) kout (rescale R i h m t u) := by
  unfold rescale
  refine Keeps.load .x16 (at_ R .x16) fun _ => ?_
  refine Keeps.load .x16 (at_ R .x16) fun _ => ?_
  refine Keeps.store .x16 (at_ R .x16) (by decide) ?_
  exact Keeps.pure

theorem keeps_kv (i : grid0.Coords) (h : k0_cond1 i = 1#1) : Keeps d (Refs.m R) Tb (defs₀ (F := F)) kin (kv R i h) := by
  unfold kv
  refine Keeps.bind (Keeps.for fun t a => keeps_chunk i h t a) fun m => ?_
  refine Keeps.load .x19 (at_ R .x19) fun _ => ?_
  refine Keeps.store .x19 (at_ R .x19) (by decide) ?_
  exact Keeps.bind (Keeps.for fun t a => keeps_in (keeps_rescale i h m t a)) fun _ => Keeps.pure

theorem keeps_queries (x : Vec F S1x256x256 .bf16) : Keeps d (Refs.m R) Tb (defs₀ (F := F)) kin (queries R x) := by
  unfold queries
  refine Keeps.store .x8 (at_ R .x8) (by decide) ?_
  refine Keeps.load .x9 (at_ R .x9) fun _ => ?_
  refine Keeps.store .x9 (at_ R .x9) (by decide) ?_
  refine Keeps.load .x4 (at_ R .x4) fun _ => ?_
  refine Keeps.load .x8 (at_ R .x8) fun _ => ?_
  refine Keeps.store .x8 (at_ R .x8) (by decide) ?_
  refine Keeps.load .x9 (at_ R .x9) fun _ => ?_
  refine Keeps.store .x9 (at_ R .x9) (by decide) ?_
  exact Keeps.pure

theorem keeps_piece (row : BitVec 32) (col : ℕ) (h8 hh) (w) (r : Fin 32) (st : St3 F) : Keeps d (Refs.m R) Tb (defs₀ (F := F)) kout (piece R.a14 R.a15 R.a16 row col h8 hh w r st) := by
  unfold piece
  refine Keeps.load .x15 (at_ R .x15) fun _ => ?_
  refine Keeps.load .x16 (at_ R .x16) fun _ => ?_
  refine Keeps.load .x14 (at_ R .x14) fun _ => ?_
  refine Keeps.store .x14 (at_ R .x14) (by decide) ?_
  exact Keeps.pure

theorem keeps_tile (row : BitVec 32) (h3 h8 h256 h0) (w) (q0 q1 : FVec F S1x256 .f32) (st : St6 F) :
    Keeps d (Refs.m R) Tb (defs₀ (F := F)) kout (tile R.a8 R.a10 R.a14 R.a15 R.a16 row h3 h8 h256 h0 w q0 q1 st) := by
  unfold tile
  refine Keeps.load .x10 (at_ R .x10) fun _ => ?_
  refine Keeps.load .x8 (at_ R .x8) fun _ => ?_
  refine Keeps.bind (keeps_pieces (fun r a => keeps_piece row 0 h8 h0 _ r a) _ _) fun _ => ?_
  refine Keeps.load .x8 (at_ R .x8) fun _ => ?_
  exact Keeps.bind (keeps_pieces (fun r a => keeps_piece row 256 h8 h256 _ r a) _ _) fun _ => Keeps.pure

theorem keeps_scores (i : grid0.Coords) (v1 : Elt F .i32) (hw : k0_chk1 i v1) (q0 q1 : FVec F S1x256 .f32) : Keeps d (Refs.m R) Tb (defs₀ (F := F)) kout (scores R i v1 hw q0 q1) := by
  unfold scores
  refine Keeps.bind (keeps_tile _ _ _ _ _ _ _ _ _) fun _ => ?_
  exact Keeps.bind (Keeps.for fun t a => keeps_tile _ _ _ _ _ _ _ _ _) fun _ => Keeps.for fun t a => keeps_tile _ _ _ _ _ _ _ _ _

theorem keeps_weights (o0 o1 o2 : Fin 2 → Nat) (h0 h1 h2) (f0 f1 : FVec F S1x256 .f32) : Keeps d (Refs.m R) Tb (defs₀ (F := F)) kout (weights R o0 o1 o2 h0 h1 h2 f0 f1) := by
  unfold weights
  refine Keeps.load .x17 (at_ R .x17) fun _ => ?_
  refine Keeps.load .x14 (at_ R .x14) fun _ => ?_
  refine Keeps.load .x18 (at_ R .x18) fun _ => ?_
  refine Keeps.load .x18 (at_ R .x18) fun _ => ?_
  refine Keeps.store .x18 (at_ R .x18) (by decide) ?_
  refine Keeps.load .x14 (at_ R .x14) fun _ => ?_
  refine Keeps.load .x18 (at_ R .x18) fun _ => ?_
  refine Keeps.load .x18 (at_ R .x18) fun _ => ?_
  refine Keeps.store .x18 (at_ R .x18) (by decide) ?_
  exact Keeps.pure

theorem keeps_factors (st : St6 F) : Keeps d (Refs.m R) Tb (defs₀ (F := F)) kout (factors R st) := by
  unfold factors
  refine Keeps.load .x19 (at_ R .x19) fun _ => ?_
  refine Keeps.load .x19 (at_ R .x19) fun _ => ?_
  refine Keeps.load .x18 (at_ R .x18) fun _ => ?_
  refine Keeps.store .x18 (at_ R .x18) (by decide) ?_
  exact Keeps.pure

theorem keeps_outs (o : FVec F S1x256 .f32 × FVec F S1x256 .f32) : Keeps d (Refs.m R) Tb (defs₀ (F := F)) kout (outs R o) := by
  unfold outs
  refine Keeps.load .x18 (at_ R .x18) fun _ => ?_
  refine Keeps.load .x7 (at_ R .x7) fun _ => ?_
  refine Keeps.store .x7 (at_ R .x7) (by decide) ?_
  refine Keeps.load .x18 (at_ R .x18) fun _ => ?_
  refine Keeps.load .x7 (at_ R .x7) fun _ => ?_
  refine Keeps.store .x7 (at_ R .x7) (by decide) ?_
  exact Keeps.pure

/-- The word of the table that the point reads. -/
abbrev word (R : Refs) (d : Dev nD) (i : grid0.Coords) (f : Buf (Elt F) (R.a3.view.loc (d.tc : Thread nD τ))) : Elt F .i32 :=
  (R.a3.access (Rect.unit (s := S3) (k0_off1 i) S1.size (k0_off1_inb i))).read (Elt F) f (Shape.Idx.first (numel1_S1.symm ▸ Nat.one_pos))

theorem keeps_start (i : grid0.Coords) {q : PosShare TreeShare} {f : Buf (Elt F) (R.a3.view.loc (d.tc : Thread nD τ))}
    (hT : Tb = (R.a3.view.loc (d.tc : Thread nD τ) ↦[Finset.univ]{q} f)) (hc : k0_chk1 i (word R d i f)) : Keeps d (Refs.m R) Tb (defs₀ (F := F)) kin (start R i) := by
  intro st
  unfold start
  refine Runs.word hT ?_
  refine Runs.assume hc ?_
  have hl : Keeps d (Refs.m R) Tb (defs₀ (F := F)) kin (Prog.lift (.load R.a4 (Rect.unit (s := S1x256x512) ![0, 0, 0] S1x256x256.size inb_S1x256x512_S1x256x256_0_0_0).toLoadRect (View.loadsAt_vmem h_S1x256x256)) >>= fun x : Vec F S1x256x256 .bf16 =>
      Prog.lift (.load R.a8 (Rect.unit (s := S1x256x512) ![0, 0, 0] S1x256x256.size inb_S1x256x512_S1x256x256_0_0_0).toLoadRect (View.loadsAt_vmem h_S1x256x256)) >>= fun _ : Vec F S1x256x256 .fp8e4m3 =>
      pure (⟨word R d i f, hc, x⟩ : Σ' (v1 : Elt F .i32) (hw : k0_chk1 i v1), Vec F S1x256x256 .bf16)) :=
    Keeps.load .x4 (at_ R .x4) fun _ => Keeps.load .x8 (at_ R .x8) fun _ => Keeps.pure
  by_cases h : k0_cond1 i = 1#1
  · dsimp only
    rw [dif_pos h]
    exact (keeps_kv i h).bind (fun _ => hl) st
  · dsimp only
    rw [dif_neg h]
    exact hl st

theorem keeps_body (i : grid0.Coords) {q : PosShare TreeShare} {f : Buf (Elt F) (R.a3.view.loc (d.tc : Thread nD τ))}
    (hT : Tb = (R.a3.view.loc (d.tc : Thread nD τ) ↦[Finset.univ]{q} f)) (hc : k0_chk1 i (word R d i f)) : Keeps d (Refs.m R) Tb (defs₀ (F := F)) kin (body R i) := by
  unfold body
  refine Keeps.bind (keeps_start i hT hc) fun x => ?_
  refine Keeps.bind (keeps_queries _) fun q => ?_
  refine Keeps.bind (keeps_in (keeps_scores i _ _ _ _)) fun st => ?_
  refine Keeps.bind (keeps_in (keeps_factors _)) fun o => ?_
  refine Keeps.bind (Keeps.for fun t _ => keeps_in (keeps_weights _ _ _ _ _ _ _ _)) fun _ => ?_
  refine Keeps.bind (Keeps.for fun t _ => keeps_in (keeps_weights _ _ _ _ _ _ _ _)) fun _ => ?_
  exact keeps_in (keeps_outs _)

end Cert.KernelIdeal.Body

end
-- ==== Proof.Frames.KernelIdealFrame.lean ====
/- The frame of the kernel: it terminates without fault and leaves its arguments, at any values that pass its checks. -/
module

public import proofs.«01_k».proof.Proof.Frames.KernelIdealKit
public import proofs.«01_k».proof.Proof.Body.KernelIdealKeeps
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The word of the table that a point reads. -/
abbrev pword (c : Dev nD) (i : grid0.Coords) : Elt F .i32 :=
  (tbM0_0.access (Rect.unit (s := S3) (k0_off1 i) S1.size (k0_off1_inb i))).read (Elt F) (tbl m 0) (Shape.Idx.first (numel1_S1.symm ▸ Nat.one_pos))

/-- Every word of the table passes the body's checks. -/
abbrev Passes : Prop := ∀ (c : Dev nD) (i : grid0.Coords), k0_chk1 i (pword m c i)

set_option maxHeartbeats 1000000 in
/-- The body's triple: on whole staging memrefs it leaves the inputs' contents and everything else at some contents. -/
theorem kernelRun0 (c : Dev nD) (i : grid0.Coords) (arg4 : Memref sig .tc .vmem S1x256x512 .bf16) (harg4 : arg4.IsWhole) (arg5 : Memref sig .tc .vmem S1x8192x256 .bf16) (harg5 : arg5.IsWhole) (arg6 : Memref sig .tc .vmem S1x8192x256 .bf16) (harg6 : arg6.IsWhole) (arg7 : Memref sig .tc .vmem S1x256x512 .bf16) (harg7 : arg7.IsWhole) (arg8 : Memref sig .tc .vmem S1x256x512 .fp8e4m3) (harg8 : arg8.IsWhole) (arg9 : Memref sig .tc .vmem S1x1x1x2x256 .f32) (harg9 : arg9.IsWhole) (arg10 : Memref sig .tc .vmem S1x8192x256 .fp8e4m3) (harg10 : arg10.IsWhole) (arg11 : Memref sig .tc .vmem S1x1x1x8192 .f32) (harg11 : arg11.IsWhole) (arg12 : Memref sig .tc .vmem S1x8192x256 .fp8e4m3) (harg12 : arg12.IsWhole) (arg13 : Memref sig .tc .vmem S1x1x1x8192 .f32) (harg13 : arg13.IsWhole) (arg14 : Memref sig .tc .vmem S8192x512 .f32) (harg14 : arg14.IsWhole) (arg15 : Memref sig .tc .vmem S8192x128 .f32) (harg15 : arg15.IsWhole) (arg16 : Memref sig .tc .vmem S8192x128 .f32) (harg16 : arg16.IsWhole) (arg17 : Memref sig .tc .vmem S256x8192 .fp8e4m3) (harg17 : arg17.IsWhole) (arg18 : Memref sig .tc .vmem S256x512 .f32) (harg18 : arg18.IsWhole) (arg19 : Memref sig .tc .vmem S8x128 .f32) (harg19 : arg19.IsWhole)
    (x0 : Vec F S1x256x512 .bf16) (x1 : Vec F S1x8192x256 .bf16) (x2 : Vec F S1x8192x256 .bf16) (xt0 : TbBuf0 (F := F) c tbM0_0)
    (hc : k0_chk1 i (Body.word ⟨tbM0_0, htbM0_0, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19⟩ c i xt0)) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ tbPt0 c tbM0_0 xt0
            ∗ (iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ tbPt0 c tbM0_0 xt0) -∗ K ⟨⟩))
          ⊢ wp frame (wpE (defs₀ (F := F)) Variants.none c none) E (cc0_prefix_attention i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    let R : Body.Refs := ⟨tbM0_0, htbM0_0, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19⟩
    iintro ⟨H4, H5, H6, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, HT, Hk⟩
    let st : Cert.Body.St (Elt F) Body.bsh Body.bel := fun b => match b with
      | .x4 => x0 | .x5 => x1 | .x6 => x2 | .x7 => d7 | .x8 => d8 | .x9 => d9 | .x10 => d10 | .x11 => d11 | .x12 => d12 | .x13 => d13 | .x14 => d14 | .x15 => d15 | .x16 => d16 | .x17 => d17 | .x18 => d18 | .x19 => d19
    rw [Body.body_eq R i]
    have hk := Body.keeps_body (d := c) (R := R) i (q := fullShare.right) rfl hc st E K
      (iprop((owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ tbPt0 c tbM0_0 xt0) -∗ K ⟨⟩) : sProp 𝕄) (fun a st' h => by
          rw [Body.own_eq, h .x4 (.inl rfl), h .x5 (.inr (.inl rfl)), h .x6 (.inr (.inr rfl))]
          iintro ⟨⟨⟨H4, H5, H6, H7, H8, H9, H10, H11, H12, H13, H14, H15, H16, H17, H18, H19⟩, HT⟩, Hk⟩
          iapply Hk
          isplitl [H4]; · iexact H4
          isplitl [H5]; · iexact H5
          isplitl [H6]; · iexact H6
          isplitl [H7]; · iexists _; iexact H7
          isplitl [H8]; · iexists _; iexact H8
          isplitl [H9]; · iexists _; iexact H9
          isplitl [H10]; · iexists _; iexact H10
          isplitl [H11]; · iexists _; iexact H11
          isplitl [H12]; · iexists _; iexact H12
          isplitl [H13]; · iexists _; iexact H13
          isplitl [H14]; · iexists _; iexact H14
          isplitl [H15]; · iexists _; iexact H15
          isplitl [H16]; · iexists _; iexact H16
          isplitl [H17]; · iexists _; iexact H17
          isplitl [H18]; · iexists _; iexact H18
          isplitl [H19]; · iexists _; iexact H19
          iexact HT)
    iapply hk
    rw [Body.own_eq]
    isplitr [Hk]
    · isplitr [HT]
      · isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        iexact H19
      · iexact HT
    · iexact Hk

/-! ## The pipeline's proof data -/

/-- The output windows this certificate FORGETS (3, 4, 5, 6, 7, 8, 9): nothing reads what the kernel leaves in them, so nothing
    of it is named (Lib/Pipeline/Dat.lean `Dat.toRForget`). -/
def forgets0 : Fin 10 → Bool := fun w => w.val == 3 || w.val == 4 || w.val == 5 || w.val == 6 || w.val == 7 || w.val == 8 || w.val == 9

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, h⟩ => Pipeline.Dat.unnamed (cfg := (cfgM m hO)) ⟨3, h⟩ t
    | ⟨4, h⟩ => Pipeline.Dat.unnamed (cfg := (cfgM m hO)) ⟨4, h⟩ t
    | ⟨5, h⟩ => Pipeline.Dat.unnamed (cfg := (cfgM m hO)) ⟨5, h⟩ t
    | ⟨6, h⟩ => Pipeline.Dat.unnamed (cfg := (cfgM m hO)) ⟨6, h⟩ t
    | ⟨7, h⟩ => Pipeline.Dat.unnamed (cfg := (cfgM m hO)) ⟨7, h⟩ t
    | ⟨8, h⟩ => Pipeline.Dat.unnamed (cfg := (cfgM m hO)) ⟨8, h⟩ t
    | ⟨9, h⟩ => Pipeline.Dat.unnamed (cfg := (cfgM m hO)) ⟨9, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare d)
    ∗ (∃ d, owns (c : Thread nD τ) (ms0_4 m hO t) fullShare d)
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (∃ d, owns (c : Thread nD τ) (ms0_3 m hO t) fullShare d)
    ∗ (∃ d, owns (c : Thread nD τ) (ms0_4 m hO t) fullShare d)
    ∗ (∃ d, owns (c : Thread nD τ) (ms0_5 m hO t) fullShare d)
    ∗ (∃ d, owns (c : Thread nD τ) (ms0_6 m hO t) fullShare d)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d))

set_option maxHeartbeats 3200000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (hO : Ok m) (hp : Passes m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl]
  rw [show (dats m hO 0 c).Φ t.castSucc = iprop(Pipeline.ΦA spec0 c ∗ Pipeline.ΦT pre0 (tbl m) c) from rfl, PhiT0_eq, PhiA0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  iintro ⟨⟨⟨⟨HS0, HS1, HS2, HS3, HS4, HS5⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0 c (grid0.coords t) _ _ _ _ _ _ _ _ _ _ _ _ _ _ _ _ _ _ _ _ _ _ _ _ _ _ _ _ _ _ _ _ (iblk m hO c 0 t) (iblk m hO c 1 t) (iblk m hO c 2 t) (tbl m 0) (hp c (grid0.coords t))) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  isplitl [HS2]; · iexact HS2
  isplitl [HS3]; · iexact HS3
  isplitl [HS4]; · iexact HS4
  isplitl [HS5]; · iexact HS5
  isplitl [HT0]; · iexact HT0
  iintro ⟨H0, H1, H2, H3, H4, H5, H6, H7, H8, H9, HS0, HS1, HS2, HS3, HS4, HS5, HT0⟩
  isplitl [HS0 HS1 HS2 HS3 HS4 HS5 Hg HT0]
  · isplitl [HS0 HS1 HS2 HS3 HS4 HS5 Hg]
    · isplitl [HS0 HS1 HS2 HS3 HS4 HS5]
      · isplitl [HS0]
        · iexact HS0
        isplitl [HS1]
        · iexact HS1
        isplitl [HS2]
        · iexact HS2
        isplitl [HS3]
        · iexact HS3
        isplitl [HS4]
        · iexact HS4
        iexact HS5
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9
/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hp : Passes m) (c : Dev nD) : BodyObligation (dats (F := F) m hO 0 c) (defs₀ (F := F)) Variants.none () Set.univ forgets0 := fun t => by
  rw [bigSep_W0, bigSep_W0, defs₀_row m hO]
  exact triple_restated (sound_body m hO hp c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hp : Passes m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO hp c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 3, 4, 5, 6, 7, 8, 9) (Lib/Pipeline/Frame.lean `RDat.FramePost` over the proof data with those windows
    forgotten, Dat.lean `Dat.toRForget`), and every other unscoped buffer at its region-entry contents. -/
theorem run_main (hO : Ok m) (hp : Passes m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO hp)

/-- `frame` without the counters: the argument arrays end unchanged. -/
theorem unchanged (hO : Ok m) (hp : Passes m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (fun c => (dats m hO 0 c).toRForget forgets0) (A_eq m hO) (run_main m ρ hO hp)

/-- The frame: every execution ends with the arguments unchanged and the counters at zero. -/
theorem frame (hO : Ok m) (hp : Passes m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO hp) ((θ_run defs _ _).mono (fun _ h => h.2) (run_main_quiescent m ρ hO hp))

end Cert.KernelIdeal.Gen

end
-- ==== Proof.Body.KernelIdealChecks.lean ====
/- The kernel's side conditions follow from a prefix of at most 8192. -/
module

public import proofs.«01_k».proof.Proof.Body.Rows
public import proofs.«01_k».proof.Proof.Body.KernelIdealCompact

@[expose] public section

set_option maxRecDepth 4000

namespace Cert.KernelIdeal

open Idealize.ShloMosaic Cert.Body Cert.KernelIdeal.Body

theorem nTiles_bound (i : grid0.Coords) (v : BitVec 32) (hv : v.toInt ≤ 8192) :
    1 ≤ (nTiles i v).toNat ∧ (nTiles i v).toNat ≤ 32 :=
  tiles_bound (i 2).val (i 2).isLt v hv

theorem lastRow_isRow (i : grid0.Coords) (v : BitVec 32) (hv : v.toInt ≤ 8192) : IsRow (lastRow i v) :=
  IsRow.last (nTiles_bound i v hv)

theorem before_toNat (i : grid0.Coords) (v : BitVec 32) (hv : v.toInt ≤ 8192) :
    (Scalar.subi (nTiles i v) 1#32).toNat = (nTiles i v).toNat - 1 := by
  have h := nTiles_bound i v hv
  simp only [Scalar.subi, IntOp.subi, BitVec.toNat_sub, BitVec.toNat_ofNat]
  omega

theorem t3_trips (i : grid0.Coords) (v : BitVec 32) (hv : v.toInt ≤ 8192) :
    (k0_t3_loop i v).trips = (nTiles i v).toNat - 1 :=
  (trips_upto (x := Scalar.subi (nTiles i v) 1#32) (by have := nTiles_bound i v hv; rw [before_toNat i v hv]; omega)).1.trans
    (before_toNat i v hv)

theorem t4_trips (i : grid0.Coords) (v : BitVec 32) (hv : v.toInt ≤ 8192) : (k0_t4_loop i v).trips = 0 :=
  (trips_upto (x := Scalar.subi (nTiles i v) 1#32) (by have := nTiles_bound i v hv; rw [before_toNat i v hv]; omega)).2.2.1

theorem t5_trips (i : grid0.Coords) (v : BitVec 32) (hv : v.toInt ≤ 8192) : (k0_t5_loop i v).trips = (nTiles i v).toNat :=
  (trips_upto (x := nTiles i v) (nTiles_bound i v hv).2).1

theorem t6_trips (i : grid0.Coords) (v : BitVec 32) (hv : v.toInt ≤ 8192) : (k0_t6_loop i v).trips = 0 :=
  (trips_upto (x := nTiles i v) (nTiles_bound i v hv).2).2.2.1

theorem t3_row (i : grid0.Coords) (v : BitVec 32) (hv : v.toInt ≤ 8192) (t : Fin (k0_t3_loop i v).trips) :
    IsRow (Scalar.muli (Scf.iv 0#32 1#32 t.val) 256#32) :=
  IsRow.iv (by have := t.isLt; have := t3_trips i v hv; have := nTiles_bound i v hv; omega)

theorem t5_row (i : grid0.Coords) (v : BitVec 32) (hv : v.toInt ≤ 8192) (t : Fin (k0_t5_loop i v).trips) :
    IsRow (Scalar.muli (Scf.iv 0#32 1#32 t.val) 256#32) :=
  IsRow.iv (by have := t.isLt; have := t5_trips i v hv; have := nTiles_bound i v hv; omega)

theorem no_t4 (i : grid0.Coords) (v : BitVec 32) (hv : v.toInt ≤ 8192) (t : Fin (k0_t4_loop i v).trips) : False :=
  absurd (t.isLt.trans_eq (t4_trips i v hv)) (Nat.not_lt_zero _)

theorem no_t6 (i : grid0.Coords) (v : BitVec 32) (hv : v.toInt ≤ 8192) (t : Fin (k0_t6_loop i v).trips) : False :=
  absurd (t.isLt.trans_eq (t6_trips i v hv)) (Nat.not_lt_zero _)

/-- The bounds of a block of rank three whose middle axis starts at a tile. -/
theorem mid_bound {n : ℕ} (h : n + 256 ≤ 8192) (a : Fin 3) :
    (![0, n, 0] : Fin 3 → ℕ) a + S1x256x256.size a ≤ S1x8192x256.size a := by
  fin_cases a
  · exact le_rfl
  · exact h
  · exact le_rfl

theorem rep_bound {n : ℕ} (h : n + 8 ≤ 8192) (a : Fin 2) :
    (![n, 0] : Fin 2 → ℕ) a + S8x128.size a ≤ S8192x128.size a := by
  fin_cases a
  · exact h
  · exact le_rfl

theorem left_bound {n : ℕ} (h : n + 8 ≤ 8192) (a : Fin 2) :
    (![n, 0] : Fin 2 → ℕ) a + S8x256.size a ≤ S8192x512.size a := by
  fin_cases a
  · exact h
  · exact Nat.le_add_left 256 256

theorem right_bound {n : ℕ} (h : n + 8 ≤ 8192) (a : Fin 2) :
    (![n, 256] : Fin 2 → ℕ) a + S8x256.size a ≤ S8192x512.size a := by
  fin_cases a
  · exact h
  · exact le_rfl

theorem values_bound {n : ℕ} (h : n + 256 ≤ 8192) (a : Fin 2) :
    (![0, n] : Fin 2 → ℕ) a + S256x256.size a ≤ S256x8192.size a := by
  fin_cases a
  · exact le_rfl
  · exact h

theorem hleft_bound {n : ℕ} (h : n + 256 ≤ 8192) (a : Fin 2) :
    (![n, 0] : Fin 2 → ℕ) a + S256x256.size a ≤ S8192x512.size a := by
  fin_cases a
  · exact h
  · exact Nat.le_add_left 256 256

theorem hright_bound {n : ℕ} (h : n + 256 ≤ 8192) (a : Fin 2) :
    (![n, 256] : Fin 2 → ℕ) a + S256x256.size a ≤ S8192x512.size a := by
  fin_cases a
  · exact h
  · exact le_rfl

theorem ok3 (i : grid0.Coords) (v : BitVec 32) (hv : v.toInt ≤ 8192) : (k0_t3_loop i v).OK :=
  (trips_upto (x := Scalar.subi (nTiles i v) 1#32) (by have := nTiles_bound i v hv; rw [before_toNat i v hv]; omega)).2.1

theorem ok4 (i : grid0.Coords) (v : BitVec 32) (hv : v.toInt ≤ 8192) : (k0_t4_loop i v).OK :=
  (trips_upto (x := Scalar.subi (nTiles i v) 1#32) (by have := nTiles_bound i v hv; rw [before_toNat i v hv]; omega)).2.2.2

theorem last8 (i : grid0.Coords) (v : BitVec 32) (hv : v.toInt ≤ 8192) : ∀ c : BitVec 32, c.toNat % 8 = 0 ∧ c.toNat ≤ 248 → 8 ∣ (Scalar.addi (lastRow i v) c).toNat :=
  fun _ hc => (lastRow_isRow i v hv).dvd8 hc

theorem row8 (i : grid0.Coords) (v : BitVec 32) (hv : v.toInt ≤ 8192) :
    ∀ (t : Fin (k0_t3_loop i v).trips) (c : BitVec 32), c.toNat % 8 = 0 ∧ c.toNat ≤ 248 → 8 ∣ (Scalar.addi (Scalar.muli (Scf.iv 0#32 1#32 t.val) 256#32) c).toNat :=
  fun t _ hc => (t3_row i v hv t).dvd8 hc

theorem chk1_0 (i : grid0.Coords) (v : BitVec 32) (hv : v.toInt ≤ 8192) : k0_chk1_0 i v :=
  have hl := lastRow_isRow i v hv
  have l := last8 i v hv
  ⟨hl.dvd, mid_bound hl.tile, l _ (by decide), fun r => rep_bound (hl.piece r), fun r => left_bound (hl.piece r), l _ (by decide),
    l _ (by decide), l _ (by decide), l _ (by decide), l _ (by decide), l _ (by decide), l _ (by decide),
    l _ (by decide), l _ (by decide), l _ (by decide), l _ (by decide), l _ (by decide), l _ (by decide),
    l _ (by decide), l _ (by decide), l _ (by decide), l _ (by decide), l _ (by decide), l _ (by decide),
    l _ (by decide), l _ (by decide), l _ (by decide), l _ (by decide), l _ (by decide), l _ (by decide),
    l _ (by decide), l _ (by decide)⟩

theorem chk1_1 (i : grid0.Coords) (v : BitVec 32) (hv : v.toInt ≤ 8192) : k0_chk1_1 i v :=
  have hl := lastRow_isRow i v hv
  have l := last8 i v hv
  ⟨l _ (by decide), l _ (by decide), l _ (by decide), l _ (by decide), l _ (by decide), fun r => right_bound (hl.piece r),
    l _ (by decide), l _ (by decide), l _ (by decide), l _ (by decide), l _ (by decide), l _ (by decide),
    l _ (by decide), l _ (by decide), l _ (by decide), l _ (by decide), l _ (by decide), l _ (by decide),
    l _ (by decide), l _ (by decide), l _ (by decide), l _ (by decide), l _ (by decide), l _ (by decide),
    l _ (by decide), l _ (by decide), l _ (by decide), l _ (by decide), l _ (by decide), l _ (by decide),
    l _ (by decide), l _ (by decide)⟩

theorem chk1_2 (i : grid0.Coords) (v : BitVec 32) (hv : v.toInt ≤ 8192) : k0_chk1_2 i v :=
  have l := last8 i v hv
  have h := row8 i v hv
  have h3 := t3_row i v hv
  ⟨l _ (by decide), l _ (by decide), l _ (by decide), l _ (by decide), l _ (by decide), ok3 i v hv,
    fun t => (h3 t).dvd, fun t => mid_bound (h3 t).tile, fun t => h t _ (by decide), fun t r => rep_bound ((h3 t).piece r), fun t r => left_bound ((h3 t).piece r), fun t => h t _ (by decide),
    fun t => h t _ (by decide), fun t => h t _ (by decide), fun t => h t _ (by decide), fun t => h t _ (by decide), fun t => h t _ (by decide), fun t => h t _ (by decide),
    fun t => h t _ (by decide), fun t => h t _ (by decide), fun t => h t _ (by decide), fun t => h t _ (by decide), fun t => h t _ (by decide), fun t => h t _ (by decide),
    fun t => h t _ (by decide), fun t => h t _ (by decide), fun t => h t _ (by decide), fun t => h t _ (by decide), fun t => h t _ (by decide), fun t => h t _ (by decide),
    fun t => h t _ (by decide), fun t => h t _ (by decide)⟩

theorem chk1_3 (i : grid0.Coords) (v : BitVec 32) (hv : v.toInt ≤ 8192) : k0_chk1_3 i v :=
  have h := row8 i v hv
  have h3 := t3_row i v hv
  ⟨fun t => h t _ (by decide), fun t => h t _ (by decide), fun t => h t _ (by decide), fun t => h t _ (by decide), fun t => h t _ (by decide), fun t => h t _ (by decide),
    fun t => h t _ (by decide), fun t => h t _ (by decide), fun t => h t _ (by decide), fun t => h t _ (by decide), fun t => h t _ (by decide), fun t r => right_bound ((h3 t).piece r),
    fun t => h t _ (by decide), fun t => h t _ (by decide), fun t => h t _ (by decide), fun t => h t _ (by decide), fun t => h t _ (by decide), fun t => h t _ (by decide),
    fun t => h t _ (by decide), fun t => h t _ (by decide), fun t => h t _ (by decide), fun t => h t _ (by decide), fun t => h t _ (by decide), fun t => h t _ (by decide),
    fun t => h t _ (by decide), fun t => h t _ (by decide), fun t => h t _ (by decide), fun t => h t _ (by decide), fun t => h t _ (by decide), fun t => h t _ (by decide),
    fun t => h t _ (by decide), fun t => h t _ (by decide)⟩

theorem chk1_4 (i : grid0.Coords) (v : BitVec 32) (hv : v.toInt ≤ 8192) : k0_chk1_4 i v :=
  have h := row8 i v hv
  have n := no_t4 i v hv
  ⟨fun t => h t _ (by decide), fun t => h t _ (by decide), fun t => h t _ (by decide), fun t => h t _ (by decide), fun t => h t _ (by decide), fun t => h t _ (by decide),
    fun t => h t _ (by decide), fun t => h t _ (by decide), fun t => h t _ (by decide), fun t => h t _ (by decide), fun t => h t _ (by decide), ok4 i v hv,
    fun t => (n t).elim, fun t => (n t).elim, fun t => (n t).elim, fun t => (n t).elim, fun t => (n t).elim, fun t => (n t).elim,
    fun t => (n t).elim, fun t => (n t).elim, fun t => (n t).elim, fun t => (n t).elim, fun t => (n t).elim, fun t => (n t).elim,
    fun t => (n t).elim, fun t => (n t).elim, fun t => (n t).elim, fun t => (n t).elim, fun t => (n t).elim, fun t => (n t).elim,
    fun t => (n t).elim, fun t => (n t).elim⟩

theorem chk1_5 (i : grid0.Coords) (v : BitVec 32) (hv : v.toInt ≤ 8192) : k0_chk1_5 i v :=
  have n := no_t4 i v hv
  ⟨fun t => (n t).elim, fun t => (n t).elim, fun t => (n t).elim, fun t => (n t).elim, fun t => (n t).elim, fun t => (n t).elim,
    fun t => (n t).elim, fun t => (n t).elim, fun t => (n t).elim, fun t => (n t).elim, fun t => (n t).elim, fun t => (n t).elim,
    fun t => (n t).elim, fun t => (n t).elim, fun t => (n t).elim, fun t => (n t).elim, fun t => (n t).elim, fun t => (n t).elim,
    fun t => (n t).elim, fun t => (n t).elim, fun t => (n t).elim, fun t => (n t).elim, fun t => (n t).elim, fun t => (n t).elim,
    fun t => (n t).elim, fun t => (n t).elim, fun t => (n t).elim, fun t => (n t).elim, fun t => (n t).elim, fun t => (n t).elim,
    fun t => (n t).elim, fun t => (n t).elim⟩

theorem chk1_6 (i : grid0.Coords) (v : BitVec 32) (hv : v.toInt ≤ 8192) : k0_chk1_6 i v :=
  have n := no_t4 i v hv
  have n6 := no_t6 i v hv
  have h5 := t5_row i v hv
  ⟨fun t => (n t).elim, fun t => (n t).elim, fun t => (n t).elim, fun t => (n t).elim, fun t => (n t).elim, fun t => (n t).elim,
    fun t => (n t).elim, fun t => (n t).elim, fun t => (n t).elim, fun t => (n t).elim, fun t => (n t).elim, fun t => (n t).elim,
    fun t => (n t).elim, fun t => (n t).elim, fun t => (n t).elim, fun t => (n t).elim, fun t => (n t).elim, (trips_upto (x := nTiles i v) (nTiles_bound i v hv).2).2.1,
    fun t => (h5 t).dvd, fun t => values_bound (h5 t).tile, fun t => hleft_bound (h5 t).tile, fun t => hright_bound (h5 t).tile, (trips_upto (x := nTiles i v) (nTiles_bound i v hv).2).2.2.2, fun t => (n6 t).elim,
    fun t => (n6 t).elim, fun t => (n6 t).elim, fun t => (n6 t).elim⟩

/-- The conditions of the checks hold for a prefix of at most 8192. -/
theorem chk1 (i : grid0.Coords) (v : BitVec 32) (hv : v.toInt ≤ 8192) : k0_chk1 i v :=
  ⟨chk1_0 i v hv, chk1_1 i v hv, chk1_2 i v hv, chk1_3 i v hv, chk1_4 i v hv, chk1_5 i v hv, chk1_6 i v hv⟩

end Cert.KernelIdeal

end
-- ==== Proof.Frames.KernelIdealTable.lean ====
/- A prefix table in range passes the kernel's checks. -/
module

public import proofs.«01_k».proof.Proof.Frames.KernelIdealFrame
public import proofs.«01_k».proof.Proof.Body.KernelIdealChecks
public import proofs.«01_k».proof.Proof.Gen.Pre_prefix_in_range
public import Idealize.ShloMosaic.Lib.ReduceAll

@[expose] public section

namespace Cert.KernelIdeal.Gen

open Idealize.ShloMosaic Idealize.SL.Sem
open Cert.KernelIdeal

variable {F : FTy → Type} [FloatOps F] [Named F]
variable (m : (ℓ : Loc nD τ sig) → Buf (Elt F) ℓ)

/-- The body's word is one of the table's. -/
theorem pword_eq (c : Dev nD) (i : grid0.Coords) : ∃ j : S3.Idx, pword m c i = m (((0 : Dev nD).tc : Thread nD τ).loc main_arg3) j := ⟨_, rfl⟩

theorem passes (h : ∀ j : S3.Idx, (m (((0 : Dev nD).tc : Thread nD τ).loc main_arg3) j).toInt ≤ 8192) : Passes m := fun c i =>
  chk1 i _ (by obtain ⟨j, e⟩ := pword_eq m c i; rw [e]; exact h j)

instance : Subsingleton Cert.Pre_prefix_in_range.S_.Idx := ⟨fun a b => funext fun d => d.elim0⟩

/-- The precondition of the frames says that every word of the table is at most 8192. -/
theorem in_range (x : FVec F Cert.Pre_prefix_in_range.S3x8192x2048 .bf16) (k v : FVec F Cert.Pre_prefix_in_range.S3x8192x1024 .bf16) (p : IVec S3 32)
    (h : (Cert.Pre_prefix_in_range.fn (F := F) x k v p) = fun _ => 1#1) (j : S3.Idx) : (p j).toInt ≤ 8192 := by
  have h0 := congrFun h (Shape.Idx.first Cert.Pre_prefix_in_range.Facts.h_S_)
  have h1 := Host.reduce_andi_all _ _ _ _ _ h0 j
  exact IntOp.cmpi_sle.1 h1

end Cert.KernelIdeal.Gen

end
-- ==== Proof.Value.Spec.lean ====
/- What the quantiser computes, on extended reals. -/
module

public import proofs.«01_k».proof.Proof.Body.KernelIdealCompact
public import Idealize.ShloMosaic.Lib.Pointwise
public import Idealize.ShloMosaic.PureOps.Reduce
public import Idealize.ShloMosaic.PureOps.Ideal.Laws

@[expose] public section

set_option maxRecDepth 65536
set_option synthInstance.maxSize 4096

noncomputable section

namespace Cert.Value

open Idealize.ShloMosaic

open Cert.KernelIdeal Cert.KernelIdeal.Gen Cert.KernelIdeal.Body

/-- The largest magnitude of a row. -/
def amax (f : Fin 256 → EReal) : EReal := Finset.univ.fold max ⊥ fun c => FloatOps.absf (F := Ideal) (φ := .f32) (f c)

/-- The exponent of a row whose largest magnitude is `a`. -/
def expo (a : EReal) : EReal :=
  if a = 0 then 0 else Ideal.liftRound Int.floor (Ideal.log (a * Ideal.ofBits FTy.f32 0x3B124925#32) * (((Real.log 2)⁻¹ : ℝ) : EReal)) + 1

/-- The scale of a row. -/
def scale (f : Fin 256 → EReal) : EReal := FloatOps.exp2 (F := Ideal) (φ := .f32) (expo (amax f))

/-- The code of `x` in a row. -/
def code (f : Fin 256 → EReal) (x : EReal) : EReal :=
  min (Ideal.ofBits FTy.f32 0x43E00000#32) (max (Ideal.ofBits FTy.f32 0xC3E00000#32) (x * FloatOps.exp2 (F := Ideal) (φ := .f32) (0 - expo (amax f))))

theorem ofBits_448 : Ideal.ofBits FTy.f32 0x3B124925#32 ≠ 0 := by
  simp [Ideal.ofBits, Ideal.ieee, -EReal.coe_mul]

theorem ofBits_ninf16 : Ideal.ofBits FTy.bf16 0xFF80#16 = ⊥ := by
  simp [Ideal.ofBits, Ideal.ieee]

theorem ofBits_ninf32 : Ideal.ofBits FTy.f32 0xFF800000#32 = ⊥ := by
  simp [Ideal.ofBits, Ideal.ieee]

theorem qexp_apply (x : FVec Ideal S256x256 .bf16) (r : Fin 256) (u : Fin 1) : qexp x (ix2 r u) = expo (amax fun c => x (ix2 r c)) := by
  pointwise [qexp]
  rw [ofBits_ninf16]
  rw [show (Named.named κ "inv_log_2" 1069066811#32 : Ideal .f32) = (((Real.log 2)⁻¹ : ℝ) : EReal) from IdealRules.named_const.ideal_named_scalar _ _ _ _ rfl]
  unfold expo amax
  simp only [mul_eq_zero, ofBits_448, or_false]
  rfl

theorem qscale_apply (x : FVec Ideal S256x256 .bf16) (r : Fin 256) (u : Fin 1) : qscale x (ix2 r u) = scale fun c => x (ix2 r c) := by
  pointwise [qscale]
  rw [qexp_apply]; rfl

theorem qval_apply (x : FVec Ideal S256x256 .bf16) (r : Fin 256) (u : Fin 256) : qval x (ix2 r u) = code (fun c => x (ix2 r c)) (x (ix2 r u)) := by
  pointwise [qval]
  rw [qexp_apply]; rfl

theorem asRow_apply (x : FVec Ideal S256x1 .f32) (r : Fin 256) (u : Fin 1) : asRow x (ix2 u r) = x (ix2 r 0) := by
  pointwise [asRow, lanes]

theorem qcodes_apply (x : Vec Ideal S1x256x256 .bf16) (r : Fin 256) (c : Fin 256) (u : Fin 1) :
    qcodes x (ix3 u r c) = code (fun c => x (ix3 0 r c)) (x (ix3 0 r c)) := by
  pointwise [qcodes]
  rw [qval_apply]
  pointwise [flat]

theorem row_apply (x : Vec Ideal S1x256x256 .bf16) (r : Fin 256) (u : Fin 1) :
    asRow (qscale (flat x)) (ix2 u r) = scale (fun c => x (ix3 0 r c)) := by
  rw [asRow_apply, qscale_apply]
  pointwise [flat]

end Cert.Value

end
-- ==== Proof.Value.Power.lean ====
/- Powers of two among the extended reals, and when a scale is one. -/
module

public import proofs.«01_k».proof.Proof.Value.Spec

@[expose] public section

noncomputable section

namespace Cert.Value

open Idealize.ShloMosaic

/-- A power of two with an integer exponent. -/
def P2 (x : EReal) : Prop := ∃ z : ℤ, x = (((2 : ℝ) ^ z : ℝ) : EReal)

theorem P2.pos {x : EReal} (h : P2 x) : 0 < x := by
  obtain ⟨z, rfl⟩ := h
  exact EReal.coe_pos.mpr (zpow_pos two_pos z)

theorem P2.max {x y : EReal} (hx : P2 x) (hy : P2 y) : P2 (max x y) := by
  rcases max_choice x y with h | h <;> rw [h] <;> assumption

theorem P2.min {x y : EReal} (hx : P2 x) (hy : P2 y) : P2 (min x y) := by
  rcases min_choice x y with h | h <;> rw [h] <;> assumption

theorem P2.mul {x y : EReal} (hx : P2 x) (hy : P2 y) : P2 (x * y) := by
  obtain ⟨a, rfl⟩ := hx
  obtain ⟨b, rfl⟩ := hy
  exact ⟨a + b, by rw [← EReal.coe_mul, zpow_add₀ two_ne_zero]⟩

theorem P2.inv {x : EReal} (hx : P2 x) : P2 (Ideal.div 1 x) ∧ Ideal.div 1 x = x⁻¹ := by
  have h0 := hx.pos
  have e : Ideal.div 1 x = x⁻¹ := by rw [Ideal.div, if_neg h0.ne', one_mul]
  refine ⟨?_, e⟩
  rw [e]
  obtain ⟨a, rfl⟩ := hx
  exact ⟨-a, by rw [← EReal.coe_inv, zpow_neg]⟩

theorem fold_max_mem {ι : Type} (s : Finset ι) (hs : s.Nonempty) (f : ι → EReal) : ∃ i ∈ s, s.fold max ⊥ f = f i :=
  Finset.exists_mem_eq_sup s hs f

theorem P2.fold {ι : Type} [Fintype ι] [Nonempty ι] {f : ι → EReal} (h : ∀ i, P2 (f i)) : P2 (Finset.univ.fold Max.max ⊥ f) := by
  obtain ⟨i, _, e⟩ := fold_max_mem Finset.univ Finset.univ_nonempty f
  rw [e]; exact h i

theorem P2.const76 : P2 (Ideal.ofBits FTy.f32 0x65800000#32) := by
  refine ⟨76, ?_⟩
  rw [show ((2 : ℝ) ^ (76 : ℤ)) = 75557863725914323419136 by norm_num]
  simp [Ideal.ofBits, Ideal.ieee, -EReal.coe_mul]
  norm_num

theorem P2.const50 : P2 (Ideal.ofBits FTy.f32 0x58800000#32) := by
  refine ⟨50, ?_⟩
  rw [show ((2 : ℝ) ^ (50 : ℤ)) = 1125899906842624 by norm_num]
  simp [Ideal.ofBits, Ideal.ieee, -EReal.coe_mul]
  norm_num

/-- The exponent of a real magnitude is an integer. -/
theorem expo_int (r : ℝ) (h : 0 ≤ r) : ∃ z : ℤ, expo (r : EReal) = ((z : ℝ) : EReal) := by
  unfold expo
  split
  · exact ⟨0, by simp⟩
  · rename_i h0
    have hr : 0 < r := lt_of_le_of_ne h (fun e => h0 (by rw [← e]; rfl))
    obtain ⟨c, hc, ec⟩ : ∃ c : ℝ, 0 < c ∧ Ideal.ofBits FTy.f32 0x3B124925#32 = (c : EReal) := by
      refine ⟨9586981 * 2 ^ (-32 : ℤ), by positivity, ?_⟩
      simp [Ideal.ofBits, Ideal.ieee, -EReal.coe_mul]
    rw [ec, ← EReal.coe_mul, Ideal.log_coe, if_neg (not_le.mpr (mul_pos hr hc)), ← EReal.coe_mul]
    exact ⟨⌊Real.log (r * c) * (Real.log 2)⁻¹⌋ + 1, by simp only [Ideal.liftRound]; push_cast; rfl⟩

theorem exp2_int (z : ℤ) : FloatOps.exp2 (F := Ideal) (φ := .f32) ((z : ℝ) : EReal) = (((2 : ℝ) ^ z : ℝ) : EReal) := by
  change Ideal.exp2 _ = _
  rw [Ideal.exp2_coe]
  exact congrArg _ (Real.rpow_intCast 2 z)

/-- The largest magnitude of finite values is real. -/
theorem amax_real (f : Fin 256 → EReal) (h : ∀ c, f c ≠ ⊤ ∧ f c ≠ ⊥) : ∃ r : ℝ, 0 ≤ r ∧ amax f = (r : EReal) := by
  obtain ⟨i, _, e⟩ := fold_max_mem Finset.univ Finset.univ_nonempty fun c => FloatOps.absf (F := Ideal) (φ := .f32) (f c)
  have e' : amax f = FloatOps.absf (F := Ideal) (φ := .f32) (f i) := e
  rw [e']
  lift f i to ℝ using h i with x
  refine ⟨|x|, abs_nonneg x, ?_⟩
  change max (x : EReal) (-(x : EReal)) = _
  rw [← EReal.coe_neg]
  exact (EReal.coe_strictMono.monotone.map_max (a := x) (b := -x)).symm

/-- The scale of a row of finite values is a power of two. -/
theorem scale_P2 (f : Fin 256 → EReal) (h : ∀ c, f c ≠ ⊤ ∧ f c ≠ ⊥) : P2 (scale f) := by
  obtain ⟨r, hr, e⟩ := amax_real f h
  obtain ⟨z, ez⟩ := expo_int r hr
  exact ⟨z, by unfold scale; rw [e, ez, exp2_int]⟩

end Cert.Value

end
-- ==== Proof.Body.KernelIdealValue.lean ====
/- The codes and scales the body leaves, on extended reals. -/
module

public import proofs.«01_k».proof.Proof.Body.KernelIdealKeeps
public import proofs.«01_k».proof.Proof.Value.Power

@[expose] public section

set_option maxRecDepth 65536
set_option synthInstance.maxSize 4096

noncomputable section

namespace Cert.Value

open Idealize.ShloMosaic Idealize.SL Idealize.SL.RA Idealize.SL.BI Idealize.SL.Sem
open scoped Idealize.SL.BI
open Idealize.SL.BI.BIBase Idealize.SL.BI.Laws Idealize.SL.ProofMode
open Cert.KernelIdeal Cert.KernelIdeal.Gen Cert.KernelIdeal.Body Cert.Body

/-- The codes of a block of keys or values. -/
def KC (X : S1x8192x256.Idx → EReal) : S1x8192x256.Idx → EReal := fun j => code (fun c => X (ix3 0 (j 1) c)) (X j)

/-- The scales of a block of keys or values. -/
def KS (X : S1x8192x256.Idx → EReal) : S1x1x1x8192.Idx → EReal := fun j => scale fun c => X (ix3 0 (j 3) c)

/-- The scale of the row of each key or value, on every lane. -/
def KR (X : S1x8192x256.Idx → EReal) : S8192x128.Idx → EReal := fun j => scale fun c => X (ix3 0 (j 0) c)

/-- The codes of a block of values, columns first. -/
def VT (X : S1x8192x256.Idx → EReal) : S256x8192.Idx → EReal := fun j => KC X (ix3 0 (j 1) (j 0))

/-- The scales of the values are powers of two. -/
def Fin2 (X : S1x8192x256.Idx → EReal) : Prop := ∀ j, P2 (KR X j)

/-- Column `c` of head `h` of a pair. -/
def col2 (h : Fin 2) (c : Fin 256) : Fin 512 := ⟨256 * h.val + c.val, by omega⟩

/-- The head of a column of a pair. -/
def head2 (c : Fin 512) : Fin 2 := ⟨c.val / 256, by omega⟩

/-- The codes of a block of queries. -/
def XC (X : S1x256x512.Idx → EReal) : S1x256x512.Idx → EReal := fun j => code (fun c => X (ix3 0 (j 1) (col2 (head2 (j 2)) c))) (X j)

/-- The scales of a block of queries. -/
def XS (X : S1x256x512.Idx → EReal) : S1x1x1x2x256.Idx → EReal := fun j => scale fun c => X (ix3 0 (j 4) (col2 (j 3) c))

/-- A store of a part of `Y` over contents that agree with `Y` elsewhere. -/
theorem overlay_eq {sh : Shape} {α : Type} {r : Rect sh} {X Y : sh.Idx → α} {w : r.shape.Idx → α} (hw : ∀ i, w i = Y (r.emb i)) (P : sh.Idx → Prop)
    (hX : ∀ j, P j → j ∉ r.set → X j = Y j) : ∀ j, P j → r.overlay X w j = Y j := by
  intro j hj
  by_cases h : j ∈ r.set
  · obtain ⟨i, rfl⟩ := r.exists_idx_of_mem h
    change r.overlay X w (r.emb i) = Y (r.emb i)
    rw [Rect.overlay_emb, hw]
  · rw [Rect.overlay_of_not_mem _ _ _ h, hX j hj h]

theorem exists_emb {sh : Shape} (r : Rect sh) {j : sh.Idx} (h : j ∈ r.set) : ∃ i, r.emb i = j := r.exists_idx_of_mem h

theorem off2_eq (t : Fin k0_t1_loop.trips) : k0_off2 t = ![0, 256 * t.val, 0] := by
  revert t; decide +kernel

theorem off4_eq (t : Fin k0_t1_loop.trips) : k0_off4 t = ![0, 0, 0, 256 * t.val] := by
  revert t; decide +kernel

theorem row_lt (t : Fin k0_t1_loop.trips) (r : Fin 256) : 256 * t.val + r.val < 8192 := by
  have := t.isLt
  have : k0_t1_loop.trips = 32 := by decide +kernel
  omega

theorem emb_off2 (t : Fin k0_t1_loop.trips) (hb) (u : Fin 1) (r c : Fin 256) :
    (Rect.unit (s := S1x8192x256) (k0_off2 t) S1x256x256.size hb).emb (ix3 u r c) = ix3 0 ⟨256 * t.val + r.val, row_lt t r⟩ c := by
  funext a
  apply Fin.ext
  rw [Rect.emb_apply]
  revert a
  simp only [off2_eq]
  intro a
  fin_cases a
  · simp
  · simp
  · simp

/-- The codes of a chunk are the chunk of the codes. -/
theorem qcodes_chunk (X : S1x8192x256.Idx → EReal) (t : Fin k0_t1_loop.trips) (hb) (i : S1x256x256.Idx) :
    qcodes (F := Idealize.ShloMosaic.Ideal) (ld (Rect.unit (s := S1x8192x256) (k0_off2 t) S1x256x256.size hb) X) i = KC X ((Rect.unit (s := S1x8192x256) (k0_off2 t) S1x256x256.size hb).emb i) := by
  obtain ⟨u, r, c, rfl⟩ : ∃ (u : Fin 1) (r c : Fin 256), i = ix3 u r c := ⟨i 0, i 1, i 2, eq_ix3 i⟩
  rw [qcodes_apply, emb_off2]
  exact congrArg₂ code (funext fun c' => congrArg X (emb_off2 t hb 0 r c')) (congrArg X (emb_off2 t hb 0 r c))

theorem emb_off4 (t : Fin k0_t1_loop.trips) (hb) (u v w : Fin 1) (r : Fin 256) :
    (Rect.unit (s := S1x1x1x8192) (k0_off4 t) S1x1x1x256.size hb).emb (ix4 u v w r) = ix4 0 0 0 ⟨256 * t.val + r.val, row_lt t r⟩ := by
  funext a
  apply Fin.ext
  rw [Rect.emb_apply]
  revert a
  simp only [off4_eq]
  intro a
  fin_cases a
  · simp
  · simp
  · simp
  · simp

theorem emb_off3 (t : Fin k0_t1_loop.trips) (hb) (r : Fin 256) (l : Fin 128) :
    (Rect.unit (s := S8192x128) (k0_off3 t) S256x128.size hb).emb (ix2 r l) = ix2 ⟨256 * t.val + r.val, row_lt t r⟩ l := by
  funext a
  apply Fin.ext
  rw [Rect.emb_apply]
  revert a
  simp only [k0_off3_eq]
  intro a
  fin_cases a
  · simp
  · simp

theorem emb_off5 (t : Fin k0_t1_loop.trips) (hb) (c r : Fin 256) :
    (Rect.unit (s := S256x8192) (k0_off5 t) S256x256.size hb).emb (ix2 c r) = ix2 c ⟨256 * t.val + r.val, row_lt t r⟩ := by
  funext a
  apply Fin.ext
  rw [Rect.emb_apply]
  revert a
  simp only [k0_off5_eq]
  intro a
  fin_cases a
  · simp
  · simp

theorem lanes_apply (x : Vec Idealize.ShloMosaic.Ideal S1x256x256 .bf16) (r : Fin 256) (l : Fin 128) :
    lanes (F := Idealize.ShloMosaic.Ideal) (qscale (flat x)) (ix2 r l) = scale fun c => x (ix3 0 r c) := by
  pointwise [lanes]
  rw [qscale_apply]
  pointwise [flat]

/-- The repeated scales of a chunk are the chunk of the repeated scales. -/
theorem lanes_chunk (X : S1x8192x256.Idx → EReal) (t : Fin k0_t1_loop.trips) (hb) (hb') (i : S256x128.Idx) :
    shapeCast S256x128 (lanes (F := Idealize.ShloMosaic.Ideal) (qscale (flat (ld (Rect.unit (s := S1x8192x256) (k0_off2 t) S1x256x256.size hb) X)))) shapeCasts_S256x128_S256x128 i
      = KR X ((Rect.unit (s := S8192x128) (k0_off3 t) S256x128.size hb').emb i) := by
  obtain ⟨r, l, rfl⟩ : ∃ (r : Fin 256) (l : Fin 128), i = ix2 r l := ⟨i 0, i 1, eq_ix2 i⟩
  rw [emb_off3]
  pointwise []
  rw [lanes_apply]
  exact congrArg scale (funext fun c' => congrArg X (emb_off2 t hb 0 r c'))

theorem transposed_apply (x : Vec Idealize.ShloMosaic.Ideal S1x256x256 .bf16) (c r : Fin 256) :
    shapeCast S256x256 (truncf .fp8e4m3 (transpose S256x256 [1, 0] (qval (F := Idealize.ShloMosaic.Ideal) (flat x)) transposes_S256x256_p1_0_S256x256) bitsLt_fp8e4m3_f32) shapeCasts_S256x256_S256x256 (ix2 c r)
      = code (fun c => x (ix3 0 r c)) (x (ix3 0 r c)) := by
  pointwise []
  rw [qval_apply]
  pointwise [flat]

/-- The transposed codes of a chunk are the chunk of the transposed codes. -/
theorem transposed_chunk (X : S1x8192x256.Idx → EReal) (t : Fin k0_t1_loop.trips) (hb) (hb') (i : S256x256.Idx) :
    shapeCast S256x256 (truncf .fp8e4m3 (transpose S256x256 [1, 0] (qval (F := Idealize.ShloMosaic.Ideal) (flat (ld (Rect.unit (s := S1x8192x256) (k0_off2 t) S1x256x256.size hb) X))) transposes_S256x256_p1_0_S256x256) bitsLt_fp8e4m3_f32) shapeCasts_S256x256_S256x256 i
      = VT X ((Rect.unit (s := S256x8192) (k0_off5 t) S256x256.size hb').emb i) := by
  obtain ⟨c, r, rfl⟩ : ∃ (c r : Fin 256), i = ix2 c r := ⟨i 0, i 1, eq_ix2 i⟩
  rw [transposed_apply, emb_off5]
  exact congrArg₂ code (funext fun c' => congrArg X (emb_off2 t hb 0 r c')) (congrArg X (emb_off2 t hb 0 r c))

/-- The largest scale of a chunk, lane by lane. -/
theorem carry_apply (m : FVec Idealize.ShloMosaic.Ideal S1x128 .f32) (x : Vec Idealize.ShloMosaic.Ideal S1x256x256 .bf16) (u : Fin 1) (l : Fin 128) :
    maximumf m (shapeCast S1x128 (multiReduction .maximumf [0] S128 (lanes (F := Idealize.ShloMosaic.Ideal) (qscale (flat x))) 0xFF800000#32 reduces_S256x128_S128 (.inl rfl) rfl) shapeCasts_S128_S1x128) (ix2 u l)
      = max (m (ix2 u l)) (Finset.univ.fold max ⊥ fun r : Fin 256 => scale fun c => x (ix3 0 r c)) := by
  pointwise []
  simp only [ofBits_ninf32, lanes_apply]

theorem row4_apply (x : Vec Idealize.ShloMosaic.Ideal S1x256x256 .bf16) (u v w : Fin 1) (r : Fin 256) :
    shapeCast S1x1x1x256 (asRow (qscale (flat x))) shapeCasts_S1x256_S1x1x1x256 (ix4 u v w r) = scale fun c => x (ix3 0 r c) := by
  pointwise []
  rw [row_apply]

theorem row5_apply (x : Vec Idealize.ShloMosaic.Ideal S1x256x256 .bf16) (u v w z : Fin 1) (r : Fin 256) :
    shapeCast S1x1x1x1x256 (asRow (qscale (flat x))) shapeCasts_S1x256_S1x1x1x1x256 (ix5 u v w z r) = scale fun c => x (ix3 0 r c) := by
  pointwise []
  rw [row_apply]

/-- The scales of a chunk are the chunk of the scales. -/
theorem row_chunk (X : S1x8192x256.Idx → EReal) (t : Fin k0_t1_loop.trips) (hb) (hb') (i : S1x1x1x256.Idx) :
    shapeCast S1x1x1x256 (asRow (F := Idealize.ShloMosaic.Ideal) (qscale (flat (ld (Rect.unit (s := S1x8192x256) (k0_off2 t) S1x256x256.size hb) X)))) shapeCasts_S1x256_S1x1x1x256 i
      = KS X ((Rect.unit (s := S1x1x1x8192) (k0_off4 t) S1x1x1x256.size hb').emb i) := by
  obtain ⟨u, v, w, r, rfl⟩ : ∃ (u v w : Fin 1) (r : Fin 256), i = ix4 u v w r := ⟨i 0, i 1, i 2, i 3, eq_ix4 i⟩
  rw [row4_apply, emb_off4]
  exact congrArg scale (funext fun c' => congrArg X (emb_off2 t hb 0 r c'))

/-- The codes and scales of the keys and values of the first `n` chunks are in place, and the inputs are `X4`, `X5`, `X6`. -/
structure Upto (X4 : S1x256x512.Idx → EReal) (X5 X6 : S1x8192x256.Idx → EReal) (n : ℕ) (s : St (Elt Idealize.ShloMosaic.Ideal) bsh bel) : Prop where
  h4 : s .x4 = X4
  h5 : s .x5 = X5
  h6 : s .x6 = X6
  h10 : ∀ j : S1x8192x256.Idx, (j 1).val < 256 * n → s .x10 j = KC X5 j
  h11 : ∀ j : S1x1x1x8192.Idx, (j 3).val < 256 * n → s .x11 j = KS X5 j
  h12 : ∀ j : S1x8192x256.Idx, (j 1).val < 256 * n → s .x12 j = KC X6 j
  h13 : ∀ j : S1x1x1x8192.Idx, (j 3).val < 256 * n → s .x13 j = KS X6 j
  h15 : ∀ j : S8192x128.Idx, (j 0).val < 256 * n → s .x15 j = KR X5 j
  h16 : ∀ j : S8192x128.Idx, (j 0).val < 256 * n → s .x16 j = KR X6 j
  h17 : ∀ j : S256x8192.Idx, (j 1).val < 256 * n → s .x17 j = VT X6 j

/-- The carried maximum of the value scales: zero before the first chunk, then powers of two. -/
def Carry (X6 : S1x8192x256.Idx → EReal) (n : ℕ) (m : FVec Idealize.ShloMosaic.Ideal S1x128 .f32) : Prop :=
  Fin2 X6 → ∀ j : S1x128.Idx, (n = 0 ∧ m j = 0) ∨ P2 (m j)

theorem before_off2 (t : Fin k0_t1_loop.trips) (hb) (j : S1x8192x256.Idx) (hj : (j 1).val < 256 * (t.val + 1))
    (h : j ∉ (Rect.unit (s := S1x8192x256) (k0_off2 t) S1x256x256.size hb).set) : (j 1).val < 256 * t.val := by
  by_contra hn
  refine h (Rect.mem_set_unit.mpr fun a => ?_)
  have h0 : (j 0).val < 1 := (j 0).isLt
  have h2 : (j 2).val < 256 := (j 2).isLt
  rw [off2_eq]
  fin_cases a
  · simp; omega
  · simp; omega
  · simp; omega

theorem before_off4 (t : Fin k0_t1_loop.trips) (hb) (j : S1x1x1x8192.Idx) (hj : (j 3).val < 256 * (t.val + 1))
    (h : j ∉ (Rect.unit (s := S1x1x1x8192) (k0_off4 t) S1x1x1x256.size hb).set) : (j 3).val < 256 * t.val := by
  by_contra hn
  refine h (Rect.mem_set_unit.mpr fun a => ?_)
  have h0 : (j 0).val < 1 := (j 0).isLt
  have h1 : (j 1).val < 1 := (j 1).isLt
  have h2 : (j 2).val < 1 := (j 2).isLt
  rw [off4_eq]
  fin_cases a
  · simp; omega
  · simp; omega
  · simp; omega
  · simp; omega

theorem before_off3 (t : Fin k0_t1_loop.trips) (hb) (j : S8192x128.Idx) (hj : (j 0).val < 256 * (t.val + 1))
    (h : j ∉ (Rect.unit (s := S8192x128) (k0_off3 t) S256x128.size hb).set) : (j 0).val < 256 * t.val := by
  by_contra hn
  refine h (Rect.mem_set_unit.mpr fun a => ?_)
  have h1 : (j 1).val < 128 := (j 1).isLt
  rw [k0_off3_eq]
  fin_cases a
  · simp; omega
  · simp; omega

theorem before_off5 (t : Fin k0_t1_loop.trips) (hb) (j : S256x8192.Idx) (hj : (j 1).val < 256 * (t.val + 1))
    (h : j ∉ (Rect.unit (s := S256x8192) (k0_off5 t) S256x256.size hb).set) : (j 1).val < 256 * t.val := by
  by_contra hn
  refine h (Rect.mem_set_unit.mpr fun a => ?_)
  have h0 : (j 0).val < 256 := (j 0).isLt
  rw [k0_off5_eq]
  fin_cases a
  · simp; omega
  · simp; omega

section Runs

variable {F : FTy → Type} [FloatOps F] [Named F]
variable {d : Dev nD} {R : Refs}
variable {Tb : sProp (MT nD τ sig Unit (Elt F) ℕ (UR sig nD τ) ℕ)}

/-- What a chunk stores. -/
theorem runs_chunk (i : grid0.Coords) (h : k0_cond1 i = 1#1) (t : Fin k0_t1_loop.trips) (m : FVec F S1x128 .f32) (st : St (Elt F) bsh bel) :
    Runs d (Refs.m R) Tb (defs₀ (F := F)) st (chunk R i h t m) fun a s => s .x4 = st .x4 ∧ s .x5 = st .x5 ∧ s .x6 = st .x6
      ∧ s .x10 = (Rect.unit (s := S1x8192x256) (k0_off2 t) S1x256x256.size (k0_off2_inb i t h)).overlay (st .x10) (qcodes (ld (Rect.unit (s := S1x8192x256) (k0_off2 t) S1x256x256.size (k0_off2_inb i t h)) (st .x5)))
      ∧ s .x11 = (Rect.unit (s := S1x1x1x8192) (k0_off4 t) S1x1x1x256.size (k0_off4_inb i t h)).overlay (st .x11)
          (shapeCast S1x1x1x256 (asRow (qscale (flat (ld (Rect.unit (s := S1x8192x256) (k0_off2 t) S1x256x256.size (k0_off2_inb i t h)) (st .x5))))) shapeCasts_S1x256_S1x1x1x256)
      ∧ s .x12 = (Rect.unit (s := S1x8192x256) (k0_off2 t) S1x256x256.size (k0_off2_inb i t h)).overlay (st .x12) (qcodes (ld (Rect.unit (s := S1x8192x256) (k0_off2 t) S1x256x256.size (k0_off2_inb i t h)) (st .x6)))
      ∧ s .x13 = (Rect.unit (s := S1x1x1x8192) (k0_off4 t) S1x1x1x256.size (k0_off4_inb i t h)).overlay (st .x13)
          (shapeCast S1x1x1x256 (asRow (qscale (flat (ld (Rect.unit (s := S1x8192x256) (k0_off2 t) S1x256x256.size (k0_off2_inb i t h)) (st .x6))))) shapeCasts_S1x256_S1x1x1x256)
      ∧ s .x15 = (Rect.unit (s := S8192x128) (k0_off3 t) S256x128.size (k0_off3_inb i t h)).overlay (st .x15)
          (shapeCast S256x128 (lanes (qscale (flat (ld (Rect.unit (s := S1x8192x256) (k0_off2 t) S1x256x256.size (k0_off2_inb i t h)) (st .x5))))) shapeCasts_S256x128_S256x128)
      ∧ s .x16 = (Rect.unit (s := S8192x128) (k0_off3 t) S256x128.size (k0_off3_inb i t h)).overlay (st .x16)
          (shapeCast S256x128 (lanes (qscale (flat (ld (Rect.unit (s := S1x8192x256) (k0_off2 t) S1x256x256.size (k0_off2_inb i t h)) (st .x6))))) shapeCasts_S256x128_S256x128)
      ∧ s .x17 = (Rect.unit (s := S256x8192) (k0_off5 t) S256x256.size (k0_off5_inb i t h)).overlay (st .x17)
          (shapeCast S256x256 (truncf .fp8e4m3 (transpose S256x256 [1, 0] (qval (flat (ld (Rect.unit (s := S1x8192x256) (k0_off2 t) S1x256x256.size (k0_off2_inb i t h)) (st .x6)))) transposes_S256x256_p1_0_S256x256) bitsLt_fp8e4m3_f32) shapeCasts_S256x256_S256x256)
      ∧ a = maximumf m (shapeCast S1x128 (multiReduction .maximumf [0] S128 (lanes (qscale (flat (ld (Rect.unit (s := S1x8192x256) (k0_off2 t) S1x256x256.size (k0_off2_inb i t h)) (st .x6))))) 0xFF800000#32 reduces_S256x128_S128 (.inl rfl) rfl) shapeCasts_S128_S1x128) := by
  unfold chunk
  refine Runs.loadE .x5 (at_ R .x5) fun k hk => ?_
  refine Runs.loadE .x10 (at_ R .x10) fun _ _ => ?_
  refine Runs.storeE .x10 (at_ R .x10) fun X10 h10 Y10 hY10 => ?_
  refine Runs.loadE .x15 (at_ R .x15) fun _ _ => ?_
  refine Runs.storeE .x15 (at_ R .x15) fun X15 h15 Y15 hY15 => ?_
  refine Runs.loadE .x11 (at_ R .x11) fun _ _ => ?_
  refine Runs.storeE .x11 (at_ R .x11) fun X11 h11 Y11 hY11 => ?_
  refine Runs.loadE .x6 (at_ R .x6) fun v hv => ?_
  refine Runs.loadE .x12 (at_ R .x12) fun _ _ => ?_
  refine Runs.storeE .x12 (at_ R .x12) fun X12 h12 Y12 hY12 => ?_
  refine Runs.loadE .x17 (at_ R .x17) fun _ _ => ?_
  refine Runs.storeE .x17 (at_ R .x17) fun X17 h17 Y17 hY17 => ?_
  refine Runs.loadE .x16 (at_ R .x16) fun _ _ => ?_
  refine Runs.storeE .x16 (at_ R .x16) fun X16 h16 Y16 hY16 => ?_
  refine Runs.loadE .x13 (at_ R .x13) fun _ _ => ?_
  refine Runs.storeE .x13 (at_ R .x13) fun X13 h13 Y13 hY13 => ?_
  refine Runs.pure ?_
  simp (disch := decide) only [upd_ne] at h10 h11 h12 h13 h15 h16 h17 hk hv
  obtain rfl := eq_of_heq h10
  obtain rfl := eq_of_heq h11
  obtain rfl := eq_of_heq h12
  obtain rfl := eq_of_heq h13
  obtain rfl := eq_of_heq h15
  obtain rfl := eq_of_heq h16
  obtain rfl := eq_of_heq h17
  obtain rfl := eq_of_heq hk
  obtain rfl := eq_of_heq hv
  refine ⟨?_, ?_, ?_, ?_, ?_, ?_, ?_, ?_, ?_, ?_, rfl⟩
  · simp (disch := decide) only [upd_ne]
  · simp (disch := decide) only [upd_ne]
  · simp (disch := decide) only [upd_ne]
  · simp (disch := decide) only [upd_same, upd_ne]; exact eq_of_heq hY10
  · simp (disch := decide) only [upd_same, upd_ne]; exact eq_of_heq hY11
  · simp (disch := decide) only [upd_same, upd_ne]; exact eq_of_heq hY12
  · simp (disch := decide) only [upd_same, upd_ne]; exact eq_of_heq hY13
  · simp (disch := decide) only [upd_same, upd_ne]; exact eq_of_heq hY15
  · simp (disch := decide) only [upd_same, upd_ne]; exact eq_of_heq hY16
  · simp (disch := decide) only [upd_same, upd_ne]; exact eq_of_heq hY17

/-- What the query codes store. -/
theorem runs_queries (x : Vec F S1x256x256 .bf16) (st : St (Elt F) bsh bel) :
    Runs d (Refs.m R) Tb (defs₀ (F := F)) st (queries R x) fun y s => (s .x4 = st .x4 ∧ s .x5 = st .x5 ∧ s .x6 = st .x6 ∧ s .x10 = st .x10 ∧ s .x11 = st .x11 ∧ s .x12 = st .x12 ∧ s .x13 = st .x13
        ∧ s .x15 = st .x15 ∧ s .x16 = st .x16 ∧ s .x17 = st .x17 ∧ s .x19 = st .x19)
      ∧ s .x8 = (Rect.unit (s := S1x256x512) ![0, 0, 256] S1x256x256.size inb_S1x256x512_S1x256x256_0_0_256).overlay
          ((Rect.unit (s := S1x256x512) ![0, 0, 0] S1x256x256.size inb_S1x256x512_S1x256x256_0_0_0).overlay (st .x8) (qcodes x))
          (qcodes (ld (Rect.unit (s := S1x256x512) ![0, 0, 256] S1x256x256.size inb_S1x256x512_S1x256x256_0_0_256) (st .x4)))
      ∧ s .x9 = (Rect.unit (s := S1x1x1x2x256) ![0, 0, 0, 1, 0] S1x1x1x1x256.size inb_S1x1x1x2x256_S1x1x1x1x256_0_0_0_1_0).overlay
          ((Rect.unit (s := S1x1x1x2x256) ![0, 0, 0, 0, 0] S1x1x1x1x256.size inb_S1x1x1x2x256_S1x1x1x1x256_0_0_0_0_0).overlay (st .x9)
            (shapeCast S1x1x1x1x256 (asRow (qscale (flat x))) shapeCasts_S1x256_S1x1x1x1x256))
          (shapeCast S1x1x1x1x256 (asRow (qscale (flat (ld (Rect.unit (s := S1x256x512) ![0, 0, 256] S1x256x256.size inb_S1x256x512_S1x256x256_0_0_256) (st .x4))))) shapeCasts_S1x256_S1x1x1x1x256)
      ∧ y = (qrow x, qrow (ld (Rect.unit (s := S1x256x512) ![0, 0, 256] S1x256x256.size inb_S1x256x512_S1x256x256_0_0_256) (st .x4))) := by
  unfold queries
  refine Runs.storeE .x8 (at_ R .x8) fun X8 h8 Y8 hY8 => ?_
  refine Runs.loadE .x9 (at_ R .x9) fun _ _ => ?_
  refine Runs.storeE .x9 (at_ R .x9) fun X9 h9 Y9 hY9 => ?_
  refine Runs.loadE .x4 (at_ R .x4) fun y hy => ?_
  refine Runs.loadE .x8 (at_ R .x8) fun _ _ => ?_
  refine Runs.storeE .x8 (at_ R .x8) fun X8' h8' Y8' hY8' => ?_
  refine Runs.loadE .x9 (at_ R .x9) fun _ _ => ?_
  refine Runs.storeE .x9 (at_ R .x9) fun X9' h9' Y9' hY9' => ?_
  refine Runs.pure ?_
  simp (disch := decide) only [upd_ne, upd_same] at h8 h9 hy h8' h9'
  obtain rfl := eq_of_heq h8
  obtain rfl := eq_of_heq h9
  obtain rfl := eq_of_heq hy
  obtain rfl := eq_of_heq hY8
  obtain rfl := eq_of_heq hY9
  obtain rfl := eq_of_heq h8'
  obtain rfl := eq_of_heq h9'
  refine ⟨⟨?_, ?_, ?_, ?_, ?_, ?_, ?_, ?_, ?_, ?_, ?_⟩, ?_, ?_, rfl⟩
  · simp (disch := decide) only [upd_ne]
  · simp (disch := decide) only [upd_ne]
  · simp (disch := decide) only [upd_ne]
  · simp (disch := decide) only [upd_ne]
  · simp (disch := decide) only [upd_ne]
  · simp (disch := decide) only [upd_ne]
  · simp (disch := decide) only [upd_ne]
  · simp (disch := decide) only [upd_ne]
  · simp (disch := decide) only [upd_ne]
  · simp (disch := decide) only [upd_ne]
  · simp (disch := decide) only [upd_ne]
  · simp (disch := decide) only [upd_same, upd_ne]; exact eq_of_heq hY8'
  · simp (disch := decide) only [upd_same, upd_ne]; exact eq_of_heq hY9'

end Runs

section Ideal

variable {d : Dev nD} {R : Refs}
variable {Tb : sProp (MT nD τ sig Unit (Elt Idealize.ShloMosaic.Ideal) ℕ (UR sig nD τ) ℕ)}
variable {X4 : S1x256x512.Idx → EReal} {X5 X6 : S1x8192x256.Idx → EReal}

theorem upto_chunk (i : grid0.Coords) (h : k0_cond1 i = 1#1) (t : Fin k0_t1_loop.trips) (m : FVec Idealize.ShloMosaic.Ideal S1x128 .f32)
    (st : St (Elt Idealize.ShloMosaic.Ideal) bsh bel) (hs : Upto X4 X5 X6 t.val st) (hm : Carry X6 t.val m) :
    Runs d (Refs.m R) Tb (defs₀ (F := Idealize.ShloMosaic.Ideal)) st (chunk R i h t m) fun a s => Upto X4 X5 X6 (t.val + 1) s ∧ Carry X6 (t.val + 1) a := by
  refine (runs_chunk i h t m st).mono fun a s hq => ?_
  obtain ⟨h4, h5, h6, h10, h11, h12, h13, h15, h16, h17, ha⟩ := hq
  rw [hs.h5] at h10 h11 h15
  rw [hs.h6] at h12 h13 h16 h17 ha
  refine ⟨⟨h4.trans hs.h4, h5.trans hs.h5, h6.trans hs.h6, ?_, ?_, ?_, ?_, ?_, ?_, ?_⟩, ?_⟩
  · rw [h10]
    exact overlay_eq (qcodes_chunk X5 t _) (fun j => (j 1).val < 256 * (t.val + 1)) fun j hj hn => hs.h10 j (before_off2 t _ j hj hn)
  · rw [h11]
    exact overlay_eq (row_chunk X5 t _ _) (fun j => (j 3).val < 256 * (t.val + 1)) fun j hj hn => hs.h11 j (before_off4 t _ j hj hn)
  · rw [h12]
    exact overlay_eq (qcodes_chunk X6 t _) (fun j => (j 1).val < 256 * (t.val + 1)) fun j hj hn => hs.h12 j (before_off2 t _ j hj hn)
  · rw [h13]
    exact overlay_eq (row_chunk X6 t _ _) (fun j => (j 3).val < 256 * (t.val + 1)) fun j hj hn => hs.h13 j (before_off4 t _ j hj hn)
  · rw [h15]
    exact overlay_eq (lanes_chunk X5 t _ _) (fun j => (j 0).val < 256 * (t.val + 1)) fun j hj hn => hs.h15 j (before_off3 t _ j hj hn)
  · rw [h16]
    exact overlay_eq (lanes_chunk X6 t _ _) (fun j => (j 0).val < 256 * (t.val + 1)) fun j hj hn => hs.h16 j (before_off3 t _ j hj hn)
  · rw [h17]
    exact overlay_eq (transposed_chunk X6 t _ _) (fun j => (j 1).val < 256 * (t.val + 1)) fun j hj hn => hs.h17 j (before_off5 t _ j hj hn)
  · intro hf j
    right
    obtain ⟨u, l, rfl⟩ : ∃ (u : Fin 1) (l : Fin 128), j = ix2 u l := ⟨j 0, j 1, eq_ix2 j⟩
    rw [ha, carry_apply]
    have hp : P2 (Finset.univ.fold max ⊥ fun r : Fin 256 => scale fun c => (ld (Rect.unit (s := S1x8192x256) (k0_off2 t) S1x256x256.size (k0_off2_inb i t h)) X6) (ix3 0 r c)) := by
      refine P2.fold fun r => ?_
      have e : (scale fun c => (ld (Rect.unit (s := S1x8192x256) (k0_off2 t) S1x256x256.size (k0_off2_inb i t h)) X6) (ix3 0 r c)) = KR X6 (ix2 ⟨256 * t.val + r.val, row_lt t r⟩ l) :=
        congrArg scale (funext fun c' => congrArg X6 (emb_off2 t _ 0 r c'))
      rw [e]; exact hf _
    rcases hm hf (ix2 u l) with ⟨_, h0⟩ | h0
    · rw [h0, max_eq_right hp.pos.le]; exact hp
    · exact h0.max hp

/-- The codes and scales of the keys and values are in place, and the inputs are `X4`, `X5`, `X6`; the value scales are there times a power of two, and with its inverse. -/
structure Done (X4 : S1x256x512.Idx → EReal) (X5 X6 : S1x8192x256.Idx → EReal) (s : St (Elt Idealize.ShloMosaic.Ideal) bsh bel) : Prop where
  h4 : s .x4 = X4
  h5 : s .x5 = X5
  h6 : s .x6 = X6
  h10 : s .x10 = KC X5
  h11 : s .x11 = KS X5
  h12 : s .x12 = KC X6
  h13 : s .x13 = KS X6
  h15 : Fin2 X6 → s .x15 = KR X5
  h17 : Fin2 X6 → s .x17 = VT X6
  hn : Fin2 X6 → ∃ N : EReal, P2 N ∧ (∀ j, s .x16 j = KR X6 j * N) ∧ ∀ j, s .x19 j = N⁻¹

/-- What changes only the result, the weights and the accumulator leaves them in place. -/
theorem Done.of_keeps {s s' : St (Elt Idealize.ShloMosaic.Ideal) bsh bel} (h : Done X4 X5 X6 s) (hk : ∀ b, b ≠ .x7 → b ≠ .x14 → b ≠ .x18 → s' b = s b) : Done X4 X5 X6 s' :=
  ⟨(hk .x4 (by decide) (by decide) (by decide)).trans h.h4, (hk .x5 (by decide) (by decide) (by decide)).trans h.h5, (hk .x6 (by decide) (by decide) (by decide)).trans h.h6,
    (hk .x10 (by decide) (by decide) (by decide)).trans h.h10, (hk .x11 (by decide) (by decide) (by decide)).trans h.h11, (hk .x12 (by decide) (by decide) (by decide)).trans h.h12,
    (hk .x13 (by decide) (by decide) (by decide)).trans h.h13, fun hf => (hk .x15 (by decide) (by decide) (by decide)).trans (h.h15 hf), fun hf => (hk .x17 (by decide) (by decide) (by decide)).trans (h.h17 hf),
    fun hf => by rw [hk .x16 (by decide) (by decide) (by decide), hk .x19 (by decide) (by decide) (by decide)]; exact h.hn hf⟩

/-- The norm of the value scales. -/
def norm (m : FVec Idealize.ShloMosaic.Ideal S1x128 .f32) : EReal :=
  min (Idealize.ShloMosaic.Ideal.div 1 (Finset.univ.fold max ⊥ fun l : Fin 128 => m (ix2 0 l))) (Idealize.ShloMosaic.Ideal.ofBits FTy.f32 0x65800000#32) * Idealize.ShloMosaic.Ideal.ofBits FTy.f32 0x58800000#32

theorem pay703_apply (m : FVec Idealize.ShloMosaic.Ideal S1x128 .f32) (u v : Fin 1) : k0_pay703 m (ix2 u v) = norm m := by
  obtain rfl : u = 0 := Subsingleton.elim _ _
  pointwise [k0_pay703]
  rw [ofBits_ninf32]
  rfl

theorem pay704_apply (m : FVec Idealize.ShloMosaic.Ideal S1x128 .f32) (a : Fin 8) (l : Fin 128) : k0_pay704 m (ix2 a l) = Idealize.ShloMosaic.Ideal.div 1 (norm m) := by
  pointwise [k0_pay704]
  rw [pay703_apply]

theorem pay705_apply (m : FVec Idealize.ShloMosaic.Ideal S1x128 .f32) (x : Vec Idealize.ShloMosaic.Ideal S256x128 .f32) (r : Fin 256) (l : Fin 128) :
    k0_pay705 m x (ix2 r l) = x (ix2 r l) * norm m := by
  pointwise [k0_pay705]
  rw [pay703_apply]

theorem norm_P2 {m : FVec Idealize.ShloMosaic.Ideal S1x128 .f32} (hm : ∀ j, P2 (m j)) : P2 (norm m) :=
  (((P2.fold fun l => hm _).inv.1).min P2.const76).mul P2.const50

theorem row2_lt (t : Fin k0_t2_loop.trips) (r : Fin 256) : 256 * t.val + r.val < 8192 := by
  have := t.isLt
  have : k0_t2_loop.trips = 32 := by decide +kernel
  omega

theorem emb_off6 (t : Fin k0_t2_loop.trips) (hb) (r : Fin 256) (l : Fin 128) :
    (Rect.unit (s := S8192x128) (k0_off6 t) S256x128.size hb).emb (ix2 r l) = ix2 ⟨256 * t.val + r.val, row2_lt t r⟩ l := by
  funext a
  apply Fin.ext
  rw [Rect.emb_apply]
  revert a
  simp only [k0_off6_eq]
  intro a
  fin_cases a
  · simp
  · simp

theorem mem_off6 (t : Fin k0_t2_loop.trips) (hb) (j : S8192x128.Idx) :
    j ∈ (Rect.unit (s := S8192x128) (k0_off6 t) S256x128.size hb).set ↔ 256 * t.val ≤ (j 0).val ∧ (j 0).val < 256 * (t.val + 1) := by
  have h1 : (j 1).val < 128 := (j 1).isLt
  rw [Rect.mem_set_unit]
  constructor
  · intro h
    have := h 0
    rw [k0_off6_eq] at this
    simp at this
    omega
  · intro h a
    rw [k0_off6_eq]
    fin_cases a
    · simp; omega
    · simp; omega

/-- What the rescaling of a chunk stores. -/
theorem runs_rescale (i : grid0.Coords) (h : k0_cond1 i = 1#1) (m : FVec Idealize.ShloMosaic.Ideal S1x128 .f32) (t : Fin k0_t2_loop.trips) (u : Unit) (st : St (Elt Idealize.ShloMosaic.Ideal) bsh bel) :
    Runs d (Refs.m R) Tb (defs₀ (F := Idealize.ShloMosaic.Ideal)) st (rescale R i h m t u) fun _ s => (∀ b, b ≠ .x16 → s b = st b)
      ∧ s .x16 = (Rect.unit (s := S8192x128) (k0_off6 t) S256x128.size (k0_off6_inb i t h)).overlay (st .x16)
          (k0_pay705 m (ld (Rect.unit (s := S8192x128) (k0_off6 t) S256x128.size (k0_off6_inb i t h)) (st .x16))) := by
  unfold rescale
  refine Runs.loadE .x16 (at_ R .x16) fun x hx => ?_
  refine Runs.loadE .x16 (at_ R .x16) fun _ _ => ?_
  refine Runs.storeE .x16 (at_ R .x16) fun X hX Y hY => ?_
  refine Runs.pure ?_
  obtain rfl := eq_of_heq hx
  obtain rfl := eq_of_heq hX
  exact ⟨fun b hb => upd_ne _ hb _, (upd_same _ _ _).trans (eq_of_heq hY)⟩

theorem done_kv (i : grid0.Coords) (h : k0_cond1 i = 1#1) (st : St (Elt Idealize.ShloMosaic.Ideal) bsh bel) (h4 : st .x4 = X4) (h5 : st .x5 = X5) (h6 : st .x6 = X6) :
    Runs d (Refs.m R) Tb (defs₀ (F := Idealize.ShloMosaic.Ideal)) st (kv R i h) fun _ s => Done X4 X5 X6 s := by
  unfold kv
  refine Runs.bind (Runs.for (fun t m s => Upto X4 X5 X6 t s ∧ Carry X6 t m) ⟨⟨h4, h5, h6, ?_, ?_, ?_, ?_, ?_, ?_, ?_⟩, ?_⟩ fun t a s hs => upto_chunk i h t a s hs.1 hs.2) fun m s hs => ?_
  · intro j hj; omega
  · intro j hj; omega
  · intro j hj; omega
  · intro j hj; omega
  · intro j hj; omega
  · intro j hj; omega
  · intro j hj; omega
  · intro _ j; left; refine ⟨rfl, ?_⟩; pointwise []
  obtain ⟨hs, hm⟩ := hs
  have e : k0_t1_loop.trips = 32 := by decide +kernel
  have e2 : k0_t2_loop.trips = 32 := by decide +kernel
  rw [e] at hs hm
  refine Runs.loadE .x19 (at_ R .x19) fun _ _ => ?_
  refine Runs.storeE .x19 (at_ R .x19) fun X hX Y hY => ?_
  refine Runs.bind (Runs.for (fun t _ s' => (∀ b, b ≠ .x16 → b ≠ .x19 → s' b = s b) ∧ s' .x19 = Y
    ∧ ∀ j : S8192x128.Idx, s' .x16 j = if (j 0).val < 256 * t then s .x16 j * norm m else s .x16 j) ⟨?_, upd_same _ _ _, ?_⟩ fun t u s' hs' => ?_) fun _ s' hs' => Runs.pure ?_
  · intro b _ hb; exact upd_ne _ hb _
  · intro j; rw [if_neg (by omega), upd_ne _ (by decide)]
  · obtain ⟨ha, hb, hc⟩ := hs'
    refine (runs_rescale i h m t u s').mono fun _ s'' hq => ?_
    obtain ⟨hq, hq16⟩ := hq
    refine ⟨fun b h1 h2 => (hq b h1).trans (ha b h1 h2), (hq .x19 (by decide)).trans hb, fun j => ?_⟩
    rw [hq16]
    by_cases hj : j ∈ (Rect.unit (s := S8192x128) (k0_off6 t) S256x128.size (k0_off6_inb i t h)).set
    · have hj' := (mem_off6 t _ j).mp hj
      obtain ⟨k, rfl⟩ := exists_emb _ hj
      obtain ⟨r, l, rfl⟩ : ∃ (r : Fin 256) (l : Fin 128), k = ix2 r l := ⟨k 0, k 1, eq_ix2 k⟩
      rw [Rect.overlay_emb, pay705_apply, if_pos hj'.2]
      congr 1
      change s' .x16 ((Rect.unit (s := S8192x128) (k0_off6 t) S256x128.size (k0_off6_inb i t h)).emb (ix2 r l)) = _
      rw [hc, if_neg (by omega)]
    · have hj' : ¬ (256 * t.val ≤ (j 0).val ∧ (j 0).val < 256 * (t.val + 1)) := fun h => hj ((mem_off6 t _ j).mpr h)
      rw [Rect.overlay_of_not_mem _ _ _ hj, hc]
      by_cases h1 : (j 0).val < 256 * t.val
      · rw [if_pos h1, if_pos (by omega)]
      · rw [if_neg h1, if_neg (by omega)]
  · obtain ⟨ha, hb, hc⟩ := hs'
    rw [e2] at hc
    have hlt : ∀ j : S8192x128.Idx, (j 0).val < 256 * 32 := fun j => (j 0).isLt
    refine ⟨(ha .x4 (by decide) (by decide)).trans hs.h4, (ha .x5 (by decide) (by decide)).trans hs.h5, (ha .x6 (by decide) (by decide)).trans hs.h6,
      (ha .x10 (by decide) (by decide)).trans (funext fun j => hs.h10 j (j 1).isLt), (ha .x11 (by decide) (by decide)).trans (funext fun j => hs.h11 j (j 3).isLt),
      (ha .x12 (by decide) (by decide)).trans (funext fun j => hs.h12 j (j 1).isLt), (ha .x13 (by decide) (by decide)).trans (funext fun j => hs.h13 j (j 3).isLt),
      fun _ => (ha .x15 (by decide) (by decide)).trans (funext fun j => hs.h15 j (hlt j)), fun _ => (ha .x17 (by decide) (by decide)).trans (funext fun j => hs.h17 j (j 1).isLt), fun hf => ?_⟩
    have hN : P2 (norm m) := norm_P2 fun j => (hm hf j).resolve_left fun h => absurd h.1 (by decide)
    refine ⟨norm m, hN, fun j => ?_, fun j => ?_⟩
    · rw [hc, if_pos (hlt j), hs.h16 j (hlt j)]
    · rw [hb, eq_of_heq hY]
      have hj : j ∈ (Rect.unit (s := S8x128) ![0, 0] S8x128.size inb_S8x128_S8x128_0_0).set := by
        refine Rect.mem_set_unit.mpr fun a => ?_
        have h0 : (j 0).val < 8 := (j 0).isLt
        have h1 : (j 1).val < 128 := (j 1).isLt
        fin_cases a
        · simp; omega
        · simp; omega
      obtain ⟨k, rfl⟩ := exists_emb _ hj
      obtain ⟨r, l, rfl⟩ : ∃ (r : Fin 8) (l : Fin 128), k = ix2 r l := ⟨k 0, k 1, eq_ix2 k⟩
      rw [Rect.overlay_emb, pay704_apply]
      exact hN.inv.2

/-- The start of the body leaves the codes of the keys and values in place, if they are in place or it computes them. -/
theorem done_start (i : grid0.Coords) {q : PosShare TreeShare} {f : Buf (Elt Idealize.ShloMosaic.Ideal) (R.a3.view.loc (d.tc : Thread nD τ))}
    (hT : Tb = (R.a3.view.loc (d.tc : Thread nD τ) ↦[Finset.univ]{q} f)) (hc : k0_chk1 i (word R d i f))
    (st : St (Elt Idealize.ShloMosaic.Ideal) bsh bel) (h4 : st .x4 = X4) (h5 : st .x5 = X5) (h6 : st .x6 = X6) (hd : k0_cond1 i ≠ 1#1 → Done X4 X5 X6 st) :
    Runs d (Refs.m R) Tb (defs₀ (F := Idealize.ShloMosaic.Ideal)) st (start R i) fun a s => Done X4 X5 X6 s
      ∧ a.1 = word R d i f ∧ a.2.2 = ld (Rect.unit (s := S1x256x512) ![0, 0, 0] S1x256x256.size inb_S1x256x512_S1x256x256_0_0_0) X4 := by
  unfold start
  refine Runs.word hT ?_
  refine Runs.assume hc ?_
  have hl : ∀ s, Done X4 X5 X6 s → Runs d (Refs.m R) Tb (defs₀ (F := Idealize.ShloMosaic.Ideal)) s (Prog.lift (.load R.a4 (Rect.unit (s := S1x256x512) ![0, 0, 0] S1x256x256.size inb_S1x256x512_S1x256x256_0_0_0).toLoadRect (View.loadsAt_vmem h_S1x256x256)) >>= fun x : Vec Idealize.ShloMosaic.Ideal S1x256x256 .bf16 =>
      Prog.lift (.load R.a8 (Rect.unit (s := S1x256x512) ![0, 0, 0] S1x256x256.size inb_S1x256x512_S1x256x256_0_0_0).toLoadRect (View.loadsAt_vmem h_S1x256x256)) >>= fun _ : Vec Idealize.ShloMosaic.Ideal S1x256x256 .fp8e4m3 =>
      pure (⟨word R d i f, hc, x⟩ : Σ' (v1 : Elt Idealize.ShloMosaic.Ideal .i32) (hw : k0_chk1 i v1), Vec Idealize.ShloMosaic.Ideal S1x256x256 .bf16)) (fun a s => Done X4 X5 X6 s
      ∧ a.1 = word R d i f ∧ a.2.2 = ld (Rect.unit (s := S1x256x512) ![0, 0, 0] S1x256x256.size inb_S1x256x512_S1x256x256_0_0_0) X4) := by
    intro s hs
    refine Runs.loadE .x4 (at_ R .x4) fun X hX => ?_
    refine Runs.loadE .x8 (at_ R .x8) fun _ _ => ?_
    rw [hs.h4] at hX
    obtain rfl := eq_of_heq hX
    exact Runs.pure ⟨hs, rfl, rfl⟩
  by_cases h : k0_cond1 i = 1#1
  · dsimp only
    rw [dif_pos h]
    exact (done_kv i h st h4 h5 h6).bind fun _ s hs => hl s hs
  · dsimp only
    rw [dif_neg h]
    exact hl st (hd h)

theorem emb_q (h : Fin 2) (hb) (u : Fin 1) (r c : Fin 256) :
    (Rect.unit (s := S1x256x512) ![0, 0, 256 * h.val] S1x256x256.size hb).emb (ix3 u r c) = ix3 0 r (col2 h c) := by
  funext a
  apply Fin.ext
  rw [Rect.emb_apply]
  fin_cases a
  · simp
  · simp
  · simp [col2]

theorem head2_col2 (h : Fin 2) (c : Fin 256) : head2 (col2 h c) = h := by
  apply Fin.ext
  simp only [head2, col2]
  omega

theorem qcodes_head (X : S1x256x512.Idx → EReal) (h : Fin 2) (hb) (i : S1x256x256.Idx) :
    qcodes (F := Idealize.ShloMosaic.Ideal) (ld (Rect.unit (s := S1x256x512) ![0, 0, 256 * h.val] S1x256x256.size hb) X) i
      = XC X ((Rect.unit (s := S1x256x512) ![0, 0, 256 * h.val] S1x256x256.size hb).emb i) := by
  obtain ⟨u, r, c, rfl⟩ : ∃ (u : Fin 1) (r c : Fin 256), i = ix3 u r c := ⟨i 0, i 1, i 2, eq_ix3 i⟩
  rw [qcodes_apply, emb_q]
  refine (congrArg₂ code (funext fun c' => congrArg X (emb_q h hb 0 r c')) (congrArg X (emb_q h hb 0 r c))).trans ?_
  change _ = code (fun c' => X (ix3 0 r (col2 (head2 (col2 h c)) c'))) _
  rw [head2_col2]

theorem emb_qs (h : Fin 2) (hb) (u v w z : Fin 1) (r : Fin 256) :
    (Rect.unit (s := S1x1x1x2x256) ![0, 0, 0, h.val, 0] S1x1x1x1x256.size hb).emb (ix5 u v w z r) = ix5 0 0 0 h r := by
  funext a
  apply Fin.ext
  rw [Rect.emb_apply]
  fin_cases a
  · simp
  · simp
  · simp
  · simp
  · simp

theorem row_head (X : S1x256x512.Idx → EReal) (h : Fin 2) (hb) (hb') (i : S1x1x1x1x256.Idx) :
    shapeCast S1x1x1x1x256 (asRow (F := Idealize.ShloMosaic.Ideal) (qscale (flat (ld (Rect.unit (s := S1x256x512) ![0, 0, 256 * h.val] S1x256x256.size hb) X)))) shapeCasts_S1x256_S1x1x1x1x256 i
      = XS X ((Rect.unit (s := S1x1x1x2x256) ![0, 0, 0, h.val, 0] S1x1x1x1x256.size hb').emb i) := by
  obtain ⟨u, v, w, z, r, rfl⟩ : ∃ (u v w z : Fin 1) (r : Fin 256), i = ix5 u v w z r := ⟨i 0, i 1, i 2, i 3, i 4, eq_ix5 i⟩
  rw [row5_apply, emb_qs]
  exact congrArg scale (funext fun c' => congrArg X (emb_q h hb 0 r c'))

theorem scoreRow_apply (y : FVec Idealize.ShloMosaic.Ideal S1x256 .f32) (i : S1x256.Idx) :
    mulf y (broadcast S1x256 (Named.named κ "score_scale" 0x3AA3D70A#32)) i = y i * ((1 / 800 : ℝ) : EReal) := by
  pointwise []
  exact congrArg (y i * ·) (IdealRules.named_const.ideal_named_scalar _ _ _ _ rfl)

/-- A head's query scales times the score scale, as a row. -/
theorem qrow_head (X : S1x256x512.Idx → EReal) (h : Fin 2) (hb) (c : Fin 256) :
    qrow (F := Idealize.ShloMosaic.Ideal) (ld (Rect.unit (s := S1x256x512) ![0, 0, 256 * h.val] S1x256x256.size hb) X) (ix2 0 c) = XS X (ix5 0 0 0 h c) * ((1 / 800 : ℝ) : EReal) := by
  unfold qrow
  rw [scoreRow_apply, row_apply]
  exact congrArg (· * _) (congrArg scale (funext fun c' => congrArg X (emb_q h hb 0 c c')))

/-- The query codes and scales, and those of the keys and values, are in place. -/
theorem done_queries (st : St (Elt Idealize.ShloMosaic.Ideal) bsh bel) (hs : Done X4 X5 X6 st) :
    Runs d (Refs.m R) Tb (defs₀ (F := Idealize.ShloMosaic.Ideal)) st (queries R (ld (Rect.unit (s := S1x256x512) ![0, 0, 0] S1x256x256.size inb_S1x256x512_S1x256x256_0_0_0) X4))
      fun y s => Done X4 X5 X6 s ∧ s .x8 = XC X4 ∧ s .x9 = XS X4
        ∧ ∀ g c, (![y.1, y.2] : Fin 2 → FVec Idealize.ShloMosaic.Ideal S1x256 .f32) g (ix2 0 c) = XS X4 (ix5 0 0 0 g c) * ((1 / 800 : ℝ) : EReal) := by
  refine (runs_queries _ st).mono fun y s hq => ?_
  obtain ⟨⟨h4, h5, h6, h10, h11, h12, h13⟩, h8, h9, rfl⟩ := hq
  refine ⟨⟨h4.trans hs.h4, h5.trans hs.h5, h6.trans hs.h6, h10.trans hs.h10, h11.trans hs.h11, h12.trans hs.h12, h13.1.trans hs.h13, fun hf => h13.2.1.trans (hs.h15 hf), fun hf => h13.2.2.2.1.trans (hs.h17 hf),
    fun hf => by rw [h13.2.2.1, h13.2.2.2.2]; exact hs.hn hf⟩, ?_, ?_, fun g c => ?_⟩
  · rw [h8, hs.h4]
    funext j
    refine overlay_eq (qcodes_head X4 1 _) (fun _ => True) (fun j _ hj => ?_) j trivial
    refine overlay_eq (qcodes_head X4 0 _) (fun j => j ∉ (Rect.unit (s := S1x256x512) ![0, 0, 256] S1x256x256.size inb_S1x256x512_S1x256x256_0_0_256).set) (fun j hj hj' => ?_) j hj
    exfalso
    have h0 : (j 0).val < 1 := (j 0).isLt
    have h1 : (j 1).val < 256 := (j 1).isLt
    have h2 : (j 2).val < 512 := (j 2).isLt
    by_cases hc : (j 2).val < 256
    · refine hj' (Rect.mem_set_unit.mpr fun a => ?_)
      fin_cases a
      · simp; omega
      · simp; omega
      · simp; omega
    · refine hj (Rect.mem_set_unit.mpr fun a => ?_)
      fin_cases a
      · simp; omega
      · simp; omega
      · simp; omega
  · rw [h9, hs.h4]
    funext j
    refine overlay_eq (row_head X4 1 _ _) (fun _ => True) (fun j _ hj => ?_) j trivial
    refine overlay_eq (row_head X4 0 _ _) (fun j => j ∉ (Rect.unit (s := S1x1x1x2x256) ![0, 0, 0, 1, 0] S1x1x1x1x256.size inb_S1x1x1x2x256_S1x1x1x1x256_0_0_0_1_0).set) (fun j hj hj' => ?_) j hj
    exfalso
    have h0 : (j 0).val < 1 := (j 0).isLt
    have h1 : (j 1).val < 1 := (j 1).isLt
    have h2 : (j 2).val < 1 := (j 2).isLt
    have h3 : (j 3).val < 2 := (j 3).isLt
    have h4 : (j 4).val < 256 := (j 4).isLt
    by_cases hc : (j 3).val < 1
    · refine hj' (Rect.mem_set_unit.mpr fun a => ?_)
      fin_cases a
      · simp; omega
      · simp; omega
      · simp; omega
      · simp; omega
      · simp; omega
    · refine hj (Rect.mem_set_unit.mpr fun a => ?_)
      fin_cases a
      · simp; omega
      · simp; omega
      · simp; omega
      · simp; omega
      · simp; omega
  · rw [hs.h4]
    fin_cases g
    · exact qrow_head X4 0 _ c
    · exact qrow_head X4 1 _ c

end Ideal

end Cert.Value

end
-- ==== Proof.Body.KernelIdealScores.lean ====
/- The score tiles of the body, on extended reals: the weights they leave and their statistics. -/
module

public import proofs.«01_k».proof.Proof.Body.KernelIdealValue
public import proofs.«01_k».proof.Proof.Body.KernelIdealChecks

@[expose] public section

set_option maxRecDepth 65536
set_option synthInstance.maxSize 4096

noncomputable section

namespace Cert.Value

open Idealize.ShloMosaic Idealize.SL Idealize.SL.RA Idealize.SL.BI Idealize.SL.Sem
open scoped Idealize.SL.BI
open Idealize.SL.BI.BIBase Idealize.SL.BI.Laws Idealize.SL.ProofMode
open Cert.KernelIdeal Cert.KernelIdeal.Gen Cert.KernelIdeal.Body Cert.Body

local notation "𝕀" => Idealize.ShloMosaic.Ideal

/-! ### The statistics -/

/-- The statistics of the rows of eight keys in `S`: the largest weight, their sum, and the largest weight times value scale, per key modulo eight and query. -/
structure Stat (w : ℕ → Fin 256 → EReal) (v : ℕ → EReal) (S : Finset ℕ) (st : St3 𝕀) : Prop where
  h1 : ∀ (a : Fin 8) (q : Fin 256), st.1 (ix2 a q) = S.fold max 0 fun n => w (8 * n + a.val) q
  h2 : ∀ (a : Fin 8) (q : Fin 256), st.2.1 (ix2 a q) = ∑ n ∈ S, w (8 * n + a.val) q
  h3 : ∀ (a : Fin 8) (q : Fin 256), st.2.2 (ix2 a q) = S.fold max 0 fun n => w (8 * n + a.val) q * v (8 * n + a.val)

/-- Eight more keys. -/
theorem Stat.step {w : ℕ → Fin 256 → EReal} {v : ℕ → EReal} {S : Finset ℕ} {st : St3 𝕀} (h : Stat w v S st) {n : ℕ} (hn : n ∉ S) {e k : FVec 𝕀 S8x256 .f32}
    (he : ∀ (a : Fin 8) (q : Fin 256), e (ix2 a q) = w (8 * n + a.val) q) (hk : ∀ (a : Fin 8) (q : Fin 256), k (ix2 a q) = w (8 * n + a.val) q * v (8 * n + a.val)) :
    Stat w v (insert n S) (stat st e k) := by
  refine ⟨fun a q => ?_, fun a q => ?_, fun a q => ?_⟩
  · change max (st.1 (ix2 a q)) (e (ix2 a q)) = _
    rw [Finset.fold_insert hn, h.h1, he, max_comm]
  · change st.2.1 (ix2 a q) + e (ix2 a q) = _
    rw [Finset.sum_insert hn, h.h2, he, add_comm]
  · change max (st.2.2 (ix2 a q)) (k (ix2 a q)) = _
    rw [Finset.fold_insert hn, h.h3, hk, max_comm]

/-- The weights times value scales of the keys in `S` are in the columns of head `g`. -/
def Wts (w : ℕ → Fin 256 → EReal) (v : ℕ → EReal) (g : Fin 2) (S : Finset ℕ) (X : S8192x512.Idx → EReal) : Prop :=
  ∀ (j : Fin 8192) (q : Fin 256), j.val / 8 ∈ S → X (ix2 j (col2 g q)) = w j.val q * v j.val

/-! ### A piece -/

theorem off2_toNat {row : BitVec 32} {T : ℕ} (hT : T < 32) (hr : row.toNat = 256 * T) (r : Fin 32) (col : ℕ) :
    Body.off2 row col r = ![256 * T + 8 * r.val, col] := by
  have h : IsRow row := ⟨by omega, by omega⟩
  have e : (Scalar.indexCast (Scalar.addi row (BitVec.ofNat 32 (8 * r.val)))).toNat = 256 * T + 8 * r.val := by
    refine (h.add (piece_bound r)).trans ?_
    rw [hr, BitVec.toNat_ofNat]
    omega
  unfold Body.off2
  rw [e]

theorem piece_lt {T : ℕ} (hT : T < 32) (r : Fin 32) (a : Fin 8) : 8 * (32 * T + r.val) + a.val < 8192 := by omega

theorem emb_rep {row : BitVec 32} {T : ℕ} (hT : T < 32) (hr : row.toNat = 256 * T) (r : Fin 32) (hb) (a : Fin 8) (l : Fin 128) :
    (Rect.unit (s := S8192x128) (Body.off2 row 0 r) S8x128.size hb).emb (ix2 a l) = ix2 ⟨8 * (32 * T + r.val) + a.val, piece_lt hT r a⟩ l := by
  funext x
  apply Fin.ext
  rw [Rect.emb_apply]
  revert x
  simp only [off2_toNat hT hr]
  intro x
  fin_cases x
  · simp; omega
  · simp

theorem emb_head {row : BitVec 32} {T : ℕ} (hT : T < 32) (hr : row.toNat = 256 * T) (r : Fin 32) (g : Fin 2) (hb) (a : Fin 8) (q : Fin 256) :
    (Rect.unit (s := S8192x512) (Body.off2 row (256 * g.val) r) S8x256.size hb).emb (ix2 a q) = ix2 ⟨8 * (32 * T + r.val) + a.val, piece_lt hT r a⟩ (col2 g q) := by
  funext x
  apply Fin.ext
  rw [Rect.emb_apply]
  revert x
  simp only [off2_toNat hT hr]
  intro x
  fin_cases x
  · simp; omega
  · simp [col2]

theorem mem_head {row : BitVec 32} {T : ℕ} (hT : T < 32) (hr : row.toNat = 256 * T) (r : Fin 32) (g : Fin 2) (hb) (j : Fin 8192) (c : Fin 512) :
    ix2 j c ∈ (Rect.unit (s := S8192x512) (Body.off2 row (256 * g.val) r) S8x256.size hb).set ↔ j.val / 8 = 32 * T + r.val ∧ head2 c = g := by
  rw [Rect.mem_set_unit]
  constructor
  · intro h
    have h0 := h 0
    have h1 := h 1
    rw [off2_toNat hT hr] at h0 h1
    simp [ix2] at h0 h1
    refine ⟨by omega, Fin.ext ?_⟩
    simp only [head2]
    omega
  · rintro ⟨h, rfl⟩ x
    rw [off2_toNat hT hr]
    have := c.isLt
    fin_cases x
    · simp [ix2]; omega
    · simp [ix2, head2]; omega

theorem twice_apply (x : Vec 𝕀 S8x128 .f32) (y : EReal) (a : Fin 8) (hx : ∀ l : Fin 128, x (ix2 a l) = y) (q : Fin 256) : twice (F := 𝕀) x (ix2 a q) = y := by
  pointwise [twice]
  split
  · exact hx _
  · exact hx _

section Runs

variable {F : FTy → Type} [FloatOps F] [Named F]
variable {d : Dev nD} {R : Refs}
variable {Tb : sProp (MT nD τ sig Unit (Elt F) ℕ (UR sig nD τ) ℕ)}

/-- What a piece stores and gives. -/
theorem runs_piece (row : BitVec 32) (col : ℕ) (h8) (hh) (w : Fin 32 → Vec F S8x128 .f32 → FVec F S8x256 .f32) (r : Fin 32) (x : St3 F) (st : St (Elt F) bsh bel) :
    Runs d (Refs.m R) Tb (defs₀ (F := F)) st (Body.piece R.a14 R.a15 R.a16 row col h8 hh w r x) fun a s => (∀ b, b ≠ .x14 → s b = st b)
      ∧ s .x14 = (Rect.unit (s := S8192x512) (Body.off2 row col r) S8x256.size (hh r)).overlay (st .x14)
          (shapeCast S8x256 (mulf (w r (ld (Rect.unit (s := S8192x128) (Body.off2 row 0 r) S8x128.size (h8 r)) (st .x15)))
            (twice (ld (Rect.unit (s := S8192x128) (Body.off2 row 0 r) S8x128.size (h8 r)) (st .x16)))) shapeCasts_S8x256_S8x256)
      ∧ a = stat x (w r (ld (Rect.unit (s := S8192x128) (Body.off2 row 0 r) S8x128.size (h8 r)) (st .x15)))
          (mulf (w r (ld (Rect.unit (s := S8192x128) (Body.off2 row 0 r) S8x128.size (h8 r)) (st .x15)))
            (twice (ld (Rect.unit (s := S8192x128) (Body.off2 row 0 r) S8x128.size (h8 r)) (st .x16)))) := by
  unfold Body.piece
  refine Runs.loadE .x15 (at_ R .x15) fun k hk => ?_
  refine Runs.loadE .x16 (at_ R .x16) fun v hv => ?_
  refine Runs.loadE .x14 (at_ R .x14) fun _ _ => ?_
  refine Runs.storeE .x14 (at_ R .x14) fun X hX Y hY => ?_
  refine Runs.pure ?_
  obtain rfl := eq_of_heq hk
  obtain rfl := eq_of_heq hv
  obtain rfl := eq_of_heq hX
  exact ⟨fun b hb => upd_ne _ hb _, (upd_same _ _ _).trans (eq_of_heq hY), rfl⟩

theorem all32_eq : all32 = List.finRange 32 := by decide

/-- All pieces of a tile, by an invariant. -/
theorem runs_pieces {α : Type} {f : Fin 32 → α → Prog (TpuEff nD τ sig (Elt F) Λ₀ .tc) α} (J : ℕ → α → St (Elt F) bsh bel → Prop)
    (hb : ∀ (r : Fin 32) a s, J r.val a s → Runs d (Refs.m R) Tb (defs₀ (F := F)) s (f r a) (J (r.val + 1))) (a : α) (s : St (Elt F) bsh bel) (h0 : J 0 a s) : Runs d (Refs.m R) Tb (defs₀ (F := F)) s (pieces f all32 a) (J 32) := by
  have H : ∀ k, k ≤ 32 → ∀ a s, J (32 - k) a s → Runs d (Refs.m R) Tb (defs₀ (F := F)) s (pieces f ((List.finRange 32).drop (32 - k)) a) (J 32) := by
    intro k
    induction k with
    | zero => intro _ a s h; rw [Nat.sub_zero, List.drop_of_length_le (by simp)]; exact Runs.pure h
    | succ k ih =>
      intro hk a s h
      have hlt : 32 - (k + 1) < 32 := by omega
      rw [List.drop_eq_getElem_cons (by simpa using hlt), List.getElem_finRange, Fin.cast_mk]
      refine (hb ⟨_, hlt⟩ a s h).bind fun a' s' h' => ?_
      have e : 32 - (k + 1) + 1 = 32 - k := by omega
      rw [e] at h' ⊢
      exact ih (by omega) a' s' h'
  rw [all32_eq]
  exact H 32 le_rfl a s h0

end Runs

section Ideal

variable {d : Dev nD} {R : Refs}
variable {Tb : sProp (MT nD τ sig Unit (Elt 𝕀) ℕ (UR sig nD τ) ℕ)}

/-- What the pieces of one head of a tile leave, `n` of them done. -/
structure HeadInv (w : ℕ → Fin 256 → EReal) (v : ℕ → EReal) (g : Fin 2) (S : Finset ℕ) (st : St (Elt 𝕀) bsh bel) (x : St3 𝕀) (s : St (Elt 𝕀) bsh bel) : Prop where
  hs : Stat w v S x
  hw : Wts w v g S (s .x14)
  ho : ∀ (j : Fin 8192) (c : Fin 512), head2 c ≠ g → s .x14 (ix2 j c) = st .x14 (ix2 j c)
  hb : ∀ b, b ≠ .x14 → s b = st b

theorem head2_col (g : Fin 2) (c : Fin 512) (h : head2 c = g) : ∃ q : Fin 256, c = col2 g q := by
  subst h
  refine ⟨⟨c.val % 256, by omega⟩, Fin.ext ?_⟩
  simp only [col2, head2]
  omega

/-- The pieces of one head of a tile. -/
theorem runs_head {row : BitVec 32} {T : ℕ} (hT : T < 32) (hr : row.toNat = 256 * T) (g : Fin 2) (h8) (hh)
    (W : Fin 32 → Vec 𝕀 S8x128 .f32 → FVec 𝕀 S8x256 .f32) (w : ℕ → Fin 256 → EReal) (v : ℕ → EReal) (S : Finset ℕ) (hS : ∀ r < 32, 32 * T + r ∉ S)
    (st : St (Elt 𝕀) bsh bel) (hW : ∀ (r : Fin 32) (a : Fin 8) (q : Fin 256), W r (ld (Rect.unit (s := S8192x128) (Body.off2 row 0 r) S8x128.size (h8 r)) (st .x15)) (ix2 a q) = w (8 * (32 * T + r.val) + a.val) q)
    (hv : ∀ (j : Fin 8192) (l : Fin 128), st .x16 (ix2 j l) = v j.val)
    (x : St3 𝕀) (hx : Stat w v S x) (hX : Wts w v g S (st .x14)) :
    Runs d (Refs.m R) Tb (defs₀ (F := 𝕀)) st (pieces (Body.piece R.a14 R.a15 R.a16 row (256 * g.val) h8 hh W) all32 x) (HeadInv w v g (S ∪ Finset.Ico (32 * T) (32 * T + 32)) st) := by
  refine runs_pieces (fun r => HeadInv w v g (S ∪ Finset.Ico (32 * T) (32 * T + r)) st) (fun r a s hs => ?_) x st ⟨by simpa using hx, by simpa using hX, fun _ _ _ => rfl, fun _ _ => rfl⟩
  refine (runs_piece row (256 * g.val) h8 hh W r a s).mono fun a' s' hq => ?_
  obtain ⟨hb, h14, ha⟩ := hq
  rw [hs.hb .x15 (by decide), hs.hb .x16 (by decide)] at h14 ha
  have eS : S ∪ Finset.Ico (32 * T) (32 * T + (r.val + 1)) = insert (32 * T + r.val) (S ∪ Finset.Ico (32 * T) (32 * T + r.val)) := by
    ext n
    simp only [Finset.mem_union, Finset.mem_insert, Finset.mem_Ico]
    constructor
    · rintro (h | h)
      · exact .inr (.inl h)
      · by_cases e : n = 32 * T + r.val
        · exact .inl e
        · exact .inr (.inr ⟨by omega, by omega⟩)
    · rintro (h | h | h)
      · exact .inr ⟨by omega, by omega⟩
      · exact .inl h
      · exact .inr ⟨by omega, by omega⟩
  have hn : 32 * T + r.val ∉ S ∪ Finset.Ico (32 * T) (32 * T + r.val) := by
    simp only [Finset.mem_union, Finset.mem_Ico, not_or]
    exact ⟨hS r.val r.isLt, by omega⟩
  have htw : ∀ (a : Fin 8) (q : Fin 256), twice (F := 𝕀) (ld (Rect.unit (s := S8192x128) (Body.off2 row 0 r) S8x128.size (h8 r)) (st .x16)) (ix2 a q) = v (8 * (32 * T + r.val) + a.val) := by
    intro a q
    refine twice_apply _ _ a (fun l => ?_) q
    refine (congrArg (st .x16) (emb_rep hT hr r (h8 r) a l)).trans ?_
    rw [hv]
  rw [eS]
  refine ⟨?_, ?_, ?_, fun b hb' => (hb b hb').trans (hs.hb b hb')⟩
  · rw [ha]
    refine hs.hs.step hn (hW r) fun a q => ?_
    rw [← hW r, ← htw a q]
    rfl
  · intro j q hj
    rw [h14]
    by_cases hm : ix2 j (col2 g q) ∈ (Rect.unit (s := S8192x512) (Body.off2 row (256 * g.val) r) S8x256.size (hh r)).set
    · obtain ⟨k, hk⟩ := exists_emb _ hm
      obtain ⟨a, q', rfl⟩ : ∃ (a : Fin 8) (q' : Fin 256), k = ix2 a q' := ⟨k 0, k 1, eq_ix2 k⟩
      rw [← hk, Rect.overlay_emb]
      rw [emb_head hT hr] at hk
      have h0 : 8 * (32 * T + r.val) + a.val = j.val := congrArg Fin.val (congrFun hk 0)
      have h1 : q' = q := by
        have : (col2 g q').val = (col2 g q).val := congrArg Fin.val (congrFun hk 1)
        simp only [col2] at this
        exact Fin.ext (by omega)
      subst h1
      rw [← h0, ← hW r, ← htw a q']
      pointwise []
    · rw [Rect.overlay_of_not_mem _ _ _ hm]
      rw [mem_head hT hr, head2_col2] at hm
      refine hs.hw j q ((Finset.mem_insert.mp hj).resolve_left fun e => hm ⟨e, rfl⟩)
  · intro j c hc
    rw [h14, Rect.overlay_of_not_mem _ _ _ (fun hm => hc ((mem_head hT hr r g (hh r) j c).mp hm).2)]
    exact hs.ho j c hc

/-- The first three statistics, of head 0, or the last three, of head 1. -/
def half (x : St6 𝕀) (g : Fin 2) : St3 𝕀 := if g = 0 then (x.1, x.2.1, x.2.2.1) else (x.2.2.2.1, x.2.2.2.2.1, x.2.2.2.2.2)

/-- What the tiles leave when the keys in `S` are done. -/
structure TileInv (w : Fin 2 → ℕ → Fin 256 → EReal) (v : ℕ → EReal) (S : Finset ℕ) (st : St (Elt 𝕀) bsh bel) (x : St6 𝕀) (s : St (Elt 𝕀) bsh bel) : Prop where
  hs : ∀ g, Stat (w g) v S (half x g)
  hw : ∀ g, Wts (w g) v g S (s .x14)
  hb : ∀ b, b ≠ .x14 → s b = st b

/-- A tile. -/
theorem runs_tile {row : BitVec 32} {T : ℕ} (hT : T < 32) (hr : row.toNat = 256 * T) (h3) (h8) (h256) (h0)
    (W : FVec 𝕀 S1x256 .f32 → FVec 𝕀 S256x256 .f32 → Fin 32 → Vec 𝕀 S8x128 .f32 → FVec 𝕀 S8x256 .f32) (q : Fin 2 → FVec 𝕀 S1x256 .f32)
    (w : Fin 2 → ℕ → Fin 256 → EReal) (v : ℕ → EReal) (S : Finset ℕ) (hS : ∀ r < 32, 32 * T + r ∉ S) (st st' : St (Elt 𝕀) bsh bel)
    (hq : ∀ (g : Fin 2) (hb), ∀ (r : Fin 32) (a : Fin 8) (c : Fin 256), W (q g) (score (ld (Rect.unit (s := S1x8192x256) (off3 row) S1x256x256.size h3) (st .x10)) (ld (Rect.unit (s := S1x256x512) ![0, 0, 256 * g.val] S1x256x256.size hb) (st .x8))) r
      (ld (Rect.unit (s := S8192x128) (Body.off2 row 0 r) S8x128.size (h8 r)) (st .x15)) (ix2 a c) = w g (8 * (32 * T + r.val) + a.val) c)
    (hv : ∀ (j : Fin 8192) (l : Fin 128), st .x16 (ix2 j l) = v j.val)
    (x : St6 𝕀) (hx : TileInv w v S st x st') :
    Runs d (Refs.m R) Tb (defs₀ (F := 𝕀)) st' (tile R.a8 R.a10 R.a14 R.a15 R.a16 row h3 h8 h256 h0 W (q 0) (q 1) x) (TileInv w v (S ∪ Finset.Ico (32 * T) (32 * T + 32)) st) := by
  unfold tile
  refine Runs.loadE .x10 (at_ R .x10) fun k hk => ?_
  refine Runs.loadE .x8 (at_ R .x8) fun y hy => ?_
  rw [hx.hb .x10 (by decide)] at hk
  rw [hx.hb .x8 (by decide)] at hy
  obtain rfl := eq_of_heq hk
  obtain rfl := eq_of_heq hy
  refine Runs.bind (runs_head hT hr 0 h8 h0 _ (w 0) v S hS st' (fun r a c => ?_) (fun j l => ?_) _ (hx.hs 0) (hx.hw 0)) fun x0 s hs => ?_
  · rw [hx.hb .x15 (by decide)]; exact hq 0 _ r a c
  · rw [hx.hb .x16 (by decide)]; exact hv j l
  refine Runs.loadE .x8 (at_ R .x8) fun y hy => ?_
  rw [hs.hb .x8 (by decide), hx.hb .x8 (by decide)] at hy
  obtain rfl := eq_of_heq hy
  refine Runs.bind (runs_head hT hr 1 h8 h256 _ (w 1) v S hS s (fun r a c => ?_) (fun j l => ?_) _ (hx.hs 1) ?_) fun x1 s' hs' => Runs.pure ?_
  · rw [hs.hb .x15 (by decide), hx.hb .x15 (by decide)]; exact hq 1 _ r a c
  · rw [hs.hb .x16 (by decide), hx.hb .x16 (by decide)]; exact hv j l
  · intro j c hj
    rw [hs.ho j _ (by rw [head2_col2]; decide)]
    exact hx.hw 1 j c hj
  · refine ⟨fun g => ?_, fun g => ?_, fun b hb => (hs'.hb b hb).trans ((hs.hb b hb).trans (hx.hb b hb))⟩
    · fin_cases g
      · exact hs.hs
      · exact hs'.hs
    · fin_cases g
      · intro j c hj
        rw [hs'.ho j _ (by simp only [head2_col2]; decide)]
        exact hs.hw j c hj
      · exact hs'.hw

end Ideal

end Cert.Value

end
-- ==== Proof.Body.KernelIdealAttend.lean ====
/- The weights of all score tiles, on extended reals. -/
module

public import proofs.«01_k».proof.Proof.Body.KernelIdealScores

@[expose] public section

set_option maxRecDepth 65536
set_option synthInstance.maxSize 4096

noncomputable section

namespace Cert.Value

open Idealize.ShloMosaic Idealize.SL Idealize.SL.RA Idealize.SL.BI Idealize.SL.Sem
open scoped Idealize.SL.BI
open Idealize.SL.BI.BIBase Idealize.SL.BI.Laws Idealize.SL.ProofMode
open Cert.KernelIdeal Cert.KernelIdeal.Gen Cert.KernelIdeal.Body Cert.Body

local notation "𝕀" => Idealize.ShloMosaic.Ideal

/-- The number `n` as a key. -/
def key (n : ℕ) : Fin 8192 := ⟨n % 8192, Nat.mod_lt _ (by decide)⟩

theorem key_val (j : Fin 8192) : key j.val = j := Fin.ext (Nat.mod_eq_of_lt j.isLt)

/-- The product of the codes of key `j` and query `q` of head `g`. -/
def dotQK (X4 : S1x256x512.Idx → EReal) (X5 : S1x8192x256.Idx → EReal) (g : Fin 2) (j : Fin 8192) (q : Fin 256) : EReal :=
  ∑ c : Fin 256, KC X5 (ix3 0 j c) * XC X4 (ix3 0 q (col2 g c))

/-- What the weight's hyperbolic tangent is taken of. -/
def warg (X4 : S1x256x512.Idx → EReal) (X5 : S1x8192x256.Idx → EReal) (g : Fin 2) (j : Fin 8192) (q : Fin 256) : EReal :=
  dotQK X4 X5 g j q * KR X5 (ix2 j 0) * (XS X4 (ix5 0 0 0 g q) * ((1 / 800 : ℝ) : EReal))

/-- The weight of `t`. -/
def wexp2 (t : EReal) : EReal := Idealize.ShloMosaic.Ideal.exp2 (Idealize.ShloMosaic.Ideal.tanh t * ((50 / Real.log 2 : ℝ) : EReal))

/-- Key `n` is visible to query `q` of block `b`, with prefix `v`. -/
abbrev Vis (b : ℕ) (v : BitVec 32) (n : ℕ) (q : Fin 256) : Prop := (n : ℤ) < max (256 * (b : ℤ) + (q.val : ℤ) + 1) v.toInt

/-- The weight of key `n` for query `q` of head `g`: zero where it is not visible. -/
def wE (X4 : S1x256x512.Idx → EReal) (X5 : S1x8192x256.Idx → EReal) (b : ℕ) (v : BitVec 32) (g : Fin 2) (n : ℕ) (q : Fin 256) : EReal :=
  if Vis b v n q then wexp2 (warg X4 X5 g (key n) q) else 0

theorem score_apply (kc qc : Vec 𝕀 S1x256x256 .fp8e4m3) (r c : Fin 256) :
    score (F := 𝕀) kc qc (ix2 r c) = ∑ k : Fin 256, kc (ix3 0 r k) * qc (ix3 0 c k) := by
  pointwise [score]

theorem gain_eq : gain (F := 𝕀) = ((50 / Real.log 2 : ℝ) : EReal) := by
  unfold gain
  exact IdealRules.named_const.ideal_named_scalar _ _ _ _ rfl

theorem wts_apply (q : FVec 𝕀 S1x256 .f32) (s : FVec 𝕀 S256x256 .f32) (r : Fin 32) (ks : Vec 𝕀 S8x128 .f32) (a : Fin 8) (c : Fin 256) (y : EReal) (hy : ∀ l : Fin 128, ks (ix2 a l) = y) :
    wts (F := 𝕀) q s r ks (ix2 a c) = wexp2 (s (ix2 ⟨8 * r.val + a.val, by omega⟩ c) * y * q (ix2 0 c)) := by
  have ht := twice_apply ks y a hy c
  unfold wts wexp2
  rw [gain_eq]
  pointwise []
  rw [ht]
  rfl

theorem visEnd_toInt (i : grid0.Coords) (v : BitVec 32) (q : Fin 256) :
    (visEnd i v (ix2 0 q)).toInt = max (256 * ((i 2).val : ℤ) + (q.val : ℤ) + 1) v.toInt := by
  have h2 : (i 2).val < 32 := (i 2).isLt
  pointwise [visEnd]
  have hA : (IntOp.addi (IntOp.addi (Scalar.muli (BitVec.ofNat 32 (i 2).val) 256#32) (BitVec.ofNat 32 q.val)) 1#32).toNat = 256 * (i 2).val + q.val + 1 := by
    have := q.isLt
    simp only [Scalar.muli, IntOp.muli, IntOp.addi, BitVec.toNat_add, BitVec.toNat_mul, BitVec.toNat_ofNat]
    omega
  have hAi : (IntOp.addi (IntOp.addi (Scalar.muli (BitVec.ofNat 32 (i 2).val) 256#32) (BitVec.ofNat 32 q.val)) 1#32).toInt = 256 * ((i 2).val : ℤ) + (q.val : ℤ) + 1 := by
    have := q.isLt
    rw [BitVec.toInt_eq_toNat_of_lt (by rw [hA]; omega), hA]; push_cast; rfl
  rw [← hAi]
  simp only [IntOp.maxsi, BitVec.slt, decide_eq_true_eq]
  split <;> omega

theorem seen_apply (i : grid0.Coords) (v row : BitVec 32) (hr : row.toNat ≤ 8184) (a : Fin 8) (q : Fin 256) :
    seen (visEnd i v) row (ix2 a q) = if Vis (i 2).val v (row.toNat + a.val) q then 1#1 else 0#1 := by
  have h := visEnd_toInt i v q
  pointwise [seen]
  have hA : (IntOp.addi row (BitVec.ofNat 32 a.val)).toNat = row.toNat + a.val := by
    simp only [IntOp.addi, BitVec.toNat_add, BitVec.toNat_ofNat]
    omega
  have hAi : (IntOp.addi row (BitVec.ofNat 32 a.val)).toInt = ((row.toNat + a.val : ℕ) : ℤ) := by
    rw [BitVec.toInt_eq_toNat_of_lt (by rw [hA]; omega), hA]
  unfold Vis
  rw [← h, ← hAi]
  simp only [IntOp.cmpi, BitVec.slt]
  by_cases hc : (IntOp.addi row (BitVec.ofNat 32 a.val)).toInt < (visEnd i v (ix2 0 q)).toInt
  · simp [hc]
  · simp [hc]

theorem wtsMasked_apply (i : grid0.Coords) (v row : BitVec 32) (hr : row.toNat ≤ 8184) (e : FVec 𝕀 S8x256 .f32) (a : Fin 8) (q : Fin 256) :
    wtsMasked (F := 𝕀) (visEnd i v) row e (ix2 a q) = if Vis (i 2).val v (row.toNat + a.val) q then e (ix2 a q) else 0 := by
  have h := seen_apply i v row hr a q
  pointwise [wtsMasked]
  rw [h]
  by_cases hc : Vis (i 2).val v (row.toNat + a.val) q
  · rw [if_pos hc, if_pos hc]; rfl
  · rw [if_neg hc, if_neg hc]; rfl

theorem emb_tile {row : BitVec 32} {T : ℕ} (hT : T < 32) (hr : row.toNat = 256 * T) (hb) (u : Fin 1) (r c : Fin 256) :
    (Rect.unit (s := S1x8192x256) (off3 row) S1x256x256.size hb).emb (ix3 u r c) = ix3 0 ⟨256 * T + r.val, by omega⟩ c := by
  have e : off3 row = ![0, 256 * T, 0] := by
    have e : (Scalar.indexCast row).toNat = 256 * T := hr
    unfold off3
    rw [e]
  funext x
  apply Fin.ext
  rw [Rect.emb_apply]
  revert x
  simp only [e]
  intro x
  fin_cases x
  · simp
  · simp
  · simp

section Weights

variable (X4 : S1x256x512.Idx → EReal) (X5 : S1x8192x256.Idx → EReal)

/-- The weight of a piece's key for a query, before the mask. -/
theorem wts_tile {row : BitVec 32} {T : ℕ} (hT : T < 32) (hr : row.toNat = 256 * T) (h3) (r : Fin 32) (h8) (q : Fin 2 → FVec 𝕀 S1x256 .f32)
    (hqv : ∀ g c, q g (ix2 0 c) = XS X4 (ix5 0 0 0 g c) * ((1 / 800 : ℝ) : EReal)) (g : Fin 2) (hb) (a : Fin 8) (c : Fin 256) :
    wts (F := 𝕀) (q g) (score (ld (Rect.unit (s := S1x8192x256) (off3 row) S1x256x256.size h3) (KC X5)) (ld (Rect.unit (s := S1x256x512) ![0, 0, 256 * g.val] S1x256x256.size hb) (XC X4))) r
      (ld (Rect.unit (s := S8192x128) (Body.off2 row 0 r) S8x128.size h8) (KR X5)) (ix2 a c) = wexp2 (warg X4 X5 g (key (8 * (32 * T + r.val) + a.val)) c) := by
  have hlt := piece_lt hT r a
  have ej : key (8 * (32 * T + r.val) + a.val) = ⟨8 * (32 * T + r.val) + a.val, hlt⟩ := key_val ⟨_, hlt⟩
  rw [ej, wts_apply _ _ r _ a c (KR X5 (ix2 ⟨8 * (32 * T + r.val) + a.val, hlt⟩ 0)) (fun l => congrArg (KR X5) (emb_rep hT hr r h8 a l)), hqv, score_apply]
  unfold warg
  congr 3
  unfold dotQK
  refine Finset.sum_congr rfl fun k _ => ?_
  refine congrArg₂ (· * ·) ((congrArg (KC X5) (emb_tile hT hr h3 0 _ k)).trans ?_) (congrArg (XC X4) (emb_q g hb 0 c k))
  congr 2
  apply Fin.ext
  simp only
  omega

variable {d : Dev nD} {R : Refs}
variable {Tb : sProp (MT nD τ sig Unit (Elt 𝕀) ℕ (UR sig nD τ) ℕ)}

/-- All score tiles. -/
theorem runs_scores (i : grid0.Coords) (v1 : BitVec 32) (hw : k0_chk1 i v1) (hv1 : v1.toInt ≤ 8192) (q : Fin 2 → FVec 𝕀 S1x256 .f32)
    (hqv : ∀ g c, q g (ix2 0 c) = XS X4 (ix5 0 0 0 g c) * ((1 / 800 : ℝ) : EReal)) (v : ℕ → EReal) (st : St (Elt 𝕀) bsh bel)
    (h8 : st .x8 = XC X4) (h10 : st .x10 = KC X5) (h15 : st .x15 = KR X5) (hv : ∀ (j : Fin 8192) (l : Fin 128), st .x16 (ix2 j l) = v j.val) :
    Runs d (Refs.m R) Tb (defs₀ (F := 𝕀)) st (scores R i v1 hw (q 0) (q 1)) (TileInv (wE X4 X5 (i 2).val v1) v (Finset.range (32 * (nTiles i v1).toNat)) st) := by
  obtain ⟨hN1, hN2⟩ := nTiles_bound i v1 hv1
  obtain ⟨hs1, hs2, hs3⟩ := tiles_spec (i 2).val (i 2).isLt v1 hv1
  have hlast : (lastRow i v1).toNat = 256 * ((nTiles i v1).toNat - 1) := isRow_last ⟨hN1, hN2⟩
  change (nTiles i v1).toNat ≤ _ ∨ 256 * (((nTiles i v1).toNat : ℤ) - 1) < _ at hs1
  change _ ≤ (nTiles i v1).toNat at hs2
  change _ ≤ 256 * ((nTiles i v1).toNat : ℤ) at hs3
  have e3 := t3_trips i v1 hv1
  have e4 := t4_trips i v1 hv1
  generalize hNN : (nTiles i v1).toNat = N at *
  unfold scores
  refine Runs.bind (Q := TileInv (wE X4 X5 (i 2).val v1) v (∅ ∪ Finset.Ico (32 * (N - 1)) (32 * (N - 1) + 32)) st) ?_ fun x s hx => ?_
  · refine runs_tile (by omega) hlast _ _ _ _ _ q _ v ∅ (fun _ _ => Finset.notMem_empty _) st st (fun g hb r a c => ?_) hv _ ⟨fun g => ?_, fun g j c hj => absurd hj (Finset.notMem_empty _), fun _ _ => rfl⟩
    · rw [h8, h10, h15]
      unfold wtsLast wE
      have hadd : (Scalar.addi (lastRow i v1) (BitVec.ofNat 32 (8 * r.val))).toNat = 8 * (32 * (N - 1) + r.val) := by
        rw [(lastRow_isRow i v1 hv1).add (piece_bound r), hlast, BitVec.toNat_ofNat]; omega
      rw [wtsMasked_apply i v1 _ (by rw [hadd]; omega), hadd]
      split
      · exact wts_tile X4 X5 (by omega) hlast _ r _ q hqv g hb a c
      · rfl
    · fin_cases g
      · refine ⟨fun a c => ?_, fun a c => ?_, fun a c => ?_⟩ <;> simp [half] <;> pointwise []
      · refine ⟨fun a c => ?_, fun a c => ?_, fun a c => ?_⟩ <;> simp [half] <;> pointwise []
  refine Runs.bind (Q := TileInv (wE X4 X5 (i 2).val v1) v (Finset.range (32 * N)) st) ?_ fun x s hx => ?_
  · refine (Runs.for (fun t x s => TileInv (wE X4 X5 (i 2).val v1) v (Finset.Ico (32 * (N - 1)) (32 * N) ∪ Finset.range (32 * t)) st x s) ?_ fun t x s hx => ?_).mono fun x s hx => ?_
    · have e : ∅ ∪ Finset.Ico (32 * (N - 1)) (32 * (N - 1) + 32) = Finset.Ico (32 * (N - 1)) (32 * N) ∪ Finset.range (32 * 0) := by
        ext n; simp only [Finset.mem_union, Finset.mem_Ico, Finset.mem_range, Finset.notMem_empty, _root_.false_or]; omega
      rw [← e]; exact hx
    · have ht : t.val < N - 1 := by have := t.isLt; omega
      have hrow : (tileRow 0#32 t.val).toNat = 256 * t.val := isRow_iv (by omega)
      have e : Finset.Ico (32 * (N - 1)) (32 * N) ∪ Finset.range (32 * (t.val + 1)) = (Finset.Ico (32 * (N - 1)) (32 * N) ∪ Finset.range (32 * t.val)) ∪ Finset.Ico (32 * t.val) (32 * t.val + 32) := by
        ext n; simp only [Finset.mem_union, Finset.mem_Ico, Finset.mem_range]; omega
      rw [e]
      refine runs_tile (by omega) hrow _ _ _ _ _ q _ v _ (fun r hr => ?_) st s (fun g hb r a c => ?_) hv x hx
      · simp only [Finset.mem_union, Finset.mem_Ico, Finset.mem_range]; omega
      · rw [h8, h10, h15]
        refine (wts_tile X4 X5 (by omega) hrow _ r _ q hqv g hb a c).trans ?_
        unfold wE
        rw [if_pos]
        unfold Vis
        have := a.isLt
        have := r.isLt
        push_cast
        omega
    · rw [e3] at hx
      have e : Finset.Ico (32 * (N - 1)) (32 * N) ∪ Finset.range (32 * (N - 1)) = Finset.range (32 * N) := by
        ext n; simp only [Finset.mem_union, Finset.mem_Ico, Finset.mem_range]; omega
      rw [e] at hx; exact hx
  · exact Runs.for (fun _ x s => TileInv (wE X4 X5 (i 2).val v1) v (Finset.range (32 * N)) st x s) hx fun t _ _ _ => (no_t4 i v1 hv1 t).elim

end Weights

end Cert.Value

end
-- ==== Proof.Value.Attn.lean ====
/- Attention for one query, on extended reals: as the kernel computes it from unnormalized weights, and as the reference does. -/
module

public import proofs.«01_k».proof.Proof.Value.Power

@[expose] public section

noncomputable section

namespace Cert.Value

open Idealize.ShloMosaic

/-! ### What is computed for one query, from its weights -/

/-- The largest of the first `8 M` values, eight interleaved maxima first. -/
def kMax (w : ℕ → EReal) (M : ℕ) : EReal := Finset.univ.fold max ⊥ fun a : Fin 8 => (Finset.range M).fold max 0 fun n => w (8 * n + a.val)

/-- The sum of the first `8 M` values, eight interleaved sums first. -/
def kSum (w : ℕ → EReal) (M : ℕ) : EReal := ∑ a : Fin 8, ∑ n ∈ Finset.range M, w (8 * n + a.val)

/-- The exponent of the scale of the weights. -/
def kExp (w v : ℕ → EReal) (M : ℕ) : EReal := expo (Ideal.div (kMax (fun n => w n * v n) M) (kMax w M))

/-- The factor that makes the weights codes. -/
def kFactor (w v : ℕ → EReal) (M : ℕ) : EReal := Ideal.div (Ideal.exp2 (0 - kExp w v M)) (kMax w M)

/-- The scale of the result. -/
def kScale (w v : ℕ → EReal) (M : ℕ) (nf : EReal) : EReal :=
  Ideal.div (Ideal.exp2 (kExp w v M) * nf) (Ideal.div (kSum w M) (kMax w M))

/-- A value clipped to what a code holds. -/
def clip (x : EReal) : EReal := min (Ideal.ofBits FTy.f32 0x43E00000#32) (max (Ideal.ofBits FTy.f32 0xC3E00000#32) x)

/-- The result: the product of value codes and codes of weights, scaled. -/
def kRes (u w v : ℕ → EReal) (M : ℕ) (nf : EReal) : EReal :=
  (∑ n ∈ Finset.range (8 * M), u n * clip (w n * v n * kFactor w v M)) * kScale w v M nf

/-! ### Attention as it is defined -/

/-- The largest visible score. -/
def aMax (p : Fin 8192 → Prop) [DecidablePred p] (t : Fin 8192 → EReal) : EReal := Finset.univ.fold max ⊥ fun j => if p j then t j else ⊥

/-- The exponential of a score. -/
def aExp (p : Fin 8192 → Prop) [DecidablePred p] (t : Fin 8192 → EReal) (j : Fin 8192) : EReal := if p j then Ideal.exp (t j - aMax p t) else 0

/-- The exponent of the scale of the weights. -/
def aScale (p : Fin 8192 → Prop) [DecidablePred p] (t vs : Fin 8192 → EReal) : EReal :=
  expo (Finset.univ.fold max ⊥ fun j => FloatOps.absf (F := Ideal) (φ := .f32) (aExp p t j * vs j))

/-- The weighted sum of the codes `u`, with coded weights. -/
def attn (p : Fin 8192 → Prop) [DecidablePred p] (t vs u : Fin 8192 → EReal) : EReal :=
  Ideal.div ((∑ j, clip (aExp p t j * vs j * Ideal.exp2 (0 - aScale p t vs)) * u j) * Ideal.exp2 (aScale p t vs)) (∑ j, aExp p t j)

/-! ### They are equal -/

theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of real values. -/
theorem fold_coe {ι : Type} [Fintype ι] [Nonempty ι] (f : ι → ℝ) : ∃ i, (Finset.univ.fold max ⊥ fun j => (f j : EReal)) = (f i : EReal) ∧ ∀ j, f j ≤ f i := by
  obtain ⟨i, _, e⟩ := fold_max_mem Finset.univ Finset.univ_nonempty fun j => (f j : EReal)
  refine ⟨i, e, fun j => ?_⟩
  have h : (f j : EReal) ≤ Finset.univ.fold max ⊥ fun j => (f j : EReal) := (Finset.le_fold_max _).mpr (.inr ⟨j, Finset.mem_univ j, le_rfl⟩)
  rw [e] at h
  exact EReal.coe_le_coe_iff.mp h

theorem fold_eq {ι : Type} [Fintype ι] (f : ι → EReal) (x : EReal) (h : ∃ i, f i = x) (hx : ∀ j, f j ≤ x) : Finset.univ.fold max ⊥ f = x := by
  obtain ⟨i, rfl⟩ := h
  exact le_antisymm (Finset.fold_max_le _ |>.mpr ⟨bot_le, fun j _ => hx j⟩) ((Finset.le_fold_max _).mpr (.inr ⟨i, Finset.mem_univ i, le_rfl⟩))

theorem kMax_eq (w : ℕ → EReal) (M : ℕ) (hM : 8 * M ≤ 8192) (h0 : ∀ n, 0 ≤ w n) (hz : ∀ n, 8 * M ≤ n → w n = 0) :
    kMax w M = Finset.univ.fold max ⊥ fun j : Fin 8192 => w j.val := by
  refine le_antisymm (Finset.fold_max_le _ |>.mpr ⟨bot_le, fun a _ => Finset.fold_max_le _ |>.mpr ⟨?_, fun n hn => ?_⟩⟩) (Finset.fold_max_le _ |>.mpr ⟨bot_le, fun j _ => ?_⟩)
  · exact (Finset.le_fold_max _).mpr (.inr ⟨0, Finset.mem_univ _, h0 _⟩)
  · have := Finset.mem_range.mp hn
    have := a.isLt
    exact (Finset.le_fold_max _).mpr (.inr ⟨⟨8 * n + a.val, by omega⟩, Finset.mem_univ _, le_rfl⟩)
  · have hj : w j.val ≤ (Finset.range M).fold max 0 fun n => w (8 * n + (⟨j.val % 8, Nat.mod_lt _ (by decide)⟩ : Fin 8).val) := by
      by_cases h : j.val < 8 * M
      · refine (Finset.le_fold_max _).mpr (.inr ⟨j.val / 8, Finset.mem_range.mpr (by omega), le_of_eq (congrArg w ?_)⟩)
        show j.val = 8 * (j.val / 8) + j.val % 8
        omega
      · rw [hz _ (by omega)]
        exact (Finset.le_fold_max _).mpr (.inl le_rfl)
    exact (Finset.le_fold_max _).mpr (.inr ⟨_, Finset.mem_univ _, hj⟩)

theorem kSum_range (w : ℕ → EReal) (M : ℕ) : kSum w M = ∑ n ∈ Finset.range (8 * M), w n := by
  induction M with
  | zero => simp [kSum]
  | succ M ih =>
    rw [show 8 * (M + 1) = 8 * M + 8 by omega, Finset.sum_range_add, ← ih, Finset.sum_range (n := 8)]
    unfold kSum
    simp only [Finset.sum_range_succ]
    rw [Finset.sum_add_distrib]

theorem sum_all (f : ℕ → EReal) (M : ℕ) (hM : 8 * M ≤ 8192) (hz : ∀ n, 8 * M ≤ n → f n = 0) : ∑ n ∈ Finset.range (8 * M), f n = ∑ j : Fin 8192, f j.val := by
  rw [← Finset.sum_range]
  refine Finset.sum_subset (Finset.range_mono hM) fun n _ hn => hz n ?_
  by_contra h
  exact hn (Finset.mem_range.mpr (by omega))

/-- The exponent of a magnitude times a power of two. -/
theorem expo_shift (r : ℝ) (h : 0 < r) (n : ℤ) : ∃ z : ℤ, expo (r : EReal) = ((z : ℝ) : EReal) ∧ expo ((r * 2 ^ n : ℝ) : EReal) = (((n + z : ℤ) : ℝ) : EReal) := by
  obtain ⟨c, hc, ec⟩ : ∃ c : ℝ, 0 < c ∧ Ideal.ofBits FTy.f32 0x3B124925#32 = (c : EReal) := by
    refine ⟨9586981 * 2 ^ (-32 : ℤ), by positivity, ?_⟩
    simp [Ideal.ofBits, Ideal.ieee, -EReal.coe_mul]
  have h2 : (0 : ℝ) < 2 ^ n := zpow_pos two_pos n
  have key : ∀ x : ℝ, 0 < x → expo (x : EReal) = (((⌊Real.log (x * c) * (Real.log 2)⁻¹⌋ + 1 : ℤ) : ℝ) : EReal) := by
    intro x hx
    unfold expo
    rw [if_neg (by rw [EReal.coe_eq_zero]; exact hx.ne'), ec, ← EReal.coe_mul, Ideal.log_coe, if_neg (not_le.mpr (mul_pos hx hc)), ← EReal.coe_mul]
    simp only [Ideal.liftRound]; push_cast; rfl
  refine ⟨_, key r h, ?_⟩
  rw [key _ (mul_pos h h2)]
  have e : Real.log (r * 2 ^ n * c) * (Real.log 2)⁻¹ = Real.log (r * c) * (Real.log 2)⁻¹ + n := by
    rw [show r * 2 ^ n * c = r * c * 2 ^ n by ring, Real.log_mul (mul_pos h hc).ne' h2.ne', Real.log_zpow, add_mul, mul_assoc, mul_inv_cancel₀ (Real.log_pos one_lt_two).ne', mul_one]
  rw [e, Int.floor_add_intCast]
  congr 2
  omega

theorem div_coe (x : EReal) (y : ℝ) (h : 0 < y) : Ideal.div x (y : EReal) = x * ((y⁻¹ : ℝ) : EReal) := by
  rw [Ideal.div, if_neg (by rw [EReal.coe_eq_zero]; exact h.ne')]
  rfl

theorem clip_zero : clip 0 = 0 := by
  unfold clip
  have h1 : (0 : EReal) ≤ Ideal.ofBits FTy.f32 0x43E00000#32 := by
    simp [Ideal.ofBits, Ideal.ieee, -EReal.coe_mul]
  have h2 : Ideal.ofBits FTy.f32 0xC3E00000#32 ≤ (0 : EReal) := by
    simp [Ideal.ofBits, Ideal.ieee, -EReal.coe_mul]
  rw [max_eq_right h2, min_eq_right h1]

theorem kRes_attn (p : Fin 8192 → Prop) [DecidablePred p] (x : Fin 8192 → ℝ) (t vs u : Fin 8192 → EReal) (ht : ∀ j, t j = (x j : EReal)) (hvs : ∀ j, P2 (vs j))
    (N : EReal) (hN : P2 N) (U W V : ℕ → EReal) (M : ℕ) (hM : 8 * M ≤ 8192) (hU : ∀ j : Fin 8192, U j.val = u j)
    (hW : ∀ j : Fin 8192, W j.val = if p j then ((Real.exp (x j) : ℝ) : EReal) else 0) (hW' : ∀ n, 8192 ≤ n → W n = 0) (hV : ∀ j : Fin 8192, V j.val = vs j * N)
    (hp : ∃ j, p j) (hz : ∀ j : Fin 8192, 8 * M ≤ j.val → ¬ p j) : kRes U W V M N⁻¹ = attn p t vs u := by
  obtain ⟨j0, hj0⟩ := hp
  obtain ⟨n, rfl⟩ := hN
  choose zv hzv using hvs
  obtain rfl : vs = fun j => (((2 : ℝ) ^ zv j : ℝ) : EReal) := funext hzv
  obtain rfl : t = fun j => (x j : EReal) := funext ht
  -- the weights are real
  let r : Fin 8192 → ℝ := fun j => if p j then Real.exp (x j) else 0
  have hr : ∀ j : Fin 8192, W j.val = (r j : EReal) := by
    intro j; rw [hW]; simp only [r]; split <;> simp
  have hr0 : ∀ j, 0 ≤ r j := by
    intro j; simp only [r]; split
    · exact (Real.exp_pos _).le
    · exact le_rfl
  have hrz : ∀ j : Fin 8192, 8 * M ≤ j.val → r j = 0 := fun j hj => if_neg (hz j hj)
  have hWz : ∀ k, 8 * M ≤ k → W k = 0 := by
    intro k hk
    by_cases h : k < 8192
    · rw [hr ⟨k, h⟩, hrz ⟨k, h⟩ hk]; rfl
    · exact hW' k (by omega)
  have hW0 : ∀ k, 0 ≤ W k := by
    intro k
    by_cases h : k < 8192
    · rw [hr ⟨k, h⟩]; exact EReal.coe_nonneg.mpr (hr0 _)
    · rw [hW' k (by omega)]
  -- the largest weight
  obtain ⟨i, ei, hi⟩ := fold_coe r
  have hG : kMax W M = (r i : EReal) := by
    rw [kMax_eq W M hM hW0 hWz, ← ei]
    exact congrArg (Finset.univ.fold max ⊥) (funext hr)
  have hpi : p i := by
    by_contra h
    have h1 := hi j0
    rw [show r i = 0 from if_neg h, show r j0 = Real.exp (x j0) from if_pos hj0] at h1
    exact absurd h1 (not_le.mpr (Real.exp_pos _))
  have hri : r i = Real.exp (x i) := if_pos hpi
  have hg : 0 < r i := hri ▸ Real.exp_pos _
  have hmax : aMax p (fun j => (x j : EReal)) = (x i : EReal) := by
    refine fold_eq _ _ ⟨i, if_pos hpi⟩ fun j => ?_
    split
    · rename_i hj
      have h1 := hi j
      rw [hri, show r j = Real.exp (x j) from if_pos hj] at h1
      exact EReal.coe_le_coe_iff.mpr (Real.exp_le_exp.mp h1)
    · exact bot_le
  -- the exponentials
  have he : ∀ j, aExp p (fun j => (x j : EReal)) j = ((r j * (r i)⁻¹ : ℝ) : EReal) := by
    intro j
    unfold aExp
    rw [hmax]
    by_cases hj : p j
    · rw [if_pos hj, ← EReal.coe_sub, Ideal.exp_coe, hri, show r j = Real.exp (x j) from if_pos hj, Real.exp_sub, div_eq_mul_inv]
    · rw [if_neg hj, show r j = 0 from if_neg hj, zero_mul]; rfl
  -- the largest weight times the values' scales
  obtain ⟨k, ek, hk⟩ := fold_coe fun j => r j * (r i)⁻¹ * 2 ^ zv j
  have ha : 0 < r k * (r i)⁻¹ * 2 ^ zv k := lt_of_lt_of_le (mul_pos (mul_pos hg (inv_pos.mpr hg)) (zpow_pos two_pos _)) (hk i)
  have hA : (Finset.univ.fold max ⊥ fun j => FloatOps.absf (F := Ideal) (φ := .f32) (aExp p (fun j => (x j : EReal)) j * (((2 : ℝ) ^ zv j : ℝ) : EReal)))
      = ((r k * (r i)⁻¹ * 2 ^ zv k : ℝ) : EReal) := by
    rw [← ek]
    refine congrArg (Finset.univ.fold max ⊥) (funext fun j => ?_)
    rw [he, ← EReal.coe_mul]
    change max (_ : EReal) (-(_ : EReal)) = _
    have h0 : 0 ≤ r j * (r i)⁻¹ * 2 ^ zv j := mul_nonneg (mul_nonneg (hr0 j) (inv_nonneg.mpr hg.le)) (zpow_pos two_pos _).le
    rw [← EReal.coe_neg]
    exact max_eq_left (EReal.coe_le_coe_iff.mpr (by linarith))
  have h2n : (0 : ℝ) < 2 ^ n := zpow_pos two_pos n
  have hWV : ∀ j : Fin 8192, W j.val * V j.val = ((r j * (2 ^ zv j * 2 ^ n) : ℝ) : EReal) := by
    intro j; rw [hr, hV, ← EReal.coe_mul, ← EReal.coe_mul]
  have hH : kMax (fun k => W k * V k) M = ((r k * (2 ^ zv k * 2 ^ n) : ℝ) : EReal) := by
    rw [kMax_eq _ M hM (fun k => ?_) fun k hk => ?_]
    · refine fold_eq _ _ ⟨k, hWV k⟩ fun j => ?_
      rw [hWV]
      refine EReal.coe_le_coe_iff.mpr ?_
      have h1 := mul_le_mul_of_nonneg_right (hk j) (mul_pos hg h2n).le
      have e : ∀ j, r j * (r i)⁻¹ * 2 ^ zv j * (r i * 2 ^ n) = r j * (2 ^ zv j * 2 ^ n) := by
        intro j; field_simp
      simp only [e] at h1
      exact h1
    · by_cases h : k < 8192
      · rw [hWV ⟨k, h⟩]; exact EReal.coe_nonneg.mpr (mul_nonneg (hr0 _) (mul_pos (zpow_pos two_pos _) h2n).le)
      · rw [hW' k (by omega), zero_mul]
    · rw [hWz k hk, zero_mul]
  obtain ⟨z, ez, ez'⟩ := expo_shift _ ha n
  have hexp : kExp W V M = (((n + z : ℤ) : ℝ) : EReal) := by
    unfold kExp
    rw [hH, hG, div_coe _ _ hg, ← EReal.coe_mul, ← ez']
    exact congrArg (fun y : ℝ => expo (y : EReal)) (by ring)
  have hexp' : aScale p (fun j => (x j : EReal)) (fun j => (((2 : ℝ) ^ zv j : ℝ) : EReal)) = ((z : ℝ) : EReal) := by
    unfold aScale
    rw [hA, ez]
  have neg : ∀ y : ℤ, Ideal.exp2 (0 - ((y : ℝ) : EReal)) = (((2 : ℝ) ^ (-y) : ℝ) : EReal) := by
    intro y
    rw [zero_sub, ← EReal.coe_neg, ← Int.cast_neg]
    exact exp2_int _
  have pos : ∀ y : ℤ, Ideal.exp2 (((y : ℝ) : EReal)) = (((2 : ℝ) ^ y : ℝ) : EReal) := exp2_int
  have hL : 0 < ∑ j, r j := lt_of_lt_of_le hg (Finset.single_le_sum (fun j _ => hr0 j) (Finset.mem_univ i))
  have hfac : kFactor W V M = ((2 ^ (-(n + z)) * (r i)⁻¹ : ℝ) : EReal) := by
    unfold kFactor
    rw [hexp, neg, hG, div_coe _ _ hg, ← EReal.coe_mul]
  have hlk : kSum W M = ((∑ j, r j : ℝ) : EReal) := by
    rw [kSum_range, sum_all W M hM hWz, coe_sum']
    exact Finset.sum_congr rfl fun j _ => hr j
  have hla : ∑ j, aExp p (fun j => (x j : EReal)) j = ((((∑ j, r j) * (r i)⁻¹ : ℝ)) : EReal) := by
    rw [Finset.sum_mul, coe_sum']
    exact Finset.sum_congr rfl fun j _ => he j
  have hsc : kScale W V M (((2 : ℝ) ^ n : ℝ) : EReal)⁻¹ = ((2 ^ z : ℝ) : EReal) * ((((∑ j, r j) * (r i)⁻¹)⁻¹ : ℝ) : EReal) := by
    unfold kScale
    rw [hexp, pos, hlk, hG, div_coe _ _ hg, ← EReal.coe_mul, div_coe _ _ (mul_pos hL (inv_pos.mpr hg)), ← EReal.coe_inv, ← EReal.coe_mul]
    have e : (2 : ℝ) ^ (n + z) * (2 ^ n)⁻¹ = 2 ^ z := by
      rw [zpow_add₀ two_ne_zero, mul_comm ((2 : ℝ) ^ n), mul_assoc, mul_inv_cancel₀ h2n.ne', mul_one]
    rw [e]
  unfold kRes attn
  rw [hexp', neg, pos, hla, hsc, div_coe _ _ (mul_pos hL (inv_pos.mpr hg)), hfac, ← mul_assoc]
  refine congrArg (· * _ * _) ?_
  rw [sum_all _ M hM fun k hk => by rw [hWz k hk, zero_mul, zero_mul, clip_zero, mul_zero]]
  refine Finset.sum_congr rfl fun j _ => ?_
  rw [hU, hWV, he, mul_comm, ← EReal.coe_mul, ← EReal.coe_mul, ← EReal.coe_mul]
  have e : r j * (2 ^ zv j * 2 ^ n) * (2 ^ (-(n + z)) * (r i)⁻¹) = r j * (r i)⁻¹ * 2 ^ zv j * 2 ^ (-z) := by
    rw [neg_add, zpow_add₀ two_ne_zero, zpow_neg _ n]
    field_simp
  rw [e]

/-- The exponential of a capped score, as a power of two. -/
theorem exp2_cap (t : EReal) : ∃ τ : ℝ, Ideal.tanh t = (τ : EReal) ∧ Ideal.exp2 (Ideal.tanh t * ((50 / Real.log 2 : ℝ) : EReal)) = ((Real.exp (50 * τ) : ℝ) : EReal) := by
  obtain ⟨τ, h⟩ : ∃ τ : ℝ, Ideal.tanh t = (τ : EReal) := by
    induction t with
    | bot => exact ⟨-1, by simp [Ideal.tanh_bot]⟩
    | top => exact ⟨1, by simp [Ideal.tanh_top]⟩
    | coe r => exact ⟨_, Ideal.tanh_coe r⟩
  refine ⟨τ, h, ?_⟩
  rw [h, ← EReal.coe_mul, Ideal.exp2_coe]
  congr 1
  change (2 : ℝ) ^ (τ * (50 / Real.log 2)) = _
  rw [Real.rpow_def_of_pos two_pos]
  congr 1
  have := (Real.log_pos one_lt_two).ne'
  field_simp

end Cert.Value

end
-- ==== Proof.Body.KernelIdealOutput.lean ====
/- The product of the weights' codes and the value codes, and the body's first result, on extended reals. -/
module

public import proofs.«01_k».proof.Proof.Body.KernelIdealAttend
public import proofs.«01_k».proof.Proof.Value.Attn

@[expose] public section

set_option maxRecDepth 65536
set_option synthInstance.maxSize 4096

noncomputable section

namespace Cert.Value

open Idealize.ShloMosaic Idealize.SL Idealize.SL.RA Idealize.SL.BI Idealize.SL.Sem
open scoped Idealize.SL.BI
open Idealize.SL.BI.BIBase Idealize.SL.BI.Laws Idealize.SL.ProofMode
open Cert.KernelIdeal Cert.KernelIdeal.Gen Cert.KernelIdeal.Body Cert.Body

local notation "𝕀" => Idealize.ShloMosaic.Ideal

theorem maxRow_apply (x : FVec 𝕀 S8x256 .f32) (u : Fin 1) (q : Fin 256) : maxRow (F := 𝕀) x (ix2 u q) = Finset.univ.fold max ⊥ fun a : Fin 8 => x (ix2 a q) := by
  pointwise [maxRow]
  rw [ofBits_ninf32]

theorem sumRow_apply (x : FVec 𝕀 S8x256 .f32) (u : Fin 1) (q : Fin 256) : sumRow (F := 𝕀) x (ix2 u q) = ∑ a : Fin 8, x (ix2 a q) := by
  pointwise [sumRow]

theorem wexp_apply (st : St3 𝕀) (q : Fin 256) : wexp (F := 𝕀) st (ix2 0 q) = expo (Idealize.ShloMosaic.Ideal.div (maxRow (F := 𝕀) st.2.2 (ix2 0 q)) (maxRow (F := 𝕀) st.1 (ix2 0 q))) := by
  unfold wexp
  generalize maxRow (F := 𝕀) st.2.2 = A
  generalize maxRow (F := 𝕀) st.1 = B
  pointwise []
  rw [show (Named.named κ "inv_log_2" 1069066811#32 : 𝕀 .f32) = (((Real.log 2)⁻¹ : ℝ) : EReal) from IdealRules.named_const.ideal_named_scalar _ _ _ _ rfl]
  unfold expo
  simp only [mul_eq_zero, ofBits_448, or_false]

theorem factor_apply (st : St3 𝕀) (q : Fin 256) : factor (F := 𝕀) st (ix2 0 q)
    = Idealize.ShloMosaic.Ideal.div (Idealize.ShloMosaic.Ideal.exp2 (0 - wexp (F := 𝕀) st (ix2 0 q))) (maxRow (F := 𝕀) st.1 (ix2 0 q)) := by
  unfold factor
  generalize wexp (F := 𝕀) st = A
  generalize maxRow (F := 𝕀) st.1 = B
  pointwise []
  rfl

theorem outScale_apply (st : St3 𝕀) (nf : Vec 𝕀 S1x128 .f32) (y : EReal) (hy : ∀ l : Fin 128, nf (ix2 0 l) = y) (q : Fin 256) : outScale (F := 𝕀) st nf (ix2 0 q)
    = Idealize.ShloMosaic.Ideal.div (Idealize.ShloMosaic.Ideal.exp2 (wexp (F := 𝕀) st (ix2 0 q)) * y)
        (Idealize.ShloMosaic.Ideal.div (sumRow (F := 𝕀) st.2.1 (ix2 0 q)) (maxRow (F := 𝕀) st.1 (ix2 0 q))) := by
  unfold outScale
  generalize wexp (F := 𝕀) st = A
  generalize maxRow (F := 𝕀) st.1 = B
  generalize sumRow (F := 𝕀) st.2.1 = C
  pointwise []
  simp only [hy, dite_eq_ite, ite_self]
  rfl

theorem accum_apply (f : FVec 𝕀 S1x256 .f32) (vt : Vec 𝕀 S256x256 .fp8e4m3) (h acc : Vec 𝕀 S256x256 .f32) (c q : Fin 256) :
    accum (F := 𝕀) f vt h acc (ix2 c q) = acc (ix2 c q) + ∑ k : Fin 256, vt (ix2 c k) * clip (h (ix2 k q) * f (ix2 0 q)) := by
  pointwise [accum]
  rfl

theorem outBlock_apply (o : FVec 𝕀 S1x256 .f32) (acc : Vec 𝕀 S256x256 .f32) (u : Fin 1) (q c : Fin 256) :
    outBlock (F := 𝕀) o acc (ix3 u q c) = acc (ix2 c q) * o (ix2 0 q) := by
  pointwise [outBlock]

/-- The statistics of a query at the end. -/
theorem Stat.factor {w : ℕ → Fin 256 → EReal} {v : ℕ → EReal} {M : ℕ} {st : St3 𝕀} (h : Stat w v (Finset.range M) st) (q : Fin 256) :
    factor (F := 𝕀) st (ix2 0 q) = kFactor (fun n => w n q) v M := by
  rw [factor_apply, wexp_apply, maxRow_apply, maxRow_apply]
  simp only [h.h1, h.h3]
  rfl

theorem Stat.outScale {w : ℕ → Fin 256 → EReal} {v : ℕ → EReal} {M : ℕ} {st : St3 𝕀} (h : Stat w v (Finset.range M) st) (nf : Vec 𝕀 S1x128 .f32) (y : EReal)
    (hy : ∀ l : Fin 128, nf (ix2 0 l) = y) (q : Fin 256) : outScale (F := 𝕀) st nf (ix2 0 q) = kScale (fun n => w n q) v M y := by
  rw [outScale_apply st nf y hy, wexp_apply, maxRow_apply, maxRow_apply, sumRow_apply]
  simp only [h.h1, h.h2, h.h3]
  rfl

section Products

theorem emb_acc (g : Fin 2) (hb) (c q : Fin 256) : (Rect.unit (s := S256x512) ![0, 256 * g.val] S256x256.size hb).emb (ix2 c q) = ix2 c (col2 g q) := by
  funext a
  apply Fin.ext
  rw [Rect.emb_apply]
  fin_cases a
  · simp
  · simp [col2]

theorem mem_acc (g g' : Fin 2) (hb) (c q : Fin 256) (h : g' ≠ g) : ix2 c (col2 g' q) ∉ (Rect.unit (s := S256x512) ![0, 256 * g.val] S256x256.size hb).set := by
  intro hm
  have := Rect.mem_set_unit.mp hm 1
  simp [col2] at this
  have h0 := g.isLt
  have h1 := g'.isLt
  have h2 : g'.val ≠ g.val := fun e => h (Fin.ext e)
  have h3 := q.isLt
  omega

theorem mem_out (g g' : Fin 2) (hb) (u : Fin 1) (q c : Fin 256) (h : g' ≠ g) : ix3 u q (col2 g' c) ∉ (Rect.unit (s := S1x256x512) ![0, 0, 256 * g.val] S1x256x256.size hb).set := by
  intro hm
  have := Rect.mem_set_unit.mp hm 2
  simp [col2] at this
  have h0 := g.isLt
  have h1 := g'.isLt
  have h2 : g'.val ≠ g.val := fun e => h (Fin.ext e)
  have h3 := c.isLt
  omega

theorem acc_same (g : Fin 2) (hb) (X : S256x512.Idx → EReal) (w : S256x256.Idx → EReal) (c q : Fin 256) :
    (Rect.unit (s := S256x512) ![0, 256 * g.val] S256x256.size hb).overlay X w (ix2 c (col2 g q)) = w (ix2 c q) := by
  rw [← emb_acc g hb]; exact Rect.overlay_emb _ _ _ _

theorem acc_other (g g' : Fin 2) (hb) (X : S256x512.Idx → EReal) (w : S256x256.Idx → EReal) (c q : Fin 256) (h : g' ≠ g) :
    (Rect.unit (s := S256x512) ![0, 256 * g.val] S256x256.size hb).overlay X w (ix2 c (col2 g' q)) = X (ix2 c (col2 g' q)) :=
  Rect.overlay_of_not_mem _ _ _ (mem_acc g g' hb c q h)

theorem out_same (g : Fin 2) (hb) (X : S1x256x512.Idx → EReal) (w : S1x256x256.Idx → EReal) (q c : Fin 256) :
    (Rect.unit (s := S1x256x512) ![0, 0, 256 * g.val] S1x256x256.size hb).overlay X w (ix3 0 q (col2 g c)) = w (ix3 0 q c) := by
  rw [← emb_q g hb 0]; exact Rect.overlay_emb _ _ _ _

theorem out_other (g g' : Fin 2) (hb) (X : S1x256x512.Idx → EReal) (w : S1x256x256.Idx → EReal) (q c : Fin 256) (h : g' ≠ g) :
    (Rect.unit (s := S1x256x512) ![0, 0, 256 * g.val] S1x256x256.size hb).overlay X w (ix3 0 q (col2 g' c)) = X (ix3 0 q (col2 g' c)) :=
  Rect.overlay_of_not_mem _ _ _ (mem_out g g' hb 0 q c h)

theorem emb_vt {T : ℕ} (hT : T < 32) (o : Fin 2 → ℕ) (ho : o = ![0, 256 * T]) (hb) (c k : Fin 256) :
    (Rect.unit (s := S256x8192) o S256x256.size hb).emb (ix2 c k) = ix2 c ⟨256 * T + k.val, by omega⟩ := by
  subst ho
  funext a
  apply Fin.ext
  rw [Rect.emb_apply]
  fin_cases a
  · simp
  · simp

theorem emb_wt {T : ℕ} (hT : T < 32) (g : Fin 2) (o : Fin 2 → ℕ) (ho : o = ![256 * T, 256 * g.val]) (hb) (k q : Fin 256) :
    (Rect.unit (s := S8192x512) o S256x256.size hb).emb (ix2 k q) = ix2 ⟨256 * T + k.val, by omega⟩ (col2 g q) := by
  subst ho
  funext a
  apply Fin.ext
  rw [Rect.emb_apply]
  fin_cases a
  · simp
  · simp [col2]

variable {d : Dev nD} {R : Refs}
variable {Tb : sProp (MT nD τ sig Unit (Elt 𝕀) ℕ (UR sig nD τ) ℕ)}

/-- The accumulated products of the first `T` tiles, everything else unchanged. -/
structure AccInv (u : Fin 256 → ℕ → EReal) (w : Fin 2 → Fin 256 → ℕ → EReal) (f : Fin 2 → FVec 𝕀 S1x256 .f32) (st : St (Elt 𝕀) bsh bel) (T : ℕ) (s : St (Elt 𝕀) bsh bel) : Prop where
  ha : ∀ g c q, s .x18 (ix2 c (col2 g q)) = ∑ n ∈ Finset.range (256 * T), u c n * clip (w g q n * f g (ix2 0 q))
  hb : ∀ b, b ≠ .x18 → s b = st b

theorem accum_tile (u : Fin 256 → ℕ → EReal) (w : Fin 2 → Fin 256 → ℕ → EReal) (f : Fin 2 → FVec 𝕀 S1x256 .f32) {T : ℕ} (hT : T < 32) (g : Fin 2)
    (X17 : S256x8192.Idx → EReal) (X14 : S8192x512.Idx → EReal) (X18 : S256x512.Idx → EReal)
    (o0 o1 : Fin 2 → ℕ) (e0 : o0 = ![0, 256 * T]) (e1 : o1 = ![256 * T, 256 * g.val]) (h0) (h1) (h2)
    (hu : ∀ c (j : Fin 8192), X17 (ix2 c j) = u c j.val) (hw : ∀ g q (j : Fin 8192), j.val < 256 * (T + 1) → X14 (ix2 j (col2 g q)) = w g q j.val)
    (c q : Fin 256) (ha : X18 (ix2 c (col2 g q)) = ∑ n ∈ Finset.range (256 * T), u c n * clip (w g q n * f g (ix2 0 q))) :
    accum (F := 𝕀) (f g) (ld (Rect.unit (s := S256x8192) o0 S256x256.size h0) X17) (ld (Rect.unit (s := S8192x512) o1 S256x256.size h1) X14)
      (ld (Rect.unit (s := S256x512) ![0, 256 * g.val] S256x256.size h2) X18) (ix2 c q) = ∑ n ∈ Finset.range (256 * (T + 1)), u c n * clip (w g q n * f g (ix2 0 q)) := by
  rw [accum_apply, show 256 * (T + 1) = 256 * T + 256 by omega, Finset.sum_range_add, Finset.sum_range (n := 256)]
  refine congrArg₂ (· + ·) ((congrArg X18 (emb_acc g h2 c q)).trans ha) (Finset.sum_congr rfl fun k _ => ?_)
  refine congrArg₂ (· * ·) ((congrArg X17 (emb_vt hT o0 e0 h0 c k)).trans (hu c _)) (congrArg clip (congrArg (· * _) ?_))
  exact (congrArg X14 (emb_wt hT g o1 e1 h1 k q)).trans (hw g q _ (by have := k.isLt; simp only; omega))

/-- One tile of products. -/
theorem runs_weights (u : Fin 256 → ℕ → EReal) (w : Fin 2 → Fin 256 → ℕ → EReal) (f : Fin 2 → FVec 𝕀 S1x256 .f32) {T : ℕ} (hT : T < 32)
    (o0 o1 o2 : Fin 2 → ℕ) (e0 : o0 = ![0, 256 * T]) (e1 : o1 = ![256 * T, 0]) (e2 : o2 = ![256 * T, 256]) (h0) (h1) (h2) (st s : St (Elt 𝕀) bsh bel)
    (hu : ∀ c (j : Fin 8192), st .x17 (ix2 c j) = u c j.val) (hw : ∀ g q (j : Fin 8192), j.val < 256 * (T + 1) → st .x14 (ix2 j (col2 g q)) = w g q j.val)
    (hs : AccInv u w f st T s) : Runs d (Refs.m R) Tb (defs₀ (F := 𝕀)) s (weights R o0 o1 o2 h0 h1 h2 (f 0) (f 1)) fun _ s => AccInv u w f st (T + 1) s := by
  unfold weights
  refine Runs.loadE .x17 (at_ R .x17) fun vt hvt => ?_
  refine Runs.loadE .x14 (at_ R .x14) fun ha hha => ?_
  refine Runs.loadE .x18 (at_ R .x18) fun aa haa => ?_
  refine Runs.loadE .x18 (at_ R .x18) fun _ _ => ?_
  refine Runs.storeE .x18 (at_ R .x18) fun X8 h8 Y8 hY8 => ?_
  refine Runs.loadE .x14 (at_ R .x14) fun hc hhc => ?_
  refine Runs.loadE .x18 (at_ R .x18) fun ac hac => ?_
  refine Runs.loadE .x18 (at_ R .x18) fun _ _ => ?_
  refine Runs.storeE .x18 (at_ R .x18) fun X8' h8' Y8' hY8' => ?_
  refine Runs.pure ?_
  simp (disch := decide) only [upd_ne, upd_same] at hhc hac h8'
  obtain rfl := eq_of_heq h8
  obtain rfl := eq_of_heq hY8
  obtain rfl := eq_of_heq h8'
  rw [hs.hb .x17 (by decide)] at hvt
  rw [hs.hb .x14 (by decide)] at hha hhc
  obtain rfl := eq_of_heq hvt
  obtain rfl := eq_of_heq hha
  obtain rfl := eq_of_heq haa
  obtain rfl := eq_of_heq hhc
  obtain rfl := eq_of_heq hac
  obtain rfl := eq_of_heq hY8'
  refine ⟨fun g c q => ?_, fun b hb => ?_⟩
  · rw [upd_same]
    fin_cases g
    · refine (acc_other 1 0 inb_S256x512_S256x256_0_256 _ _ c q (by decide)).trans ?_
      refine (acc_same 0 inb_S256x512_S256x256_0_0 _ _ c q).trans ?_
      exact accum_tile u w f hT 0 _ _ _ o0 o1 e0 e1 _ _ _ hu hw c q (hs.ha 0 c q)
    · refine (acc_same 1 inb_S256x512_S256x256_0_256 _ _ c q).trans ?_
      refine accum_tile u w f hT 1 _ _ _ o0 o2 e0 e2 _ _ _ hu hw c q ?_
      exact (acc_other 0 1 inb_S256x512_S256x256_0_0 _ _ c q (by decide)).trans (hs.ha 1 c q)
  · rw [upd_ne _ hb, upd_ne _ hb]; exact hs.hb b hb

/-- The results of the two heads. -/
theorem runs_outs (o : Fin 2 → FVec 𝕀 S1x256 .f32) (st : St (Elt 𝕀) bsh bel) : Runs d (Refs.m R) Tb (defs₀ (F := 𝕀)) st (outs R (o 0, o 1)) fun _ s =>
    (∀ g u q c, s .x7 (ix3 u q (col2 g c)) = st .x18 (ix2 c (col2 g q)) * o g (ix2 0 q)) ∧ ∀ b, b ≠ .x7 → s b = st b := by
  unfold outs
  refine Runs.loadE .x18 (at_ R .x18) fun aa haa => ?_
  refine Runs.loadE .x7 (at_ R .x7) fun _ _ => ?_
  refine Runs.storeE .x7 (at_ R .x7) fun X8 h8 Y8 hY8 => ?_
  refine Runs.loadE .x18 (at_ R .x18) fun ac hac => ?_
  refine Runs.loadE .x7 (at_ R .x7) fun _ _ => ?_
  refine Runs.storeE .x7 (at_ R .x7) fun X8' h8' Y8' hY8' => ?_
  refine Runs.pure ?_
  simp (disch := decide) only [upd_ne, upd_same] at hac h8'
  obtain rfl := eq_of_heq h8
  obtain rfl := eq_of_heq hY8
  obtain rfl := eq_of_heq h8'
  obtain rfl := eq_of_heq haa
  obtain rfl := eq_of_heq hac
  obtain rfl := eq_of_heq hY8'
  refine ⟨fun g u q c => ?_, fun b hb => ?_⟩
  · rw [upd_same]
    obtain rfl : u = 0 := Subsingleton.elim _ _
    fin_cases g
    · refine (out_other 1 0 inb_S1x256x512_S1x256x256_0_0_256 _ _ q c (by decide)).trans ?_
      refine (out_same 0 inb_S1x256x512_S1x256x256_0_0_0 _ _ q c).trans ?_
      refine (outBlock_apply _ _ 0 q c).trans ?_
      exact congrArg (· * _) (congrArg (st .x18) (emb_acc 0 _ c q))
    · refine (out_same 1 inb_S1x256x512_S1x256x256_0_0_256 _ _ q c).trans ?_
      refine (outBlock_apply _ _ 0 q c).trans ?_
      exact congrArg (· * _) (congrArg (st .x18) (emb_acc 1 _ c q))
  · rw [upd_ne _ hb, upd_ne _ hb]

/-- The scales of the two heads' results; the accumulator is cleared. -/
theorem runs_factors (x : St6 𝕀) (st : St (Elt 𝕀) bsh bel) : Runs d (Refs.m R) Tb (defs₀ (F := 𝕀)) st (factors R x) fun o s =>
    (∃ n0 : Vec 𝕀 S1x128 .f32, (∀ l, n0 (ix2 0 l) = st .x19 (ix2 0 l)) ∧ o = (outScale (half x 0) n0, outScale (half x 1) n0))
      ∧ (∀ j, s .x18 j = 0) ∧ ∀ b, b ≠ .x18 → s b = st b := by
  unfold factors
  refine Runs.loadE .x19 (at_ R .x19) fun n0 hn0 => ?_
  refine Runs.loadE .x19 (at_ R .x19) fun n1 hn1 => ?_
  refine Runs.loadE .x18 (at_ R .x18) fun _ _ => ?_
  refine Runs.storeE .x18 (at_ R .x18) fun X8 h8 Y8 hY8 => ?_
  refine Runs.pure ?_
  obtain rfl := eq_of_heq hn0
  obtain rfl := eq_of_heq hn1
  obtain rfl := eq_of_heq h8
  obtain rfl := eq_of_heq hY8
  refine ⟨⟨_, fun l => congrArg (st .x19) ?_, rfl⟩, fun j => ?_, fun b hb => by rw [upd_ne _ hb]⟩
  · funext a
    apply Fin.ext
    rw [Rect.emb_apply]
    fin_cases a <;> simp
  · rw [upd_same]
    obtain ⟨i, rfl⟩ : ∃ i, (Rect.unit (s := S256x512) ![0, 0] S256x512.size inb_S256x512_S256x512_0_0).emb i = j := ⟨j, by
      funext a
      apply Fin.ext
      rw [Rect.emb_apply]
      fin_cases a <;> simp⟩
    refine (Rect.overlay_emb _ _ _ _).trans ?_
    pointwise []

end Products

end Cert.Value

end
-- ==== Proof.Body.KernelIdealResult.lean ====
/- The body's results on extended reals, the attention output among them. -/
module

public import proofs.«01_k».proof.Proof.Body.KernelIdealOutput

@[expose] public section

set_option maxRecDepth 65536
set_option synthInstance.maxSize 4096

noncomputable section

namespace Cert.Value

open Idealize.ShloMosaic Idealize.SL Idealize.SL.RA Idealize.SL.BI Idealize.SL.Sem
open scoped Idealize.SL.BI
open Idealize.SL.BI.BIBase Idealize.SL.BI.Laws Idealize.SL.ProofMode
open Cert.KernelIdeal Cert.KernelIdeal.Gen Cert.KernelIdeal.Body Cert.Body

local notation "𝕀" => Idealize.ShloMosaic.Ideal

/-- The capped score of a key. -/
def capped (X4 : S1x256x512.Idx → EReal) (X5 : S1x8192x256.Idx → EReal) (g : Fin 2) (q : Fin 256) (n : Fin 8192) : EReal :=
  ((50 : ℝ) : EReal) * Idealize.ShloMosaic.Ideal.tanh (warg X4 X5 g n q)

/-- The attention output of a block. -/
def OUT (X4 : S1x256x512.Idx → EReal) (X5 X6 : S1x8192x256.Idx → EReal) (b : ℕ) (v : BitVec 32) : S1x256x512.Idx → EReal := fun j =>
  attn (fun n => Vis b v n.val (j 1)) (capped X4 X5 (head2 (j 2)) (j 1)) (fun n => KR X6 (ix2 n 0)) fun n => KC X6 (ix3 0 n ⟨(j 2).val % 256, Nat.mod_lt _ (by decide)⟩)

theorem kRes_out (X4 : S1x256x512.Idx → EReal) (X5 X6 : S1x8192x256.Idx → EReal) (i : grid0.Coords) (v1 : BitVec 32) (hv1 : v1.toInt ≤ 8192) (N : EReal) (hN : P2 N)
    (hf : Fin2 X6) (g : Fin 2) (q c : Fin 256) :
    kRes (fun n => VT X6 (ix2 c (key n))) (fun n => wE X4 X5 (i 2).val v1 g n q) (fun n => KR X6 (ix2 (key n) 0) * N) (32 * (nTiles i v1).toNat) N⁻¹
      = OUT X4 X5 X6 (i 2).val v1 (ix3 0 q (col2 g c)) := by
  obtain ⟨hN1, hN2⟩ := nTiles_bound i v1 hv1
  obtain ⟨hs1, hs2, hs3⟩ := tiles_spec (i 2).val (i 2).isLt v1 hv1
  change _ ≤ (nTiles i v1).toNat at hs2
  change _ ≤ 256 * ((nTiles i v1).toNat : ℤ) at hs3
  generalize (nTiles i v1).toNat = T at *
  have hb : (i 2).val < 32 := (i 2).isLt
  have hq := q.isLt
  generalize (i 2).val = b at *
  have ec : (⟨((ix3 0 q (col2 g c) : S1x256x512.Idx) 2).val % 256, Nat.mod_lt _ (by decide)⟩ : Fin 256) = c := Fin.ext (by
    show (256 * g.val + c.val) % 256 = c.val
    have := c.isLt
    omega)
  unfold OUT
  rw [ec]
  change _ = attn (fun n => Vis b v1 n.val q) (capped X4 X5 (head2 (col2 g c)) q) _ _
  rw [head2_col2]
  choose τ h1 h2 using fun n : Fin 8192 => exp2_cap (warg X4 X5 g n q)
  refine kRes_attn _ (fun n => 50 * τ n) _ _ _ (fun n => ?_) (fun n => hf _) N hN _ _ _ _ (by omega) (fun n => ?_) (fun n => ?_) (fun n hn => ?_) (fun n => ?_) ⟨0, ?_⟩ fun n hn => ?_
  · unfold capped; rw [h1, ← EReal.coe_mul]
  · simp only [key_val]; rfl
  · simp only [key_val, wE]
    split
    · exact h2 n
    · rfl
  · simp only [wE]
    rw [if_neg]
    unfold Vis
    omega
  · simp only [key_val]
  · show Vis b v1 _ q
    unfold Vis
    show (((0 : ℕ) : ℤ)) < _
    omega
  · show ¬ Vis b v1 _ q
    unfold Vis
    omega

section Ideal

variable {d : Dev nD} {R : Refs}
variable {Tb : sProp (MT nD τ sig Unit (Elt Idealize.ShloMosaic.Ideal) ℕ (UR sig nD τ) ℕ)}
variable {X4 : S1x256x512.Idx → EReal} {X5 X6 : S1x8192x256.Idx → EReal}

theorem off19_eq (i : grid0.Coords) (v1 : BitVec 32) (hv1 : v1.toInt ≤ 8192) (t) : k0_off19 i v1 t = ![0, 256 * t.val] := by
  unfold k0_off19
  exact congrArg (fun n => ![0, n]) (isRow_iv (by have := t.isLt; have := t5_trips i v1 hv1; have := nTiles_bound i v1 hv1; omega))

theorem off20_eq (i : grid0.Coords) (v1 : BitVec 32) (hv1 : v1.toInt ≤ 8192) (t) : k0_off20 i v1 t = ![256 * t.val, 0] := by
  unfold k0_off20
  exact congrArg (fun n => ![n, 0]) (isRow_iv (by have := t.isLt; have := t5_trips i v1 hv1; have := nTiles_bound i v1 hv1; omega))

theorem off21_eq (i : grid0.Coords) (v1 : BitVec 32) (hv1 : v1.toInt ≤ 8192) (t) : k0_off21 i v1 t = ![256 * t.val, 256] := by
  unfold k0_off21
  exact congrArg (fun n => ![n, 256]) (isRow_iv (by have := t.isLt; have := t5_trips i v1 hv1; have := nTiles_bound i v1 hv1; omega))

/-- From the codes in place to the attention output. -/
theorem runs_rest (i : grid0.Coords) (v1 : BitVec 32) (hw : k0_chk1 i v1) (hv1 : v1.toInt ≤ 8192) (hf : Fin2 X6) (y : FVec 𝕀 S1x256 .f32 × FVec 𝕀 S1x256 .f32)
    (hy : ∀ g c, (![y.1, y.2] : Fin 2 → FVec 𝕀 S1x256 .f32) g (ix2 0 c) = XS X4 (ix5 0 0 0 g c) * ((1 / 800 : ℝ) : EReal))
    (st : St (Elt 𝕀) bsh bel) (hs : Done X4 X5 X6 st) (h8 : st .x8 = XC X4) :
    Runs d (Refs.m R) Tb (defs₀ (F := 𝕀)) st (do
      let x ← scores R i v1 hw y.1 y.2
      let o ← factors R x
      Scf.Loop.for (k0_t5_loop i v1) (k0_t5_ok i v1 hw) ⟨⟩ fun t _ =>
        weights R (k0_off19 i v1 t) (k0_off20 i v1 t) (k0_off21 i v1 t) (k0_off19_inb i v1 hw t) (k0_off20_inb i v1 hw t) (k0_off21_inb i v1 hw t)
          (factor (x.1, x.2.1, x.2.2.1)) (factor (x.2.2.2.1, x.2.2.2.2.1, x.2.2.2.2.2))
      Scf.Loop.for (k0_t6_loop i v1) (k0_t6_ok i v1 hw) ⟨⟩ fun t _ =>
        weights R (k0_off22 i v1 t) (k0_off23 i v1 t) (k0_off24 i v1 t) (k0_off22_inb i v1 hw t) (k0_off23_inb i v1 hw t) (k0_off24_inb i v1 hw t)
          (factor (x.1, x.2.1, x.2.2.1)) (factor (x.2.2.2.1, x.2.2.2.2.1, x.2.2.2.2.2))
      outs R o) fun _ s => (∀ b, b ≠ .x7 → b ≠ .x14 → b ≠ .x18 → s b = st b) ∧ s .x7 = OUT X4 X5 X6 (i 2).val v1 := by
  obtain ⟨N, hN, h16, h19⟩ := hs.hn hf
  refine Runs.bind (runs_scores (X4 := X4) (X5 := X5) i v1 hw hv1 ![y.1, y.2] hy (fun n => KR X6 (ix2 (key n) 0) * N) st h8 hs.h10 (hs.h15 hf) fun j l => ?_) fun x s1 hx => ?_
  · rw [h16]; simp only [key_val]; rfl
  refine Runs.bind (runs_factors x s1) fun o s2 hs2 => ?_
  obtain ⟨⟨n0, hn0, rfl⟩, h18, hb2⟩ := hs2
  let f : Fin 2 → FVec 𝕀 S1x256 .f32 := fun g => factor (F := 𝕀) (half x g)
  let u : Fin 256 → ℕ → EReal := fun c n => VT X6 (ix2 c (key n))
  let w : Fin 2 → Fin 256 → ℕ → EReal := fun g q n => wE X4 X5 (i 2).val v1 g n q * (KR X6 (ix2 (key n) 0) * N)
  refine Runs.bind (Q := fun _ s => AccInv u w f s2 (nTiles i v1).toNat s) ?_ fun _ s3 hs3 => ?_
  · refine (Runs.for (fun t _ s => AccInv u w f s2 t s) ⟨fun g c q => ?_, fun _ _ => rfl⟩ fun t _ s hs' => ?_).mono fun _ s hs' => ?_
    · rw [h18]; simp
    · have ht : t.val < (nTiles i v1).toNat := t.isLt.trans_eq (t5_trips i v1 hv1)
      have hN2 := (nTiles_bound i v1 hv1).2
      refine runs_weights u w f (by omega) _ _ _ (off19_eq i v1 hv1 t) (off20_eq i v1 hv1 t) (off21_eq i v1 hv1 t) _ _ _ s2 s (fun c j => ?_) (fun g q j hj => ?_) hs'
      · rw [hb2 .x17 (by decide), hx.hb .x17 (by decide), hs.h17 hf]
        simp only [u, key_val]
      · rw [hb2 .x14 (by decide)]
        exact hx.hw g j q (Finset.mem_range.mpr (by omega))
    · rw [t5_trips i v1 hv1] at hs'
      exact hs'
  refine Runs.bind (Q := fun _ s => s = s3) (Runs.for (fun _ _ s => s = s3) rfl fun t _ _ _ => (no_t6 i v1 hv1 t).elim) fun _ s4 hs4 => ?_
  subst hs4
  refine (runs_outs (fun g => outScale (F := 𝕀) (half x g) n0) s4).mono fun _ s hs' => ⟨fun b h7 h14 h18 => ?_, ?_⟩
  · rw [hs'.2 b h7, hs3.hb b h18, hb2 b h18, hx.hb b h14]
  · funext j
    obtain ⟨a, q, c', rfl⟩ : ∃ (a : Fin 1) (q : Fin 256) (c : Fin 512), j = ix3 a q c := ⟨j 0, j 1, j 2, eq_ix3 j⟩
    obtain ⟨c, hc⟩ := head2_col (head2 c') c' rfl
    generalize head2 c' = g at hc
    subst hc
    obtain rfl : a = 0 := Subsingleton.elim _ _
    rw [hs'.1, hs3.ha, ← kRes_out X4 X5 X6 i v1 hv1 N hN hf g q c]
    have eM : 256 * (nTiles i v1).toNat = 8 * (32 * (nTiles i v1).toNat) := by omega
    rw [eM, (hx.hs g).outScale n0 N⁻¹ (fun l => by rw [hn0, hx.hb .x19 (by decide), h19]) q]
    unfold kRes
    refine congrArg (· * _) (Finset.sum_congr rfl fun n _ => ?_)
    refine congrArg (fun z => _ * clip (_ * z)) ?_
    exact (hx.hs g).factor q

theorem done_body (i : grid0.Coords) {q : PosShare TreeShare} {f : Buf (Elt Idealize.ShloMosaic.Ideal) (R.a3.view.loc (d.tc : Thread nD τ))}
    (hT : Tb = (R.a3.view.loc (d.tc : Thread nD τ) ↦[Finset.univ]{q} f)) (hc : k0_chk1 i (word R d i f)) (hv : (word R d i f : BitVec 32).toInt ≤ 8192)
    (st : St (Elt Idealize.ShloMosaic.Ideal) bsh bel) (h4 : st .x4 = X4) (h5 : st .x5 = X5) (h6 : st .x6 = X6) (hd : k0_cond1 i ≠ 1#1 → Done X4 X5 X6 st) :
    Runs d (Refs.m R) Tb (defs₀ (F := Idealize.ShloMosaic.Ideal)) st (body R i) fun _ s => Done X4 X5 X6 s ∧ s .x8 = XC X4 ∧ s .x9 = XS X4
      ∧ (Fin2 X6 → s .x7 = OUT X4 X5 X6 (i 2).val (word R d i f)) := by
  unfold body
  refine Runs.bind (done_start i hT hc st h4 h5 h6 hd) fun x s hs => ?_
  obtain ⟨hs, hx1, hx⟩ := hs
  obtain ⟨v1, hw, x⟩ := x
  obtain rfl := hx
  obtain rfl := hx1
  dsimp only
  refine Runs.bind (done_queries s hs) fun y s hs => ?_
  obtain ⟨hs, h8, h9, hy⟩ := hs
  by_cases hf : Fin2 X6
  · refine (runs_rest i _ hw hv hf y hy s hs h8).mono fun _ s' h' => ⟨hs.of_keeps h'.1, (h'.1 .x8 (by decide) (by decide) (by decide)).trans h8, (h'.1 .x9 (by decide) (by decide) (by decide)).trans h9, fun _ => h'.2⟩
  refine Runs.mono ((Keeps.bind (keeps_scores i _ _ _ _) fun st => ?_ : Keeps d (Refs.m R) Tb (defs₀ (F := Idealize.ShloMosaic.Ideal)) kout _) s) fun _ s' h' => ⟨⟨(h' .x4 (by decide)).trans hs.h4, (h' .x5 (by decide)).trans hs.h5, (h' .x6 (by decide)).trans hs.h6, (h' .x10 (by decide)).trans hs.h10, (h' .x11 (by decide)).trans hs.h11, (h' .x12 (by decide)).trans hs.h12, (h' .x13 (by decide)).trans hs.h13,
    fun h => absurd h hf, fun h => absurd h hf, fun h => absurd h hf⟩, (h' .x8 (by decide)).trans h8, (h' .x9 (by decide)).trans h9, fun h => absurd h hf⟩
  refine Keeps.bind (keeps_factors _) fun o => ?_
  refine Keeps.bind (Keeps.for fun t _ => keeps_weights _ _ _ _ _ _ _ _) fun _ => ?_
  refine Keeps.bind (Keeps.for fun t _ => keeps_weights _ _ _ _ _ _ _ _) fun _ => ?_
  exact keeps_outs _

end Ideal

end Cert.Value

end
-- ==== Proof.Frames.KernelIdealRun.lean ====
/- The body's triple on extended reals: the attention, the codes and the scales it leaves. -/
module

public import proofs.«01_k».proof.Proof.Frames.KernelIdealFrame
public import proofs.«01_k».proof.Proof.Body.KernelIdealResult

@[expose] public section

set_option maxRecDepth 16384

noncomputable section

namespace Cert.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The instance of extended reals. -/
local notation "𝕀" => Idealize.ShloMosaic.Ideal

local notation "𝕄" => MT nD τ sig Unit (Elt 𝕀) ℕ (UR sig nD τ) ℕ

/-- The scratch buffers that a group of 32 points shares. -/
abbrev Scratch : Type := Vec 𝕀 S8192x128 .f32 × Vec 𝕀 S8192x128 .f32 × Vec 𝕀 S256x8192 .fp8e4m3 × Vec 𝕀 S8x128 .f32

/-- They hold the scales of the keys, those of the values normed, the values' codes transposed and the inverse of the norm. -/
def Scr (x1 x2 : S1x8192x256.Idx → EReal) (d : Scratch) : Prop :=
  d.1 = KR x1 ∧ d.2.2.1 = VT x2 ∧ ∃ N : EReal, P2 N ∧ (∀ j, d.2.1 j = KR x2 j * N) ∧ ∀ j, d.2.2.2 j = N⁻¹

set_option maxHeartbeats 1000000 in
/-- The body's triple: on whole staging memrefs it leaves the inputs' contents, the attention, the codes and scales, the shared scratch, and everything else at some contents. -/
theorem kernelRunV (c : Dev nD) (i : grid0.Coords) (arg4 : Memref sig .tc .vmem S1x256x512 .bf16) (harg4 : arg4.IsWhole) (arg5 : Memref sig .tc .vmem S1x8192x256 .bf16) (harg5 : arg5.IsWhole) (arg6 : Memref sig .tc .vmem S1x8192x256 .bf16) (harg6 : arg6.IsWhole) (arg7 : Memref sig .tc .vmem S1x256x512 .bf16) (harg7 : arg7.IsWhole) (arg8 : Memref sig .tc .vmem S1x256x512 .fp8e4m3) (harg8 : arg8.IsWhole) (arg9 : Memref sig .tc .vmem S1x1x1x2x256 .f32) (harg9 : arg9.IsWhole) (arg10 : Memref sig .tc .vmem S1x8192x256 .fp8e4m3) (harg10 : arg10.IsWhole) (arg11 : Memref sig .tc .vmem S1x1x1x8192 .f32) (harg11 : arg11.IsWhole) (arg12 : Memref sig .tc .vmem S1x8192x256 .fp8e4m3) (harg12 : arg12.IsWhole) (arg13 : Memref sig .tc .vmem S1x1x1x8192 .f32) (harg13 : arg13.IsWhole) (arg14 : Memref sig .tc .vmem S8192x512 .f32) (harg14 : arg14.IsWhole) (arg15 : Memref sig .tc .vmem S8192x128 .f32) (harg15 : arg15.IsWhole) (arg16 : Memref sig .tc .vmem S8192x128 .f32) (harg16 : arg16.IsWhole) (arg17 : Memref sig .tc .vmem S256x8192 .fp8e4m3) (harg17 : arg17.IsWhole) (arg18 : Memref sig .tc .vmem S256x512 .f32) (harg18 : arg18.IsWhole) (arg19 : Memref sig .tc .vmem S8x128 .f32) (harg19 : arg19.IsWhole)
    (x0 : Vec 𝕀 S1x256x512 .bf16) (x1 : Vec 𝕀 S1x8192x256 .bf16) (x2 : Vec 𝕀 S1x8192x256 .bf16) (d10 : Vec 𝕀 S1x8192x256 .fp8e4m3) (d11 : Vec 𝕀 S1x1x1x8192 .f32) (d12 : Vec 𝕀 S1x8192x256 .fp8e4m3) (d13 : Vec 𝕀 S1x1x1x8192 .f32) (dS : Scratch)
    (hd : k0_cond1 i ≠ 1#1 → d10 = KC x1 ∧ d11 = KS x1 ∧ d12 = KC x2 ∧ d13 = KS x2 ∧ Scr x1 x2 dS) (hf : Fin2 x2) (xt0 : TbBuf0 (F := 𝕀) c tbM0_0)
    (hc : k0_chk1 i (Body.word ⟨tbM0_0, htbM0_0, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19⟩ c i xt0))
    (v1 : BitVec 32) (hw : (Body.word ⟨tbM0_0, htbM0_0, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19⟩ c i xt0) = v1) (hv : v1.toInt ≤ 8192) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare d10 ∗ owns (c : Thread nD τ) arg11 fullShare d11 ∗ owns (c : Thread nD τ) arg12 fullShare d12 ∗ owns (c : Thread nD τ) arg13 fullShare d13 ∗ (∃ d, owns (c : Thread nD τ) arg14 fullShare d) ∗ owns (c : Thread nD τ) arg15 fullShare dS.1 ∗ owns (c : Thread nD τ) arg16 fullShare dS.2.1 ∗ owns (c : Thread nD τ) arg17 fullShare dS.2.2.1 ∗ (∃ d, owns (c : Thread nD τ) arg18 fullShare d) ∗ owns (c : Thread nD τ) arg19 fullShare dS.2.2.2 ∗ tbPt0 c tbM0_0 xt0
            ∗ (iprop(owns (c : Thread nD τ) arg4 fullShare x0 ∗ owns (c : Thread nD τ) arg5 fullShare x1 ∗ owns (c : Thread nD τ) arg6 fullShare x2 ∗ owns (c : Thread nD τ) arg7 fullShare (OUT x0 x1 x2 (i 2).val v1) ∗ owns (c : Thread nD τ) arg8 fullShare (XC x0) ∗ owns (c : Thread nD τ) arg9 fullShare (XS x0) ∗ owns (c : Thread nD τ) arg10 fullShare (KC x1) ∗ owns (c : Thread nD τ) arg11 fullShare (KS x1) ∗ owns (c : Thread nD τ) arg12 fullShare (KC x2) ∗ owns (c : Thread nD τ) arg13 fullShare (KS x2) ∗ (∃ d, owns (c : Thread nD τ) arg14 fullShare d) ∗ (∃ d : {d : Scratch // Scr x1 x2 d}, owns (c : Thread nD τ) arg15 fullShare d.1.1 ∗ owns (c : Thread nD τ) arg16 fullShare d.1.2.1 ∗ owns (c : Thread nD τ) arg17 fullShare d.1.2.2.1 ∗ owns (c : Thread nD τ) arg19 fullShare d.1.2.2.2) ∗ (∃ d, owns (c : Thread nD τ) arg18 fullShare d) ∗ tbPt0 c tbM0_0 xt0) -∗ K ⟨⟩))
          ⊢ wp frame (wpE (defs₀ (F := 𝕀)) Variants.none c none) E (cc0_prefix_attention i tbM0_0 htbM0_0 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
    intro E K
    let R : Body.Refs := ⟨tbM0_0, htbM0_0, arg4, harg4, arg5, harg5, arg6, harg6, arg7, harg7, arg8, harg8, arg9, harg9, arg10, harg10, arg11, harg11, arg12, harg12, arg13, harg13, arg14, harg14, arg15, harg15, arg16, harg16, arg17, harg17, arg18, harg18, arg19, harg19⟩
    iintro ⟨H4, H5, H6, ⟨%d7, H7⟩, ⟨%d8, H8⟩, ⟨%d9, H9⟩, H10, H11, H12, H13, ⟨%d14, H14⟩, H15, H16, H17, ⟨%d18, H18⟩, H19, HT, Hk⟩
    let st : Cert.Body.St (Elt 𝕀) Body.bsh Body.bel := fun b => match b with
      | .x4 => x0 | .x5 => x1 | .x6 => x2 | .x7 => d7 | .x8 => d8 | .x9 => d9 | .x10 => d10 | .x11 => d11 | .x12 => d12 | .x13 => d13 | .x14 => d14 | .x15 => dS.1 | .x16 => dS.2.1 | .x17 => dS.2.2.1 | .x18 => d18 | .x19 => dS.2.2.2
    rw [Body.body_eq R i]
    have hk := done_body (X4 := x0) (X5 := x1) (X6 := x2) (d := c) (R := R) i (q := fullShare.right) rfl hc (hw ▸ hv) st rfl rfl rfl (fun h => ⟨rfl, rfl, rfl, (hd h).1, (hd h).2.1, (hd h).2.2.1, (hd h).2.2.2.1, fun _ => (hd h).2.2.2.2.1, fun _ => (hd h).2.2.2.2.2.1, fun _ => (hd h).2.2.2.2.2.2⟩) E K
      (iprop((owns (c : Thread nD τ) arg4 fullShare x0 ∗ owns (c : Thread nD τ) arg5 fullShare x1 ∗ owns (c : Thread nD τ) arg6 fullShare x2 ∗ owns (c : Thread nD τ) arg7 fullShare (OUT x0 x1 x2 (i 2).val v1) ∗ owns (c : Thread nD τ) arg8 fullShare (XC x0) ∗ owns (c : Thread nD τ) arg9 fullShare (XS x0) ∗ owns (c : Thread nD τ) arg10 fullShare (KC x1) ∗ owns (c : Thread nD τ) arg11 fullShare (KS x1) ∗ owns (c : Thread nD τ) arg12 fullShare (KC x2) ∗ owns (c : Thread nD τ) arg13 fullShare (KS x2) ∗ (∃ d, owns (c : Thread nD τ) arg14 fullShare d) ∗ (∃ d : {d : Scratch // Scr x1 x2 d}, owns (c : Thread nD τ) arg15 fullShare d.1.1 ∗ owns (c : Thread nD τ) arg16 fullShare d.1.2.1 ∗ owns (c : Thread nD τ) arg17 fullShare d.1.2.2.1 ∗ owns (c : Thread nD τ) arg19 fullShare d.1.2.2.2) ∗ (∃ d, owns (c : Thread nD τ) arg18 fullShare d) ∗ tbPt0 c tbM0_0 xt0) -∗ K ⟨⟩) : sProp 𝕄) (fun a st' h => by
          rw [Body.own_eq, h.1.h4, h.1.h5, h.1.h6, (h.2.2.2 hf).trans (congrArg _ hw), h.2.1, h.2.2.1, h.1.h10, h.1.h11, h.1.h12, h.1.h13]
          iintro ⟨⟨⟨H4, H5, H6, H7, H8, H9, H10, H11, H12, H13, H14, H15, H16, H17, H18, H19⟩, HT⟩, Hk⟩
          iapply Hk
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexists _; iexact H14
          isplitl [H15 H16 H17 H19]
          · iexists (⟨(st' .x15, st' .x16, st' .x17, st' .x19), h.1.h15 hf, h.1.h17 hf, h.1.hn hf⟩ : {d : Scratch // Scr x1 x2 d})
            isplitl [H15]; · iexact H15
            isplitl [H16]; · iexact H16
            isplitl [H17]; · iexact H17
            iexact H19
          isplitl [H18]; · iexists _; iexact H18
          iexact HT)
    iapply hk
    rw [Body.own_eq]
    isplitr [Hk]
    · isplitr [HT]
      · isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        iexact H19
      · iexact HT
    · iexact Hk

end Cert.Value

end
-- ==== Proof.Frames.KernelIdealValue.lean ====
/- The kernel's run on extended reals: the attention, the codes and the scales its arrays end with. -/
module

public import proofs.«01_k».proof.Proof.Frames.KernelIdealFrame
public import proofs.«01_k».proof.Proof.Frames.KernelIdealRun

@[expose] public section

set_option maxRecDepth 16384

noncomputable section

namespace Cert.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The instance of extended reals. -/
local notation "𝕀" => Idealize.ShloMosaic.Ideal

local notation "𝕄" => MT nD τ sig Unit (Elt 𝕀) ℕ (UR sig nD τ) ℕ

variable (m : (ℓ : Loc nD τ sig) → Buf (Elt 𝕀) ℓ) (ρ : Dev nD → PrngReg)

/-! ## The pipeline's proof data -/

/-- No output is left unstated. -/
def forgetsV : Fin 10 → Bool := fun _ => false

/-- The invariant with the shared scratch in `P`. -/
def PhiS (P : Scratch → Prop) (c : Dev nD) : sProp 𝕄 :=
  iprop(((∃ d, owns (c : Thread nD τ) scM0_0 fullShare d) ∗ (∃ d : {d : Scratch // P d}, owns (c : Thread nD τ) scM0_1 fullShare d.1.1 ∗ owns (c : Thread nD τ) scM0_2 fullShare d.1.2.1 ∗ owns (c : Thread nD τ) scM0_3 fullShare d.1.2.2.1 ∗ owns (c : Thread nD τ) scM0_5 fullShare d.1.2.2.2) ∗ (∃ d, owns (c : Thread nD τ) scM0_4 fullShare d)) ∗ (∃ r, prngReg c r))

/-- Before point `n`, within a group: the scratch is of the group's blocks. -/
def PS (hO : Ok m) (c : Dev nD) (n : ℕ) (d : Scratch) : Prop :=
  ∀ t : Fin (cfgM m hO).N, t.val = n → t.val % 32 ≠ 0 → Scr (iblk m hO c 1 t) (iblk m hO c 2 t) d

/-- The proof data: each input's buffer at its block, the attention, codes and scales of the blocks. -/
def datsV (hO : Ok m) (_ : Fin 1) (c : Dev nD) : Dat τ (Elt 𝕀) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => OUT (iblk m hO c 0 t) (iblk m hO c 1 t) (iblk m hO c 2 t) (grid0.coords t 2).val (pword m c (grid0.coords t))
    | ⟨4, _⟩ => XC (iblk m hO c 0 t)
    | ⟨5, _⟩ => XS (iblk m hO c 0 t)
    | ⟨6, _⟩ => KC (iblk m hO c 1 t)
    | ⟨7, _⟩ => KS (iblk m hO c 1 t)
    | ⟨8, _⟩ => KC (iblk m hO c 2 t)
    | ⟨9, _⟩ => KS (iblk m hO c 2 t)
  Φ t := iprop(PhiS (PS m hO c t.val) c ∗ Pipeline.ΦT pre0 (tbl m) c)
  q _ := fullShare
  owed _ := 0

variable (hO : Ok m)

theorem A_eqV (c : Dev nD) (w : Fin (cfgM m hO).W) : (datsV m hO 0 c).A w = V m c (Pipeline.arrRef spec0 w) := by
  dsimp only [datsV]

/-- The invariant at a point. -/
theorem Phi_eq (c : Dev nD) (t : Fin ((cfgM m hO).N + 1)) : (datsV m hO 0 c).Φ t = iprop(PhiS (PS m hO c t.val) c ∗ Pipeline.ΦT pre0 (tbl m) c) := by
  dsimp only [datsV]

/-- What the body leaves, window by window. -/
theorem after_0 (c : Dev nD) (t : Fin (cfgM m hO).N) : (datsV m hO 0 c).after 0 t = iblk m hO c 0 t := by dsimp only [datsV]; try rfl
theorem after_1 (c : Dev nD) (t : Fin (cfgM m hO).N) : (datsV m hO 0 c).after 1 t = iblk m hO c 1 t := by dsimp only [datsV]; try rfl
theorem after_2 (c : Dev nD) (t : Fin (cfgM m hO).N) : (datsV m hO 0 c).after 2 t = iblk m hO c 2 t := by dsimp only [datsV]; try rfl
theorem after_3 (c : Dev nD) (t : Fin (cfgM m hO).N) : (datsV m hO 0 c).after 3 t = OUT (iblk m hO c 0 t) (iblk m hO c 1 t) (iblk m hO c 2 t) (grid0.coords t 2).val (pword m c (grid0.coords t)) := by dsimp only [datsV]; try rfl
theorem after_4 (c : Dev nD) (t : Fin (cfgM m hO).N) : (datsV m hO 0 c).after 4 t = XC (iblk m hO c 0 t) := by dsimp only [datsV]; try rfl
theorem after_5 (c : Dev nD) (t : Fin (cfgM m hO).N) : (datsV m hO 0 c).after 5 t = XS (iblk m hO c 0 t) := by dsimp only [datsV]; try rfl
theorem after_6 (c : Dev nD) (t : Fin (cfgM m hO).N) : (datsV m hO 0 c).after 6 t = KC (iblk m hO c 1 t) := by dsimp only [datsV]; try rfl
theorem after_7 (c : Dev nD) (t : Fin (cfgM m hO).N) : (datsV m hO 0 c).after 7 t = KS (iblk m hO c 1 t) := by dsimp only [datsV]; try rfl
theorem after_8 (c : Dev nD) (t : Fin (cfgM m hO).N) : (datsV m hO 0 c).after 8 t = KC (iblk m hO c 2 t) := by dsimp only [datsV]; try rfl
theorem after_9 (c : Dev nD) (t : Fin (cfgM m hO).N) : (datsV m hO 0 c).after 9 t = KS (iblk m hO c 2 t) := by dsimp only [datsV]; try rfl

theorem before_0 (c : Dev nD) (t : Fin (cfgM m hO).N) (d) : (datsV m hO 0 c).before 0 t d = iblk m hO c 0 t :=
  before0_0_of m hO (datsV m hO 0 c) (A_eqV m hO c 0) (after_0 m hO c) t d
theorem before_1 (c : Dev nD) (t : Fin (cfgM m hO).N) (d) : (datsV m hO 0 c).before 1 t d = iblk m hO c 1 t :=
  before0_1_of m hO (datsV m hO 0 c) (A_eqV m hO c 1) (after_1 m hO c) t d
theorem before_2 (c : Dev nD) (t : Fin (cfgM m hO).N) (d) : (datsV m hO 0 c).before 2 t d = iblk m hO c 2 t :=
  before0_2_of m hO (datsV m hO 0 c) (A_eqV m hO c 2) (after_2 m hO c) t d

/-- The point before `t`. -/
abbrev prev (t : Fin (cfgM m hO).N) : Fin (cfgM m hO).N := ⟨t.val - 1, Nat.lt_of_le_of_lt (Nat.sub_le _ _) t.isLt⟩

/-- Within a group of 32 points the block of keys does not move. -/
theorem iblk_1 (c : Dev nD) (t : Fin (cfgM m hO).N) (ht : t.val % 32 ≠ 0) : iblk m hO c 1 (prev m hO t) = iblk m hO c 1 t := by
  have h := before_1 m hO c t (iblk m hO c 1 t)
  have hf : ((cfgM m hO).win 1).fetch t = false := by
    rw [Bool.eq_false_iff]; intro h; exact ht ((fetch0_1 (adm m hO) t).mp h)
  rw [Dat.before_of_pos _ _ _ (by omega) hf, if_neg (by rw [Window.flush_in _ rfl]; exact Bool.false_ne_true)] at h
  exact (after_1 m hO c _).symm.trans h

/-- Nor does the block of values. -/
theorem iblk_2 (c : Dev nD) (t : Fin (cfgM m hO).N) (ht : t.val % 32 ≠ 0) : iblk m hO c 2 (prev m hO t) = iblk m hO c 2 t := by
  have h := before_2 m hO c t (iblk m hO c 2 t)
  have hf : ((cfgM m hO).win 2).fetch t = false := by
    rw [Bool.eq_false_iff]; intro h; exact ht ((fetch0_2 (adm m hO) t).mp h)
  rw [Dat.before_of_pos _ _ _ (by omega) hf, if_neg (by rw [Window.flush_in _ rfl]; exact Bool.false_ne_true)] at h
  exact (after_2 m hO c _).symm.trans h

/-- An output that the body writes at the first point of a group of 32 only holds, at the others, what it left. -/
theorem before_group (c : Dev nD) (w : Fin (cfgM m hO).W) (hout : ((cfgM m hO).win w).isOut = true)
    (hfl : ∀ t : Fin (cfgM m hO).N, ((cfgM m hO).win w).flush t = true ↔ t.val % 32 = 31)
    (hidle : ∀ t : Fin (cfgM m hO).N, (cfgM m hO).idle w (grid0.coords t) = !(k0_cond1 (grid0.coords t) == 1#1))
    (hkept : ∀ t d, (datsV m hO 0 c).kept w t d = (datsV m hO 0 c).after w t)
    (hafter : ∀ t : Fin (cfgM m hO).N, t.val % 32 ≠ 0 → (datsV m hO 0 c).after w (prev m hO t) = (datsV m hO 0 c).after w t) :
    ∀ (n : ℕ) (t : Fin (cfgM m hO).N), t.val = n → t.val % 32 ≠ 0 → ∀ d, (datsV m hO 0 c).before w t d = (datsV m hO 0 c).after w t := by
  intro n
  induction n with
  | zero => intro t h0 ht; omega
  | succ n ih =>
    intro t hn ht d
    have hf : ((cfgM m hO).win w).fetch t = false := by
      unfold Window.fetch; rw [hout]; rfl
    have hnf : ¬ ((cfgM m hO).win w).flush (prev m hO t) = true := by
      rw [hfl]; simp only [prev]; omega
    rw [Dat.before_of_pos _ _ _ (by omega) hf, if_neg hnf, ← hafter t ht]
    by_cases hp : (prev m hO t).val % 32 = 0
    · have hi : (cfgM m hO).idle w ((cfgM m hO).grid.coords (prev m hO t)) = false := by
        refine (hidle _).trans ?_
        rw [(hcond0_0 (prev m hO t)).mpr hp]; rfl
      unfold Dat.left
      rw [hi]
      exact hkept _ _
    · have hi : (cfgM m hO).idle w ((cfgM m hO).grid.coords (prev m hO t)) = true := by
        refine (hidle _).trans ?_
        have hne : ¬ k0_cond1 (grid0.coords (prev m hO t)) = 1#1 := fun h => hp ((hcond0_0 (prev m hO t)).mp h)
        simp [hne]
      unfold Dat.left
      rw [hi]
      exact ih (prev m hO t) (by simp only [prev]; omega) hp d

/-- What the body owes of such an output. -/
theorem leaves_group (c : Dev nD) (w : Fin (cfgM m hO).W)
    (hidle : ∀ t : Fin (cfgM m hO).N, (cfgM m hO).idle w (grid0.coords t) = !(k0_cond1 (grid0.coords t) == 1#1))
    (hb : ∀ (t : Fin (cfgM m hO).N), t.val % 32 ≠ 0 → ∀ d, (datsV m hO 0 c).before w t d = (datsV m hO 0 c).after w t) (t : Fin (cfgM m hO).N) :
    (owns (c : Thread nD τ) (((cfgM m hO).win w).stage ((cfgM m hO).slots t w)) fullShare ((datsV m hO 0 c).after w t) : sProp 𝕄) ⊢ (datsV m hO 0 c).leavesExact w t := by
  by_cases ht : t.val % 32 = 0
  · have hi : (cfgM m hO).idle w ((cfgM m hO).grid.coords t) = false := by
      refine (hidle _).trans ?_
      rw [(hcond0_0 t).mpr ht]; rfl
    unfold Dat.leavesExact
    rw [hi]
  · have hi : (cfgM m hO).idle w ((cfgM m hO).grid.coords t) = true := by
      refine (hidle _).trans ?_
      have hne : ¬ k0_cond1 (grid0.coords t) = 1#1 := fun h => ht ((hcond0_0 t).mp h)
      simp [hne]
    cases hf : ((cfgM m hO).win w).flush t with
    | true =>
      unfold Dat.leavesExact
      rw [hi, hf]
    | false =>
      rw [Dat.leavesExact_idle _ _ _ hi hf]
      iintro H
      iexists (datsV m hO 0 c).after w t
      rw [hb t ht]
      iexact H

theorem before_6 (c : Dev nD) (t : Fin (cfgM m hO).N) (ht : t.val % 32 ≠ 0) (d) : (datsV m hO 0 c).before 6 t d = KC (iblk m hO c 1 t) :=
  (before_group m hO c 6 rfl (flush0_6 (adm m hO)) (fun _ => rfl) (fun _ _ => rfl)
    (fun t ht => by rw [after_6, after_6, iblk_1 m hO c t ht]) t.val t rfl ht d).trans (after_6 m hO c t)
theorem before_7 (c : Dev nD) (t : Fin (cfgM m hO).N) (ht : t.val % 32 ≠ 0) (d) : (datsV m hO 0 c).before 7 t d = KS (iblk m hO c 1 t) :=
  (before_group m hO c 7 rfl (flush0_7 (adm m hO)) (fun _ => rfl) (fun _ _ => rfl)
    (fun t ht => by rw [after_7, after_7, iblk_1 m hO c t ht]) t.val t rfl ht d).trans (after_7 m hO c t)
theorem before_8 (c : Dev nD) (t : Fin (cfgM m hO).N) (ht : t.val % 32 ≠ 0) (d) : (datsV m hO 0 c).before 8 t d = KC (iblk m hO c 2 t) :=
  (before_group m hO c 8 rfl (flush0_8 (adm m hO)) (fun _ => rfl) (fun _ _ => rfl)
    (fun t ht => by rw [after_8, after_8, iblk_2 m hO c t ht]) t.val t rfl ht d).trans (after_8 m hO c t)
theorem before_9 (c : Dev nD) (t : Fin (cfgM m hO).N) (ht : t.val % 32 ≠ 0) (d) : (datsV m hO 0 c).before 9 t d = KS (iblk m hO c 2 t) :=
  (before_group m hO c 9 rfl (flush0_9 (adm m hO)) (fun _ => rfl) (fun _ _ => rfl)
    (fun t ht => by rw [after_9, after_9, iblk_2 m hO c t ht]) t.val t rfl ht d).trans (after_9 m hO c t)
theorem leaves_6 (c : Dev nD) (t : Fin (cfgM m hO).N) :
    (owns (c : Thread nD τ) (ms0_6 m hO t) fullShare (KC (iblk m hO c 1 t)) : sProp 𝕄) ⊢ (datsV m hO 0 c).leavesExact 6 t :=
  leaves_group m hO c 6 (fun _ => rfl) (fun t ht d => (before_6 m hO c t ht d).trans (after_6 m hO c t).symm) t
theorem leaves_7 (c : Dev nD) (t : Fin (cfgM m hO).N) :
    (owns (c : Thread nD τ) (ms0_7 m hO t) fullShare (KS (iblk m hO c 1 t)) : sProp 𝕄) ⊢ (datsV m hO 0 c).leavesExact 7 t :=
  leaves_group m hO c 7 (fun _ => rfl) (fun t ht d => (before_7 m hO c t ht d).trans (after_7 m hO c t).symm) t
theorem leaves_8 (c : Dev nD) (t : Fin (cfgM m hO).N) :
    (owns (c : Thread nD τ) (ms0_8 m hO t) fullShare (KC (iblk m hO c 2 t)) : sProp 𝕄) ⊢ (datsV m hO 0 c).leavesExact 8 t :=
  leaves_group m hO c 8 (fun _ => rfl) (fun t ht d => (before_8 m hO c t ht d).trans (after_8 m hO c t).symm) t
theorem leaves_9 (c : Dev nD) (t : Fin (cfgM m hO).N) :
    (owns (c : Thread nD τ) (ms0_9 m hO t) fullShare (KS (iblk m hO c 2 t)) : sProp 𝕄) ⊢ (datsV m hO 0 c).leavesExact 9 t :=
  leaves_group m hO c 9 (fun _ => rfl) (fun t ht d => (before_9 m hO c t ht d).trans (after_9 m hO c t).symm) t
attribute [local irreducible] OUT XC XS KC KS KR VT

/-! ## The body obligation, at a generic point -/

/-- What the body is called with at point `t` (Lib/Pipeline.lean `BodyObligation`'s precondition, the windows one by one), -/
def bodyPreV (c : Dev nD) (t : Fin (cfgM m hO).N) : sProp 𝕄 :=
  iprop((datsV m hO 0 c).Φ t.castSucc ∗ (datsV m hO 0 c).owesAt () t.castSucc
    ∗ (∃ d, owns (c : Thread nD τ) (ms0_0 m hO t) fullShare ((datsV m hO 0 c).before 0 t d))
    ∗ (∃ d, owns (c : Thread nD τ) (ms0_1 m hO t) fullShare ((datsV m hO 0 c).before 1 t d))
    ∗ (∃ d, owns (c : Thread nD τ) (ms0_2 m hO t) fullShare ((datsV m hO 0 c).before 2 t d))
    ∗ (∃ d, owns (c : Thread nD τ) (ms0_3 m hO t) fullShare ((datsV m hO 0 c).before 3 t d))
    ∗ (∃ d, owns (c : Thread nD τ) (ms0_4 m hO t) fullShare ((datsV m hO 0 c).before 4 t d))
    ∗ (∃ d, owns (c : Thread nD τ) (ms0_5 m hO t) fullShare ((datsV m hO 0 c).before 5 t d))
    ∗ (∃ d, owns (c : Thread nD τ) (ms0_6 m hO t) fullShare ((datsV m hO 0 c).before 6 t d))
    ∗ (∃ d, owns (c : Thread nD τ) (ms0_7 m hO t) fullShare ((datsV m hO 0 c).before 7 t d))
    ∗ (∃ d, owns (c : Thread nD τ) (ms0_8 m hO t) fullShare ((datsV m hO 0 c).before 8 t d))
    ∗ (∃ d, owns (c : Thread nD τ) (ms0_9 m hO t) fullShare ((datsV m hO 0 c).before 9 t d)))

/-- and what it returns. -/
def bodyPostV (c : Dev nD) (t : Fin (cfgM m hO).N) : sProp 𝕄 :=
  iprop((datsV m hO 0 c).Φ t.succ ∗ (datsV m hO 0 c).owesAt () t.succ
    ∗ (datsV m hO 0 c).leavesExact 0 t
    ∗ (datsV m hO 0 c).leavesExact 1 t
    ∗ (datsV m hO 0 c).leavesExact 2 t
    ∗ (datsV m hO 0 c).leavesExact 3 t
    ∗ (datsV m hO 0 c).leavesExact 4 t
    ∗ (datsV m hO 0 c).leavesExact 5 t
    ∗ (datsV m hO 0 c).leavesExact 6 t
    ∗ (datsV m hO 0 c).leavesExact 7 t
    ∗ (datsV m hO 0 c).leavesExact 8 t
    ∗ (datsV m hO 0 c).leavesExact 9 t)

set_option maxHeartbeats 400000 in
/-- The body at any point: the inputs' memrefs hold their blocks (`before_W`); the closed forms say which case the point is in (`by_cases`), an output the case reads before covering holds what the point before left (`before_W_κ`); so the
    run applies; the invariant hands the body its scratch buffers at some contents (and the generator register) and takes them back at some contents (`PhiA_eq`); the core owes nothing throughout. -/
theorem sound_bodyV (hp : Passes m) (hr : ∀ c i, (pword m c i : BitVec 32).toInt ≤ 8192) (hF : ∀ c t, Fin2 (iblk m hO c 2 t)) (c : Dev nD) (t : Fin (cfgM m hO).N) :
    bodyPreV m hO c t ⊢ wp frame (wpE (defs₀ (F := 𝕀)) Variants.none c none) Set.univ (bodyAt0 (adm m hO) t) (fun _ => bodyPostV m hO c t) := by
  unfold bodyPreV bodyPostV bodyAt0
  simp only [before_0, before_1, before_2]
  have e0 : t.castSucc.val = t.val := Fin.val_castSucc t
  have e1 : t.succ.val = t.val + 1 := Fin.val_succ t
  rw [Phi_eq, Phi_eq, e0, e1,
    show (datsV m hO 0 c).owesAt () t.succ = (datsV m hO 0 c).owesAt () t.castSucc from rfl]
  rw [PhiT0_eq]
  unfold PhiS
  rw [show (datsV m hO 0 c).leavesExact 0 t = owns (c : Thread nD τ) (ms0_0 m hO t) fullShare ((datsV m hO 0 c).after 0 t) from by
    unfold Dat.leavesExact; rw [liveAt0_0 m hO t]; try rfl, after_0]
  rw [show (datsV m hO 0 c).leavesExact 1 t = owns (c : Thread nD τ) (ms0_1 m hO t) fullShare ((datsV m hO 0 c).after 1 t) from by
    unfold Dat.leavesExact; rw [liveAt0_1 m hO t]; try rfl, after_1]
  rw [show (datsV m hO 0 c).leavesExact 2 t = owns (c : Thread nD τ) (ms0_2 m hO t) fullShare ((datsV m hO 0 c).after 2 t) from by
    unfold Dat.leavesExact; rw [liveAt0_2 m hO t]; try rfl, after_2]
  rw [show (datsV m hO 0 c).leavesExact 3 t = owns (c : Thread nD τ) (ms0_3 m hO t) fullShare ((datsV m hO 0 c).after 3 t) from rfl, after_3]
  rw [show (datsV m hO 0 c).leavesExact 4 t = owns (c : Thread nD τ) (ms0_4 m hO t) fullShare ((datsV m hO 0 c).after 4 t) from rfl, after_4]
  rw [show (datsV m hO 0 c).leavesExact 5 t = owns (c : Thread nD τ) (ms0_5 m hO t) fullShare ((datsV m hO 0 c).after 5 t) from rfl, after_5]
  have hd : ∀ d6 d7 d8 d9 (dS : {d : Scratch // PS m hO c t.val d}), k0_cond1 (grid0.coords t) ≠ 1#1 → (datsV m hO 0 c).before 6 t d6 = KC (iblk m hO c 1 t) ∧ (datsV m hO 0 c).before 7 t d7 = KS (iblk m hO c 1 t)
      ∧ (datsV m hO 0 c).before 8 t d8 = KC (iblk m hO c 2 t) ∧ (datsV m hO 0 c).before 9 t d9 = KS (iblk m hO c 2 t) ∧ Scr (iblk m hO c 1 t) (iblk m hO c 2 t) dS.1 := fun d6 d7 d8 d9 dS h => by
    have ht : t.val % 32 ≠ 0 := fun h0 => h ((hcond0_0 t).mpr h0)
    exact ⟨before_6 m hO c t ht d6, before_7 m hO c t ht d7, before_8 m hO c t ht d8, before_9 m hO c t ht d9, dS.2 t rfl ht⟩
  have hnext : ∀ dS : {d : Scratch // Scr (iblk m hO c 1 t) (iblk m hO c 2 t) d}, PS m hO c (t.val + 1) dS.1 := fun dS t' e ht' => by
    have ep : prev m hO t' = t := Fin.ext (by simp only [prev]; omega)
    rw [← iblk_1 m hO c t' ht', ← iblk_2 m hO c t' ht', ep]
    exact dS.2
  iintro ⟨⟨⟨⟨HS0, ⟨%dS, HS1, HS2, HS3, HS5⟩, HS4⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRunV c (grid0.coords t) _ _ _ _ _ _ _ _ _ _ _ _ _ _ _ _ _ _ _ _ _ _ _ _ _ _ _ _ _ _ _ _ (iblk m hO c 0 t) (iblk m hO c 1 t) (iblk m hO c 2 t) _ _ _ _ dS.1 (hd d6 d7 d8 d9 dS) (hF c t) (tbl m 0) (hp c (grid0.coords t)) (pword m c (grid0.coords t)) rfl (hr c (grid0.coords t))) Set.univ _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  isplitl [HS4]; · iexact HS4
  isplitl [HS5]; · iexact HS5
  isplitl [HT0]; · iexact HT0
  iintro ⟨H0, H1, H2, H3, H4, H5, H6, H7, H8, H9, HS0, ⟨%dN, HS1, HS2, HS3, HS5⟩, HS4, HT0⟩
  isplitl [HS0 HS1 HS2 HS3 HS4 HS5 Hg HT0]
  · isplitl [HS0 HS1 HS2 HS3 HS4 HS5 Hg]
    · isplitl [HS0 HS1 HS2 HS3 HS4 HS5]
      · isplitl [HS0]
        · iexact HS0
        isplitl [HS1 HS2 HS3 HS5]
        · iexists (⟨dN.1, hnext dN⟩ : {d : Scratch // PS m hO c (t.val + 1) d})
          isplitl [HS1]; · iexact HS1
          isplitl [HS2]; · iexact HS2
          isplitl [HS3]; · iexact HS3
          iexact HS5
        iexact HS4
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves_6 m hO c t); iexact H6
  isplitl [H7]; · iapply (leaves_7 m hO c t); iexact H7
  isplitl [H8]; · iapply (leaves_8 m hO c t); iexact H8
  iapply (leaves_9 m hO c t); iexact H9
/-- The library's body obligation, at every point: the body's triple restated (Lib/Pipeline/FrameBody.lean `triple_restated`). -/
theorem body_obligationV (hp : Passes m) (hr : ∀ c i, (pword m c i : BitVec 32).toInt ≤ 8192) (hF : ∀ c t, Fin2 (iblk m hO c 2 t)) (c : Dev nD) : BodyObligation (datsV m hO 0 c) (defs₀ (F := 𝕀)) Variants.none () Set.univ forgetsV := fun t => by
  rw [bigSep_W0, bigSep_W0, defs₀_row m hO]
  exact triple_restated (sound_bodyV m hO hp hr hF c t) rfl .rfl fun _ => .rfl

/-- The invariant starts from scratch at any contents, -/
theorem phi_in (c : Dev nD) : iprop(Pipeline.ΦA spec0 c ∗ Pipeline.ΦT pre0 (tbl m) c) ⊢ (datsV m hO 0 c).Φ 0 := by
  rw [Phi_eq, PhiA0_eq]
  unfold PhiS
  have h0 : ∀ d : Scratch, PS m hO c (0 : Fin ((cfgM m hO).N + 1)).val d := fun d t e ht => absurd (show t.val % 32 = 0 by rw [e]; rfl) ht
  iintro ⟨⟨⟨HS0, ⟨%d1, HS1⟩, ⟨%d2, HS2⟩, ⟨%d3, HS3⟩, HS4, ⟨%d5, HS5⟩⟩, Hg⟩, HT⟩
  isplitr [HT]
  · isplitr [Hg]
    · isplitl [HS0]; · iexact HS0
      isplitl [HS1 HS2 HS3 HS5]
      · iexists (⟨(d1, d2, d3, d5), h0 _⟩ : {d : Scratch // PS m hO c (0 : Fin ((cfgM m hO).N + 1)).val d})
        isplitl [HS1]; · iexact HS1
        isplitl [HS2]; · iexact HS2
        isplitl [HS3]; · iexact HS3
        iexact HS5
      iexact HS4
    iexact Hg
  iexact HT

/-- and ends with it at some. -/
theorem phi_out (c : Dev nD) : (datsV m hO 0 c).Φ (Fin.last (cfgM m hO).N) ⊢ Pipeline.ΦA spec0 c := by
  rw [Phi_eq, PhiA0_eq]
  unfold PhiS
  iintro ⟨⟨⟨HS0, ⟨%dS, HS1, HS2, HS3, HS5⟩, HS4⟩, Hg⟩, -⟩
  isplitr [Hg]
  · isplitl [HS0]; · iexact HS0
    isplitl [HS1]; · iexists _; iexact HS1
    isplitl [HS2]; · iexists _; iexact HS2
    isplitl [HS3]; · iexists _; iexact HS3
    isplitl [HS4]; · iexact HS4
    iexists _; iexact HS5
  iexact Hg

/-! ## The run -/

-- `θ_run_frameP_track_forget`'s implicit arguments are found by unifying its conclusion with this one, which takes unfolding plain
-- definitions in a metavariable's type
set_option backward.isDefEq.respectTransparency.types false in
/-- THE LAUNCH: `run_mainV`'s statement, and every semaphore counter of the machine at zero at every final state. -/
theorem run_mainV_quiescent (hp : Passes m) (hr : ∀ c i, (pword m c i : BitVec 32).toInt ≤ 8192) (hF : ∀ c t, Fin2 (iblk m hO c 2 t)) : θ_run defs (onTc (τ := τ) (main (F := 𝕀))) (s₀ m ρ) (fun r => (Pipeline.RDat.FramePost ((Pipeline.pin pcfgs fun _ => adm m hO) 0) (fun c => (datsV m hO 0 c).toRForget forgetsV) (V m)) r ∧ r.2.sem = fun _ => 0) :=
  Pipeline.θ_run_frameP_track_forget (Q' := _) pcfgs (fun _ => adm m hO) (datsV m hO) (0 : Fin 1) launch0 defs₀ Variants.none forgetsV m ρ main
    (hbody := fun c => (body_obligationV m hO hp hr hF c).loose) (hshare := fun c => (datsV m hO 0 c).share_full fun _ => rfl)
    (howed := fun _ _ => rfl) (V := V m) (hmain := hmain m Variants.none) (hA := A_eqV m hO) (hpf := V_pre m) (hin := phi_in m hO) (hout := phi_out m hO)

/-- The run ends with every array that is stated of at what the proof data say. -/
theorem run_mainV (hp : Passes m) (hr : ∀ c i, (pword m c i : BitVec 32).toInt ≤ 8192) (hF : ∀ c t, Fin2 (iblk m hO c 2 t)) : θ_run defs (onTc (τ := τ) (main (F := 𝕀))) (s₀ m ρ) (Pipeline.RDat.FramePost ((Pipeline.pin pcfgs fun _ => adm m hO) 0) (fun c => (datsV m hO 0 c).toRForget forgetsV) (V m)) :=
  (θ_run defs _ _).mono (fun _ h => h.1) (run_mainV_quiescent m ρ hO hp hr hF)

end Cert.Value

end
-- ==== Proof.Value.Arrays.lean ====
/- The codes and the scales of whole arrays, on extended reals: what both programs end with. -/
module

public import proofs.«01_k».proof.Proof.Value.Spec

@[expose] public section

noncomputable section

namespace Cert.Value

open Idealize.ShloMosaic
open Cert.KernelIdeal

/-- Column `c` of query head `h`. -/
def col8 (h : Fin 8) (c : Fin 256) : Fin 2048 := ⟨256 * h.val + c.val, by omega⟩

/-- Column `c` of key head `h`. -/
def col4 (h : Fin 4) (c : Fin 256) : Fin 1024 := ⟨256 * h.val + c.val, by omega⟩

/-- The query head of a column. -/
def head8 (c : Fin 2048) : Fin 8 := ⟨c.val / 256, by omega⟩

/-- The key head of a column. -/
def head4 (c : Fin 1024) : Fin 4 := ⟨c.val / 256, by omega⟩

/-- Row `r` of block `n`. -/
def row32 (n : Fin 32) (r : Fin 256) : Fin 8192 := ⟨256 * n.val + r.val, by omega⟩

/-- Query head `p` of the group of key head `h`. -/
def pair8 (h : Fin 4) (p : Fin 2) : Fin 8 := ⟨2 * h.val + p.val, by omega⟩

/-- The codes of the queries. -/
def AXC (X : S3x8192x2048.Idx → EReal) : S3x8192x2048.Idx → EReal := fun j => code (fun c => X (ix3 (j 0) (j 1) (col8 (head8 (j 2)) c))) (X j)

/-- The scales of the queries. -/
def AXS (X : S3x8192x2048.Idx → EReal) : S3x4x32x2x256.Idx → EReal := fun j =>
  scale fun c => X (ix3 (j 0) (row32 (j 2) (j 4)) (col8 (pair8 (j 1) (j 3)) c))

/-- The codes of the keys or of the values. -/
def AKC (X : S3x8192x1024.Idx → EReal) : S3x8192x1024.Idx → EReal := fun j => code (fun c => X (ix3 (j 0) (j 1) (col4 (head4 (j 2)) c))) (X j)

/-- The scales of the keys or of the values. -/
def AKS (X : S3x8192x1024.Idx → EReal) : S3x4x1x8192.Idx → EReal := fun j => scale fun c => X (ix3 (j 0) (j 3) (col4 (j 1) c))

end Cert.Value

end
-- ==== Proof.Value.Attention.lean ====
/- The attention output of whole arrays, on extended reals: what both programs end with. -/
module

public import proofs.«01_k».proof.Proof.Value.Arrays
public import proofs.«01_k».proof.Proof.Value.Attn

@[expose] public section

noncomputable section

namespace Cert.Value

open Idealize.ShloMosaic
open Cert.KernelIdeal

/-- The key head of a query head. -/
def half8 (h : Fin 8) : Fin 4 := ⟨h.val / 2, by omega⟩

/-- A row of a head of the queries. -/
def xrow (X : S3x8192x2048.Idx → EReal) (b : Fin 3) (r : Fin 8192) (h : Fin 8) (c : Fin 256) : EReal := X (ix3 b r (col8 h c))

/-- A row of a head of the keys or of the values. -/
def krow (X : S3x8192x1024.Idx → EReal) (b : Fin 3) (r : Fin 8192) (h : Fin 4) (c : Fin 256) : EReal := X (ix3 b r (col4 h c))

/-- The capped score of a query and a key. -/
def score (X : S3x8192x2048.Idx → EReal) (K : S3x8192x1024.Idx → EReal) (b : Fin 3) (h : Fin 8) (r n : Fin 8192) : EReal :=
  ((50 : ℝ) : EReal) * Ideal.tanh ((∑ c : Fin 256, code (krow K b n (half8 h)) (krow K b n (half8 h) c) * code (xrow X b r h) (xrow X b r h c))
    * scale (krow K b n (half8 h)) * (scale (xrow X b r h) * ((1 / 800 : ℝ) : EReal)))

/-- The keys a query sees. -/
abbrev Sees (p : Fin 3 → BitVec 32) (b : Fin 3) (r n : Fin 8192) : Prop := ((n.val : ℕ) : ℤ) < max ((r.val : ℤ) + 1) (p b).toInt

/-- The attention output. -/
def AOUT (X : S3x8192x2048.Idx → EReal) (K V : S3x8192x1024.Idx → EReal) (p : Fin 3 → BitVec 32) : S3x8192x2048.Idx → EReal := fun j =>
  attn (fun n => Sees p (j 0) (j 1) n) (fun n => score X K (j 0) (head8 (j 2)) (j 1) n) (fun n => scale (krow V (j 0) n (half8 (head8 (j 2)))))
    fun n => code (krow V (j 0) n (half8 (head8 (j 2)))) (krow V (j 0) n (half8 (head8 (j 2))) ⟨(j 2).val % 256, Nat.mod_lt _ (by decide)⟩)

/-- Every element is a real number. -/
def Finite (V : S3x8192x1024.Idx → EReal) : Prop := ∀ j, V j ≠ ⊤ ∧ V j ≠ ⊥

end Cert.Value

end
-- ==== Proof.Value.Kernel.lean ====
/- The arrays of codes and scales at the end of the kernel's run, on extended reals. -/
module

public import proofs.«01_k».proof.Proof.Frames.KernelIdealValue
public import proofs.«01_k».proof.Proof.Frames.KernelIdealTable
public import proofs.«01_k».proof.Proof.Value.Attention
public import Idealize.ShloMosaic.Lib.Pipeline.ValueKit.Geometry
public import Idealize.ShloMosaic.Lib.Pipeline.Covers

@[expose] public section

set_option maxRecDepth 16384

noncomputable section

namespace Cert.Value

open Idealize.ShloMosaic Idealize.ShloMosaic.TcCoe Idealize.ShloMosaic.Tactic
open Idealize.SL Idealize.SL.RA Idealize.SL.Sem
open Idealize.ShloMosaic.Pipeline (Dat Cfg Window)
open Cert.KernelIdeal Cert.KernelIdeal.Gen

/-- The instance of extended reals. -/
local notation "𝕀" => Idealize.ShloMosaic.Ideal

variable (m : (ℓ : Loc nD τ sig) → Buf (Elt 𝕀) ℓ) (hO : Ok m)

/-- The three coordinates of a point of the grid. -/
theorem coords_of (t : Fin grid0.N) : (grid0.coords t 0).val = t.val / 128 % 3 ∧ (grid0.coords t 1).val = t.val / 32 % 4 ∧ (grid0.coords t 2).val = t.val % 32 := by
  refine ⟨Pipeline.Grid.coords_val t 0 (by decide) rfl, Pipeline.Grid.coords_val t 1 (by decide) rfl, ?_⟩
  have h : (grid0.coords t 2).val = t.val / 1 % 32 := Pipeline.Grid.coords_val t 2 (by decide) rfl
  simpa using h

/-- Where a block of queries lies at coordinates `b h n`. -/
def qAt (i : grid0.Coords) (y : S1x256x512.Idx) : S3x8192x2048.Idx :=
  ix3 (i 0) (row32 (i 2) (y 1)) (col8 (pair8 (i 1) (head2 (y 2))) ⟨(y 2).val % 256, Nat.mod_lt _ (by decide)⟩)

/-- Where a block of keys or values lies. -/
def kAt (i : grid0.Coords) (y : S1x8192x256.Idx) : S3x8192x1024.Idx := ix3 (i 0) (y 1) (col4 (i 1) (y 2))

/-- Where the scales of a block of queries lie. -/
def qsAt (i : grid0.Coords) (y : S1x1x1x2x256.Idx) : S3x4x32x2x256.Idx := ix5 (i 0) (i 1) (i 2) (y 3) (y 4)

/-- Where the scales of a block of keys or values lie. -/
def ksAt (i : grid0.Coords) (y : S1x1x1x8192.Idx) : S3x4x1x8192.Idx := ix4 (i 0) (i 1) 0 (y 3)

theorem toNat_coord {n : Nat} (x : Fin n) (h : n ≤ 4096 := by decide) : (BitVec.ofNat 32 x.val).toNat = x.val := by
  rw [BitVec.toNat_ofNat]; exact Nat.mod_eq_of_lt (by omega)

/-- Coordinates of a block of queries, from the block's index. -/
theorem place_q (i : grid0.Coords) (y : S1x256x512.Idx) (x : S3x8192x2048.Idx)
    (h0 : (x 0).val = (BitVec.ofNat 32 (i 0).val).toNat * 1 + 1 * (y 0).val) (h1 : (x 1).val = (BitVec.ofNat 32 (i 2).val).toNat * 256 + 1 * (y 1).val)
    (h2 : (x 2).val = (BitVec.ofNat 32 (i 1).val).toNat * 512 + 1 * (y 2).val) : x = qAt i y := by
  rw [toNat_coord] at h0 h1 h2
  have b0 : (y 0).val < 1 := (y 0).isLt
  funext a
  apply Fin.ext
  fin_cases a
  · show (x 0).val = (i 0).val
    omega
  · show (x 1).val = 256 * (i 2).val + (y 1).val
    omega
  · show (x 2).val = 256 * (2 * (i 1).val + (y 2).val / 256) + (y 2).val % 256
    omega

/-- Coordinates of a block of keys or values, from the block's index. -/
theorem place_k (i : grid0.Coords) (y : S1x8192x256.Idx) (x : S3x8192x1024.Idx)
    (h0 : (x 0).val = (BitVec.ofNat 32 (i 0).val).toNat * 1 + 1 * (y 0).val) (h1 : (x 1).val = 0 * 8192 + 1 * (y 1).val)
    (h2 : (x 2).val = (BitVec.ofNat 32 (i 1).val).toNat * 256 + 1 * (y 2).val) : x = kAt i y := by
  rw [toNat_coord] at h0 h2
  have b0 : (y 0).val < 1 := (y 0).isLt
  funext a
  apply Fin.ext
  fin_cases a
  · show (x 0).val = (i 0).val
    omega
  · show (x 1).val = (y 1).val
    omega
  · show (x 2).val = 256 * (i 1).val + (y 2).val
    omega

/-- Coordinates of the scales of a block of keys or values. -/
theorem place_ks (i : grid0.Coords) (y : S1x1x1x8192.Idx) (x : S3x4x1x8192.Idx)
    (h0 : (x 0).val = (BitVec.ofNat 32 (i 0).val).toNat * 1 + 1 * (y 0).val) (h1 : (x 1).val = (BitVec.ofNat 32 (i 1).val).toNat * 1 + 1 * (y 1).val)
    (h3 : (x 3).val = 0 * 8192 + 1 * (y 3).val) : x = ksAt i y := by
  rw [toNat_coord] at h0 h1
  have b0 : (y 0).val < 1 := (y 0).isLt
  have b1 : (y 1).val < 1 := (y 1).isLt
  have b2 : (x 2).val < 1 := (x 2).isLt
  funext a
  apply Fin.ext
  fin_cases a
  · show (x 0).val = (i 0).val
    omega
  · show (x 1).val = (i 1).val
    omega
  · show (x 2).val = 0
    omega
  · show (x 3).val = (y 3).val
    omega

/-- Coordinates of the scales of a block of queries. -/
theorem place_qs (i : grid0.Coords) (y : S1x1x1x2x256.Idx) (x : S3x4x32x2x256.Idx)
    (h0 : (x 0).val = (BitVec.ofNat 32 (i 0).val).toNat * 1 + 1 * (y 0).val) (h1 : (x 1).val = (BitVec.ofNat 32 (i 1).val).toNat * 1 + 1 * (y 1).val)
    (h2 : (x 2).val = (BitVec.ofNat 32 (i 2).val).toNat * 1 + 1 * (y 2).val) (h3 : (x 3).val = 0 * 2 + 1 * (y 3).val) (h4 : (x 4).val = 0 * 256 + 1 * (y 4).val) :
    x = qsAt i y := by
  rw [toNat_coord] at h0 h1 h2
  have b0 : (y 0).val < 1 := (y 0).isLt
  have b1 : (y 1).val < 1 := (y 1).isLt
  have b2 : (y 2).val < 1 := (y 2).isLt
  funext a
  apply Fin.ext
  fin_cases a
  · show (x 0).val = (i 0).val
    omega
  · show (x 1).val = (i 1).val
    omega
  · show (x 2).val = (i 2).val
    omega
  · show (x 3).val = (y 3).val
    omega
  · show (x 4).val = (y 4).val
    omega

theorem emb_0 (t : Fin (cfgM m hO).N) (y : S1x256x512.Idx) : (((cfgM m hO).win 0).blk t).view.emb y = qAt (grid0.coords t) y :=
  place_q _ _ _ rfl rfl rfl

theorem emb_1 (t : Fin (cfgM m hO).N) (y : S1x8192x256.Idx) : (((cfgM m hO).win 1).blk t).view.emb y = kAt (grid0.coords t) y :=
  place_k _ _ _ rfl rfl rfl

theorem emb_2 (t : Fin (cfgM m hO).N) (y : S1x8192x256.Idx) : (((cfgM m hO).win 2).blk t).view.emb y = kAt (grid0.coords t) y :=
  place_k _ _ _ rfl rfl rfl

theorem emb_3 (t : Fin (cfgM m hO).N) (y : S1x256x512.Idx) : (((cfgM m hO).win 3).blk t).view.emb y = qAt (grid0.coords t) y :=
  place_q _ _ _ rfl rfl rfl

theorem emb_4 (t : Fin (cfgM m hO).N) (y : S1x256x512.Idx) : (((cfgM m hO).win 4).blk t).view.emb y = qAt (grid0.coords t) y :=
  place_q _ _ _ rfl rfl rfl

theorem emb_5 (t : Fin (cfgM m hO).N) (y : S1x1x1x2x256.Idx) : (((cfgM m hO).win 5).blk t).view.emb y = qsAt (grid0.coords t) y :=
  place_qs _ _ _ rfl rfl rfl rfl rfl

theorem emb_6 (t : Fin (cfgM m hO).N) (y : S1x8192x256.Idx) : (((cfgM m hO).win 6).blk t).view.emb y = kAt (grid0.coords t) y :=
  place_k _ _ _ rfl rfl rfl

theorem emb_7 (t : Fin (cfgM m hO).N) (y : S1x1x1x8192.Idx) : (((cfgM m hO).win 7).blk t).view.emb y = ksAt (grid0.coords t) y :=
  place_ks _ _ _ rfl rfl rfl

theorem emb_8 (t : Fin (cfgM m hO).N) (y : S1x8192x256.Idx) : (((cfgM m hO).win 8).blk t).view.emb y = kAt (grid0.coords t) y :=
  place_k _ _ _ rfl rfl rfl

theorem emb_9 (t : Fin (cfgM m hO).N) (y : S1x1x1x8192.Idx) : (((cfgM m hO).win 9).blk t).view.emb y = ksAt (grid0.coords t) y :=
  place_ks _ _ _ rfl rfl rfl

/-! ## The kernel's blocks are the blocks of the whole arrays -/

theorem xc_at (X : S3x8192x2048.Idx → EReal) (i : grid0.Coords) (y : S1x256x512.Idx) : XC (fun z => X (qAt i z)) y = AXC X (qAt i y) := by
  obtain ⟨u, r, c, rfl⟩ : ∃ (u : Fin 1) (r : Fin 256) (c : Fin 512), y = ix3 u r c := ⟨y 0, y 1, y 2, eq_ix3 y⟩
  have e : ∀ k : Fin 256, qAt i (ix3 0 r (col2 (head2 c) k)) = ix3 (i 0) (row32 (i 2) r) (col8 (head8 (qAt i (ix3 u r c) 2)) k) := fun k => by
    funext a
    apply Fin.ext
    fin_cases a
    · rfl
    · rfl
    · show 256 * (2 * (i 1).val + (256 * (c.val / 256) + k.val) / 256) + (256 * (c.val / 256) + k.val) % 256
        = 256 * ((256 * (2 * (i 1).val + c.val / 256) + c.val % 256) / 256) + k.val
      omega
  show code (fun k => X (qAt i (ix3 0 r (col2 (head2 c) k)))) _ = code (fun k => X (ix3 (i 0) (row32 (i 2) r) (col8 (head8 (qAt i (ix3 u r c) 2)) k))) _
  simp only [e]
  rfl

theorem xs_at (X : S3x8192x2048.Idx → EReal) (i : grid0.Coords) (y : S1x1x1x2x256.Idx) : XS (fun z => X (qAt i z)) y = AXS X (qsAt i y) := by
  have e : ∀ k : Fin 256, qAt i (ix3 0 (y 4) (col2 (y 3) k)) = ix3 (i 0) (row32 (i 2) (y 4)) (col8 (pair8 (i 1) (y 3)) k) := fun k => by
    have b := k.isLt
    funext a
    apply Fin.ext
    fin_cases a
    · rfl
    · rfl
    · show 256 * (2 * (i 1).val + (256 * (y 3).val + k.val) / 256) + (256 * (y 3).val + k.val) % 256
        = 256 * (2 * (i 1).val + (y 3).val) + k.val
      omega
  show scale (fun k => X (qAt i (ix3 0 (y 4) (col2 (y 3) k)))) = scale (fun k => X (ix3 (i 0) (row32 (i 2) (y 4)) (col8 (pair8 (i 1) (y 3)) k)))
  simp only [e]
  rfl

theorem kc_at (X : S3x8192x1024.Idx → EReal) (i : grid0.Coords) (y : S1x8192x256.Idx) : KC (fun z => X (kAt i z)) y = AKC X (kAt i y) := by
  have e : head4 (kAt i y 2) = i 1 := by
    apply Fin.ext
    have b : (y 2).val < 256 := (y 2).isLt
    show (256 * (i 1).val + (y 2).val) / 256 = (i 1).val
    omega
  show code (fun k => X (ix3 (i 0) (y 1) (col4 (i 1) k))) _ = code (fun k => X (ix3 (i 0) (y 1) (col4 (head4 (kAt i y 2)) k))) _
  rw [e]

theorem ks_at (X : S3x8192x1024.Idx → EReal) (i : grid0.Coords) (y : S1x1x1x8192.Idx) : KS (fun z => X (kAt i z)) y = AKS X (ksAt i y) := rfl

theorem block_0 (c : Dev nD) (t : Fin (cfgM m hO).N) : iblk m hO c 0 t = fun z : S1x256x512.Idx => m ((c.tc : Thread nD τ).loc main_arg0) (qAt (grid0.coords t) z) :=
  funext fun z => congrArg (m ((c.tc : Thread nD τ).loc main_arg0)) (emb_0 m hO t z)

theorem block_1 (c : Dev nD) (t : Fin (cfgM m hO).N) : iblk m hO c 1 t = fun z : S1x8192x256.Idx => m ((c.tc : Thread nD τ).loc main_arg1) (kAt (grid0.coords t) z) :=
  funext fun z => congrArg (m ((c.tc : Thread nD τ).loc main_arg1)) (emb_1 m hO t z)

theorem block_2 (c : Dev nD) (t : Fin (cfgM m hO).N) : iblk m hO c 2 t = fun z : S1x8192x256.Idx => m ((c.tc : Thread nD τ).loc main_arg2) (kAt (grid0.coords t) z) :=
  funext fun z => congrArg (m ((c.tc : Thread nD τ).loc main_arg2)) (emb_2 m hO t z)

/-! ## The attention output of a block -/

theorem kc_row (K : S3x8192x1024.Idx → EReal) (i : grid0.Coords) (n : Fin 8192) (c : Fin 256) : KC (fun z => K (kAt i z)) (ix3 0 n c) = code (krow K (i 0) n (i 1)) (krow K (i 0) n (i 1) c) := rfl

theorem kr_row (K : S3x8192x1024.Idx → EReal) (i : grid0.Coords) (n : Fin 8192) : KR (fun z => K (kAt i z)) (ix2 n 0) = scale (krow K (i 0) n (i 1)) := rfl

theorem qAt_col (i : grid0.Coords) (g : Fin 2) (q c : Fin 256) : qAt i (ix3 0 q (col2 g c)) = ix3 (i 0) (row32 (i 2) q) (col8 (pair8 (i 1) g) c) := by
  have b := c.isLt
  funext a
  apply Fin.ext
  fin_cases a
  · rfl
  · rfl
  · show 256 * (2 * (i 1).val + (256 * g.val + c.val) / 256) + (256 * g.val + c.val) % 256 = 256 * (2 * (i 1).val + g.val) + c.val
    omega

theorem xc_row (X : S3x8192x2048.Idx → EReal) (i : grid0.Coords) (g : Fin 2) (q c : Fin 256) :
    XC (fun z => X (qAt i z)) (ix3 0 q (col2 g c)) = code (xrow X (i 0) (row32 (i 2) q) (pair8 (i 1) g)) (xrow X (i 0) (row32 (i 2) q) (pair8 (i 1) g) c) := by
  show code (fun k => X (qAt i (ix3 0 q (col2 (head2 (col2 g c)) k)))) (X (qAt i (ix3 0 q (col2 g c)))) = _
  simp only [head2_col2, qAt_col]
  rfl

theorem xs_row (X : S3x8192x2048.Idx → EReal) (i : grid0.Coords) (g : Fin 2) (q : Fin 256) :
    XS (fun z => X (qAt i z)) (ix5 0 0 0 g q) = scale (xrow X (i 0) (row32 (i 2) q) (pair8 (i 1) g)) := by
  show scale (fun k => X (qAt i (ix3 0 q (col2 g k)))) = _
  simp only [qAt_col]
  rfl

theorem capped_row (X : S3x8192x2048.Idx → EReal) (K : S3x8192x1024.Idx → EReal) (i : grid0.Coords) (g : Fin 2) (q : Fin 256) (n : Fin 8192) :
    capped (fun z => X (qAt i z)) (fun z => K (kAt i z)) g q n = score X K (i 0) (pair8 (i 1) g) (row32 (i 2) q) n := by
  have e : half8 (pair8 (i 1) g) = i 1 := Fin.ext (by show (2 * (i 1).val + g.val) / 2 = (i 1).val; omega)
  unfold capped warg dotQK score
  simp only [kc_row, kr_row, xc_row, xs_row, e]

theorem attn_congr {p p' : Fin 8192 → Prop} [hp : DecidablePred p] [hp' : DecidablePred p'] {t t' vs vs' u u' : Fin 8192 → EReal} (h : ∀ n, p n = p' n)
    (ht : ∀ n, t n = t' n) (hv : ∀ n, vs n = vs' n) (hu : ∀ n, u n = u' n) : attn p t vs u = attn p' t' vs' u' := by
  obtain rfl : p = p' := funext h
  obtain rfl : hp = hp' := Subsingleton.elim _ _
  rw [funext ht, funext hv, funext hu]

theorem out_at (X : S3x8192x2048.Idx → EReal) (K V : S3x8192x1024.Idx → EReal) (p : Fin 3 → BitVec 32) (i : grid0.Coords) (y : S1x256x512.Idx) :
    OUT (fun z => X (qAt i z)) (fun z => K (kAt i z)) (fun z => V (kAt i z)) (i 2).val (p (i 0)) y = AOUT X K V p (qAt i y) := by
  obtain ⟨u, r, c, rfl⟩ : ∃ (u : Fin 1) (r : Fin 256) (c : Fin 512), y = ix3 u r c := ⟨y 0, y 1, y 2, eq_ix3 y⟩
  have e1 : head8 (qAt i (ix3 u r c) 2) = pair8 (i 1) (head2 c) := Fin.ext (by
    show (256 * (2 * (i 1).val + c.val / 256) + c.val % 256) / 256 = 2 * (i 1).val + c.val / 256
    omega)
  have e2 : half8 (pair8 (i 1) (head2 c)) = i 1 := Fin.ext (by show (2 * (i 1).val + c.val / 256) / 2 = (i 1).val; have := c.isLt; omega)
  have e3 : (⟨((qAt i (ix3 u r c)) 2).val % 256, Nat.mod_lt _ (by decide)⟩ : Fin 256) = ⟨c.val % 256, Nat.mod_lt _ (by decide)⟩ := Fin.ext (by
    show (256 * (2 * (i 1).val + c.val / 256) + c.val % 256) % 256 = c.val % 256
    omega)
  have e4 : ∀ n : Fin 8192, Vis (i 2).val (p (i 0)) n.val r = Sees p (i 0) (row32 (i 2) r) n := fun n => by
    unfold Vis Sees row32
    simp only [Nat.cast_add, Nat.cast_mul, Nat.cast_ofNat]
  unfold OUT AOUT
  simp only [e1, e2, e3, kc_row, kr_row]
  exact attn_congr e4 (fun n => capped_row X K i (head2 c) r n) (fun _ => rfl) fun _ => rfl

/-- The word of a point of the grid is its batch's. -/
theorem pword_at (c : Dev nD) (i : grid0.Coords) : pword m c i = m (((0 : Dev nD).tc : Thread nD τ).loc main_arg3) (ix1 (i 0)) := by
  refine congrArg (m (((0 : Dev nD).tc : Thread nD τ).loc main_arg3)) (funext fun a => Fin.ext ?_)
  fin_cases a
  show (BitVec.ofNat 32 (i 0).val).toNat + 1 * 0 = (i 0).val
  rw [toNat_coord]
  omega

/-! ## The written-back blocks cover the arrays -/

/-- A point of the grid from its coordinates. -/
def pt (a : Fin 3) (b : Fin 4) (c : Fin 32) : grid0.Coords := fun x => match x with
  | 0 => a
  | 1 => b
  | 2 => c

/-- A block index of an axis of `s` elements in blocks of `b`. -/
def dig (s b n : Nat) (h : (s + b - 1) / b = n) (x : Fin ((s + b - 1) / b)) : Fin n := ⟨x.val, h ▸ x.isLt⟩

theorem covers_3 : ((cfgM m hO).win 3).Covers :=
  Window.covers_of_indexMap_surj _ rfl (fun (a : Fin 3) => by fin_cases a; exacts [(by decide : 0 < 1), (by decide : 0 < 256), (by decide : 0 < 512)]) fun β => ⟨pt (dig 3 1 3 (by decide) (β (0 : Fin 3))) (dig 2048 512 4 (by decide) (β (2 : Fin 3))) (dig 8192 256 32 (by decide) (β (1 : Fin 3))), fun (a : Fin 3) => by
    fin_cases a
    · exact toNat_coord (dig 3 1 3 (by decide) (β (0 : Fin 3)))
    · exact toNat_coord (dig 8192 256 32 (by decide) (β (1 : Fin 3)))
    · exact toNat_coord (dig 2048 512 4 (by decide) (β (2 : Fin 3)))⟩

theorem covers_4 : ((cfgM m hO).win 4).Covers :=
  Window.covers_of_indexMap_surj _ rfl (fun (a : Fin 3) => by fin_cases a; exacts [(by decide : 0 < 1), (by decide : 0 < 256), (by decide : 0 < 512)]) fun β => ⟨pt (dig 3 1 3 (by decide) (β (0 : Fin 3))) (dig 2048 512 4 (by decide) (β (2 : Fin 3))) (dig 8192 256 32 (by decide) (β (1 : Fin 3))), fun (a : Fin 3) => by
    fin_cases a
    · exact toNat_coord (dig 3 1 3 (by decide) (β (0 : Fin 3)))
    · exact toNat_coord (dig 8192 256 32 (by decide) (β (1 : Fin 3)))
    · exact toNat_coord (dig 2048 512 4 (by decide) (β (2 : Fin 3)))⟩

theorem covers_5 : ((cfgM m hO).win 5).Covers :=
  Window.covers_of_indexMap_surj _ rfl (fun (a : Fin 5) => by fin_cases a; exacts [(by decide : 0 < 1), (by decide : 0 < 1), (by decide : 0 < 1), (by decide : 0 < 2), (by decide : 0 < 256)]) fun β => ⟨pt (dig 3 1 3 (by decide) (β (0 : Fin 5))) (dig 4 1 4 (by decide) (β (1 : Fin 5))) (dig 32 1 32 (by decide) (β (2 : Fin 5))), fun (a : Fin 5) => by
    have b3 : (β (3 : Fin 5)).val < 1 := (dig 2 2 1 (by decide) (β (3 : Fin 5))).isLt
    have b4 : (β (4 : Fin 5)).val < 1 := (dig 256 256 1 (by decide) (β (4 : Fin 5))).isLt
    fin_cases a
    · exact toNat_coord (dig 3 1 3 (by decide) (β (0 : Fin 5)))
    · exact toNat_coord (dig 4 1 4 (by decide) (β (1 : Fin 5)))
    · exact toNat_coord (dig 32 1 32 (by decide) (β (2 : Fin 5)))
    · show 0 = (β (3 : Fin 5)).val
      omega
    · show 0 = (β (4 : Fin 5)).val
      omega⟩

theorem covers_6 : ((cfgM m hO).win 6).Covers :=
  Window.covers_of_indexMap_surj _ rfl (fun (a : Fin 3) => by fin_cases a; exacts [(by decide : 0 < 1), (by decide : 0 < 8192), (by decide : 0 < 256)]) fun β => ⟨pt (dig 3 1 3 (by decide) (β (0 : Fin 3))) (dig 1024 256 4 (by decide) (β (2 : Fin 3))) 0, fun (a : Fin 3) => by
    have b1 : (β (1 : Fin 3)).val < 1 := (dig 8192 8192 1 (by decide) (β (1 : Fin 3))).isLt
    fin_cases a
    · exact toNat_coord (dig 3 1 3 (by decide) (β (0 : Fin 3)))
    · show 0 = (β (1 : Fin 3)).val
      omega
    · exact toNat_coord (dig 1024 256 4 (by decide) (β (2 : Fin 3)))⟩

theorem covers_7 : ((cfgM m hO).win 7).Covers :=
  Window.covers_of_indexMap_surj _ rfl (fun (a : Fin 4) => by fin_cases a; exacts [(by decide : 0 < 1), (by decide : 0 < 1), (by decide : 0 < 1), (by decide : 0 < 8192)]) fun β => ⟨pt (dig 3 1 3 (by decide) (β (0 : Fin 4))) (dig 4 1 4 (by decide) (β (1 : Fin 4))) 0, fun (a : Fin 4) => by
    have b2 : (β (2 : Fin 4)).val < 1 := (dig 1 1 1 (by decide) (β (2 : Fin 4))).isLt
    have b3 : (β (3 : Fin 4)).val < 1 := (dig 8192 8192 1 (by decide) (β (3 : Fin 4))).isLt
    fin_cases a
    · exact toNat_coord (dig 3 1 3 (by decide) (β (0 : Fin 4)))
    · exact toNat_coord (dig 4 1 4 (by decide) (β (1 : Fin 4)))
    · show 0 = (β (2 : Fin 4)).val
      omega
    · show 0 = (β (3 : Fin 4)).val
      omega⟩

theorem covers_8 : ((cfgM m hO).win 8).Covers :=
  Window.covers_of_indexMap_surj _ rfl (fun (a : Fin 3) => by fin_cases a; exacts [(by decide : 0 < 1), (by decide : 0 < 8192), (by decide : 0 < 256)]) fun β => ⟨pt (dig 3 1 3 (by decide) (β (0 : Fin 3))) (dig 1024 256 4 (by decide) (β (2 : Fin 3))) 0, fun (a : Fin 3) => by
    have b1 : (β (1 : Fin 3)).val < 1 := (dig 8192 8192 1 (by decide) (β (1 : Fin 3))).isLt
    fin_cases a
    · exact toNat_coord (dig 3 1 3 (by decide) (β (0 : Fin 3)))
    · show 0 = (β (1 : Fin 3)).val
      omega
    · exact toNat_coord (dig 1024 256 4 (by decide) (β (2 : Fin 3)))⟩

theorem covers_9 : ((cfgM m hO).win 9).Covers :=
  Window.covers_of_indexMap_surj _ rfl (fun (a : Fin 4) => by fin_cases a; exacts [(by decide : 0 < 1), (by decide : 0 < 1), (by decide : 0 < 1), (by decide : 0 < 8192)]) fun β => ⟨pt (dig 3 1 3 (by decide) (β (0 : Fin 4))) (dig 4 1 4 (by decide) (β (1 : Fin 4))) 0, fun (a : Fin 4) => by
    have b2 : (β (2 : Fin 4)).val < 1 := (dig 1 1 1 (by decide) (β (2 : Fin 4))).isLt
    have b3 : (β (3 : Fin 4)).val < 1 := (dig 8192 8192 1 (by decide) (β (3 : Fin 4))).isLt
    fin_cases a
    · exact toNat_coord (dig 3 1 3 (by decide) (β (0 : Fin 4)))
    · exact toNat_coord (dig 4 1 4 (by decide) (β (1 : Fin 4)))
    · show 0 = (β (2 : Fin 4)).val
      omega
    · show 0 = (β (3 : Fin 4)).val
      omega⟩

/-! ## The arrays at the end -/

theorem final_3 (c : Dev nD) : (datsV m hO 0 c).arrAt 3 (cfgM m hO).N = AOUT (m ((c.tc : Thread nD τ).loc main_arg0)) (m ((c.tc : Thread nD τ).loc main_arg1)) (m ((c.tc : Thread nD τ).loc main_arg2))
    fun b => m ((c.tc : Thread nD τ).loc main_arg3) (ix1 b) :=
  (datsV m hO 0 c).arrAt_eq_of_covers 3 _ (covers_3 m hO) fun t hf y => by
    blk_simp
    rw [after_3, block_0, block_1, block_2, pword_at]
    obtain rfl : c = 0 := Subsingleton.elim _ _
    exact (out_at _ _ _ (fun b => m (((0 : Dev nD).tc : Thread nD τ).loc main_arg3) (ix1 b)) _ y).trans (congrArg (AOUT _ _ _ _) (emb_3 m hO t y).symm)

theorem final_4 (c : Dev nD) : (datsV m hO 0 c).arrAt 4 (cfgM m hO).N = AXC (m ((c.tc : Thread nD τ).loc main_arg0)) :=
  (datsV m hO 0 c).arrAt_eq_of_covers 4 _ (covers_4 m hO) fun t hf y => by
    blk_simp
    rw [after_4, block_0]
    exact (xc_at _ _ y).trans (congrArg (AXC _) (emb_4 m hO t y).symm)

theorem final_5 (c : Dev nD) : (datsV m hO 0 c).arrAt 5 (cfgM m hO).N = AXS (m ((c.tc : Thread nD τ).loc main_arg0)) :=
  (datsV m hO 0 c).arrAt_eq_of_covers 5 _ (covers_5 m hO) fun t hf y => by
    blk_simp
    rw [after_5, block_0]
    exact (xs_at _ _ y).trans (congrArg (AXS _) (emb_5 m hO t y).symm)

theorem final_6 (c : Dev nD) : (datsV m hO 0 c).arrAt 6 (cfgM m hO).N = AKC (m ((c.tc : Thread nD τ).loc main_arg1)) :=
  (datsV m hO 0 c).arrAt_eq_of_covers 6 _ (covers_6 m hO) fun t hf y => by
    blk_simp
    rw [after_6, block_1]
    exact (kc_at _ _ y).trans (congrArg (AKC _) (emb_6 m hO t y).symm)

theorem final_7 (c : Dev nD) : (datsV m hO 0 c).arrAt 7 (cfgM m hO).N = AKS (m ((c.tc : Thread nD τ).loc main_arg1)) :=
  (datsV m hO 0 c).arrAt_eq_of_covers 7 _ (covers_7 m hO) fun t hf y => by
    blk_simp
    rw [after_7, block_1]
    exact (ks_at _ _ y).trans (congrArg (AKS _) (emb_7 m hO t y).symm)

theorem final_8 (c : Dev nD) : (datsV m hO 0 c).arrAt 8 (cfgM m hO).N = AKC (m ((c.tc : Thread nD τ).loc main_arg2)) :=
  (datsV m hO 0 c).arrAt_eq_of_covers 8 _ (covers_8 m hO) fun t hf y => by
    blk_simp
    rw [after_8, block_2]
    exact (kc_at _ _ y).trans (congrArg (AKC _) (emb_8 m hO t y).symm)

theorem final_9 (c : Dev nD) : (datsV m hO 0 c).arrAt 9 (cfgM m hO).N = AKS (m ((c.tc : Thread nD τ).loc main_arg2)) :=
  (datsV m hO 0 c).arrAt_eq_of_covers 9 _ (covers_9 m hO) fun t hf y => by
    blk_simp
    rw [after_9, block_2]
    exact (ks_at _ _ y).trans (congrArg (AKS _) (emb_9 m hO t y).symm)

/-! ## The run -/

section
open Idealize.ShloMosaic.Pipeline
variable {Λ₁ : Labels} {cfg₁ : Cfg sig Λ₁} {U' : Type} [URA U']

/-- What the post of a run with forgotten windows says of a window that is not forgotten. Stated at a variable configuration, so that nothing of a printed one is opened. -/
theorem arr_out {dat : (c : Dev nD) → Dat τ (Elt 𝕀) Unit ℕ U' ℕ cfg₁ c} {fgt : Fin cfg₁.W → Bool} {V : (c : Dev nD) → (b : Ref sig .tc) → Buf (Elt 𝕀) ((c.tc : Thread nD τ).loc b)}
    {r : PUnit × MemSt nD τ sig (Elt 𝕀)} (h : RDat.FramePost cfg₁ (fun c => (dat c).toRForget fgt) V r) (c : Dev nD) (w : Fin cfg₁.W) (hw : fgt w = false) :
    r.2.mem ((cfg₁.spec w).arr.view.loc (c.tc : Thread nD τ)) = (dat c).arrAt w cfg₁.N :=
  ((dat c).toRForget_arrAt_iff hw _ _).mp ((h c).1 w)

end

include hO in
/-- The kernel's run ends with the attention output, the codes and the scales of the arrays it was given, and those unchanged. -/
theorem kernel_run (ρ : Dev nD → PrngReg) (hw : ∀ j : S3.Idx, (m (((0 : Dev nD).tc : Thread nD τ).loc main_arg3) j).toInt ≤ 8192)
    (hv : ∀ c : Dev nD, Finite (m ((c.tc : Thread nD τ).loc main_arg2))) : θ_run defs (onTc (τ := τ) (main (F := 𝕀))) ⟨m, fun _ => 0, ρ⟩ (fun r => ∀ c : Dev nD,
    r.2.mem ((c.tc : Thread nD τ).loc main_v0_0) = AOUT (m ((c.tc : Thread nD τ).loc main_arg0)) (m ((c.tc : Thread nD τ).loc main_arg1)) (m ((c.tc : Thread nD τ).loc main_arg2))
      (fun b => m ((c.tc : Thread nD τ).loc main_arg3) (ix1 b))
    ∧ r.2.mem ((c.tc : Thread nD τ).loc main_v0_1) = AXC (m ((c.tc : Thread nD τ).loc main_arg0))
    ∧ r.2.mem ((c.tc : Thread nD τ).loc main_v0_2) = AXS (m ((c.tc : Thread nD τ).loc main_arg0))
    ∧ r.2.mem ((c.tc : Thread nD τ).loc main_v0_3) = AKC (m ((c.tc : Thread nD τ).loc main_arg1))
    ∧ r.2.mem ((c.tc : Thread nD τ).loc main_v0_4) = AKS (m ((c.tc : Thread nD τ).loc main_arg1))
    ∧ r.2.mem ((c.tc : Thread nD τ).loc main_v0_5) = AKC (m ((c.tc : Thread nD τ).loc main_arg2))
    ∧ r.2.mem ((c.tc : Thread nD τ).loc main_v0_6) = AKS (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  refine (θ_run defs _ _).mono (fun r h c => ?_) (run_mainV m ρ hO (passes m hw) (fun c i => by rw [pword_at]; exact hw _)
    (fun c t j => by rw [block_2]; exact scale_P2 _ fun k => hv c _))
  exact ⟨(arr_out h c 3 rfl).trans (final_3 m hO c), (arr_out h c 4 rfl).trans (final_4 m hO c), (arr_out h c 5 rfl).trans (final_5 m hO c), (arr_out h c 6 rfl).trans (final_6 m hO c),
    (arr_out h c 7 rfl).trans (final_7 m hO c), (arr_out h c 8 rfl).trans (final_8 m hO c), (arr_out h c 9 rfl).trans (final_9 m hO c),
    (Pipeline.RDat.FramePost.arr_in h c 0 rfl).trans ((A_eqV m hO c 0).trans (V_main_arg0 m c)),
    (Pipeline.RDat.FramePost.arr_in h c 1 rfl).trans ((A_eqV m hO c 1).trans (V_main_arg1 m c)),
    (Pipeline.RDat.FramePost.arr_in h c 2 rfl).trans ((A_eqV m hO c 2).trans (V_main_arg2 m c)),
    ((h c).2 main_arg3 (by decide : main_arg3 ∈ Pipeline.restRefs sig spec0)).trans (V_main_arg3 m c)⟩

end Cert.Value

end
-- ==== Proof.Value.Quant.lean ====
/- The codes and the scales the reference computes, on extended reals. -/
module

public import proofs.«01_k».proof.Proof.Gen.ReferenceIdeal.Frame
public import proofs.«01_k».proof.Proof.Value.Arrays
public import Idealize.ShloMosaic.Lib.Pointwise

@[expose] public section

set_option maxRecDepth 65536
set_option synthInstance.maxSize 4096

noncomputable section

namespace Cert.Value

open Idealize.ShloMosaic Idealize.ShloMosaic.TcCoe Idealize.ShloMosaic.Tactic
open Cert.ReferenceIdeal Cert.ReferenceIdeal.Gen

local notation "𝕀" => Idealize.ShloMosaic.Ideal

/-! ## The arithmetic, at any shape -/

/-- The exponents of rows, from their largest magnitudes. -/
def expT (s : Shape) (v : FVec 𝕀 s .f32) : FVec 𝕀 s .f32 :=
  select (cmpf .oeq v (broadcast s (Scalar.ofBits .f32 0x00000000#32 : 𝕀 .f32))) (broadcast s (Scalar.ofBits .f32 0x00000000#32 : 𝕀 .f32))
    (addf (floor (mulf (log (mulf v (broadcast s (Scalar.ofBits .f32 0x3B124925#32 : 𝕀 .f32)))) (broadcast s (Named.named κ "inv_log_2" 0x3FB8AA3B#32 : 𝕀 .f32))))
      (broadcast s (Scalar.ofBits .f32 0x3F800000#32 : 𝕀 .f32)))

theorem expT_apply (s : Shape) (v : FVec 𝕀 s .f32) (i : s.Idx) : expT s v i = expo (v i) := by
  pointwise [expT]
  rw [show (Named.named κ "inv_log_2" 1069066811#32 : 𝕀 .f32) = (((Real.log 2)⁻¹ : ℝ) : EReal) from IdealRules.named_const.ideal_named_scalar _ _ _ _ rfl]
  rfl

/-- Two to the power of minus the exponents. -/
def invT (s : Shape) (v : FVec 𝕀 s .f32) : FVec 𝕀 s .f32 := exp2 (subf (broadcast s (Scalar.ofBits .f32 0x00000000#32 : 𝕀 .f32)) v)

theorem invT_apply (s : Shape) (v : FVec 𝕀 s .f32) (i : s.Idx) : invT s v i = FloatOps.exp2 (F := 𝕀) (φ := .f32) (0 - v i) := by
  pointwise [invT]

/-- The codes, from the numbers and the factors of their rows. -/
def codeT (s : Shape) (x f : FVec 𝕀 s .f32) : FVec 𝕀 s .fp8e4m3 :=
  truncf .fp8e4m3 (minimumf (broadcast s (Scalar.ofBits .f32 0x43E00000#32 : 𝕀 .f32)) (maximumf (broadcast s (Scalar.ofBits .f32 0xC3E00000#32 : 𝕀 .f32)) (mulf x f))) bitsLt_fp8e4m3_f32

theorem codeT_apply (s : Shape) (x f : FVec 𝕀 s .f32) (i : s.Idx) :
    codeT s x f i = min (Ideal.ofBits FTy.f32 0x43E00000#32) (max (Ideal.ofBits FTy.f32 0xC3E00000#32) (x i * f i)) := by
  pointwise [codeT]

theorem exp2_apply' (s : Shape) (v : FVec 𝕀 s .f32) (i : s.Idx) : exp2 v i = FloatOps.exp2 (F := 𝕀) (φ := .f32) (v i) := rfl

/-! ## The heads of the queries -/

/-- The batch of a row of heads. -/
def b24 (g : Fin 24) : Fin 3 := ⟨g.val / 8, by omega⟩

/-- The head of a row of heads. -/
def h24 (g : Fin 24) : Fin 8 := ⟨g.val % 8, by omega⟩

/-- The row of heads of a batch and a head. -/
def g24 (b : Fin 3) (h : Fin 8) : Fin 24 := ⟨8 * b.val + h.val, by omega⟩

theorem b24_g (b : Fin 3) (h : Fin 8) : b24 (g24 b h) = b := Fin.ext (by show (8 * b.val + h.val) / 8 = b.val; omega)

theorem h24_g (b : Fin 3) (h : Fin 8) : h24 (g24 b h) = h := Fin.ext (by show (8 * b.val + h.val) % 8 = h.val; omega)

theorem red24 (x : FVec 𝕀 S24x8192x256 .f32) (g : Fin 24) (r : Fin 8192) :
    multiReduction (F := 𝕀) .maximumf [2] S24x8192 x 0xFF800000#32 reduces_S24x8192x256_S24x8192 (.inl rfl) rfl (ix2 g r) = Finset.univ.fold max ⊥ fun c : Fin 256 => x (ix3 g r c) := by
  rw [← ofBits_ninf32]
  pointwise

theorem cast24 (x : FVec 𝕀 S24x8192 .f32) (g : Fin 24) (r : Fin 8192) (u : Fin 1) :
    shapeCast S24x8192x1 x shapeCasts_S24x8192_S24x8192x1 (ix3 g r u) = x (ix2 g r) := by
  pointwise

theorem bcast24 (x : FVec 𝕀 S24x8192x1 .f32) (g : Fin 24) (r : Fin 8192) (c : Fin 256) :
    broadcastTo S24x8192x256 x broadcasts_S24x8192x1_S24x8192x256 (ix3 g r c) = x (ix3 g r 0) := by
  pointwise

/-- The largest magnitudes of the rows. -/
def maxT24 (x : FVec 𝕀 S24x8192x256 .f32) : FVec 𝕀 S24x8192x1 .f32 :=
  shapeCast S24x8192x1 (multiReduction .maximumf [2] S24x8192 (absf x) 0xFF800000#32 reduces_S24x8192x256_S24x8192 (.inl rfl) rfl) shapeCasts_S24x8192_S24x8192x1

theorem maxT24_apply (x : FVec 𝕀 S24x8192x256 .f32) (g : Fin 24) (r : Fin 8192) (u : Fin 1) : maxT24 x (ix3 g r u) = amax fun c => x (ix3 g r c) := by
  unfold maxT24
  rw [cast24, red24]
  rfl

theorem codes24 (x : FVec 𝕀 S24x8192x256 .f32) (g : Fin 24) (r : Fin 8192) (c : Fin 256) :
    codeT S24x8192x256 x (broadcastTo S24x8192x256 (invT S24x8192x1 (expT S24x8192x1 (maxT24 x))) broadcasts_S24x8192x1_S24x8192x256) (ix3 g r c)
      = code (fun c => x (ix3 g r c)) (x (ix3 g r c)) := by
  rw [codeT_apply, bcast24, invT_apply, expT_apply, maxT24_apply]
  rfl

theorem scales24 (x : FVec 𝕀 S24x8192x256 .f32) (g : Fin 24) (r : Fin 8192) (u : Fin 1) :
    exp2 (expT S24x8192x1 (maxT24 x)) (ix3 g r u) = scale fun c => x (ix3 g r c) := by
  rw [exp2_apply', expT_apply, maxT24_apply]
  rfl

theorem heads24 (x : Vec 𝕀 S3x8192x2048 .bf16) (g : Fin 24) (r : Fin 8192) (c : Fin 256) :
    k0_pay2 x (ix3 g r c) = x (ix3 (b24 g) r (col8 (h24 g) c)) := by
  pointwise [k0_pay2]
  refine congrArg x (congrArg (ix3 _ r) (Fin.ext ?_))
  show g.val % 8 * 256 + c.val = 256 * (g.val % 8) + c.val
  omega

theorem unheads24 (v : FVec 𝕀 S24x8192x256 .fp8e4m3) (b : Fin 3) (r : Fin 8192) (c : Fin 2048) :
    k0_pay16 v (ix3 b r c) = v (ix3 (g24 b (head8 c)) r ⟨c.val % 256, Nat.mod_lt _ (by decide)⟩) := by
  pointwise [k0_pay16]
  refine congrArg (fun g => v (ix3 g r _)) (Fin.ext ?_)
  show b.val * 8 + c.val / 256 = 8 * b.val + c.val / 256
  omega

/-! ## The heads of the keys and of the values -/

/-- The batch of a row of heads. -/
def b12 (g : Fin 12) : Fin 3 := ⟨g.val / 4, by omega⟩

/-- The head of a row of heads. -/
def h12 (g : Fin 12) : Fin 4 := ⟨g.val % 4, by omega⟩

/-- The row of heads of a batch and a head. -/
def g12 (b : Fin 3) (h : Fin 4) : Fin 12 := ⟨4 * b.val + h.val, by omega⟩

theorem b12_g (b : Fin 3) (h : Fin 4) : b12 (g12 b h) = b := Fin.ext (by show (4 * b.val + h.val) / 4 = b.val; omega)

theorem h12_g (b : Fin 3) (h : Fin 4) : h12 (g12 b h) = h := Fin.ext (by show (4 * b.val + h.val) % 4 = h.val; omega)

theorem red12 (x : FVec 𝕀 S12x8192x256 .f32) (g : Fin 12) (r : Fin 8192) :
    multiReduction (F := 𝕀) .maximumf [2] S12x8192 x 0xFF800000#32 reduces_S12x8192x256_S12x8192 (.inl rfl) rfl (ix2 g r) = Finset.univ.fold max ⊥ fun c : Fin 256 => x (ix3 g r c) := by
  rw [← ofBits_ninf32]
  pointwise

theorem cast12 (x : FVec 𝕀 S12x8192 .f32) (g : Fin 12) (r : Fin 8192) (u : Fin 1) :
    shapeCast S12x8192x1 x shapeCasts_S12x8192_S12x8192x1 (ix3 g r u) = x (ix2 g r) := by
  pointwise

theorem bcast12 (x : FVec 𝕀 S12x8192x1 .f32) (g : Fin 12) (r : Fin 8192) (c : Fin 256) :
    broadcastTo S12x8192x256 x broadcasts_S12x8192x1_S12x8192x256 (ix3 g r c) = x (ix3 g r 0) := by
  pointwise

/-- The largest magnitudes of the rows. -/
def maxT12 (x : FVec 𝕀 S12x8192x256 .f32) : FVec 𝕀 S12x8192x1 .f32 :=
  shapeCast S12x8192x1 (multiReduction .maximumf [2] S12x8192 (absf x) 0xFF800000#32 reduces_S12x8192x256_S12x8192 (.inl rfl) rfl) shapeCasts_S12x8192_S12x8192x1

theorem maxT12_apply (x : FVec 𝕀 S12x8192x256 .f32) (g : Fin 12) (r : Fin 8192) (u : Fin 1) : maxT12 x (ix3 g r u) = amax fun c => x (ix3 g r c) := by
  unfold maxT12
  rw [cast12, red12]
  rfl

theorem codes12 (x : FVec 𝕀 S12x8192x256 .f32) (g : Fin 12) (r : Fin 8192) (c : Fin 256) :
    codeT S12x8192x256 x (broadcastTo S12x8192x256 (invT S12x8192x1 (expT S12x8192x1 (maxT12 x))) broadcasts_S12x8192x1_S12x8192x256) (ix3 g r c)
      = code (fun c => x (ix3 g r c)) (x (ix3 g r c)) := by
  rw [codeT_apply, bcast12, invT_apply, expT_apply, maxT12_apply]
  rfl

theorem scales12 (x : FVec 𝕀 S12x8192x256 .f32) (g : Fin 12) (r : Fin 8192) (u : Fin 1) :
    exp2 (expT S12x8192x1 (maxT12 x)) (ix3 g r u) = scale fun c => x (ix3 g r c) := by
  rw [exp2_apply', expT_apply, maxT12_apply]
  rfl

theorem heads12 (x : Vec 𝕀 S3x8192x1024 .bf16) (g : Fin 12) (r : Fin 8192) (c : Fin 256) :
    k0_pay6 x (ix3 g r c) = x (ix3 (b12 g) r (col4 (h12 g) c)) := by
  pointwise [k0_pay6]
  refine congrArg x (congrArg (ix3 _ r) (Fin.ext ?_))
  show g.val % 4 * 256 + c.val = 256 * (g.val % 4) + c.val
  omega

theorem unheads12 (v : FVec 𝕀 S12x8192x256 .fp8e4m3) (b : Fin 3) (r : Fin 8192) (c : Fin 1024) :
    k0_pay17 v (ix3 b r c) = v (ix3 (g12 b (head4 c)) r ⟨c.val % 256, Nat.mod_lt _ (by decide)⟩) := by
  pointwise [k0_pay17]
  refine congrArg (fun g => v (ix3 g r _)) (Fin.ext ?_)
  show b.val * 4 + c.val / 256 = 4 * b.val + c.val / 256
  omega

theorem scales_q (v : FVec 𝕀 S24x8192x1 .f32) (b : Fin 3) (h : Fin 4) (n : Fin 32) (p : Fin 2) (r : Fin 256) :
    k0_pay21 v (ix5 b h n p r) = v (ix3 (g24 b (pair8 h p)) (row32 n r) 0) := by
  pointwise [k0_pay21]
  refine congrArg₂ (fun g k => v (ix3 g k 0)) (Fin.ext ?_) (Fin.ext ?_)
  · show b.val * 8 + h.val * 2 + p.val = 8 * b.val + (2 * h.val + p.val)
    omega
  · show n.val * 256 + r.val = 256 * n.val + r.val
    omega

theorem scales_k (v : FVec 𝕀 S12x8192x1 .f32) (b : Fin 3) (h : Fin 4) (u : Fin 1) (r : Fin 8192) :
    k0_pay22 v (ix4 b h u r) = v (ix3 (g12 b h) r 0) := by
  pointwise [k0_pay22, k0_pay19]
  refine congrArg (fun g => v (ix3 g r 0)) (Fin.ext ?_)
  show b.val * 4 + h.val = 4 * b.val + h.val
  omega

/-! ## The arrays -/

/-- The column that a column is, of its own head. -/
theorem col_head8 (c : Fin 2048) : col8 (head8 c) ⟨c.val % 256, Nat.mod_lt _ (by decide)⟩ = c := Fin.ext (by show 256 * (c.val / 256) + c.val % 256 = c.val; omega)

theorem col_head4 (c : Fin 1024) : col4 (head4 c) ⟨c.val % 256, Nat.mod_lt _ (by decide)⟩ = c := Fin.ext (by show 256 * (c.val / 256) + c.val % 256 = c.val; omega)

theorem ref_qc (x : Vec 𝕀 S3x8192x2048 .bf16) : k0_pay16 (k0_pay4 x) = AXC x := by
  funext j
  obtain ⟨b, r, c, rfl⟩ : ∃ (b : Fin 3) (r : Fin 8192) (c : Fin 2048), j = ix3 b r c := ⟨j 0, j 1, j 2, eq_ix3 j⟩
  rw [unheads24]
  refine (codes24 (k0_pay2 x) _ _ _).trans ?_
  simp only [heads24, b24_g, h24_g, col_head8]
  rfl

theorem ref_qs (x : Vec 𝕀 S3x8192x2048 .bf16) : k0_pay21 (k0_pay5 x) = AXS x := by
  funext j
  obtain ⟨b, h, n, p, r, rfl⟩ : ∃ (b : Fin 3) (h : Fin 4) (n : Fin 32) (p : Fin 2) (r : Fin 256), j = ix5 b h n p r := ⟨j 0, j 1, j 2, j 3, j 4, eq_ix5 j⟩
  rw [scales_q]
  refine (scales24 (k0_pay2 x) _ _ _).trans ?_
  simp only [heads24, b24_g, h24_g]
  rfl

/-- The codes of the rows of heads, put back in place. -/
theorem codes_k (x : Vec 𝕀 S3x8192x1024 .bf16) (v : FVec 𝕀 S12x8192x256 .fp8e4m3)
    (hv : v = codeT S12x8192x256 (k0_pay6 x) (broadcastTo S12x8192x256 (invT S12x8192x1 (expT S12x8192x1 (maxT12 (k0_pay6 x)))) broadcasts_S12x8192x1_S12x8192x256)) :
    k0_pay17 v = AKC x := by
  funext j
  obtain ⟨b, r, c, rfl⟩ : ∃ (b : Fin 3) (r : Fin 8192) (c : Fin 1024), j = ix3 b r c := ⟨j 0, j 1, j 2, eq_ix3 j⟩
  rw [unheads12, hv]
  refine (codes12 (k0_pay6 x) _ _ _).trans ?_
  simp only [heads12, b12_g, h12_g, col_head4]
  rfl

/-- The scales of the rows of heads, put in place. -/
theorem scales_kx (x : Vec 𝕀 S3x8192x1024 .bf16) (v : FVec 𝕀 S12x8192x1 .f32) (hv : v = exp2 (expT S12x8192x1 (maxT12 (k0_pay6 x)))) : k0_pay22 v = AKS x := by
  funext j
  obtain ⟨b, h, u, r, rfl⟩ : ∃ (b : Fin 3) (h : Fin 4) (u : Fin 1) (r : Fin 8192), j = ix4 b h u r := ⟨j 0, j 1, j 2, j 3, eq_ix4 j⟩
  rw [scales_k, hv]
  refine (scales12 (k0_pay6 x) _ _ _).trans ?_
  simp only [heads12, b12_g, h12_g]
  rfl

theorem ref_kc (x : Vec 𝕀 S3x8192x1024 .bf16) : k0_pay17 (k0_pay10 (k0_pay6 x) (k0_pay7 x) (k0_pay8 x) (Named.named κ "inv_log_2" 0x3FB8AA3B#32)) = AKC x :=
  codes_k x _ rfl

theorem ref_ks (x : Vec 𝕀 S3x8192x1024 .bf16) : k0_pay22 (k0_pay11 (k0_pay7 x) (k0_pay8 x) (Named.named κ "inv_log_2" 0x3FB8AA3B#32)) = AKS x :=
  scales_kx x _ rfl

theorem ref_vc (x : Vec 𝕀 S3x8192x1024 .bf16) : k0_pay18 (k0_pay12 x) (k0_pay14 x) = AKC x :=
  codes_k x (codeT S12x8192x256 (k0_pay12 x) (k0_pay14 x)) rfl

theorem ref_vs (x : Vec 𝕀 S3x8192x1024 .bf16) : k0_pay23 (k0_pay13 x) = AKS x :=
  scales_kx x (exp2 (k0_pay13 x)) rfl

end Cert.Value

end
-- ==== Proof.Value.Masked.lean ====
/- The attention output the reference computes, on extended reals. -/
module

public import proofs.«01_k».proof.Proof.Value.Quant
public import proofs.«01_k».proof.Proof.Value.Attention

@[expose] public section

set_option maxRecDepth 65536
set_option synthInstance.maxSize 4096

noncomputable section

namespace Cert.Value

open Idealize.ShloMosaic Idealize.ShloMosaic.TcCoe Idealize.ShloMosaic.Tactic
open Cert.ReferenceIdeal Cert.ReferenceIdeal.Gen

local notation "𝕀" => Idealize.ShloMosaic.Ideal

/-- The row of key heads of a row of query heads. -/
def half24 (g : Fin 24) : Fin 12 := ⟨g.val / 2, by omega⟩

/-! ## The keys' and the values' heads, one for each query head -/

def repC (v : FVec 𝕀 S12x1x8192x256 .fp8e4m3) : FVec 𝕀 S24x8192x256 .fp8e4m3 :=
  shapeCast S24x8192x256 (broadcastTo S12x2x8192x256 (shapeCast S12x1x8192x256 v shapeCasts_S12x1x8192x256_S12x1x8192x256) broadcasts_S12x1x8192x256_S12x2x8192x256) shapeCasts_S12x2x8192x256_S24x8192x256

theorem repC_apply (v : FVec 𝕀 S12x1x8192x256 .fp8e4m3) (g : Fin 24) (r : Fin 8192) (c : Fin 256) : repC v (ix3 g r c) = v (ix4 (half24 g) 0 r c) := by
  pointwise [repC]
  rfl

theorem oneC_apply (v : FVec 𝕀 S12x8192x256 .fp8e4m3) (g : Fin 12) (r : Fin 8192) (c : Fin 256) :
    shapeCast S12x1x8192x256 v shapeCasts_S12x8192x256_S12x1x8192x256 (ix4 g 0 r c) = v (ix3 g r c) := by
  pointwise

def repS (v : FVec 𝕀 S12x1x8192 .f32) : FVec 𝕀 S24x8192x8192 .f32 :=
  broadcastTo S24x8192x8192 (shapeCast S24x1x8192 (broadcastTo S12x2x1x8192 (shapeCast S12x1x1x8192 (shapeCast S12x1x1x8192 v shapeCasts_S12x1x8192_S12x1x1x8192) shapeCasts_S12x1x1x8192_S12x1x1x8192) broadcasts_S12x1x1x8192_S12x2x1x8192) shapeCasts_S12x2x1x8192_S24x1x8192) broadcasts_S24x1x8192_S24x8192x8192

theorem repS_apply (v : FVec 𝕀 S12x1x8192 .f32) (g : Fin 24) (r n : Fin 8192) : repS v (ix3 g r n) = v (ix3 (half24 g) 0 n) := by
  pointwise [repS]
  rfl

theorem row12_apply (v : FVec 𝕀 S12x8192x1 .f32) (g : Fin 12) (r : Fin 8192) :
    transpose S12x1x8192 [0, 2, 1] v transposes_S12x8192x1_p0_2_1_S12x1x8192 (ix3 g 0 r) = v (ix3 g r 0) := by
  pointwise

theorem bcastW (x : FVec 𝕀 S24x8192x1 .f32) (g : Fin 24) (r n : Fin 8192) :
    broadcastTo S24x8192x8192 x broadcasts_S24x8192x1_S24x8192x8192 (ix3 g r n) = x (ix3 g r 0) := by
  pointwise

theorem redW (x : FVec 𝕀 S24x8192x8192 .f32) (g : Fin 24) (r : Fin 8192) :
    multiReduction (F := 𝕀) .maximumf [2] S24x8192 x 0xFF800000#32 reduces_S24x8192x8192_S24x8192 (.inl rfl) rfl (ix2 g r) = Finset.univ.fold max ⊥ fun c : Fin 8192 => x (ix3 g r c) := by
  rw [← ofBits_ninf32]
  pointwise

theorem sumW (x : FVec 𝕀 S24x8192x8192 .f32) (g : Fin 24) (r : Fin 8192) :
    multiReduction (F := 𝕀) .add [2] S24x8192 x 0x00000000#32 reduces_S24x8192x8192_S24x8192 (.inl rfl) rfl (ix2 g r) = ∑ c : Fin 8192, x (ix3 g r c) := by
  pointwise

theorem dotQ (A B : FVec 𝕀 S24x8192x256 .fp8e4m3) (g : Fin 24) (r n : Fin 8192) :
    matmul dot_S24x8192x256_S24x8192x256_S24x8192x8192_2_2_1_1_0_0 none A B (constant S24x8192x8192 .f32 0x00000000#32 : FVec 𝕀 S24x8192x8192 .f32) (ix3 g r n) = ∑ c : Fin 256, A (ix3 g r c) * B (ix3 g n c) := by
  pointwise

theorem dotV (A : FVec 𝕀 S24x8192x8192 .fp8e4m3) (B : FVec 𝕀 S24x8192x256 .fp8e4m3) (g : Fin 24) (r : Fin 8192) (c : Fin 256) :
    matmul dot_S24x8192x8192_S24x8192x256_S24x8192x256_2_1_1_2_0_0 none A B (constant S24x8192x256 .f32 0x00000000#32 : FVec 𝕀 S24x8192x256 .f32) (ix3 g r c) = ∑ n : Fin 8192, A (ix3 g r n) * B (ix3 g n c) := by
  pointwise

/-! ## The mask -/

def prefT (p : IVec S3 32) : IVec S24x8192x8192 32 :=
  broadcastTo S24x8192x8192 (shapeCast S24x1x1 (broadcastTo S3x8x1x1 (shapeCast S3x1x1x1 (shapeCast S3x1x1x1 p shapeCasts_S3_S3x1x1x1) shapeCasts_S3x1x1x1_S3x1x1x1) broadcasts_S3x1x1x1_S3x8x1x1) shapeCasts_S3x8x1x1_S24x1x1) broadcasts_S24x1x1_S24x8192x8192

theorem prefT_apply (p : IVec S3 32) (g : Fin 24) (r n : Fin 8192) : prefT p (ix3 g r n) = p (ix1 (b24 g)) := by
  pointwise [prefT]
  rfl

def visT (p : IVec S3 32) : IVec S24x8192x8192 1 :=
  ori (cmpi .sle (iota .tc S24x8192x8192 32 [2] iota_S24x8192x8192_d2_w32) (iota .tc S24x8192x8192 32 [1] iota_S24x8192x8192_d1_w32))
    (cmpi .slt (iota .tc S24x8192x8192 32 [2] iota_S24x8192x8192_d2_w32) (prefT p))

theorem ori_one (a b : BitVec 1) : IntOp.ori a b = 1#1 ↔ a = 1#1 ∨ b = 1#1 := by
  revert a b
  decide

theorem visT_apply (p : IVec S3 32) (g : Fin 24) (r n : Fin 8192) : visT p (ix3 g r n) = 1#1 ↔ Sees (fun b => p (ix1 b)) (b24 g) r n := by
  pointwise [visT]
  rw [prefT_apply]
  have hn : (BitVec.ofNat 32 n.val).toInt = (n.val : ℤ) := by
    have := n.isLt
    rw [BitVec.toInt_ofNat', Int.bmod_eq_of_le] <;> omega
  have hr : (BitVec.ofNat 32 r.val).toInt = (r.val : ℤ) := by
    have := r.isLt
    rw [BitVec.toInt_ofNat', Int.bmod_eq_of_le] <;> omega
  rw [ori_one, IntOp.cmpi_sle, IntOp.cmpi_slt, hn, hr]
  show _ ↔ (n.val : ℤ) < max ((r.val : ℤ) + 1) (p (ix1 (b24 g))).toInt
  omega

/-! ## The weights -/

def scoreT (A : FVec 𝕀 S24x8192x256 .fp8e4m3) (s : FVec 𝕀 S24x8192x1 .f32) (k : FVec 𝕀 S12x1x8192 .f32) (B : FVec 𝕀 S12x1x8192x256 .fp8e4m3) : FVec 𝕀 S24x8192x8192 .f32 :=
  mulf (broadcast S24x8192x8192 (Scalar.ofBits .f32 0x42480000#32 : 𝕀 .f32)) (tanh (divf (mulf (mulf (mulf (matmul dot_S24x8192x256_S24x8192x256_S24x8192x8192_2_2_1_1_0_0 none A (repC B) (constant S24x8192x8192 .f32 0x00000000#32))
    (broadcastTo S24x8192x8192 s broadcasts_S24x8192x1_S24x8192x8192)) (repS k)) (broadcast S24x8192x8192 (Scalar.ofBits .f32 0x3D800000#32 : 𝕀 .f32))) (broadcast S24x8192x8192 (Scalar.ofBits .f32 0x42480000#32 : 𝕀 .f32))))

theorem bits_50 : Ideal.ofBits FTy.f32 0x42480000#32 = ((50 : ℝ) : EReal) := by
  simp [Ideal.ofBits, Ideal.ieee, -EReal.coe_mul]
  norm_num

theorem bits_16 : Ideal.ofBits FTy.f32 0x3D800000#32 = ((1 / 16 : ℝ) : EReal) := by
  simp [Ideal.ofBits, Ideal.ieee, -EReal.coe_mul]
  norm_num

theorem scaled (S q k : EReal) : Ideal.div (S * q * k * ((1 / 16 : ℝ) : EReal)) ((50 : ℝ) : EReal) = S * k * (q * ((1 / 800 : ℝ) : EReal)) := by
  unfold Ideal.div
  rw [if_neg (by norm_num), mul_assoc (S * q * k), ← EReal.coe_inv, ← EReal.coe_mul, show (1 / 16 : ℝ) * (50 : ℝ)⁻¹ = 1 / 800 by norm_num, mul_assoc S q k, mul_comm q k, ← mul_assoc S k q, mul_assoc (S * k)]

theorem scoreT_apply (A : FVec 𝕀 S24x8192x256 .fp8e4m3) (s : FVec 𝕀 S24x8192x1 .f32) (k : FVec 𝕀 S12x1x8192 .f32) (B : FVec 𝕀 S12x1x8192x256 .fp8e4m3) (g : Fin 24) (r n : Fin 8192) :
    scoreT A s k B (ix3 g r n) = ((50 : ℝ) : EReal) * Ideal.tanh ((∑ c : Fin 256, B (ix4 (half24 g) 0 n c) * A (ix3 g r c)) * k (ix3 (half24 g) 0 n) * (s (ix3 g r 0) * ((1 / 800 : ℝ) : EReal))) := by
  refine Eq.trans (b := Ideal.ofBits FTy.f32 0x42480000#32 * Ideal.tanh (Ideal.div (matmul dot_S24x8192x256_S24x8192x256_S24x8192x8192_2_2_1_1_0_0 none A (repC B) (constant S24x8192x8192 .f32 0x00000000#32 : FVec 𝕀 S24x8192x8192 .f32) (ix3 g r n)
    * broadcastTo S24x8192x8192 s broadcasts_S24x8192x1_S24x8192x8192 (ix3 g r n) * repS k (ix3 g r n) * Ideal.ofBits FTy.f32 0x3D800000#32) (Ideal.ofBits FTy.f32 0x42480000#32))) rfl ?_
  rw [dotQ, bcastW, repS_apply, bits_50, bits_16, scaled]
  simp only [repC_apply, mul_comm (A _)]

def maskT (p : IVec S3 32) (x : FVec 𝕀 S24x8192x8192 .f32) : FVec 𝕀 S24x8192x8192 .f32 :=
  select (visT p) x (broadcast S24x8192x8192 (Scalar.ofBits .f32 0xFF800000#32 : 𝕀 .f32))

theorem maskT_apply (p : IVec S3 32) (x : FVec 𝕀 S24x8192x8192 .f32) (g : Fin 24) (r n : Fin 8192) :
    maskT p x (ix3 g r n) = if Sees (fun b => p (ix1 b)) (b24 g) r n then x (ix3 g r n) else ⊥ := by
  refine Eq.trans (b := if visT p (ix3 g r n) = 1#1 then x (ix3 g r n) else Ideal.ofBits FTy.f32 0xFF800000#32) rfl ?_
  rw [ofBits_ninf32]
  exact if_congr (visT_apply p g r n) rfl rfl

theorem castW (x : FVec 𝕀 S24x8192 .f32) (g : Fin 24) (r : Fin 8192) (u : Fin 1) :
    shapeCast S24x8192x1 x shapeCasts_S24x8192_S24x8192x1 (ix3 g r u) = x (ix2 g r) := by
  pointwise

def weightT (p : IVec S3 32) (x : FVec 𝕀 S24x8192x8192 .f32) : FVec 𝕀 S24x8192x8192 .f32 :=
  select (visT p) (exp (subf (maskT p x) (broadcastTo S24x8192x8192 (shapeCast S24x8192x1 (multiReduction .maximumf [2] S24x8192 (maskT p x) 0xFF800000#32 reduces_S24x8192x8192_S24x8192 (.inl rfl) rfl) shapeCasts_S24x8192_S24x8192x1) broadcasts_S24x8192x1_S24x8192x8192)))
    (broadcast S24x8192x8192 (Scalar.ofBits .f32 0x00000000#32 : 𝕀 .f32))

theorem weightT_apply (p : IVec S3 32) (x : FVec 𝕀 S24x8192x8192 .f32) (g : Fin 24) (r n : Fin 8192) :
    weightT p x (ix3 g r n) = aExp (fun n => Sees (fun b => p (ix1 b)) (b24 g) r n) (fun n => x (ix3 g r n)) n := by
  refine Eq.trans (b := if visT p (ix3 g r n) = 1#1 then Ideal.exp (maskT p x (ix3 g r n) - broadcastTo S24x8192x8192 (shapeCast S24x8192x1 (multiReduction .maximumf [2] S24x8192 (maskT p x) 0xFF800000#32 reduces_S24x8192x8192_S24x8192 (.inl rfl) rfl) shapeCasts_S24x8192_S24x8192x1) broadcasts_S24x8192x1_S24x8192x8192 (ix3 g r n)) else Ideal.ofBits FTy.f32 0x00000000#32) rfl ?_
  rw [bcastW, castW, redW]
  simp only [maskT_apply]
  unfold aExp aMax
  refine (if_congr (visT_apply p g r n) rfl rfl).trans ?_
  split
  · rfl
  · simp [Ideal.ofBits, Ideal.ieee]

theorem pay25_eq (A : FVec 𝕀 S24x8192x256 .fp8e4m3) (s : FVec 𝕀 S24x8192x1 .f32) (k : FVec 𝕀 S12x1x8192 .f32) (B : FVec 𝕀 S12x1x8192x256 .fp8e4m3) (p : Vec 𝕀 S3 .i32) :
    k0_pay25 A s k B p = weightT p (scoreT A s k B) := rfl

theorem pay26_apply (A : FVec 𝕀 S24x8192x256 .fp8e4m3) (s : FVec 𝕀 S24x8192x1 .f32) (k : FVec 𝕀 S12x1x8192 .f32) (B : FVec 𝕀 S12x1x8192x256 .fp8e4m3) (p : Vec 𝕀 S3 .i32) (g : Fin 24) (r : Fin 8192) (u : Fin 1) :
    k0_pay26 A s k B p (ix3 g r u) = ∑ n, weightT p (scoreT A s k B) (ix3 g r n) := by
  unfold k0_pay26
  rw [castW, sumW, pay25_eq]

theorem pay27_apply (A : FVec 𝕀 S24x8192x256 .fp8e4m3) (s : FVec 𝕀 S24x8192x1 .f32) (k v : FVec 𝕀 S12x1x8192 .f32) (B : FVec 𝕀 S12x1x8192x256 .fp8e4m3) (p : Vec 𝕀 S3 .i32) (g : Fin 24) (r n : Fin 8192) :
    k0_pay27 A s k v B p (ix3 g r n) = weightT p (scoreT A s k B) (ix3 g r n) * v (ix3 (half24 g) 0 n) :=
  congrArg (weightT p (scoreT A s k B) (ix3 g r n) * ·) (repS_apply v g r n)

theorem pay28_apply (A : FVec 𝕀 S24x8192x256 .fp8e4m3) (s : FVec 𝕀 S24x8192x1 .f32) (k v : FVec 𝕀 S12x1x8192 .f32) (B : FVec 𝕀 S12x1x8192x256 .fp8e4m3) (p : Vec 𝕀 S3 .i32) (g : Fin 24) (r : Fin 8192) (u : Fin 1) :
    k0_pay28 A s k v B p (ix3 g r u) = Finset.univ.fold max ⊥ fun n => FloatOps.absf (F := 𝕀) (φ := .f32) (weightT p (scoreT A s k B) (ix3 g r n) * v (ix3 (half24 g) 0 n)) := by
  unfold k0_pay28
  rw [castW, redW]
  refine congrArg (Finset.univ.fold max ⊥) (funext fun n => ?_)
  exact congrArg (FloatOps.absf (F := 𝕀) (φ := .f32)) (pay27_apply A s k v B p g r n)

/-! ## The output -/

def outT (V : FVec 𝕀 S12x8192x256 .fp8e4m3) (l a : FVec 𝕀 S24x8192x1 .f32) (w : FVec 𝕀 S24x8192x8192 .f32) : FVec 𝕀 S24x8192x256 .f32 :=
  divf (mulf (matmul dot_S24x8192x8192_S24x8192x256_S24x8192x256_2_1_1_2_0_0 none (codeT S24x8192x8192 w (broadcastTo S24x8192x8192 (invT S24x8192x1 (expT S24x8192x1 a)) broadcasts_S24x8192x1_S24x8192x8192))
      (repC (shapeCast S12x1x8192x256 V shapeCasts_S12x8192x256_S12x1x8192x256)) (constant S24x8192x256 .f32 0x00000000#32))
    (broadcastTo S24x8192x256 (exp2 (expT S24x8192x1 a)) broadcasts_S24x8192x1_S24x8192x256)) (broadcastTo S24x8192x256 l broadcasts_S24x8192x1_S24x8192x256)

theorem outT_apply (V : FVec 𝕀 S12x8192x256 .fp8e4m3) (l a : FVec 𝕀 S24x8192x1 .f32) (w : FVec 𝕀 S24x8192x8192 .f32) (g : Fin 24) (r : Fin 8192) (c : Fin 256) :
    outT V l a w (ix3 g r c) = Ideal.div ((∑ n, clip (w (ix3 g r n) * Ideal.exp2 (0 - expo (a (ix3 g r 0)))) * V (ix3 (half24 g) n c)) * Ideal.exp2 (expo (a (ix3 g r 0)))) (l (ix3 g r 0)) := by
  refine Eq.trans (b := Ideal.div (matmul dot_S24x8192x8192_S24x8192x256_S24x8192x256_2_1_1_2_0_0 none (codeT S24x8192x8192 w (broadcastTo S24x8192x8192 (invT S24x8192x1 (expT S24x8192x1 a)) broadcasts_S24x8192x1_S24x8192x8192))
      (repC (shapeCast S12x1x8192x256 V shapeCasts_S12x8192x256_S12x1x8192x256)) (constant S24x8192x256 .f32 0x00000000#32 : FVec 𝕀 S24x8192x256 .f32) (ix3 g r c)
    * broadcastTo S24x8192x256 (exp2 (expT S24x8192x1 a)) broadcasts_S24x8192x1_S24x8192x256 (ix3 g r c)) (broadcastTo S24x8192x256 l broadcasts_S24x8192x1_S24x8192x256 (ix3 g r c))) rfl ?_
  rw [dotV, bcast24, bcast24, exp2_apply', expT_apply]
  simp only [codeT_apply, bcastW, invT_apply, expT_apply, repC_apply, oneC_apply]
  rfl

theorem unheadsO (v : FVec 𝕀 S24x8192x256 .f32) (b : Fin 3) (r : Fin 8192) (c : Fin 2048) :
    shapeCast S3x8192x2048 (transpose S3x8192x8x256 [0, 2, 1, 3] (shapeCast S3x8x8192x256 v shapeCasts_S24x8192x256_S3x8x8192x256) transposes_S3x8x8192x256_p0_2_1_3_S3x8192x8x256) shapeCasts_S3x8192x8x256_S3x8192x2048 (ix3 b r c)
      = v (ix3 (g24 b (head8 c)) r ⟨c.val % 256, Nat.mod_lt _ (by decide)⟩) := by
  pointwise
  refine congrArg (fun g => v (ix3 g r _)) (Fin.ext ?_)
  show b.val * 8 + c.val / 256 = 8 * b.val + c.val / 256
  omega

theorem pay1_apply (V : FVec 𝕀 S12x8192x256 .fp8e4m3) (l a : FVec 𝕀 S24x8192x1 .f32) (w : FVec 𝕀 S24x8192x8192 .f32) (b : Fin 3) (r : Fin 8192) (c : Fin 2048) :
    k0_pay1 V l w a (ix3 b r c) = outT V l a w (ix3 (g24 b (head8 c)) r ⟨c.val % 256, Nat.mod_lt _ (by decide)⟩) :=
  unheadsO (outT V l a w) b r c

theorem half24_g (b : Fin 3) (h : Fin 8) : half24 (g24 b h) = g12 b (half8 h) := Fin.ext (by show (8 * b.val + h.val) / 2 = 4 * b.val + h.val / 2; omega)

/-! ## The quantised heads -/

theorem q_codes (x : Vec 𝕀 S3x8192x2048 .bf16) (g : Fin 24) (r : Fin 8192) (c : Fin 256) :
    k0_pay4 x (ix3 g r c) = code (xrow x (b24 g) r (h24 g)) (xrow x (b24 g) r (h24 g) c) := by
  refine (codes24 (k0_pay2 x) g r c).trans ?_
  simp only [heads24]
  rfl

theorem q_scales (x : Vec 𝕀 S3x8192x2048 .bf16) (g : Fin 24) (r : Fin 8192) (u : Fin 1) :
    k0_pay5 x (ix3 g r u) = scale (xrow x (b24 g) r (h24 g)) := by
  refine (scales24 (k0_pay2 x) g r u).trans ?_
  simp only [heads24]
  rfl

theorem k_codes (x : Vec 𝕀 S3x8192x1024 .bf16) (g : Fin 12) (r : Fin 8192) (c : Fin 256) :
    codeT S12x8192x256 (k0_pay6 x) (broadcastTo S12x8192x256 (invT S12x8192x1 (expT S12x8192x1 (maxT12 (k0_pay6 x)))) broadcasts_S12x8192x1_S12x8192x256) (ix3 g r c)
      = code (krow x (b12 g) r (h12 g)) (krow x (b12 g) r (h12 g) c) := by
  refine (codes12 (k0_pay6 x) g r c).trans ?_
  simp only [heads12]
  rfl

theorem k_scales (x : Vec 𝕀 S3x8192x1024 .bf16) (g : Fin 12) (r : Fin 8192) (u : Fin 1) :
    exp2 (expT S12x8192x1 (maxT12 (k0_pay6 x))) (ix3 g r u) = scale (krow x (b12 g) r (h12 g)) := by
  refine (scales12 (k0_pay6 x) g r u).trans ?_
  simp only [heads12]
  rfl

theorem pay10_eq (x : Vec 𝕀 S3x8192x1024 .bf16) : k0_pay10 (k0_pay6 x) (k0_pay7 x) (k0_pay8 x) (Named.named κ "inv_log_2" 0x3FB8AA3B#32)
    = codeT S12x8192x256 (k0_pay6 x) (broadcastTo S12x8192x256 (invT S12x8192x1 (expT S12x8192x1 (maxT12 (k0_pay6 x)))) broadcasts_S12x8192x1_S12x8192x256) := rfl

theorem pay11_eq (x : Vec 𝕀 S3x8192x1024 .bf16) : k0_pay11 (k0_pay7 x) (k0_pay8 x) (Named.named κ "inv_log_2" 0x3FB8AA3B#32) = exp2 (expT S12x8192x1 (maxT12 (k0_pay6 x))) := rfl

theorem pay15_eq (x : Vec 𝕀 S3x8192x1024 .bf16) : k0_pay15 (k0_pay12 x) (k0_pay14 x)
    = codeT S12x8192x256 (k0_pay6 x) (broadcastTo S12x8192x256 (invT S12x8192x1 (expT S12x8192x1 (maxT12 (k0_pay6 x)))) broadcasts_S12x8192x1_S12x8192x256) := rfl

theorem pay13_eq (x : Vec 𝕀 S3x8192x1024 .bf16) : exp2 (k0_pay13 x) = exp2 (expT S12x8192x1 (maxT12 (k0_pay6 x))) := rfl

theorem pay24_apply (v : FVec 𝕀 S12x8192x256 .fp8e4m3) (g : Fin 12) (r : Fin 8192) (c : Fin 256) : k0_pay24 v (ix4 g 0 r c) = v (ix3 g r c) := oneC_apply v g r c

theorem pay19_apply (v : FVec 𝕀 S12x8192x1 .f32) (g : Fin 12) (r : Fin 8192) : k0_pay19 v (ix3 g 0 r) = v (ix3 g r 0) := row12_apply v g r

theorem pay20_apply (v : FVec 𝕀 S12x8192x1 .f32) (g : Fin 12) (r : Fin 8192) : k0_pay20 v (ix3 g 0 r) = exp2 v (ix3 g r 0) := row12_apply (exp2 v) g r

theorem key_codes (x : Vec 𝕀 S3x8192x1024 .bf16) (g : Fin 12) (r : Fin 8192) (c : Fin 256) :
    k0_pay24 (k0_pay10 (k0_pay6 x) (k0_pay7 x) (k0_pay8 x) (Named.named κ "inv_log_2" 0x3FB8AA3B#32)) (ix4 g 0 r c) = code (krow x (b12 g) r (h12 g)) (krow x (b12 g) r (h12 g) c) :=
  (pay24_apply _ g r c).trans ((congrFun (pay10_eq x) _).trans (k_codes x g r c))

theorem key_scales (x : Vec 𝕀 S3x8192x1024 .bf16) (g : Fin 12) (r : Fin 8192) :
    k0_pay19 (k0_pay11 (k0_pay7 x) (k0_pay8 x) (Named.named κ "inv_log_2" 0x3FB8AA3B#32)) (ix3 g 0 r) = scale (krow x (b12 g) r (h12 g)) :=
  (pay19_apply _ g r).trans ((congrFun (pay11_eq x) _).trans (k_scales x g r 0))

theorem value_codes (x : Vec 𝕀 S3x8192x1024 .bf16) (g : Fin 12) (r : Fin 8192) (c : Fin 256) :
    k0_pay15 (k0_pay12 x) (k0_pay14 x) (ix3 g r c) = code (krow x (b12 g) r (h12 g)) (krow x (b12 g) r (h12 g) c) := (congrFun (pay15_eq x) _).trans (k_codes x g r c)

theorem value_scales (x : Vec 𝕀 S3x8192x1024 .bf16) (g : Fin 12) (r : Fin 8192) :
    k0_pay20 (k0_pay13 x) (ix3 g 0 r) = scale (krow x (b12 g) r (h12 g)) := (pay20_apply _ g r).trans ((congrFun (pay13_eq x) _).trans (k_scales x g r 0))

/-- The reference's attention output. -/
theorem ref_out (x : Vec 𝕀 S3x8192x2048 .bf16) (k v : Vec 𝕀 S3x8192x1024 .bf16) (p : Vec 𝕀 S3 .i32)
    (A : FVec 𝕀 S24x8192x256 .fp8e4m3) (s : FVec 𝕀 S24x8192x1 .f32) (ks vs : FVec 𝕀 S12x1x8192 .f32) (B : FVec 𝕀 S12x1x8192x256 .fp8e4m3) (V : FVec 𝕀 S12x8192x256 .fp8e4m3)
    (hA : ∀ g r c, A (ix3 g r c) = code (xrow x (b24 g) r (h24 g)) (xrow x (b24 g) r (h24 g) c)) (hs : ∀ g r u, s (ix3 g r u) = scale (xrow x (b24 g) r (h24 g)))
    (hB : ∀ g r c, B (ix4 g 0 r c) = code (krow k (b12 g) r (h12 g)) (krow k (b12 g) r (h12 g) c)) (hk : ∀ g r, ks (ix3 g 0 r) = scale (krow k (b12 g) r (h12 g)))
    (hV : ∀ g r c, V (ix3 g r c) = code (krow v (b12 g) r (h12 g)) (krow v (b12 g) r (h12 g) c)) (hv : ∀ g r, vs (ix3 g 0 r) = scale (krow v (b12 g) r (h12 g))) :
    k0_pay1 V (k0_pay26 A s ks B p) (k0_pay27 A s ks vs B p) (k0_pay28 A s ks vs B p) = AOUT x k v fun b => p (ix1 b) := by
  funext j
  obtain ⟨b, r, c, rfl⟩ : ∃ (b : Fin 3) (r : Fin 8192) (c : Fin 2048), j = ix3 b r c := ⟨j 0, j 1, j 2, eq_ix3 j⟩
  rw [pay1_apply, outT_apply]
  simp only [pay26_apply, pay27_apply, pay28_apply, weightT_apply, scoreT_apply, hA, hs, hB, hk, hV, hv, half24_g, b24_g, h24_g, b12_g, h12_g]
  rfl

end Cert.Value

end
-- ==== Proof.Value.Reference.lean ====
/- The arrays of codes and scales at the end of the reference's run, on extended reals. -/
module

public import proofs.«01_k».proof.Proof.Value.Masked
public import Idealize.ShloMosaic.Lib.Pipeline.ValueKit.Geometry
public import Idealize.ShloMosaic.Lib.Pipeline.ValueKit.Acc

@[expose] public section

set_option maxRecDepth 16384

noncomputable section

namespace Cert.Value

open Idealize.ShloMosaic Idealize.ShloMosaic.TcCoe Idealize.ShloMosaic.Tactic
open Idealize.SL Idealize.SL.RA Idealize.SL.Sem
open Idealize.ShloMosaic.Pipeline (Dat Cfg Window)
open Cert.ReferenceIdeal Cert.ReferenceIdeal.Gen

local notation "𝕀" => Idealize.ShloMosaic.Ideal

variable (m : (ℓ : Loc nD τ sig) → Buf (Elt 𝕀) ℓ)
variable (x0 : Vec 𝕀 S3x8192x2048 .bf16) (x1 x2 : Vec 𝕀 S3x8192x1024 .bf16) (x3 : Vec 𝕀 S3 .i32)

/-! ## What the body leaves -/

theorem out_4 : out0_4 x0 x1 x2 x3 = AOUT x0 x1 x2 fun b => x3 (ix1 b) := by
  unfold_out out0_4
  frame_out
  exact ref_out x0 x1 x2 x3 _ _ _ _ _ _ (q_codes x0) (q_scales x0) (key_codes x1) (key_scales x1) (value_codes x2) (value_scales x2)

theorem out_5 : out0_5 x0 x1 x2 x3 = AXC x0 := by
  unfold_out out0_5
  frame_out
  exact ref_qc x0

theorem out_6 : out0_6 x0 x1 x2 x3 = AXS x0 := by
  unfold_out out0_6
  frame_out
  exact ref_qs x0

theorem out_7 : out0_7 x0 x1 x2 x3 = AKC x1 := by
  unfold_out out0_7
  frame_out
  exact ref_kc x1

theorem out_8 : out0_8 x0 x1 x2 x3 = AKS x1 := by
  unfold_out out0_8
  frame_out
  exact ref_ks x1

theorem out_9 : out0_9 x0 x1 x2 x3 = AKC x2 := by
  unfold_out out0_9
  frame_out
  exact ref_vc x2

theorem out_10 : out0_10 x0 x1 x2 x3 = AKS x2 := by
  unfold_out out0_10
  frame_out
  exact ref_vs x2

/-! ## The one block is the array -/

/-- An index whose coordinates are those of a block at the origin. -/
theorem origin {s : Shape} (x y : s.Idx) (h : ∀ a, (x a).val = 0 * s.size a + 1 * (y a).val) : x = y :=
  funext fun a => Fin.ext (by have := h a; omega)

theorem whole_0 (c : Dev nD) (t : Fin cfg0.N) : iblk m c 0 t = m ((c.tc : Thread nD τ).loc main_arg0) :=
  funext fun z => congrArg (m ((c.tc : Thread nD τ).loc main_arg0)) (origin (s := S3x8192x2048) _ z fun a => by fin_cases a <;> rfl)

theorem whole_1 (c : Dev nD) (t : Fin cfg0.N) : iblk m c 1 t = m ((c.tc : Thread nD τ).loc main_arg1) :=
  funext fun z => congrArg (m ((c.tc : Thread nD τ).loc main_arg1)) (origin (s := S3x8192x1024) _ z fun a => by fin_cases a <;> rfl)

theorem whole_2 (c : Dev nD) (t : Fin cfg0.N) : iblk m c 2 t = m ((c.tc : Thread nD τ).loc main_arg2) :=
  funext fun z => congrArg (m ((c.tc : Thread nD τ).loc main_arg2)) (origin (s := S3x8192x1024) _ z fun a => by fin_cases a <;> rfl)

theorem whole_3 (c : Dev nD) (t : Fin cfg0.N) : iblk m c 3 t = m ((c.tc : Thread nD τ).loc main_arg3) :=
  funext fun z => congrArg (m ((c.tc : Thread nD τ).loc main_arg3)) (origin (s := S3) _ z fun a => by fin_cases a; rfl)

/-! ## The arrays at the end -/

theorem end_4 (c : Dev nD) : (dats m 0 c).arrAt 4 cfg0.N = AOUT (m ((c.tc : Thread nD τ).loc main_arg0)) (m ((c.tc : Thread nD τ).loc main_arg1)) (m ((c.tc : Thread nD τ).loc main_arg2))
    fun b => m ((c.tc : Thread nD τ).loc main_arg3) (ix1 b) :=
  (dats m 0 c).arrAt_eq_of_covers 4 _ (by decide +kernel) fun t hf y => by
    blk_simp
    rw [after0_4, out_4, whole_0, whole_1, whole_2, whole_3]
    exact congrArg (AOUT _ _ _ _) (origin (s := S3x8192x2048) _ y fun a => by fin_cases a <;> rfl).symm

theorem end_5 (c : Dev nD) : (dats m 0 c).arrAt 5 cfg0.N = AXC (m ((c.tc : Thread nD τ).loc main_arg0)) :=
  (dats m 0 c).arrAt_eq_of_covers 5 _ (by decide +kernel) fun t hf y => by
    blk_simp
    rw [after0_5, out_5, whole_0]
    exact congrArg (AXC _) (origin (s := S3x8192x2048) _ y fun a => by fin_cases a <;> rfl).symm

theorem end_6 (c : Dev nD) : (dats m 0 c).arrAt 6 cfg0.N = AXS (m ((c.tc : Thread nD τ).loc main_arg0)) :=
  (dats m 0 c).arrAt_eq_of_covers 6 _ (by decide +kernel) fun t hf y => by
    blk_simp
    rw [after0_6, out_6, whole_0]
    exact congrArg (AXS _) (origin (s := S3x4x32x2x256) _ y fun a => by fin_cases a <;> rfl).symm

theorem end_7 (c : Dev nD) : (dats m 0 c).arrAt 7 cfg0.N = AKC (m ((c.tc : Thread nD τ).loc main_arg1)) :=
  (dats m 0 c).arrAt_eq_of_covers 7 _ (by decide +kernel) fun t hf y => by
    blk_simp
    rw [after0_7, out_7, whole_1]
    exact congrArg (AKC _) (origin (s := S3x8192x1024) _ y fun a => by fin_cases a <;> rfl).symm

theorem end_8 (c : Dev nD) : (dats m 0 c).arrAt 8 cfg0.N = AKS (m ((c.tc : Thread nD τ).loc main_arg1)) :=
  (dats m 0 c).arrAt_eq_of_covers 8 _ (by decide +kernel) fun t hf y => by
    blk_simp
    rw [after0_8, out_8, whole_1]
    exact congrArg (AKS _) (origin (s := S3x4x1x8192) _ y fun a => by fin_cases a <;> rfl).symm

theorem end_9 (c : Dev nD) : (dats m 0 c).arrAt 9 cfg0.N = AKC (m ((c.tc : Thread nD τ).loc main_arg2)) :=
  (dats m 0 c).arrAt_eq_of_covers 9 _ (by decide +kernel) fun t hf y => by
    blk_simp
    rw [after0_9, out_9, whole_2]
    exact congrArg (AKC _) (origin (s := S3x8192x1024) _ y fun a => by fin_cases a <;> rfl).symm

theorem end_10 (c : Dev nD) : (dats m 0 c).arrAt 10 cfg0.N = AKS (m ((c.tc : Thread nD τ).loc main_arg2)) :=
  (dats m 0 c).arrAt_eq_of_covers 10 _ (by decide +kernel) fun t hf y => by
    blk_simp
    rw [after0_10, out_10, whole_2]
    exact congrArg (AKS _) (origin (s := S3x4x1x8192) _ y fun a => by fin_cases a <;> rfl).symm

/-- The reference's run ends with the attention output, the codes and the scales of the arrays it was given, and those unchanged. -/
theorem reference_run (ρ : Dev nD → PrngReg) : θ_run defs (onTc (τ := τ) (main (F := 𝕀))) ⟨m, fun _ => 0, ρ⟩ (fun r => ∀ c : Dev nD,
    r.2.mem ((c.tc : Thread nD τ).loc main_v0_0) = AOUT (m ((c.tc : Thread nD τ).loc main_arg0)) (m ((c.tc : Thread nD τ).loc main_arg1)) (m ((c.tc : Thread nD τ).loc main_arg2))
      (fun b => m ((c.tc : Thread nD τ).loc main_arg3) (ix1 b))
    ∧ r.2.mem ((c.tc : Thread nD τ).loc main_v0_1) = AXC (m ((c.tc : Thread nD τ).loc main_arg0))
    ∧ r.2.mem ((c.tc : Thread nD τ).loc main_v0_2) = AXS (m ((c.tc : Thread nD τ).loc main_arg0))
    ∧ r.2.mem ((c.tc : Thread nD τ).loc main_v0_3) = AKC (m ((c.tc : Thread nD τ).loc main_arg1))
    ∧ r.2.mem ((c.tc : Thread nD τ).loc main_v0_4) = AKS (m ((c.tc : Thread nD τ).loc main_arg1))
    ∧ r.2.mem ((c.tc : Thread nD τ).loc main_v0_5) = AKC (m ((c.tc : Thread nD τ).loc main_arg2))
    ∧ r.2.mem ((c.tc : Thread nD τ).loc main_v0_6) = AKS (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  refine (θ_run defs _ _).mono (fun r h c => ?_) (run_main m ρ)
  exact ⟨((h c).1 4).trans (end_4 m c), ((h c).1 5).trans (end_5 m c), ((h c).1 6).trans (end_6 m c), ((h c).1 7).trans (end_7 m c),
    ((h c).1 8).trans (end_8 m c), ((h c).1 9).trans (end_9 m c), ((h c).1 10).trans (end_10 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c)))⟩

end Cert.Value

end
-- ==== Proof.Value.Pre.lean ====
/- What the precondition of the claim of equal results says. -/
module

public import proofs.«01_k».proof.Pre_prefix_in_range_values_finite
public import proofs.«01_k».proof.Proof.Value.Attention
public import Idealize.ShloMosaic.Lib.ReduceAll
public import Idealize.ShloMosaic.Lib.Decide

@[expose] public section

noncomputable section

namespace Cert.Value

open Idealize.ShloMosaic
open Cert.Pre_prefix_in_range_values_finite

instance preFacts : Cert.Pre_prefix_in_range_values_finite.Facts where
  bcast_S_S3 := by decide
  reducesTo_S3_S_d0 := by decide
  h_S_ := by decide
  bcast_S_S3x8192x1024 := by decide
  reducesTo_S3x8192x1024_S_d0_1_2 := by decide

instance : Subsingleton S_.Idx := ⟨fun a b => funext fun d => d.elim0⟩

theorem andi_one (a b : BitVec 1) : IntOp.andi a b = 1#1 → a = 1#1 ∧ b = 1#1 := by
  revert a b
  decide

theorem bits_inf : Ideal.ofBits FTy.bf16 0x7F80#16 = ⊤ := by
  simp [Ideal.ofBits, Ideal.ieee]

/-- Every word of the table is at most 8192, and every value is a real number. -/
theorem pre_split (x : FVec Ideal S3x8192x2048 .bf16) (k v : FVec Ideal S3x8192x1024 .bf16) (p : IVec S3 32) (h : fn (F := Ideal) x k v p = fun _ => 1#1) :
    (∀ j : S3.Idx, (p j).toInt ≤ 8192) ∧ Finite v := by
  obtain ⟨h1, h2⟩ := andi_one _ _ (congrFun h (Shape.Idx.first Facts.h_S_))
  refine ⟨fun j => IntOp.cmpi_sle.1 (Host.reduce_andi_all _ _ _ _ _ h1 j), fun j => ?_⟩
  have h3 : FloatOps.cmpf (F := Ideal) (φ := .bf16) .olt (FloatOps.absf (F := Ideal) (φ := .bf16) (v j)) (Ideal.ofBits FTy.bf16 0x7F80#16) = 1#1 := Host.reduce_andi_all _ _ _ _ _ h2 j
  rw [bits_inf] at h3
  have h4 : max (v j : EReal) (-(v j : EReal)) < ⊤ := by
    by_contra hc
    have h5 : BitVec.ofBool (decide (max (v j : EReal) (-(v j : EReal)) < ⊤)) = 1#1 := h3
    rw [decide_eq_false hc] at h5
    exact absurd h5 (by decide)
  exact ⟨(lt_of_le_of_lt (le_max_left _ _) h4).ne, fun e => by rw [e] at h4; simp at h4⟩

end Cert.Value

end
-- ==== Proof.lean ====
/- The proof of the claims of this directory. -/
module

public import proofs.«01_k».proof.Defs
public import proofs.«01_k».proof.Proof.Frames.KernelTable
public import proofs.«01_k».proof.Proof.Frames.KernelIdealTable
public import proofs.«01_k».proof.Proof.Gen.ReferenceIdeal
public import proofs.«01_k».proof.Proof.Gen.ReferenceIdeal.Frame
public import proofs.«01_k».proof.Proof.Value.Kernel
public import proofs.«01_k».proof.Proof.Value.Reference
public import proofs.«01_k».proof.Proof.Value.Pre

@[expose] public section

noncomputable section

namespace Cert.Proof

open Idealize.ShloMosaic Idealize.SL.Sem

theorem frame_kernel : Cert.quiescent_Kernel := fun m ρ h =>
  Cert.Kernel.Gen.frame m ρ trivial (Cert.Kernel.Gen.passes m (Cert.Kernel.Gen.in_range _ _ _ _ (h 0)))

theorem frame_kernelIdeal : Cert.quiescent_KernelIdeal := fun m ρ h =>
  Cert.KernelIdeal.Gen.frame m ρ trivial (Cert.KernelIdeal.Gen.passes m (Cert.KernelIdeal.Gen.in_range _ _ _ _ (h 0)))

theorem frame_kernelIdeal_finite : Cert.quiescent_KernelIdeal_pre_prefix_in_range_values_finite := fun m ρ h =>
  Cert.KernelIdeal.Gen.frame m ρ trivial (Cert.KernelIdeal.Gen.passes m (Cert.Value.pre_split _ _ _ _ (h 0)).1)

theorem frame_referenceIdeal : Cert.quiescent_ReferenceIdeal := fun m ρ _ =>
  Cert.ReferenceIdeal.Gen.frame m ρ

theorem frame_referenceIdeal_finite : Cert.quiescent_ReferenceIdeal_pre_prefix_in_range_values_finite := fun m ρ _ =>
  Cert.ReferenceIdeal.Gen.frame m ρ

/-- The three constants the ideal programs name. -/
theorem preserves : Cert.preserves_Kernel_KernelIdeal :=
  ⟨IdealRules.named_const.statement Cert.KernelIdeal.κ "inv_log_2" .f32 0x3FB8AA3B#32 _ rfl,
    IdealRules.named_const.statement Cert.KernelIdeal.κ "score_scale" .f32 0x3AA3D70A#32 _ rfl,
    IdealRules.named_const.statement Cert.KernelIdeal.κ "exp2_gain" .f32 0x429044FE#32 _ rfl⟩

theorem out_congr {x x' : Cert.KernelIdeal.S3x8192x2048.Idx → EReal} {k k' v v' : Cert.KernelIdeal.S3x8192x1024.Idx → EReal} {p p' : Cert.KernelIdeal.S3.Idx → BitVec 32}
    (e0 : x = x') (e1 : k = k') (e2 : v = v') (e3 : p = p') : Cert.Value.AOUT x k v (fun b => p (ix1 b)) = Cert.Value.AOUT x' k' v' fun b => p' (ix1 b) := by
  rw [e0, e1, e2, e3]

/-- Both programs end with the attention output, the codes and the scales of the queries, of the keys and of the values. -/
theorem algebraic : Cert.algebraic_KernelIdeal_ReferenceIdeal_pre_prefix_in_range_values_finite := fun m ρ m' ρ' h e =>
  ⟨fun c => Cert.Value.AOUT (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) fun b => m ((c.tc : Thread Cert.KernelIdeal.nD Cert.KernelIdeal.τ).loc Cert.KernelIdeal.main_arg3) (ix1 b),
    fun c => Cert.Value.AXC (m ((c.tc : Thread Cert.KernelIdeal.nD Cert.KernelIdeal.τ).loc Cert.KernelIdeal.main_arg0)),
    fun c => Cert.Value.AXS (m ((c.tc : Thread Cert.KernelIdeal.nD Cert.KernelIdeal.τ).loc Cert.KernelIdeal.main_arg0)),
    fun c => Cert.Value.AKC (m ((c.tc : Thread Cert.KernelIdeal.nD Cert.KernelIdeal.τ).loc Cert.KernelIdeal.main_arg1)),
    fun c => Cert.Value.AKS (m ((c.tc : Thread Cert.KernelIdeal.nD Cert.KernelIdeal.τ).loc Cert.KernelIdeal.main_arg1)),
    fun c => Cert.Value.AKC (m ((c.tc : Thread Cert.KernelIdeal.nD Cert.KernelIdeal.τ).loc Cert.KernelIdeal.main_arg2)),
    fun c => Cert.Value.AKS (m ((c.tc : Thread Cert.KernelIdeal.nD Cert.KernelIdeal.τ).loc Cert.KernelIdeal.main_arg2)),
    Cert.Value.kernel_run m trivial ρ (Cert.Value.pre_split _ _ _ _ (h 0)).1 (fun c => (Cert.Value.pre_split _ _ _ _ (h c)).2),
    (θ_run Cert.ReferenceIdeal.defs _ _).mono
      (fun r k c => by
        obtain ⟨ko, k0, k1, k2, k3, k4, k5, ka⟩ := k c
        obtain ⟨e0, e1, e2, e3⟩ := e c
        exact ⟨ko.trans (out_congr e0 e1 e2 e3), k0.trans (congrArg Cert.Value.AXC e0), k1.trans (congrArg Cert.Value.AXS e0), k2.trans (congrArg Cert.Value.AKC e1),
          k3.trans (congrArg Cert.Value.AKS e1), k4.trans (congrArg Cert.Value.AKC e2), k5.trans (congrArg Cert.Value.AKS e2), ka⟩)
      (Cert.Value.reference_run m' ρ')⟩

theorem claim : Cert.Claim :=
  ⟨Cert.Kernel.Gen.facts, Cert.KernelIdeal.Gen.facts, Cert.ReferenceIdeal.Gen.facts, Cert.Pre_prefix_in_range.Gen.facts, Cert.Value.preFacts,
    frame_kernel, frame_kernelIdeal, frame_kernelIdeal_finite, frame_referenceIdeal, frame_referenceIdeal_finite, preserves, algebraic⟩

end Cert.Proof

end
